-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)) (v2 : (c : Dev Cert.KernelIdeal.nD) → Buf (Elt Ideal) ((c.tc : Thread Cert.KernelIdeal.nD Cert.KernelIdeal.τ).loc Cert.KernelIdeal.main_v72_2)) (v3 : (c : Dev Cert.KernelIdeal.nD) → Buf (Elt Ideal) ((c.tc : Thread Cert.KernelIdeal.nD Cert.KernelIdeal.τ).loc Cert.KernelIdeal.main_v72_3)) (v4 : (c : Dev Cert.KernelIdeal.nD) → Buf (Elt Ideal) ((c.tc : Thread Cert.KernelIdeal.nD Cert.KernelIdeal.τ).loc Cert.KernelIdeal.main_v72_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_v72_2) = v2 c
          ∧ r.2.mem ((c.tc : Thread Cert.KernelIdeal.nD Cert.KernelIdeal.τ).loc Cert.KernelIdeal.main_v72_3) = v3 c
          ∧ r.2.mem ((c.tc : Thread Cert.KernelIdeal.nD Cert.KernelIdeal.τ).loc Cert.KernelIdeal.main_v72_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v37) = v0 c
          ∧ r.2.mem ((c.tc : Thread Cert.Reference11Ideal.nD Cert.Reference11Ideal.τ).loc Cert.Reference11Ideal.main_v38) = v1 c
          ∧ r.2.mem ((c.tc : Thread Cert.Reference11Ideal.nD Cert.Reference11Ideal.τ).loc Cert.Reference11Ideal.main_v35) = v2 c
          ∧ r.2.mem ((c.tc : Thread Cert.Reference11Ideal.nD Cert.Reference11Ideal.τ).loc Cert.Reference11Ideal.main_v41) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite.lean ====
abbrev S2048x2048 : Shape := ⟨2, ![2048, 2048]⟩
abbrev S2048x8192 : Shape := ⟨2, ![2048, 8192]⟩
abbrev S2048x16 : Shape := ⟨2, ![2048, 16]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_arg4 : FVec F S2048x2048 .f32) (main_v15 : IVec S_ 1) (main_v16 : FVec F S2048x16 .f32) (main_cst_4 : FVec F S_ .f32) : IVec S_ 1 :=
  let main_v17 : FVec F S2048x16 .f32 := broadcastInDim S2048x16 ![] bcast_S_S2048x16 main_cst_4
  let main_v18 : IVec S2048x16 1 := cmpf .olt main_v16 main_v17
  let main_c_5 : IVec S_ 1 := constantI S_ 1 1#1
  let main_v19 : IVec S_ 1 := (fun x v => Host.reduce IntOp.andi x v reducesTo_S2048x16_S_d0_1 h_S_) main_v18 main_c_5
  let main_v20 : IVec S_ 1 := andi main_v15 main_v19
  let main_v21 : FVec F S2048x2048 .f32 := Host.absf main_arg4
  let main_cst_6 : FVec F S_ .f32 := constant S_ .f32 0x7F800000#32
  let main_v22 : FVec F S2048x2048 .f32 := broadcastInDim S2048x2048 ![] bcast_S_S2048x2048 main_cst_6
  let main_v23 : IVec S2048x2048 1 := cmpf .olt main_v21 main_v22
  let main_c_7 : IVec S_ 1 := constantI S_ 1 1#1
  let main_v24 : IVec S_ 1 := (fun x v => Host.reduce IntOp.andi x v reducesTo_S2048x2048_S_d0_1 h_S_) main_v23 main_c_7
  let main_v25 : IVec S_ 1 := andi main_v20 main_v24
  main_v25

def fn {F : FTy → Type} [FloatOps F] (main_arg0 : FVec F S2048x2048 .bf16) (main_arg1 : FVec F S2048x2048 .bf16) (main_arg2 : FVec F S2048x8192 .f32) (main_arg3 : FVec F S2048x16 .f32) (main_arg4 : FVec F S2048x2048 .f32) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v4 main_v9
  let main_v11 : FVec F S2048x8192 .f32 := Host.absf main_arg2
  let main_cst_2 : FVec F S_ .f32 := constant S_ .f32 0x7F800000#32
  let main_v12 : FVec F S2048x8192 .f32 := broadcastInDim S2048x8192 ![] bcast_S_S2048x8192 main_cst_2
  let main_v13 : IVec S2048x8192 1 := cmpf .olt main_v11 main_v12
  let main_c_3 : IVec S_ 1 := constantI S_ 1 1#1
  let main_v14 : IVec S_ 1 := (fun x v => Host.reduce IntOp.andi x v reducesTo_S2048x8192_S_d0_1 h_S_) main_v13 main_c_3
  let main_v15 : IVec S_ 1 := andi main_v10 main_v14
  let main_v16 : FVec F S2048x16 .f32 := Host.absf main_arg3
  let main_cst_4 : FVec F S_ .f32 := constant S_ .f32 0x7F800000#32
  fn_part1 (F := F) main_arg4 main_v15 main_v16 main_cst_4
-- ==== Pre_finite11.lean ====
abbrev S2048x2048 : Shape := ⟨2, ![2048, 2048]⟩
abbrev S4x512x2048 : Shape := ⟨3, ![4, 512, 2048]⟩
abbrev S2048x4096 : Shape := ⟨2, ![2048, 4096]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S4x512x2048 : S_.BroadcastsInDim S4x512x2048 (![] : Fin 0 → Fin S4x512x2048.rank)
  reducesTo_S4x512x2048_S_d0_1_2 : S4x512x2048.ReducesTo [0, 1, 2] S_
  slices_S2048x4096_S2048x2048_0_2048 : S2048x4096.Slices ![0, 2048] S2048x2048

variable [Facts]

def fn_part1 {F : FTy → Type} [FloatOps F] (main_v15 : IVec S_ 1) (main_v17 : FVec F S2048x2048 .f32) : IVec S_ 1 :=
  let main_cst_4 : FVec F S_ .f32 := constant S_ .f32 0x7F800000#32
  let main_v18 : FVec F S2048x2048 .f32 := broadcastInDim S2048x2048 ![] bcast_S_S2048x2048 main_cst_4
  let main_v19 : IVec S2048x2048 1 := cmpf .olt main_v17 main_v18
  let main_c_5 : IVec S_ 1 := constantI S_ 1 1#1
  let main_v20 : IVec S_ 1 := (fun x v => Host.reduce IntOp.andi x v reducesTo_S2048x2048_S_d0_1 h_S_) main_v19 main_c_5
  let main_v21 : IVec S_ 1 := andi main_v15 main_v20
  main_v21

def fn {F : FTy → Type} [FloatOps F] (main_arg0 : FVec F S2048x2048 .bf16) (main_arg1 : FVec F S4x512x2048 .bf16) (main_arg2 : FVec F S2048x2048 .f32) (main_arg3 : FVec F S2048x2048 .f32) (main_arg4 : FVec F S2048x4096 .f32) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S4x512x2048 .f32 := (extf .f32 · bitsLt_bf16_f32) main_arg1
  let main_v6 : FVec F S4x512x2048 .f32 := Host.absf main_v5
  let main_cst_0 : FVec F S_ .f32 := constant S_ .f32 0x7F800000#32
  let main_v7 : FVec F S4x512x2048 .f32 := broadcastInDim S4x512x2048 ![] bcast_S_S4x512x2048 main_cst_0
  let main_v8 : IVec S4x512x2048 1 := cmpf .olt main_v6 main_v7
  let main_c_1 : IVec S_ 1 := constantI S_ 1 1#1
  let main_v9 : IVec S_ 1 := (fun x v => Host.reduce IntOp.andi x v reducesTo_S4x512x2048_S_d0_1_2 h_S_) main_v8 main_c_1
  let main_v10 : IVec S_ 1 := andi main_v4 main_v9
  let main_v11 : FVec F S2048x2048 .f32 := Host.absf main_arg2
  let main_cst_2 : FVec F S_ .f32 := constant S_ .f32 0x7F800000#32
  let main_v12 : FVec F S2048x2048 .f32 := broadcastInDim S2048x2048 ![] bcast_S_S2048x2048 main_cst_2
  let main_v13 : IVec S2048x2048 1 := cmpf .olt main_v11 main_v12
  let main_c_3 : IVec S_ 1 := constantI S_ 1 1#1
  let main_v14 : IVec S_ 1 := (fun x v => Host.reduce IntOp.andi x v reducesTo_S2048x2048_S_d0_1 h_S_) main_v13 main_c_3
  let main_v15 : IVec S_ 1 := andi main_v10 main_v14
  let main_v16 : FVec F S2048x2048 .f32 := (extractStridedSlice S2048x2048 ![0, 2048] · slices_S2048x4096_S2048x2048_0_2048) main_arg4
  let main_v17 : FVec F S2048x2048 .f32 := Host.absf main_v16
  fn_part1 (F := F) main_v15 main_v17
-- ==== Pre_finite2.lean ====
abbrev S2048x2048 : Shape := ⟨2, ![2048, 2048]⟩
abbrev S4x512x2048 : Shape := ⟨3, ![4, 512, 2048]⟩
abbrev S2048x8192 : Shape := ⟨2, ![2048, 8192]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S4x512x2048 : S_.BroadcastsInDim S4x512x2048 (![] : Fin 0 → Fin S4x512x2048.rank)
  reducesTo_S4x512x2048_S_d0_1_2 : S4x512x2048.ReducesTo [0, 1, 2] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v15 : IVec S_ 1) (main_v16 : FVec F S2048x8192 .f32) (main_cst_4 : FVec F S_ .f32) : IVec S_ 1 :=
  let main_v17 : FVec F S2048x8192 .f32 := broadcastInDim S2048x8192 ![] bcast_S_S2048x8192 main_cst_4
  let main_v18 : IVec S2048x8192 1 := cmpf .olt main_v16 main_v17
  let main_c_5 : IVec S_ 1 := constantI S_ 1 1#1
  let main_v19 : IVec S_ 1 := (fun x v => Host.reduce IntOp.andi x v reducesTo_S2048x8192_S_d0_1 h_S_) main_v18 main_c_5
  let main_v20 : IVec S_ 1 := andi main_v15 main_v19
  main_v20

def fn {F : FTy → Type} [FloatOps F] (main_arg0 : FVec F S2048x2048 .bf16) (main_arg1 : FVec F S4x512x2048 .bf16) (main_arg2 : FVec F S2048x2048 .f32) (main_arg3 : FVec F S2048x8192 .f32) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S4x512x2048 .f32 := (extf .f32 · bitsLt_bf16_f32) main_arg1
  let main_v6 : FVec F S4x512x2048 .f32 := Host.absf main_v5
  let main_cst_0 : FVec F S_ .f32 := constant S_ .f32 0x7F800000#32
  let main_v7 : FVec F S4x512x2048 .f32 := broadcastInDim S4x512x2048 ![] bcast_S_S4x512x2048 main_cst_0
  let main_v8 : IVec S4x512x2048 1 := cmpf .olt main_v6 main_v7
  let main_c_1 : IVec S_ 1 := constantI S_ 1 1#1
  let main_v9 : IVec S_ 1 := (fun x v => Host.reduce IntOp.andi x v reducesTo_S4x512x2048_S_d0_1_2 h_S_) main_v8 main_c_1
  let main_v10 : IVec S_ 1 := andi main_v4 main_v9
  let main_v11 : FVec F S2048x2048 .f32 := Host.absf main_arg2
  let main_cst_2 : FVec F S_ .f32 := constant S_ .f32 0x7F800000#32
  let main_v12 : FVec F S2048x2048 .f32 := broadcastInDim S2048x2048 ![] bcast_S_S2048x2048 main_cst_2
  let main_v13 : IVec S2048x2048 1 := cmpf .olt main_v11 main_v12
  let main_c_3 : IVec S_ 1 := constantI S_ 1 1#1
  let main_v14 : IVec S_ 1 := (fun x v => Host.reduce IntOp.andi x v reducesTo_S2048x2048_S_d0_1 h_S_) main_v13 main_c_3
  let main_v15 : IVec S_ 1 := andi main_v10 main_v14
  let main_v16 : FVec F S2048x8192 .f32 := Host.absf main_arg3
  let main_cst_4 : FVec F S_ .f32 := constant S_ .f32 0x7F800000#32
  fn_part1 (F := F) main_v15 main_v16 main_cst_4
-- ==== Kernel.lean ====
abbrev S2048x2048 : Shape := ⟨2, ![2048, 2048]⟩
abbrev S2048x8192 : Shape := ⟨2, ![2048, 8192]⟩
abbrev S2048x16 : Shape := ⟨2, ![2048, 16]⟩
abbrev S16x2048 : Shape := ⟨2, ![16, 2048]⟩
abbrev S16x2048x1 : Shape := ⟨3, ![16, 2048, 1]⟩
abbrev S16x2048x128 : Shape := ⟨3, ![16, 2048, 128]⟩
abbrev S16x8x1x256 : Shape := ⟨4, ![16, 8, 1, 256]⟩
abbrev S2048x16x128 : Shape := ⟨3, ![2048, 16, 128]⟩
abbrev S16x2048x2048 : Shape := ⟨3, ![16, 2048, 2048]⟩
abbrev S_ : Shape := ⟨0, ![]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S16x128x2048 : Shape := ⟨3, ![16, 128, 2048]⟩
abbrev S2048x128 : Shape := ⟨2, ![2048, 128]⟩
abbrev S2048x256 : Shape := ⟨2, ![2048, 256]⟩
abbrev S256x256 : Shape := ⟨2, ![256, 256]⟩
abbrev S2x2048x128 : Shape := ⟨3, ![2, 2048, 128]⟩
abbrev S2x1x1x256 : Shape := ⟨4, ![2, 1, 1, 256]⟩
abbrev S2x1x256 : Shape := ⟨3, ![2, 1, 256]⟩
abbrev S1x2048x128 : Shape := ⟨3, ![1, 2048, 128]⟩
abbrev S256x128 : Shape := ⟨2, ![256, 128]⟩
abbrev S1x1x1x256 : Shape := ⟨4, ![1, 1, 1, 256]⟩
abbrev S1x256 : Shape := ⟨2, ![1, 256]⟩
abbrev S1x256x128 : Shape := ⟨3, ![1, 256, 128]⟩
abbrev S256 : Shape := ⟨1, ![256]⟩
abbrev S256x1 : Shape := ⟨2, ![256, 1]⟩
abbrev S1x1x256 : Shape := ⟨3, ![1, 1, 256]⟩

abbrev nBuf : Space → Nat
  | .hbm => 97
  | .vmem => 30
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x8192, .f32⟩
  | .hbm, ⟨3, _⟩ => ⟨S2048x16, .f32⟩
  | .hbm, ⟨4, _⟩ => ⟨S2048x2048, .f32⟩
  | .hbm, ⟨5, _⟩ => ⟨S16x2048, .f32⟩
  | .hbm, ⟨6, _⟩ => ⟨S16x2048x1, .f32⟩
  | .hbm, ⟨7, _⟩ => ⟨S16x2048x128, .f32⟩
  | .hbm, ⟨8, _⟩ => ⟨S16x8x1x256, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x16x128, .f32⟩
  | .hbm, ⟨13, _⟩ => ⟨S2048x16x128, .f32⟩
  | .hbm, ⟨14, _⟩ => ⟨S16x2048x2048, .f32⟩
  | .hbm, ⟨15, _⟩ => ⟨S_, .f32⟩
  | .hbm, ⟨16, _⟩ => ⟨S16x2048x2048, .f32⟩
  | .hbm, ⟨17, _⟩ => ⟨S16x2048x2048, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048, .f32⟩
  | .hbm, ⟨23, _⟩ => ⟨S16x1x2048, .f32⟩
  | .hbm, ⟨24, _⟩ => ⟨S16x2048x2048, .f32⟩
  | .hbm, ⟨25, _⟩ => ⟨S16x2048x2048, .f32⟩
  | .hbm, ⟨26, _⟩ => ⟨S2048, .i32⟩
  | .hbm, ⟨27, _⟩ => ⟨S1x2048, .i32⟩
  | .hbm, ⟨28, _⟩ => ⟨S2048x1, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .f32⟩
  | .hbm, ⟨33, _⟩ => ⟨S_, .f32⟩
  | .hbm, ⟨34, _⟩ => ⟨S16x2048x2048, .i1⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x2048, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S16x2048, .f32⟩
  | .hbm, ⟨47, _⟩ => ⟨S16x2048x1, .f32⟩
  | .hbm, ⟨48, _⟩ => ⟨S16x2048x128, .f32⟩
  | .hbm, ⟨49, _⟩ => ⟨S2048x16x128, .f32⟩
  | .hbm, ⟨50, _⟩ => ⟨S2048x16x128, .f32⟩
  | .hbm, ⟨51, _⟩ => ⟨S16x2048x2048, .f32⟩
  | .hbm, ⟨52, _⟩ => ⟨S_, .f32⟩
  | .hbm, ⟨53, _⟩ => ⟨S16x2048x2048, .f32⟩
  | .hbm, ⟨54, _⟩ => ⟨S16x2048x2048, .f32⟩
  | .hbm, ⟨55, _⟩ => ⟨S16x2048, .f32⟩
  | .hbm, ⟨56, _⟩ => ⟨S16x2048x1, .f32⟩
  | .hbm, ⟨57, _⟩ => ⟨S16x2048x2048, .f32⟩
  | .hbm, ⟨58, _⟩ => ⟨S16x2048x2048, .f32⟩
  | .hbm, ⟨59, _⟩ => ⟨S16x2048, .f32⟩
  | .hbm, ⟨60, _⟩ => ⟨S16x1x2048, .f32⟩
  | .hbm, ⟨61, _⟩ => ⟨S16x2048x2048, .f32⟩
  | .hbm, ⟨62, _⟩ => ⟨S16x2048x2048, .f32⟩
  | .hbm, ⟨63, _⟩ => ⟨S2048, .i32⟩
  | .hbm, ⟨64, _⟩ => ⟨S1x2048, .i32⟩
  | .hbm, ⟨65, _⟩ => ⟨S2048x1, .i32⟩
  | .hbm, ⟨66, _⟩ => ⟨S2048x2048, .i32⟩
  | .hbm, ⟨67, _⟩ => ⟨S2048x2048, .i32⟩
  | .hbm, ⟨68, _⟩ => ⟨S2048x2048, .i1⟩
  | .hbm, ⟨69, _⟩ => ⟨S_, .f32⟩
  | .hbm, ⟨70, _⟩ => ⟨S_, .f32⟩
  | .hbm, ⟨71, _⟩ => ⟨S16x2048x2048, .i1⟩
  | .hbm, ⟨72, _⟩ => ⟨S16x2048x2048, .f32⟩
  | .hbm, ⟨73, _⟩ => ⟨S16x2048x2048, .f32⟩
  | .hbm, ⟨74, _⟩ => ⟨S_, .f32⟩
  | .hbm, ⟨75, _⟩ => ⟨S16x2048, .f32⟩
  | .hbm, ⟨76, _⟩ => ⟨S_, .f32⟩
  | .hbm, ⟨77, _⟩ => ⟨S16x2048, .f32⟩
  | .hbm, ⟨78, _⟩ => ⟨S16x2048, .f32⟩
  | .hbm, ⟨79, _⟩ => ⟨S16x2048x1, .f32⟩
  | .hbm, ⟨80, _⟩ => ⟨S16x2048x2048, .f32⟩
  | .hbm, ⟨81, _⟩ => ⟨S16x2048x2048, .f32⟩
  | .hbm, ⟨82, _⟩ => ⟨S16x2048x2048, .f32⟩
  | .hbm, ⟨83, _⟩ => ⟨S_, .f32⟩
  | .hbm, ⟨84, _⟩ => ⟨S16x2048, .f32⟩
  | .hbm, ⟨85, _⟩ => ⟨S16x2048x1, .f32⟩
  | .hbm, ⟨86, _⟩ => ⟨S16x2048x2048, .f32⟩
  | .hbm, ⟨87, _⟩ => ⟨S16x2048x2048, .f32⟩
  | .hbm, ⟨88, _⟩ => ⟨S2048x16x128, .f32⟩
  | .hbm, ⟨89, _⟩ => ⟨S16x128x2048, .f32⟩
  | .hbm, ⟨90, _⟩ => ⟨S2048x16x128, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S2048x2048, .bf16⟩
  | .hbm, ⟨95, _⟩ => ⟨S2048x128, .f32⟩
  | .hbm, ⟨96, _⟩ => ⟨S16x8x1x256, .f32⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .f32⟩
  | .local _ .vmem, ⟨5, _⟩ => ⟨S256x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2x2048x128, .f32⟩
  | .local _ .vmem, ⟨11, _⟩ => ⟨S2x2048x128, .f32⟩
  | .local _ .vmem, ⟨12, _⟩ => ⟨S2x2048x128, .f32⟩
  | .local _ .vmem, ⟨13, _⟩ => ⟨S2x2048x128, .f32⟩
  | .local _ .vmem, ⟨14, _⟩ => ⟨S2x1x1x256, .f32⟩
  | .local _ .vmem, ⟨15, _⟩ => ⟨S2x1x1x256, .f32⟩
  | .local _ .vmem, ⟨16, _⟩ => ⟨S2048x256, .f32⟩
  | .local _ .vmem, ⟨17, _⟩ => ⟨S2048x256, .f32⟩
  | .local _ .vmem, ⟨18, _⟩ => ⟨S256x256, .f32⟩
  | .local _ .vmem, ⟨19, _⟩ => ⟨S256x256, .f32⟩
  | .local _ .vmem, ⟨20, _⟩ => ⟨S256x256, .bf16⟩
  | .local _ .vmem, ⟨21, _⟩ => ⟨S256x256, .bf16⟩
  | .local _ .vmem, ⟨22, _⟩ => ⟨S2048x128, .f32⟩
  | .local _ .vmem, ⟨23, _⟩ => ⟨S2x1x1x256, .f32⟩
  | .local _ .vmem, ⟨24, _⟩ => ⟨S2x1x1x256, .f32⟩
  | .local _ .vmem, ⟨25, _⟩ => ⟨S2x2048x128, .f32⟩
  | .local _ .vmem, ⟨26, _⟩ => ⟨S2x2048x128, .f32⟩
  | .local _ .vmem, ⟨27, _⟩ => ⟨S256x256, .f32⟩
  | .local _ .vmem, ⟨28, _⟩ => ⟨S256x256, .f32⟩
  | .local _ .vmem, ⟨29, _⟩ => ⟨S2x1x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_4 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_cst_6 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72_0 : Ref sig .tc := ⟨.hbm, 92, rfl⟩
abbrev main_v72_1 : Ref sig .tc := ⟨.hbm, 93, rfl⟩
abbrev main_v72_2 : Ref sig .tc := ⟨.hbm, 94, rfl⟩
abbrev main_v72_3 : Ref sig .tc := ⟨.hbm, 95, rfl⟩
abbrev main_v72_4 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v28 : BitVec 32 := Scalar.muli arg1 c256_i32
  let c0_i32_20 : BitVec 32 := 0#32
  let v29 : BitVec 32 := Scalar.addi v28 c0_i32_20
  v29
def k0_off1 (i : grid0.Coords) : Fin 2 → Nat :=
  let arg1 : BitVec 32 := BitVec.ofNat 32 (i 1).val
  let c256_i32 : BitVec 32 := 256#32
  let v28 : BitVec 32 := Scalar.muli arg1 c256_i32
  let c0_i32_20 : BitVec 32 := 0#32
  let v29 : BitVec 32 := Scalar.addi v28 c0_i32_20
  let v30 : BitVec 32 := v29
  let v31 : Index := Scalar.indexCast v30
  let c0_21 : Index := 0#32
  ![v31.toNat, 0]
def k0_off2 (i : grid0.Coords) : Fin 3 → Nat :=
  let c0_25 : Index := 0#32
  let arg1 : BitVec 32 := BitVec.ofNat 32 (i 1).val
  let c256_i32 : BitVec 32 := 256#32
  let v28 : BitVec 32 := Scalar.muli arg1 c256_i32
  let c0_i32_20 : BitVec 32 := 0#32
  let v29 : BitVec 32 := Scalar.addi v28 c0_i32_20
  let v30 : BitVec 32 := v29
  let v39 : Index := Scalar.indexCast v30
  let c0_26 : Index := 0#32
  ![0, v39.toNat, 0]
def k0_off3 (i : grid0.Coords) : Fin 2 → Nat :=
  let arg1 : BitVec 32 := BitVec.ofNat 32 (i 1).val
  let c256_i32 : BitVec 32 := 256#32
  let v28 : BitVec 32 := Scalar.muli arg1 c256_i32
  let c0_i32_20 : BitVec 32 := 0#32
  let v29 : BitVec 32 := Scalar.addi v28 c0_i32_20
  let v30 : BitVec 32 := v29
  let v82 : Index := Scalar.indexCast v30
  let c0_46 : Index := 0#32
  ![v82.toNat, 0]
def k0_mult2 (i : grid0.Coords) : BitVec 32 :=
  let arg1 : BitVec 32 := BitVec.ofNat 32 (i 1).val
  let c256_i32_64 : BitVec 32 := 256#32
  let v111 : BitVec 32 := Scalar.muli arg1 c256_i32_64
  let c0_i32_65 : BitVec 32 := 0#32
  let v112 : BitVec 32 := Scalar.addi v111 c0_i32_65
  v112
def k0_off4 (i : grid0.Coords) : Fin 2 → Nat :=
  let arg1 : BitVec 32 := BitVec.ofNat 32 (i 1).val
  let c256_i32_64 : BitVec 32 := 256#32
  let v111 : BitVec 32 := Scalar.muli arg1 c256_i32_64
  let c0_i32_65 : BitVec 32 := 0#32
  let v112 : BitVec 32 := Scalar.addi v111 c0_i32_65
  let v113 : BitVec 32 := v112
  let v114 : Index := Scalar.indexCast v113
  let c128_66 : Index := 128#32
  ![v114.toNat, 128]
def k0_off5 (i : grid0.Coords) : Fin 3 → Nat :=
  let c1_70 : Index := 1#32
  let arg1 : BitVec 32 := BitVec.ofNat 32 (i 1).val
  let c256_i32_64 : BitVec 32 := 256#32
  let v111 : BitVec 32 := Scalar.muli arg1 c256_i32_64
  let c0_i32_65 : BitVec 32 := 0#32
  let v112 : BitVec 32 := Scalar.addi v111 c0_i32_65
  let v113 : BitVec 32 := v112
  let v122 : Index := Scalar.indexCast v113
  let c0_71 : Index := 0#32
  ![1, v122.toNat, 0]
@[reducible] def k0_t1_loop (i : grid0.Coords) : Scf.Loop 32 :=
  let arg1 : BitVec 32 := BitVec.ofNat 32 (i 1).val
  let c1_i32_103 : BitVec 32 := 1#32
  let v189 : BitVec 32 := Scalar.addi arg1 c1_i32_103
  let c8_i32 : BitVec 32 := 8#32
  let v190 : BitVec 32 := Scalar.subi c8_i32 v189
  let c1_i32_105 : BitVec 32 := 1#32
  let v192 : BitVec 32 := Scalar.divsi v190 c1_i32_105
  let v193 : BitVec 32 := Scalar.muli v192 c1_i32_105
  let v194 : BitVec 32 := Scalar.addi v189 v193
  let c1_i32_106 : BitVec 32 := 1#32
  ⟨v189, v194, c1_i32_106⟩
def k0_mult3 (i : grid0.Coords) (k0_t1 : Fin (k0_t1_loop i).trips) : BitVec 32 :=
  let arg1 : BitVec 32 := BitVec.ofNat 32 (i 1).val
  let c1_i32_103 : BitVec 32 := 1#32
  let v189 : BitVec 32 := Scalar.addi arg1 c1_i32_103
  let c1_i32_106 : BitVec 32 := 1#32
  let arg20 : BitVec 32 := Scf.iv v189 c1_i32_106 k0_t1
  let c256_i32_141 : BitVec 32 := 256#32
  let v221 : BitVec 32 := Scalar.muli arg20 c256_i32_141
  let c0_i32_142 : BitVec 32 := 0#32
  let v222 : BitVec 32 := Scalar.addi v221 c0_i32_142
  v222
def k0_off6 (i : grid0.Coords) (k0_t1 : Fin (k0_t1_loop i).trips) : Fin 2 → Nat :=
  let arg1 : BitVec 32 := BitVec.ofNat 32 (i 1).val
  let c1_i32_103 : BitVec 32 := 1#32
  let v189 : BitVec 32 := Scalar.addi arg1 c1_i32_103
  let c1_i32_106 : BitVec 32 := 1#32
  let arg20 : BitVec 32 := Scf.iv v189 c1_i32_106 k0_t1
  let c256_i32_141 : BitVec 32 := 256#32
  let v221 : BitVec 32 := Scalar.muli arg20 c256_i32_141
  let c0_i32_142 : BitVec 32 := 0#32
  let v222 : BitVec 32 := Scalar.addi v221 c0_i32_142
  let v223 : BitVec 32 := v222
  let v224 : Index := Scalar.indexCast v223
  let c0_143 : Index := 0#32
  ![v224.toNat, 0]
def k0_off7 (i : grid0.Coords) (k0_t1 : Fin (k0_t1_loop i).trips) : Fin 3 → Nat :=
  let c0_147 : Index := 0#32
  let arg1 : BitVec 32 := BitVec.ofNat 32 (i 1).val
  let c1_i32_103 : BitVec 32 := 1#32
  let v189 : BitVec 32 := Scalar.addi arg1 c1_i32_103
  let c1_i32_106 : BitVec 32 := 1#32
  let arg20 : BitVec 32 := Scf.iv v189 c1_i32_106 k0_t1
  let c256_i32_141 : BitVec 32 := 256#32
  let v221 : BitVec 32 := Scalar.muli arg20 c256_i32_141
  let c0_i32_142 : BitVec 32 := 0#32
  let v222 : BitVec 32 := Scalar.addi v221 c0_i32_142
  let v223 : BitVec 32 := v222
  let v232 : Index := Scalar.indexCast v223
  let c0_148 : Index := 0#32
  ![0, v232.toNat, 0]
def k0_off8 (i : grid0.Coords) (k0_t1 : Fin (k0_t1_loop i).trips) : Fin 2 → Nat :=
  let arg1 : BitVec 32 := BitVec.ofNat 32 (i 1).val
  let c1_i32_103 : BitVec 32 := 1#32
  let v189 : BitVec 32 := Scalar.addi arg1 c1_i32_103
  let c1_i32_106 : BitVec 32 := 1#32
  let arg20 : BitVec 32 := Scf.iv v189 c1_i32_106 k0_t1
  let c256_i32_141 : BitVec 32 := 256#32
  let v221 : BitVec 32 := Scalar.muli arg20 c256_i32_141
  let c0_i32_142 : BitVec 32 := 0#32
  let v222 : BitVec 32 := Scalar.addi v221 c0_i32_142
  let v223 : BitVec 32 := v222
  let v270 : Index := Scalar.indexCast v223
  let c0_166 : Index := 0#32
  ![v270.toNat, 0]
def k0_mult4 (i : grid0.Coords) (k0_t1 : Fin (k0_t1_loop i).trips) : BitVec 32 :=
  let arg1 : BitVec 32 := BitVec.ofNat 32 (i 1).val
  let c1_i32_103 : BitVec 32 := 1#32
  let v189 : BitVec 32 := Scalar.addi arg1 c1_i32_103
  let c1_i32_106 : BitVec 32 := 1#32
  let arg20 : BitVec 32 := Scf.iv v189 c1_i32_106 k0_t1
  let c256_i32_187 : BitVec 32 := 256#32
  let v299 : BitVec 32 := Scalar.muli arg20 c256_i32_187
  let c0_i32_188 : BitVec 32 := 0#32
  let v300 : BitVec 32 := Scalar.addi v299 c0_i32_188
  v300
def k0_off9 (i : grid0.Coords) (k0_t1 : Fin (k0_t1_loop i).trips) : Fin 2 → Nat :=
  let arg1 : BitVec 32 := BitVec.ofNat 32 (i 1).val
  let c1_i32_103 : BitVec 32 := 1#32
  let v189 : BitVec 32 := Scalar.addi arg1 c1_i32_103
  let c1_i32_106 : BitVec 32 := 1#32
  let arg20 : BitVec 32 := Scf.iv v189 c1_i32_106 k0_t1
  let c256_i32_187 : BitVec 32 := 256#32
  let v299 : BitVec 32 := Scalar.muli arg20 c256_i32_187
  let c0_i32_188 : BitVec 32 := 0#32
  let v300 : BitVec 32 := Scalar.addi v299 c0_i32_188
  let v301 : BitVec 32 := v300
  let v302 : Index := Scalar.indexCast v301
  let c128_189 : Index := 128#32
  ![v302.toNat, 128]
def k0_off10 (i : grid0.Coords) (k0_t1 : Fin (k0_t1_loop i).trips) : Fin 3 → Nat :=
  let c1_193 : Index := 1#32
  let arg1 : BitVec 32 := BitVec.ofNat 32 (i 1).val
  let c1_i32_103 : BitVec 32 := 1#32
  let v189 : BitVec 32 := Scalar.addi arg1 c1_i32_103
  let c1_i32_106 : BitVec 32 := 1#32
  let arg20 : BitVec 32 := Scf.iv v189 c1_i32_106 k0_t1
  let c256_i32_187 : BitVec 32 := 256#32
  let v299 : BitVec 32 := Scalar.muli arg20 c256_i32_187
  let c0_i32_188 : BitVec 32 := 0#32
  let v300 : BitVec 32 := Scalar.addi v299 c0_i32_188
  let v301 : BitVec 32 := v300
  let v310 : Index := Scalar.indexCast v301
  let c0_194 : Index := 0#32
  ![1, v310.toNat, 0]
@[reducible] def k0_t2_loop (i : grid0.Coords) : Scf.Loop 32 :=
  let arg1 : BitVec 32 := BitVec.ofNat 32 (i 1).val
  let c1_i32_103 : BitVec 32 := 1#32
  let v189 : BitVec 32 := Scalar.addi arg1 c1_i32_103
  let c8_i32 : BitVec 32 := 8#32
  let v190 : BitVec 32 := Scalar.subi c8_i32 v189
  let c1_i32_105 : BitVec 32 := 1#32
  let v192 : BitVec 32 := Scalar.divsi v190 c1_i32_105
  let v193 : BitVec 32 := Scalar.muli v192 c1_i32_105
  let v194 : BitVec 32 := Scalar.addi v189 v193
  let v191 : BitVec 32 := Scalar.addi v189 v190
  let c1_i32_107 : BitVec 32 := 1#32
  ⟨v194, v191, c1_i32_107⟩
def k0_mult5 (i : grid0.Coords) (k0_t2 : Fin (k0_t2_loop i).trips) : BitVec 32 :=
  let arg1 : BitVec 32 := BitVec.ofNat 32 (i 1).val
  let c1_i32_103 : BitVec 32 := 1#32
  let v189 : BitVec 32 := Scalar.addi arg1 c1_i32_103
  let c8_i32 : BitVec 32 := 8#32
  let v190 : BitVec 32 := Scalar.subi c8_i32 v189
  let c1_i32_105 : BitVec 32 := 1#32
  let v192 : BitVec 32 := Scalar.divsi v190 c1_i32_105
  let v193 : BitVec 32 := Scalar.muli v192 c1_i32_105
  let v194 : BitVec 32 := Scalar.addi v189 v193
  let c1_i32_107 : BitVec 32 := 1#32
  let arg20 : BitVec 32 := Scf.iv v194 c1_i32_107 k0_t2
  let c256_i32_141 : BitVec 32 := 256#32
  let v221 : BitVec 32 := Scalar.muli arg20 c256_i32_141
  let c0_i32_142 : BitVec 32 := 0#32
  let v222 : BitVec 32 := Scalar.addi v221 c0_i32_142
  v222
def k0_off11 (i : grid0.Coords) (k0_t2 : Fin (k0_t2_loop i).trips) : Fin 2 → Nat :=
  let arg1 : BitVec 32 := BitVec.ofNat 32 (i 1).val
  let c1_i32_103 : BitVec 32 := 1#32
  let v189 : BitVec 32 := Scalar.addi arg1 c1_i32_103
  let c8_i32 : BitVec 32 := 8#32
  let v190 : BitVec 32 := Scalar.subi c8_i32 v189
  let c1_i32_105 : BitVec 32 := 1#32
  let v192 : BitVec 32 := Scalar.divsi v190 c1_i32_105
  let v193 : BitVec 32 := Scalar.muli v192 c1_i32_105
  let v194 : BitVec 32 := Scalar.addi v189 v193
  let c1_i32_107 : BitVec 32 := 1#32
  let arg20 : BitVec 32 := Scf.iv v194 c1_i32_107 k0_t2
  let c256_i32_141 : BitVec 32 := 256#32
  let v221 : BitVec 32 := Scalar.muli arg20 c256_i32_141
  let c0_i32_142 : BitVec 32 := 0#32
  let v222 : BitVec 32 := Scalar.addi v221 c0_i32_142
  let v223 : BitVec 32 := v222
  let v224 : Index := Scalar.indexCast v223
  let c0_143 : Index := 0#32
  ![v224.toNat, 0]
def k0_off12 (i : grid0.Coords) (k0_t2 : Fin (k0_t2_loop i).trips) : Fin 3 → Nat :=
  let c0_147 : Index := 0#32
  let arg1 : BitVec 32 := BitVec.ofNat 32 (i 1).val
  let c1_i32_103 : BitVec 32 := 1#32
  let v189 : BitVec 32 := Scalar.addi arg1 c1_i32_103
  let c8_i32 : BitVec 32 := 8#32
  let v190 : BitVec 32 := Scalar.subi c8_i32 v189
  let c1_i32_105 : BitVec 32 := 1#32
  let v192 : BitVec 32 := Scalar.divsi v190 c1_i32_105
  let v193 : BitVec 32 := Scalar.muli v192 c1_i32_105
  let v194 : BitVec 32 := Scalar.addi v189 v193
  let c1_i32_107 : BitVec 32 := 1#32
  let arg20 : BitVec 32 := Scf.iv v194 c1_i32_107 k0_t2
  let c256_i32_141 : BitVec 32 := 256#32
  let v221 : BitVec 32 := Scalar.muli arg20 c256_i32_141
  let c0_i32_142 : BitVec 32 := 0#32
  let v222 : BitVec 32 := Scalar.addi v221 c0_i32_142
  let v223 : BitVec 32 := v222
  let v232 : Index := Scalar.indexCast v223
  let c0_148 : Index := 0#32
  ![0, v232.toNat, 0]
def k0_off13 (i : grid0.Coords) (k0_t2 : Fin (k0_t2_loop i).trips) : Fin 2 → Nat :=
  let arg1 : BitVec 32 := BitVec.ofNat 32 (i 1).val
  let c1_i32_103 : BitVec 32 := 1#32
  let v189 : BitVec 32 := Scalar.addi arg1 c1_i32_103
  let c8_i32 : BitVec 32 := 8#32
  let v190 : BitVec 32 := Scalar.subi c8_i32 v189
  let c1_i32_105 : BitVec 32 := 1#32
  let v192 : BitVec 32 := Scalar.divsi v190 c1_i32_105
  let v193 : BitVec 32 := Scalar.muli v192 c1_i32_105
  let v194 : BitVec 32 := Scalar.addi v189 v193
  let c1_i32_107 : BitVec 32 := 1#32
  let arg20 : BitVec 32 := Scf.iv v194 c1_i32_107 k0_t2
  let c256_i32_141 : BitVec 32 := 256#32
  let v221 : BitVec 32 := Scalar.muli arg20 c256_i32_141
  let c0_i32_142 : BitVec 32 := 0#32
  let v222 : BitVec 32 := Scalar.addi v221 c0_i32_142
  let v223 : BitVec 32 := v222
  let v270 : Index := Scalar.indexCast v223
  let c0_166 : Index := 0#32
  ![v270.toNat, 0]
def k0_mult6 (i : grid0.Coords) (k0_t2 : Fin (k0_t2_loop i).trips) : BitVec 32 :=
  let arg1 : BitVec 32 := BitVec.ofNat 32 (i 1).val
  let c1_i32_103 : BitVec 32 := 1#32
  let v189 : BitVec 32 := Scalar.addi arg1 c1_i32_103
  let c8_i32 : BitVec 32 := 8#32
  let v190 : BitVec 32 := Scalar.subi c8_i32 v189
  let c1_i32_105 : BitVec 32 := 1#32
  let v192 : BitVec 32 := Scalar.divsi v190 c1_i32_105
  let v193 : BitVec 32 := Scalar.muli v192 c1_i32_105
  let v194 : BitVec 32 := Scalar.addi v189 v193
  let c1_i32_107 : BitVec 32 := 1#32
  let arg20 : BitVec 32 := Scf.iv v194 c1_i32_107 k0_t2
  let c256_i32_187 : BitVec 32 := 256#32
  let v299 : BitVec 32 := Scalar.muli arg20 c256_i32_187
  let c0_i32_188 : BitVec 32 := 0#32
  let v300 : BitVec 32 := Scalar.addi v299 c0_i32_188
  v300
def k0_off14 (i : grid0.Coords) (k0_t2 : Fin (k0_t2_loop i).trips) : Fin 2 → Nat :=
  let arg1 : BitVec 32 := BitVec.ofNat 32 (i 1).val
  let c1_i32_103 : BitVec 32 := 1#32
  let v189 : BitVec 32 := Scalar.addi arg1 c1_i32_103
  let c8_i32 : BitVec 32 := 8#32
  let v190 : BitVec 32 := Scalar.subi c8_i32 v189
  let c1_i32_105 : BitVec 32 := 1#32
  let v192 : BitVec 32 := Scalar.divsi v190 c1_i32_105
  let v193 : BitVec 32 := Scalar.muli v192 c1_i32_105
  let v194 : BitVec 32 := Scalar.addi v189 v193
  let c1_i32_107 : BitVec 32 := 1#32
  let arg20 : BitVec 32 := Scf.iv v194 c1_i32_107 k0_t2
  let c256_i32_187 : BitVec 32 := 256#32
  let v299 : BitVec 32 := Scalar.muli arg20 c256_i32_187
  let c0_i32_188 : BitVec 32 := 0#32
  let v300 : BitVec 32 := Scalar.addi v299 c0_i32_188
  let v301 : BitVec 32 := v300
  let v302 : Index := Scalar.indexCast v301
  let c128_189 : Index := 128#32
  ![v302.toNat, 128]
def k0_off15 (i : grid0.Coords) (k0_t2 : Fin (k0_t2_loop i).trips) : Fin 3 → Nat :=
  let c1_193 : Index := 1#32
  let arg1 : BitVec 32 := BitVec.ofNat 32 (i 1).val
  let c1_i32_103 : BitVec 32 := 1#32
  let v189 : BitVec 32 := Scalar.addi arg1 c1_i32_103
  let c8_i32 : BitVec 32 := 8#32
  let v190 : BitVec 32 := Scalar.subi c8_i32 v189
  let c1_i32_105 : BitVec 32 := 1#32
  let v192 : BitVec 32 := Scalar.divsi v190 c1_i32_105
  let v193 : BitVec 32 := Scalar.muli v192 c1_i32_105
  let v194 : BitVec 32 := Scalar.addi v189 v193
  let c1_i32_107 : BitVec 32 := 1#32
  let arg20 : BitVec 32 := Scf.iv v194 c1_i32_107 k0_t2
  let c256_i32_187 : BitVec 32 := 256#32
  let v299 : BitVec 32 := Scalar.muli arg20 c256_i32_187
  let c0_i32_188 : BitVec 32 := 0#32
  let v300 : BitVec 32 := Scalar.addi v299 c0_i32_188
  let v301 : BitVec 32 := v300
  let v310 : Index := Scalar.indexCast v301
  let c0_194 : Index := 0#32
  ![1, v310.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2x1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2048x2048 : Shape := ⟨2, ![2048, 2048]⟩
abbrev S2048x8192 : Shape := ⟨2, ![2048, 8192]⟩
abbrev S2048x16 : Shape := ⟨2, ![2048, 16]⟩
abbrev S2048x16x128 : Shape := ⟨3, ![2048, 16, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S16x128x2048 : Shape := ⟨3, ![16, 128, 2048]⟩
abbrev S16x2048x128 : Shape := ⟨3, ![16, 2048, 128]⟩
abbrev S2048x128 : Shape := ⟨2, ![2048, 128]⟩
abbrev S16x8x1x256 : Shape := ⟨4, ![16, 8, 1, 256]⟩

abbrev nBuf : Space → Nat
  | .hbm => 128
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x8192, .f32⟩
  | .hbm, ⟨3, _⟩ => ⟨S2048x16, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x16x128, .f32⟩
  | .hbm, ⟨9, _⟩ => ⟨S2048x16x128, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S16x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x2048, .f32⟩
  | .hbm, ⟨19, _⟩ => ⟨S16x1x2048, .f32⟩
  | .hbm, ⟨20, _⟩ => ⟨S16x2048x2048, .f32⟩
  | .hbm, ⟨21, _⟩ => ⟨S16x2048x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S16x2048x2048, .i1⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S16x2048x2048, .f32⟩
  | .hbm, ⟨39, _⟩ => ⟨S16x2048x2048, .i1⟩
  | .hbm, ⟨40, _⟩ => ⟨S16x2048x2048, .f32⟩
  | .hbm, ⟨41, _⟩ => ⟨S_, .f32⟩
  | .hbm, ⟨42, _⟩ => ⟨S16x2048, .f32⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S_, .f32⟩
  | .hbm, ⟨47, _⟩ => ⟨S16x2048, .f32⟩
  | .hbm, ⟨48, _⟩ => ⟨S16x2048, .i1⟩
  | .hbm, ⟨49, _⟩ => ⟨S_, .f32⟩
  | .hbm, ⟨50, _⟩ => ⟨S16x2048, .f32⟩
  | .hbm, ⟨51, _⟩ => ⟨S16x2048, .i1⟩
  | .hbm, ⟨52, _⟩ => ⟨S_, .f32⟩
  | .hbm, ⟨53, _⟩ => ⟨S16x2048, .f32⟩
  | .hbm, ⟨54, _⟩ => ⟨S_, .f32⟩
  | .hbm, ⟨55, _⟩ => ⟨S16x2048, .f32⟩
  | .hbm, ⟨56, _⟩ => ⟨S_, .f32⟩
  | .hbm, ⟨57, _⟩ => ⟨S16x2048, .f32⟩
  | .hbm, ⟨58, _⟩ => ⟨S16x2048, .f32⟩
  | .hbm, ⟨59, _⟩ => ⟨S16x2048, .f32⟩
  | .hbm, ⟨60, _⟩ => ⟨S16x2048x1, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S16x2048x2048, .f32⟩
  | .hbm, ⟨68, _⟩ => ⟨S16x2048x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S2048x16x128, .f32⟩
  | .hbm, ⟨74, _⟩ => ⟨S16x128x2048, .f32⟩
  | .hbm, ⟨75, _⟩ => ⟨S2048x16x128, .f32⟩
  | .hbm, ⟨76, _⟩ => ⟨S2048x2048, .f32⟩
  | .hbm, ⟨77, _⟩ => ⟨S2048x16x128, .f32⟩
  | .hbm, ⟨78, _⟩ => ⟨S16x128x2048, .f32⟩
  | .hbm, ⟨79, _⟩ => ⟨S16x2048x2048, .f32⟩
  | .hbm, ⟨80, _⟩ => ⟨S16x128x2048, .f32⟩
  | .hbm, ⟨81, _⟩ => ⟨S2048x16x128, .f32⟩
  | .hbm, ⟨82, _⟩ => ⟨S2048x2048, .f32⟩
  | .hbm, ⟨83, _⟩ => ⟨S16x2048x2048, .f32⟩
  | .hbm, ⟨84, _⟩ => ⟨S16x2048x2048, .f32⟩
  | .hbm, ⟨85, _⟩ => ⟨S16x2048x2048, .f32⟩
  | .hbm, ⟨86, _⟩ => ⟨S_, .f32⟩
  | .hbm, ⟨87, _⟩ => ⟨S16x2048, .f32⟩
  | .hbm, ⟨88, _⟩ => ⟨S16x2048x1, .f32⟩
  | .hbm, ⟨89, _⟩ => ⟨S16x2048x1, .f32⟩
  | .hbm, ⟨90, _⟩ => ⟨S16x2048x2048, .f32⟩
  | .hbm, ⟨91, _⟩ => ⟨S16x2048x2048, .f32⟩
  | .hbm, ⟨92, _⟩ => ⟨S_, .f32⟩
  | .hbm, ⟨93, _⟩ => ⟨S16x2048, .f32⟩
  | .hbm, ⟨94, _⟩ => ⟨S16x2048x2048, .f32⟩
  | .hbm, ⟨95, _⟩ => ⟨S16x2048x2048, .f32⟩
  | .hbm, ⟨96, _⟩ => ⟨S16x2048x2048, .f32⟩
  | .hbm, ⟨97, _⟩ => ⟨S_, .f32⟩
  | .hbm, ⟨98, _⟩ => ⟨S16x2048x2048, .f32⟩
  | .hbm, ⟨99, _⟩ => ⟨S16x2048x2048, .f32⟩
  | .hbm, ⟨100, _⟩ => ⟨S16x2048x2048, .f32⟩
  | .hbm, ⟨101, _⟩ => ⟨S_, .f32⟩
  | .hbm, ⟨102, _⟩ => ⟨S16x2048, .f32⟩
  | .hbm, ⟨103, _⟩ => ⟨S16x1x2048, .f32⟩
  | .hbm, ⟨104, _⟩ => ⟨S_, .f32⟩
  | .hbm, ⟨105, _⟩ => ⟨S16x2048, .f32⟩
  | .hbm, ⟨106, _⟩ => ⟨S2048x16, .f32⟩
  | .hbm, ⟨107, _⟩ => ⟨S_, .f32⟩
  | .hbm, ⟨108, _⟩ => ⟨S16x2048, .f32⟩
  | .hbm, ⟨109, _⟩ => ⟨S16x2048x1, .f32⟩
  | .hbm, ⟨110, _⟩ => ⟨S_, .f32⟩
  | .hbm, ⟨111, _⟩ => ⟨S16x2048, .f32⟩
  | .hbm, ⟨112, _⟩ => ⟨S2048x16, .f32⟩
  | .hbm, ⟨113, _⟩ => ⟨S_, .f32⟩
  | .hbm, ⟨114, _⟩ => ⟨S16x2048x2048, .f32⟩
  | .hbm, ⟨115, _⟩ => ⟨S16x2048x2048, .f32⟩
  | .hbm, ⟨116, _⟩ => ⟨S16x2048x128, .f32⟩
  | .hbm, ⟨117, _⟩ => ⟨S2048x16x128, .f32⟩
  | .hbm, ⟨118, _⟩ => ⟨S16x2048x128, .f32⟩
  | .hbm, ⟨119, _⟩ => ⟨S2048x16x128, .f32⟩
  | .hbm, ⟨120, _⟩ => ⟨S2048x2048, .f32⟩
  | .hbm, ⟨121, _⟩ => ⟨S2048x2048, .f32⟩
  | .hbm, ⟨122, _⟩ => ⟨S2048x2048, .bf16⟩
  | .hbm, ⟨123, _⟩ => ⟨S_, .i32⟩
  | .hbm, ⟨124, _⟩ => ⟨S_, .f32⟩
  | .hbm, ⟨125, _⟩ => ⟨S2048x128, .f32⟩
  | .hbm, ⟨126, _⟩ => ⟨S16x2048, .f32⟩
  | .hbm, ⟨127, _⟩ => ⟨S16x8x1x256, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c : Ref sig .tc := ⟨.hbm, 123, rfl⟩
abbrev main_call2_v0 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]
-- ==== Kernel2.lean ====
abbrev S2048x2048 : Shape := ⟨2, ![2048, 2048]⟩
abbrev S4x512x2048 : Shape := ⟨3, ![4, 512, 2048]⟩
abbrev S2048x8192 : Shape := ⟨2, ![2048, 8192]⟩
abbrev S512x2048 : Shape := ⟨2, ![512, 2048]⟩
abbrev S1x512x2048 : Shape := ⟨3, ![1, 512, 2048]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S2048x8192, .f32⟩
  | .hbm, ⟨4, _⟩ => ⟨S2048x2048, .f32⟩
  | .hbm, ⟨5, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![1, 4, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c12_i32 : BitVec 32 := 12#32
  let v0 : BitVec 32 := Scalar.addi arg2 c12_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true, false]
-- ==== Reference2Ideal.lean ====
abbrev S2048x2048 : Shape := ⟨2, ![2048, 2048]⟩
abbrev S4x512x2048 : Shape := ⟨3, ![4, 512, 2048]⟩
abbrev S2048x8192 : Shape := ⟨2, ![2048, 8192]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S2048x8192, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S4x512x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S2048x2048 : Shape := ⟨2, ![2048, 2048]⟩
abbrev S2x4x256x2048 : Shape := ⟨4, ![2, 4, 256, 2048]⟩
abbrev S2048x256 : Shape := ⟨2, ![2048, 256]⟩
abbrev S1x1x256x2048 : Shape := ⟨4, ![1, 1, 256, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2x4x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x1x256x2048, .bf16⟩
  | .local _ .vmem, ⟨4, _⟩ => ⟨S1x1x256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference3Ideal.lean ====
abbrev S2048x2048 : Shape := ⟨2, ![2048, 2048]⟩
abbrev S_ : Shape := ⟨0, ![]⟩
abbrev S4x2x256x2048 : Shape := ⟨4, ![4, 2, 256, 2048]⟩
abbrev S2x4x256x2048 : Shape := ⟨4, ![2, 4, 256, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S4x2x256x2048, .f32⟩
  | .hbm, ⟨10, _⟩ => ⟨S2x4x256x2048, .f32⟩
  | .hbm, ⟨11, _⟩ => ⟨S2x4x256x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2048x2048 : Shape := ⟨2, ![2048, 2048]⟩
abbrev S2048x4096 : Shape := ⟨2, ![2048, 4096]⟩
abbrev S2x4x1024x1024 : Shape := ⟨4, ![2, 4, 1024, 1024]⟩
abbrev S2048x512 : Shape := ⟨2, ![2048, 512]⟩
abbrev S2048x1024 : Shape := ⟨2, ![2048, 1024]⟩
abbrev S1x1x512x1024 : Shape := ⟨4, ![1, 1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2x4x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x512x1024, .bf16⟩
  | .local _ .vmem, ⟨5, _⟩ => ⟨S1x1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg2 c1_i32_4
  let c0_i32_5 : BitVec 32 := 0#32
  let v18 : BitVec 1 := Scalar.cmpi .sgt arg2 c0_i32_5
  let v19 : BitVec 32 := Scalar.extui v18
  let c0_i32_6 : BitVec 32 := 0#32
  let v20 : BitVec 1 := Scalar.cmpi .slt arg2 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg2 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let c0_i32_12 : BitVec 32 := 0#32
  let v34 : BitVec 1 := Scalar.cmpi .eq c2_i32_11 c0_i32_12
  let c1_i32_13 : BitVec 32 := 1#32
  let v35 : BitVec 32 := Scalar.select v34 c1_i32_13 c2_i32_11
  let v36 : BitVec 32 := Scalar.remsi arg1 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg2 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v33.toNat, v43.toNat, v53.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference4Ideal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩
abbrev S2x1024x4x1024 : Shape := ⟨4, ![2, 1024, 4, 1024]⟩
abbrev S2x4x1024x1024 : Shape := ⟨4, ![2, 4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S_, .f32⟩
  | .hbm, ⟨3, _⟩ => ⟨S2048x4096, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2x1024x4x1024, .f32⟩
  | .hbm, ⟨10, _⟩ => ⟨S2x4x1024x1024, .f32⟩
  | .hbm, ⟨11, _⟩ => ⟨S2x4x1024x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x2048 : Shape := ⟨2, ![2048, 2048]⟩
abbrev S2048x8192 : Shape := ⟨2, ![2048, 8192]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference5Ideal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x4096 : Shape := ⟨2, ![2048, 4096]⟩
abbrev S4x2048x1024 : Shape := ⟨3, ![4, 2048, 1024]⟩
abbrev S2048x2048 : Shape := ⟨2, ![2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4x2048x1024, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference6Ideal.lean ====
abbrev S2048x4096 : Shape := ⟨2, ![2048, 4096]⟩
abbrev S4x2048x1024 : Shape := ⟨3, ![4, 2048, 1024]⟩
abbrev S2048x4x1024 : Shape := ⟨3, ![2048, 4, 1024]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x2048x1024, .bf16⟩
  | .hbm, ⟨2, _⟩ => ⟨S4x2048x1024, .f32⟩
  | .hbm, ⟨3, _⟩ => ⟨S2048x4x1024, .f32⟩
  | .hbm, ⟨4, _⟩ => ⟨S2048x4096, .f32⟩
  | .hbm, ⟨5, _⟩ => ⟨S_, .f32⟩
  | .hbm, ⟨6, _⟩ => ⟨S2048x2048, .f32⟩
  | .hbm, ⟨7, _⟩ => ⟨S2048x4096, .f32⟩
  | .hbm, ⟨8, _⟩ => ⟨S2048x4096, .f32⟩
  | .hbm, ⟨9, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x8192 : Shape := ⟨2, ![2048, 8192]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .hbm, ⟨3, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 2, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference7Ideal.lean ====
abbrev S2048x8192 : Shape := ⟨2, ![2048, 8192]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | .hbm, ⟨9, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S2048x2048 : Shape := ⟨2, ![2048, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference8Ideal.lean ====
abbrev S2048x2048 : Shape := ⟨2, ![2048, 2048]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2048x2048 : Shape := ⟨2, ![2048, 2048]⟩
abbrev S4x2048x1024 : Shape := ⟨3, ![4, 2048, 1024]⟩
abbrev S2048x4096 : Shape := ⟨2, ![2048, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg3.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference9Ideal.lean ====
abbrev S2048x2048 : Shape := ⟨2, ![2048, 2048]⟩
abbrev S4x2048x1024 : Shape := ⟨3, ![4, 2048, 1024]⟩
abbrev S2048x4x1024 : Shape := ⟨3, ![2048, 4, 1024]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S2048x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S4x512x2048 : Shape := ⟨3, ![4, 512, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference10Ideal.lean ====
abbrev S2048x2048 : Shape := ⟨2, ![2048, 2048]⟩
abbrev S4x512x2048 : Shape := ⟨3, ![4, 512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S2048x2048, .f32⟩
  | .hbm, ⟨4, _⟩ => ⟨S4x512x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x2048 : Shape := ⟨2, ![2048, 2048]⟩
abbrev S4x512x2048 : Shape := ⟨3, ![4, 512, 2048]⟩
abbrev S2048x4096 : Shape := ⟨2, ![2048, 4096]⟩
abbrev S4x1x2048 : Shape := ⟨3, ![4, 1, 2048]⟩
abbrev S512x2048 : Shape := ⟨2, ![512, 2048]⟩
abbrev S1x512x2048 : Shape := ⟨3, ![1, 512, 2048]⟩
abbrev S512x512 : Shape := ⟨2, ![512, 512]⟩
abbrev S1x1x512 : Shape := ⟨3, ![1, 1, 512]⟩
abbrev S512 : Shape := ⟨1, ![512]⟩
abbrev S1x512 : Shape := ⟨2, ![1, 512]⟩

abbrev nBuf : Space → Nat
  | .hbm => 9
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S2048x2048, .f32⟩
  | .hbm, ⟨4, _⟩ => ⟨S2048x4096, .f32⟩
  | .hbm, ⟨5, _⟩ => ⟨S2048x2048, .bf16⟩
  | .hbm, ⟨6, _⟩ => ⟨S2048x2048, .bf16⟩
  | .hbm, ⟨7, _⟩ => ⟨S2048x2048, .f32⟩
  | .hbm, ⟨8, _⟩ => ⟨S4x1x2048, .f32⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S1x1x512, .f32⟩
  | .local _ .vmem, ⟨17, _⟩ => ⟨S1x1x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![1, 4, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.addi arg2 c4_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg2 c0_i32
  let c0_i32_0 : BitVec 32 := 0#32
  ![arg1.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat, arg2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true, false]
-- ==== Reference11Ideal.lean ====
abbrev S2048x2048 : Shape := ⟨2, ![2048, 2048]⟩
abbrev S4x512x2048 : Shape := ⟨3, ![4, 512, 2048]⟩
abbrev S2048x4096 : Shape := ⟨2, ![2048, 4096]⟩
abbrev S_ : Shape := ⟨0, ![]⟩
abbrev S4x2048 : Shape := ⟨2, ![4, 2048]⟩
abbrev S4x1x2048 : Shape := ⟨3, ![4, 1, 2048]⟩

abbrev nBuf : Space → Nat
  | .hbm => 70
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S2048x2048, .f32⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S4x512x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .bf16⟩
  | .hbm, ⟨65, _⟩ => ⟨S2048x2048, .bf16⟩
  | .hbm, ⟨66, _⟩ => ⟨S4x512x2048, .f32⟩
  | .hbm, ⟨67, _⟩ => ⟨S_, .f32⟩
  | .hbm, ⟨68, _⟩ => ⟨S4x2048, .f32⟩
  | .hbm, ⟨69, _⟩ => ⟨S4x1x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v24_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v24_1 : Ref sig .tc := ⟨.hbm, 47, rfl⟩
abbrev main_v24_0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]
-- ==== Proof.Finite.lean ====
/- Hand-written, untrusted: arrays of real numbers among the arrays of extended reals. A precondition of this certificate
   says that every element of every argument lies strictly between the infinities (`abs x < inf` in the predicate's text);
   here that text is read as "there are real numbers that the elements are", and the operations that meet real numbers
   are given their real values. -/
module

public import Idealize.ShloMosaic.Lib.ReduceAll
public import Idealize.ShloMosaic.Lib.ValueIdx
public import Idealize.ShloMosaic.PureOps.Ideal.Laws
public import Mathlib.Analysis.SpecialFunctions.Exp

@[expose] public section

noncomputable section

namespace Cert.Proof.Finite

open Idealize.ShloMosaic

/-- Every element of the array is a real number. -/
def AllReal {ι : Type} (x : ι → EReal) : Prop := ∃ r : ι → ℝ, x = fun i => (r i : EReal)

theorem ofBits_one : Ideal.ofBits .f32 0x3F800000#32 = ((1 : ℝ) : EReal) := by
  simp [Ideal.ofBits, Ideal.ieee, -EReal.coe_mul]; norm_num

theorem ofBits_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

/-- An extended real whose absolute value is below the upper infinity is a real number. -/
theorem real_of_abs_lt {x : EReal} (h : max x (-x) < ⊤) : ∃ r : ℝ, x = (r : EReal) := by
  induction x with
  | bot => simp at h
  | top => simp at h
  | coe r => exact ⟨r, rfl⟩

/-- The predicate's text at one array: the conjunction over all its elements of `abs x < inf`. -/
theorem allReal_of_reduce {s t : Shape} {axes : List (Fin s.rank)} [Subsingleton t.Idx] {φ : FTy} (x : FVec Ideal s φ)
    (top : FVec Ideal s φ) (htop : ∀ i, top i = ⊤) (init : t.Idx → BitVec 1) (h : s.ReducesTo axes t)
    (hu : 0 < t.numel) (j : t.Idx) (e : Host.reduce IntOp.andi (cmpf .olt (Host.absf x) top) init h hu j = 1#1) :
    AllReal x := by
  have hx : ∀ i, ∃ r : ℝ, x i = (r : EReal) := fun i => by
    have h1 := Host.reduce_andi_all _ _ _ _ j e i
    change BitVec.ofBool (decide (max (x i) (-(x i)) < top i)) = 1#1 at h1
    rw [htop] at h1
    apply real_of_abs_lt
    by_contra hc
    rw [decide_eq_false hc] at h1
    exact absurd h1 (by decide)
  choose r hr using hx
  exact ⟨r, funext hr⟩

/-- A conjunction of two bits that is one has both of them one. -/
theorem andi_one {s : Shape} {a b : IVec s 1} {j : s.Idx} (h : andi a b j = 1#1) : a j = 1#1 ∧ b j = 1#1 := by
  change (a j) &&& (b j) = 1#1 at h
  revert h
  generalize a j = p
  generalize b j = q
  revert p q
  decide

/-- A sum of products of real numbers is a real number. -/
theorem sum_mul_coe {ι : Type} (s : Finset ι) (a b : ι → ℝ) :
    ∑ k ∈ s, ((a k : EReal) * (b k : EReal)) = ((∑ k ∈ s, a k * b k : ℝ) : EReal) := by
  classical
  induction s using Finset.induction_on with
  | empty => simp
  | insert i s hi ih => rw [Finset.sum_insert hi, Finset.sum_insert hi, ih, EReal.coe_add, EReal.coe_mul]

theorem sum_coe {ι : Type} (s : Finset ι) (a : ι → ℝ) :
    ∑ k ∈ s, (a k : EReal) = ((∑ k ∈ s, a k : ℝ) : EReal) := by
  classical
  induction s using Finset.induction_on with
  | empty => simp
  | insert i s hi ih => rw [Finset.sum_insert hi, Finset.sum_insert hi, ih, EReal.coe_add]

theorem div_coe_coe {x y : ℝ} (h : y ≠ 0) : Ideal.div (x : EReal) (y : EReal) = ((x / y : ℝ) : EReal) := by
  rw [Ideal.div_coe h, ← EReal.coe_mul, mul_one_div]

/-- A product of two matrices at an index, over its contracted axis of `n` places: the sum over `k` of the left operand at
    `L k` times the right one at `R k`, once the operand indices are known. -/
theorem dot_sum {sl sr so : Shape} (D : DotDims sl sr so) (n : Nat) (hr : D.contr.rank = 1)
    (hn : D.contr.size ⟨0, by rw [hr]; exact Nat.one_pos⟩ = n) (x : sl.Idx → EReal) (y : sr.Idx → EReal) (j : so.Idx)
    (L : Fin n → sl.Idx) (R : Fin n → sr.Idx)
    (hL : ∀ k, D.lhsIdx j ((ValueIdx.contrEquiv1 D n hr hn).symm k) = L k)
    (hR : ∀ k, D.rhsIdx j ((ValueIdx.contrEquiv1 D n hr hn).symm k) = R k) :
    ∑ q : D.contr.Idx, x (D.lhsIdx j q) * y (D.rhsIdx j q) = ∑ k : Fin n, x (L k) * y (R k) := by
  rw [← Equiv.sum_comp (ValueIdx.contrEquiv1 D n hr hn).symm]
  exact Finset.sum_congr rfl fun k _ => by rw [hL, hR]

/-- The logistic function as the exponential's quotient, at a real number. -/
theorem logistic_coe (z : ℝ) : Ideal.div ((1 : ℝ) : EReal) (((1 : ℝ) : EReal) + Ideal.exp ((-z : ℝ) : EReal))
    = (((1 : ℝ) / (1 + Real.exp (-z)) : ℝ) : EReal) := by
  rw [Ideal.exp_coe, ← EReal.coe_add, div_coe_coe (by positivity)]

end Cert.Proof.Finite

end
-- ==== Proof.DwRows.lean ====
/- Hand-written, untrusted: THE GRADIENT OF A ROW-SHARDED WEIGHT. A grid point stores one tile of the product of the
   transposed activations by the cotangent, summed over all 2048 tokens at once, at the place where the exchange of the
   gradients takes it (half, device, row, column). The reference is the gradient jax takes of the forward product, reshaped to
   that layout. Both are one sum per element (`tile_apply`, `ref_apply`), so no value need be real. -/
module

public import proofs.«01_k».proof.Proof.Gen.Kernel3Ideal.Value
public import proofs.«01_k».proof.Proof.Gen.Reference3Ideal.Read
public import proofs.«01_k».proof.Proof.Finite

@[expose] public section

set_option maxRecDepth 16384

noncomputable section

namespace Cert.Proof.DwRows

open Cert.Kernel3Ideal Cert.Kernel3Ideal.Gen Cert.Kernel3Ideal.Value Cert.Proof.Finite
open Idealize.ShloMosaic Idealize.ShloMosaic.TcCoe Idealize.SL.Sem Idealize.ShloMosaic.ValueIdx
open Cert.Reference3Ideal.Read (val_main_v8)

/-- The product's element: column `r` of the activations' block by column `q` of the cotangent's. -/
theorem prod_apply (x0 : FVec Ideal S2048x256 .bf16) (x1 : FVec Ideal S2048x2048 .bf16) (r : Fin 256) (q : Fin 2048) :
    FloatOps.matmul dot_S2048x256_S2048x2048_S256x2048_0_0_1_1_n_n none x0 x1 (constant S256x2048 .f32 0x00000000#32) (ix2 r q)
      = ∑ k : Fin 2048, x0 (ix2 k r) * x1 (ix2 k q) := by
  rw [Ideal.matmul_constant_zero_apply, dot_sum _ 2048 rfl rfl x0 x1 (ix2 r q) (fun k => ix2 k r) (fun k => ix2 k q)]
  · intro k
    have hk := contrEquiv1_symm_val dot_S2048x256_S2048x2048_S256x2048_0_0_1_1_n_n 2048 rfl rfl k
    exact funext fun a => Fin.ext (by
      match a with
      | ⟨0, _⟩ => exact (dot_S2048x256_S2048x2048_S256x2048_0_0_1_1_n_n.lhsIdx_val_of_single rfl _ _).trans hk
      | ⟨1, _⟩ => rfl)
  · intro k
    have hk := contrEquiv1_symm_val dot_S2048x256_S2048x2048_S256x2048_0_0_1_1_n_n 2048 rfl rfl k
    exact funext fun a => Fin.ext (by
      match a with
      | ⟨0, _⟩ => exact (dot_S2048x256_S2048x2048_S256x2048_0_0_1_1_n_n.rhsIdx_val_of_single rfl _ _).trans hk
      | ⟨1, _⟩ => rfl)

/-- A tile's element: the product's, at the tile's row and column. -/
theorem tile_apply (x0 : Vec Ideal S2048x256 .bf16) (x1 : Vec Ideal S2048x2048 .bf16) (y : S1x1x256x2048.Idx) :
    k0_pay1 (F := Ideal) x0 x1 y = ∑ k : Fin 2048, x0 (ix2 k (y 2)) * x1 (ix2 k (y 3)) := by
  have hy0 : (y 0).val < 1 := (y 0).isLt
  have hy1 : (y 1).val < 1 := (y 1).isLt
  unfold k0_pay1
  exact (shapeCast_apply _ shapeCasts_S256x2048_S1x1x256x2048 y (ix2 (y 2) (y 3))
    (by rewrite [Shape.rowMajor_val_two, Shape.rowMajor_val_four]
        show (y 2).val * 2048 + (y 3).val = (((y 0).val * 1 + (y 1).val) * 256 + (y 2).val) * 2048 + (y 3).val
        omega)).trans (prod_apply x0 x1 (y 2) (y 3))

open Cert.Reference3Ideal.Read in
/-- The reference's element at half `i 0`, device `i 1`, row `i 2`, column `i 3`. -/
theorem ref_apply (a0 a1 : Vec Ideal S2048x2048 .bf16) (i : S2x4x256x2048.Idx) (R C : Fin 2048)
    (hR : R.val = ((i 1).val * 2 + (i 0).val) * 256 + (i 2).val) (hC : C.val = (i 3).val) :
    val_main_v8 (F := Ideal) a0 a1 i = ∑ k : Fin 2048, a0 (ix2 k R) * a1 (ix2 k C) := by
  rw [val_main_v8_apply, val_main_v7_apply, val_main_v6_apply, val_main_v5_apply]
  show val_main_v4 (F := Ideal) a0 a1 _ = _
  rw [val_main_v4_apply]
  refine Finset.sum_congr rfl fun k _ => ?_
  rw [val_main_v3_apply, val_main_v1_apply]
  show @HMul.hMul EReal EReal EReal _ (a1 _) (a0 _) = _
  rw [mul_comm]
  have h2 : (i 2).val < 256 := (i 2).isLt
  have h3 : (i 3).val < 2048 := (i 3).isLt
  refine congrArg₂ (fun x y => a0 x * a1 y) (funext fun a => Fin.ext ?_) (funext fun a => Fin.ext ?_)
  · match a with
    | ⟨0, _⟩ => rfl
    | ⟨1, _⟩ => show ((((i 1).val * 2 + (i 0).val) * 256 + (i 2).val) * 2048 + (i 3).val) / 2048 = R.val; omega
  · match a with
    | ⟨0, _⟩ => rfl
    | ⟨1, _⟩ => show ((((i 1).val * 2 + (i 0).val) * 256 + (i 2).val) * 2048 + (i 3).val) % 2048 = C.val; omega

/-! ## The windows -/

variable (m : (ℓ : Loc nD τ sig) → Buf (Elt Ideal) ℓ) (ρ : Dev nD → PrngReg)

/-- Grid point `t` is row tile `t`. -/
theorem idx_all : ∀ t : Fin cfg0.N,
    (win0_0.index t (0 : Fin 2) = 0 ∧ win0_0.index t (1 : Fin 2) = t.val)
    ∧ (win0_1.index t (0 : Fin 2) = 0 ∧ win0_1.index t (1 : Fin 2) = 0)
    ∧ (win0_2.index t (0 : Fin 4) = t.val % 2 ∧ win0_2.index t (1 : Fin 4) = t.val / 2 ∧ win0_2.index t (2 : Fin 4) = 0
      ∧ win0_2.index t (3 : Fin 4) = 0) :=
  (by decide +kernel : ∀ t : Fin grid0.N, _)

theorem point_lt (t : Fin cfg0.N) : t.val < 8 := t.isLt

theorem iblk0_apply (c : Dev nD) (t : Fin cfg0.N) (j : S2048x256.Idx) (i : S2048x2048.Idx)
    (h0 : (i 0).val = (j 0).val) (h1 : (i 1).val = t.val * 256 + (j 1).val) :
    iblk m c 0 t j = m ((c : Thread nD τ).loc main_arg0) i := by
  obtain ⟨⟨e0, e1⟩, -⟩ := idx_all t
  show V m c main_arg0 (((cfg0.win 0).blk t).view.emb j) = _
  rw [V_main_arg0]
  refine congrArg _ (funext fun a => Fin.ext ?_)
  match a with
  | ⟨0, _⟩ => show win0_0.index t (0 : Fin 2) * 2048 + 1 * (j 0).val = (i 0).val; omega
  | ⟨1, _⟩ => show win0_0.index t (1 : Fin 2) * 256 + 1 * (j 1).val = (i 1).val; omega

theorem iblk1_apply (c : Dev nD) (t : Fin cfg0.N) (j : S2048x2048.Idx) :
    iblk m c 1 t j = m ((c : Thread nD τ).loc main_arg1) j := by
  obtain ⟨-, ⟨e0, e1⟩, -⟩ := idx_all t
  show V m c main_arg1 (((cfg0.win 1).blk t).view.emb j) = _
  rw [V_main_arg1]
  refine congrArg _ (funext fun a => Fin.ext ?_)
  match a with
  | ⟨0, _⟩ => show win0_1.index t (0 : Fin 2) * 2048 + 1 * (j 0).val = (j 0).val; omega
  | ⟨1, _⟩ => show win0_1.index t (1 : Fin 2) * 2048 + 1 * (j 1).val = (j 1).val; omega

theorem hz2 : (![0, 0] : Fin 2 → Nat) = fun _ => 0 := funext fun a => by fin_cases a <;> rfl
theorem hz4 : (![0, 0, 0, 0] : Fin 4 → Nat) = fun _ => 0 := funext fun a => by fin_cases a <;> rfl

theorem out_eq (x0 : Vec Ideal S2048x256 .bf16) (x1 : Vec Ideal S2048x2048 .bf16) : out0_2 x0 x1 = k0_pay1 x0 x1 := by
  unfold out0_2
  rw [View.canon_unit_zero hz4, View.ld_unit_zero hz2, View.ld_unit_zero hz2]

theorem emb_val (t : Fin cfg0.N) (j : S1x1x256x2048.Idx) : (((cfg0.win 2).blk t).view.emb j 0).val = t.val % 2
    ∧ (((cfg0.win 2).blk t).view.emb j 1).val = t.val / 2 ∧ (((cfg0.win 2).blk t).view.emb j 2).val = (j 2).val
    ∧ (((cfg0.win 2).blk t).view.emb j 3).val = (j 3).val := by
  obtain ⟨-, -, e0, e1, e2, e3⟩ := idx_all t
  have h0 : (j 0).val < 1 := (j 0).isLt
  have h1 : (j 1).val < 1 := (j 1).isLt
  refine ⟨?_, ?_, ?_, ?_⟩
  · show win0_2.index t (0 : Fin 4) * 1 + 1 * (j 0).val = _; omega
  · show win0_2.index t (1 : Fin 4) * 1 + 1 * (j 1).val = _; omega
  · show win0_2.index t (2 : Fin 4) * 256 + 1 * (j 2).val = _; omega
  · show win0_2.index t (3 : Fin 4) * 2048 + 1 * (j 3).val = _; omega

/-- The gradient the reference takes, of the launch contents. -/
abbrev dW (c : Dev nD) : Buf (Elt Ideal) ((c : Thread nD τ).loc main_v0) :=
  val_main_v8 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (dW m c) := by
  rw [flushed2, out_eq]
  funext j
  show k0_pay1 (F := Ideal) (iblk m c 0 t) (iblk m c 1 t) j = dW m c (((cfg0.win 2).blk t).view.emb j)
  obtain ⟨e0, e1, e2, e3⟩ := emb_val t j
  have ht := point_lt t
  have h2 : (j 2).val < 256 := (j 2).isLt
  rw [tile_apply, dW, ref_apply _ _ _ ⟨t.val * 256 + (j 2).val, by omega⟩ (j 3)
    (by show t.val * 256 + (j 2).val = _; omega) e3.symm]
  refine Finset.sum_congr rfl fun k _ => ?_
  rw [iblk0_apply m c t (ix2 k (j 2)) (ix2 k ⟨t.val * 256 + (j 2).val, by omega⟩) rfl rfl, iblk1_apply]

theorem covered (i : S2x4x256x2048.Idx) :
    ∃ t : Fin cfg0.N, (cfg0.win 2).flush t = true ∧ i ∈ ((cfg0.win 2).blk t).view.set := by
  have h0 : (i 0).val < 2 := (i 0).isLt
  have h1 : (i 1).val < 4 := (i 1).isLt
  let t : Fin cfg0.N := ⟨2 * (i 1).val + (i 0).val, show _ < 8 by omega⟩
  let j : S1x1x256x2048.Idx := ix4 0 0 (i 2) (i 3)
  obtain ⟨e0, e1, e2, e3⟩ := emb_val t j
  have e : ((cfg0.win 2).blk t).view.emb j = i := by
    funext a; apply Fin.ext
    match a with
    | ⟨0, _⟩ => exact e0.trans (show (2 * (i 1).val + (i 0).val) % 2 = (i 0).val by omega)
    | ⟨1, _⟩ => exact e1.trans (show (2 * (i 1).val + (i 0).val) / 2 = (i 1).val by omega)
    | ⟨2, _⟩ => exact e2
    | ⟨3, _⟩ => exact e3
  exact ⟨t, flush0_2 t, by have h := ((cfg0.win 2).blk t).view.emb_mem_set j; rwa [e] at h⟩

/-- The kernel's run: its result is the reference's gradient. -/
theorem run : θ_run defs (onTc (τ := τ) (main (F := Ideal))) ⟨m, fun _ => 0, ρ⟩ fun r => ∀ c : Dev nD,
      r.2.mem ((c : Thread nD τ).loc main_v0) = dW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans ((dats m 0 c).arrAt_eq_of_cover 2 (dW m c) (fun t _ => flushed_eq m c t) covered), (h c).2⟩) (run_blocks m ρ)

end Cert.Proof.DwRows

end
-- ==== Proof.DwCols.lean ====
/- Hand-written, untrusted: THE GRADIENT OF A COLUMN-SHARDED WEIGHT. As DwRows.lean, in tiles of 512 rows by one device's 1024
   columns, stored in the order (half, device, row, column) the exchange of the gradients takes. -/
module

public import proofs.«01_k».proof.Proof.Gen.Kernel4Ideal.Value
public import proofs.«01_k».proof.Proof.Gen.Reference4Ideal.Read
public import proofs.«01_k».proof.Proof.Finite

@[expose] public section

set_option maxRecDepth 16384

noncomputable section

namespace Cert.Proof.DwCols

open Cert.Kernel4Ideal Cert.Kernel4Ideal.Gen Cert.Kernel4Ideal.Value Cert.Proof.Finite
open Idealize.ShloMosaic Idealize.ShloMosaic.TcCoe Idealize.SL.Sem Idealize.ShloMosaic.ValueIdx
open Cert.Reference4Ideal.Read (val_main_v8)

/-- The product's element: column `r` of the activations' block by column `q` of the cotangent's. -/
theorem prod_apply (x0 : FVec Ideal S2048x512 .bf16) (x1 : FVec Ideal S2048x1024 .bf16) (r : Fin 512) (q : Fin 1024) :
    FloatOps.matmul dot_S2048x512_S2048x1024_S512x1024_0_0_1_1_n_n none x0 x1 (constant S512x1024 .f32 0x00000000#32) (ix2 r q)
      = ∑ k : Fin 2048, x0 (ix2 k r) * x1 (ix2 k q) := by
  rw [Ideal.matmul_constant_zero_apply, dot_sum _ 2048 rfl rfl x0 x1 (ix2 r q) (fun k => ix2 k r) (fun k => ix2 k q)]
  · intro k
    have hk := contrEquiv1_symm_val dot_S2048x512_S2048x1024_S512x1024_0_0_1_1_n_n 2048 rfl rfl k
    exact funext fun a => Fin.ext (by
      match a with
      | ⟨0, _⟩ => exact (dot_S2048x512_S2048x1024_S512x1024_0_0_1_1_n_n.lhsIdx_val_of_single rfl _ _).trans hk
      | ⟨1, _⟩ => rfl)
  · intro k
    have hk := contrEquiv1_symm_val dot_S2048x512_S2048x1024_S512x1024_0_0_1_1_n_n 2048 rfl rfl k
    exact funext fun a => Fin.ext (by
      match a with
      | ⟨0, _⟩ => exact (dot_S2048x512_S2048x1024_S512x1024_0_0_1_1_n_n.rhsIdx_val_of_single rfl _ _).trans hk
      | ⟨1, _⟩ => rfl)

/-- A tile's element: the product's, at the tile's row and column. -/
theorem tile_apply (x0 : Vec Ideal S2048x512 .bf16) (x1 : Vec Ideal S2048x1024 .bf16) (y : S1x1x512x1024.Idx) :
    k0_pay1 (F := Ideal) x0 x1 y = ∑ k : Fin 2048, x0 (ix2 k (y 2)) * x1 (ix2 k (y 3)) := by
  have hy0 : (y 0).val < 1 := (y 0).isLt
  have hy1 : (y 1).val < 1 := (y 1).isLt
  unfold k0_pay1
  exact (shapeCast_apply _ shapeCasts_S512x1024_S1x1x512x1024 y (ix2 (y 2) (y 3))
    (by rewrite [Shape.rowMajor_val_two, Shape.rowMajor_val_four]
        show (y 2).val * 1024 + (y 3).val = (((y 0).val * 1 + (y 1).val) * 512 + (y 2).val) * 1024 + (y 3).val
        omega)).trans (prod_apply x0 x1 (y 2) (y 3))

open Cert.Reference4Ideal.Read in
/-- The reference's element at half `i 0`, device `i 1`, row `i 2`, column `i 3`. -/
theorem ref_apply (a0 : Vec Ideal S2048x2048 .bf16) (a1 : Vec Ideal S2048x4096 .bf16) (i : S2x4x1024x1024.Idx)
    (R : Fin 2048) (C : Fin 4096)
    (hR : R.val = (i 0).val * 1024 + (i 2).val) (hC : C.val = (i 1).val * 1024 + (i 3).val) :
    val_main_v8 (F := Ideal) a0 a1 i = ∑ k : Fin 2048, a0 (ix2 k R) * a1 (ix2 k C) := by
  rw [val_main_v8_apply, val_main_v7_apply, val_main_v6_apply, val_main_v5_apply]
  show val_main_v4 (F := Ideal) a0 a1 _ = _
  rw [val_main_v4_apply]
  refine Finset.sum_congr rfl fun k _ => ?_
  rw [val_main_v3_apply, val_main_v1_apply]
  show @HMul.hMul EReal EReal EReal _ (a1 _) (a0 _) = _
  rw [mul_comm]
  have h1 : (i 1).val < 4 := (i 1).isLt
  have h2 : (i 2).val < 1024 := (i 2).isLt
  have h3 : (i 3).val < 1024 := (i 3).isLt
  refine congrArg₂ (fun x y => a0 x * a1 y) (funext fun a => Fin.ext ?_) (funext fun a => Fin.ext ?_)
  · match a with
    | ⟨0, _⟩ => rfl
    | ⟨1, _⟩ => show ((((i 0).val * 1024 + (i 2).val) * 4 + (i 1).val) * 1024 + (i 3).val) / 4096 = R.val; omega
  · match a with
    | ⟨0, _⟩ => rfl
    | ⟨1, _⟩ => show ((((i 0).val * 1024 + (i 2).val) * 4 + (i 1).val) * 1024 + (i 3).val) % 4096 = C.val; omega

/-! ## The windows -/

variable (m : (ℓ : Loc nD τ sig) → Buf (Elt Ideal) ℓ) (ρ : Dev nD → PrngReg)

/-- Grid point `t` is row tile `t / 4` and device `t % 4`. -/
theorem idx_all : ∀ t : Fin cfg0.N,
    (win0_0.index t (0 : Fin 2) = 0 ∧ win0_0.index t (1 : Fin 2) = t.val / 4)
    ∧ (win0_1.index t (0 : Fin 2) = 0 ∧ win0_1.index t (1 : Fin 2) = t.val % 4)
    ∧ (win0_2.index t (0 : Fin 4) = t.val / 8 ∧ win0_2.index t (1 : Fin 4) = t.val % 4
      ∧ win0_2.index t (2 : Fin 4) = t.val / 4 % 2
      ∧ win0_2.index t (3 : Fin 4) = 0) :=
  (by decide +kernel : ∀ t : Fin grid0.N, _)

theorem point_lt (t : Fin cfg0.N) : t.val < 16 := t.isLt

theorem iblk0_apply (c : Dev nD) (t : Fin cfg0.N) (j : S2048x512.Idx) (i : S2048x2048.Idx)
    (h0 : (i 0).val = (j 0).val) (h1 : (i 1).val = t.val / 4 * 512 + (j 1).val) :
    iblk m c 0 t j = m ((c : Thread nD τ).loc main_arg0) i := by
  obtain ⟨⟨e0, e1⟩, -⟩ := idx_all t
  show V m c main_arg0 (((cfg0.win 0).blk t).view.emb j) = _
  rw [V_main_arg0]
  refine congrArg _ (funext fun a => Fin.ext ?_)
  match a with
  | ⟨0, _⟩ => show win0_0.index t (0 : Fin 2) * 2048 + 1 * (j 0).val = (i 0).val; omega
  | ⟨1, _⟩ => show win0_0.index t (1 : Fin 2) * 512 + 1 * (j 1).val = (i 1).val; omega

theorem iblk1_apply (c : Dev nD) (t : Fin cfg0.N) (j : S2048x1024.Idx) (i : S2048x4096.Idx)
    (h0 : (i 0).val = (j 0).val) (h1 : (i 1).val = t.val % 4 * 1024 + (j 1).val) :
    iblk m c 1 t j = m ((c : Thread nD τ).loc main_arg1) i := by
  obtain ⟨-, ⟨e0, e1⟩, -⟩ := idx_all t
  show V m c main_arg1 (((cfg0.win 1).blk t).view.emb j) = _
  rw [V_main_arg1]
  refine congrArg _ (funext fun a => Fin.ext ?_)
  match a with
  | ⟨0, _⟩ => show win0_1.index t (0 : Fin 2) * 2048 + 1 * (j 0).val = (i 0).val; omega
  | ⟨1, _⟩ => show win0_1.index t (1 : Fin 2) * 1024 + 1 * (j 1).val = (i 1).val; omega

theorem hz2 : (![0, 0] : Fin 2 → Nat) = fun _ => 0 := funext fun a => by fin_cases a <;> rfl
theorem hz4 : (![0, 0, 0, 0] : Fin 4 → Nat) = fun _ => 0 := funext fun a => by fin_cases a <;> rfl

theorem out_eq (x0 : Vec Ideal S2048x512 .bf16) (x1 : Vec Ideal S2048x1024 .bf16) : out0_2 x0 x1 = k0_pay1 x0 x1 := by
  unfold out0_2
  rw [View.canon_unit_zero hz4, View.ld_unit_zero hz2, View.ld_unit_zero hz2]

theorem emb_val (t : Fin cfg0.N) (j : S1x1x512x1024.Idx) : (((cfg0.win 2).blk t).view.emb j 0).val = t.val / 8
    ∧ (((cfg0.win 2).blk t).view.emb j 1).val = t.val % 4
    ∧ (((cfg0.win 2).blk t).view.emb j 2).val = t.val / 4 % 2 * 512 + (j 2).val
    ∧ (((cfg0.win 2).blk t).view.emb j 3).val = (j 3).val := by
  obtain ⟨-, -, e0, e1, e2, e3⟩ := idx_all t
  have h0 : (j 0).val < 1 := (j 0).isLt
  have h1 : (j 1).val < 1 := (j 1).isLt
  refine ⟨?_, ?_, ?_, ?_⟩
  · show win0_2.index t (0 : Fin 4) * 1 + 1 * (j 0).val = _; omega
  · show win0_2.index t (1 : Fin 4) * 1 + 1 * (j 1).val = _; omega
  · show win0_2.index t (2 : Fin 4) * 512 + 1 * (j 2).val = _; omega
  · show win0_2.index t (3 : Fin 4) * 1024 + 1 * (j 3).val = _; omega

/-- The gradient the reference takes, of the launch contents. -/
abbrev dW (c : Dev nD) : Buf (Elt Ideal) ((c : Thread nD τ).loc main_v0) :=
  val_main_v8 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (dW m c) := by
  rw [flushed2, out_eq]
  funext j
  show k0_pay1 (F := Ideal) (iblk m c 0 t) (iblk m c 1 t) j = dW m c (((cfg0.win 2).blk t).view.emb j)
  obtain ⟨e0, e1, e2, e3⟩ := emb_val t j
  have ht := point_lt t
  have h2 : (j 2).val < 512 := (j 2).isLt
  have h3 : (j 3).val < 1024 := (j 3).isLt
  rw [tile_apply, dW, ref_apply _ _ _ ⟨t.val / 4 * 512 + (j 2).val, by omega⟩ ⟨t.val % 4 * 1024 + (j 3).val, by omega⟩
    (by show t.val / 4 * 512 + (j 2).val = _; omega) (by show t.val % 4 * 1024 + (j 3).val = _; omega)]
  refine Finset.sum_congr rfl fun k _ => ?_
  rw [iblk0_apply m c t (ix2 k (j 2)) (ix2 k ⟨t.val / 4 * 512 + (j 2).val, by omega⟩) rfl rfl,
    iblk1_apply m c t (ix2 k (j 3)) (ix2 k ⟨t.val % 4 * 1024 + (j 3).val, by omega⟩) rfl rfl]

theorem covered (i : S2x4x1024x1024.Idx) :
    ∃ t : Fin cfg0.N, (cfg0.win 2).flush t = true ∧ i ∈ ((cfg0.win 2).blk t).view.set := by
  have h0 : (i 0).val < 2 := (i 0).isLt
  have h1 : (i 1).val < 4 := (i 1).isLt
  have h2 : (i 2).val < 1024 := (i 2).isLt
  obtain ⟨n, hn⟩ : ∃ n, n = 8 * (i 0).val + 4 * ((i 2).val / 512) + (i 1).val := ⟨_, rfl⟩
  let t : Fin cfg0.N := ⟨n, show _ < 16 by omega⟩
  let j : S1x1x512x1024.Idx := ix4 0 0 ⟨(i 2).val % 512, Nat.mod_lt _ (by decide)⟩ (i 3)
  obtain ⟨e0, e1, e2, e3⟩ := emb_val t j
  have e : ((cfg0.win 2).blk t).view.emb j = i := by
    funext a; apply Fin.ext
    match a with
    | ⟨0, _⟩ => exact e0.trans (show n / 8 = (i 0).val by omega)
    | ⟨1, _⟩ => exact e1.trans (show n % 4 = (i 1).val by omega)
    | ⟨2, _⟩ => exact e2.trans (show n / 4 % 2 * 512 + (i 2).val % 512 = (i 2).val by omega)
    | ⟨3, _⟩ => exact e3
  exact ⟨t, flush0_2 t, by have h := ((cfg0.win 2).blk t).view.emb_mem_set j; rwa [e] at h⟩

/-- The kernel's run: its result is the reference's gradient. -/
theorem run : θ_run defs (onTc (τ := τ) (main (F := Ideal))) ⟨m, fun _ => 0, ρ⟩ fun r => ∀ c : Dev nD,
      r.2.mem ((c : Thread nD τ).loc main_v0) = dW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans ((dats m 0 c).arrAt_eq_of_cover 2 (dW m c) (fun t _ => flushed_eq m c t) covered), (h c).2⟩) (run_blocks m ρ)

end Cert.Proof.DwCols

end
-- ==== Proof.DwFox.lean ====
/- Hand-written, untrusted: THE GRADIENT OF THE ATTENTION'S INPUT PROJECTION. As DwCols.lean, over all 8192 columns and with no
   other layout: a grid point stores one tile of 512 rows by 1024 columns. -/
module

public import proofs.«01_k».proof.Proof.Gen.Kernel5Ideal.Value
public import proofs.«01_k».proof.Proof.Gen.Reference5Ideal.Read
public import proofs.«01_k».proof.Proof.DwCols

@[expose] public section

set_option maxRecDepth 16384

noncomputable section

namespace Cert.Proof.DwFox

open Cert.Kernel5Ideal Cert.Kernel5Ideal.Gen Cert.Kernel5Ideal.Value Cert.Proof.Finite
open Idealize.ShloMosaic Idealize.ShloMosaic.TcCoe Idealize.SL.Sem Idealize.ShloMosaic.ValueIdx
open Cert.Reference5Ideal.Read (val_main_v6)

/-- A tile's element: column `y 0` of the activations' block by column `y 1` of the cotangent's. -/
theorem tile_apply (x0 : Vec Ideal S2048x512 .bf16) (x1 : Vec Ideal S2048x1024 .bf16) (y : S512x1024.Idx) :
    k0_pay1 (F := Ideal) x0 x1 y = ∑ k : Fin 2048, x0 (ix2 k (y 0)) * x1 (ix2 k (y 1)) := by
  have e : y = ix2 (y 0) (y 1) := funext fun a => by match a with | ⟨0, _⟩ => rfl | ⟨1, _⟩ => rfl
  refine (congrArg (k0_pay1 (F := Ideal) x0 x1) e).trans ?_
  exact DwCols.prod_apply x0 x1 (y 0) (y 1)

open Cert.Reference5Ideal.Read in
/-- The reference's element at row `i 0`, column `i 1`. -/
theorem ref_apply (a0 : Vec Ideal S2048x2048 .bf16) (a1 : Vec Ideal S2048x8192 .bf16) (i : S2048x8192.Idx) :
    val_main_v6 (F := Ideal) a0 a1 i = ∑ k : Fin 2048, a0 (ix2 k (i 0)) * a1 (ix2 k (i 1)) := by
  rw [val_main_v6_apply, val_main_v5_apply]
  show val_main_v4 (F := Ideal) a0 a1 _ = _
  rw [val_main_v4_apply]
  refine Finset.sum_congr rfl fun k _ => ?_
  rw [val_main_v3_apply, val_main_v1_apply]
  show @HMul.hMul EReal EReal EReal _ (a1 _) (a0 _) = _
  rw [mul_comm]
  refine congrArg₂ (fun x y => a0 x * a1 y) (funext fun a => ?_) (funext fun a => ?_)
  · match a with | ⟨0, _⟩ => rfl | ⟨1, _⟩ => rfl
  · match a with | ⟨0, _⟩ => rfl | ⟨1, _⟩ => rfl

/-! ## The windows -/

variable (m : (ℓ : Loc nD τ sig) → Buf (Elt Ideal) ℓ) (ρ : Dev nD → PrngReg)

/-- Grid point `t` is row tile `t / 8` and column tile `t % 8`. -/
theorem idx_all : ∀ t : Fin cfg0.N,
    (win0_0.index t (0 : Fin 2) = 0 ∧ win0_0.index t (1 : Fin 2) = t.val / 8)
    ∧ (win0_1.index t (0 : Fin 2) = 0 ∧ win0_1.index t (1 : Fin 2) = t.val % 8)
    ∧ (win0_2.index t (0 : Fin 2) = t.val / 8 ∧ win0_2.index t (1 : Fin 2) = t.val % 8) :=
  (by decide +kernel : ∀ t : Fin grid0.N, _)

theorem point_lt (t : Fin cfg0.N) : t.val < 32 := t.isLt

theorem iblk0_apply (c : Dev nD) (t : Fin cfg0.N) (j : S2048x512.Idx) (i : S2048x2048.Idx)
    (h0 : (i 0).val = (j 0).val) (h1 : (i 1).val = t.val / 8 * 512 + (j 1).val) :
    iblk m c 0 t j = m ((c : Thread nD τ).loc main_arg0) i := by
  obtain ⟨⟨e0, e1⟩, -⟩ := idx_all t
  show V m c main_arg0 (((cfg0.win 0).blk t).view.emb j) = _
  rw [V_main_arg0]
  refine congrArg _ (funext fun a => Fin.ext ?_)
  match a with
  | ⟨0, _⟩ => show win0_0.index t (0 : Fin 2) * 2048 + 1 * (j 0).val = (i 0).val; omega
  | ⟨1, _⟩ => show win0_0.index t (1 : Fin 2) * 512 + 1 * (j 1).val = (i 1).val; omega

theorem iblk1_apply (c : Dev nD) (t : Fin cfg0.N) (j : S2048x1024.Idx) (i : S2048x8192.Idx)
    (h0 : (i 0).val = (j 0).val) (h1 : (i 1).val = t.val % 8 * 1024 + (j 1).val) :
    iblk m c 1 t j = m ((c : Thread nD τ).loc main_arg1) i := by
  obtain ⟨-, ⟨e0, e1⟩, -⟩ := idx_all t
  show V m c main_arg1 (((cfg0.win 1).blk t).view.emb j) = _
  rw [V_main_arg1]
  refine congrArg _ (funext fun a => Fin.ext ?_)
  match a with
  | ⟨0, _⟩ => show win0_1.index t (0 : Fin 2) * 2048 + 1 * (j 0).val = (i 0).val; omega
  | ⟨1, _⟩ => show win0_1.index t (1 : Fin 2) * 1024 + 1 * (j 1).val = (i 1).val; omega

theorem hz2 : (![0, 0] : Fin 2 → Nat) = fun _ => 0 := funext fun a => by fin_cases a <;> rfl

theorem out_eq (x0 : Vec Ideal S2048x512 .bf16) (x1 : Vec Ideal S2048x1024 .bf16) : out0_2 x0 x1 = k0_pay1 x0 x1 := by
  unfold out0_2
  rw [View.canon_unit_zero hz2, View.ld_unit_zero hz2, View.ld_unit_zero hz2]

theorem emb_val (t : Fin cfg0.N) (j : S512x1024.Idx) :
    (((cfg0.win 2).blk t).view.emb j 0).val = t.val / 8 * 512 + (j 0).val
    ∧ (((cfg0.win 2).blk t).view.emb j 1).val = t.val % 8 * 1024 + (j 1).val := by
  obtain ⟨-, -, e0, e1⟩ := idx_all t
  refine ⟨?_, ?_⟩
  · show win0_2.index t (0 : Fin 2) * 512 + 1 * (j 0).val = _; omega
  · show win0_2.index t (1 : Fin 2) * 1024 + 1 * (j 1).val = _; omega

/-- The gradient the reference takes, of the launch contents. -/
abbrev dW (c : Dev nD) : Buf (Elt Ideal) ((c : Thread nD τ).loc main_v0) :=
  val_main_v6 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (dW m c) := by
  rw [flushed2, out_eq]
  funext j
  show k0_pay1 (F := Ideal) (iblk m c 0 t) (iblk m c 1 t) j = dW m c (((cfg0.win 2).blk t).view.emb j)
  obtain ⟨e0, e1⟩ := emb_val t j
  rw [tile_apply, dW, ref_apply]
  refine Finset.sum_congr rfl fun k _ => ?_
  rw [iblk0_apply m c t (ix2 k (j 0)) (ix2 k (((cfg0.win 2).blk t).view.emb j 0)) rfl e0,
    iblk1_apply m c t (ix2 k (j 1)) (ix2 k (((cfg0.win 2).blk t).view.emb j 1)) rfl e1]

theorem covered (i : S2048x8192.Idx) :
    ∃ t : Fin cfg0.N, (cfg0.win 2).flush t = true ∧ i ∈ ((cfg0.win 2).blk t).view.set := by
  have h0 : (i 0).val < 2048 := (i 0).isLt
  have h1 : (i 1).val < 8192 := (i 1).isLt
  obtain ⟨n, hn⟩ : ∃ n, n = 8 * ((i 0).val / 512) + (i 1).val / 1024 := ⟨_, rfl⟩
  let t : Fin cfg0.N := ⟨n, show _ < 32 by omega⟩
  let j : S512x1024.Idx := ix2 ⟨(i 0).val % 512, Nat.mod_lt _ (by decide)⟩ ⟨(i 1).val % 1024, Nat.mod_lt _ (by decide)⟩
  obtain ⟨e0, e1⟩ := emb_val t j
  have e : ((cfg0.win 2).blk t).view.emb j = i := by
    funext a; apply Fin.ext
    match a with
    | ⟨0, _⟩ => exact e0.trans (show n / 8 * 512 + (i 0).val % 512 = (i 0).val by omega)
    | ⟨1, _⟩ => exact e1.trans (show n % 8 * 1024 + (i 1).val % 1024 = (i 1).val by omega)
  exact ⟨t, flush0_2 t, by have h := ((cfg0.win 2).blk t).view.emb_mem_set j; rwa [e] at h⟩

/-- The kernel's run: its result is the reference's gradient. -/
theorem run : θ_run defs (onTc (τ := τ) (main (F := Ideal))) ⟨m, fun _ => 0, ρ⟩ fun r => ∀ c : Dev nD,
      r.2.mem ((c : Thread nD τ).loc main_v0) = dW m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans ((dats m 0 c).arrAt_eq_of_cover 2 (dW m c) (fun t _ => flushed_eq m c t) covered), (h c).2⟩) (run_blocks m ρ)

end Cert.Proof.DwFox

end
-- ==== Proof.DxIn.lean ====
/- Hand-written, untrusted: THE GRADIENT TO THE INPUT OF A COLUMN-SHARDED PROJECTION. Four grid points in a row share an output
   tile: the first stores its product with one device's shard of the weight in the scratch, the others add theirs, and the
   last stores the sum in the tile. The reference contracts all 4096 columns at once; splitting that sum in four (`sum_four`)
   needs only that addition is associative. -/
module

public import proofs.«01_k».proof.Proof.Gen.Kernel6Ideal.Value
public import proofs.«01_k».proof.Proof.Gen.Reference6Ideal.Read
public import proofs.«01_k».proof.Proof.Finite

@[expose] public section

set_option maxRecDepth 16384

noncomputable section

namespace Cert.Proof.DxIn

open Cert.Kernel6Ideal Cert.Kernel6Ideal.Gen Cert.Kernel6Ideal.Value Cert.Proof.Finite
open Idealize.ShloMosaic Idealize.ShloMosaic.TcCoe Idealize.SL.Sem Idealize.ShloMosaic.ValueIdx
open Cert.Reference6Ideal.Read (val_main_v6)

/-- A sum over four stretches of equal length, added first to last. -/
theorem sum_four {N n : ℕ} (h : N = 4 * n) (f : Fin N → EReal) (p : Fin 4 → Fin n → Fin N)
    (hp : ∀ s k, (p s k).val = s.val * n + k.val) :
    ∑ k, f k = ((∑ k, f (p 0 k) + ∑ k, f (p 1 k)) + ∑ k, f (p 2 k)) + ∑ k, f (p 3 k) := by
  subst h
  refine Eq.trans ?_ (Fin.sum_univ_four fun s => ∑ k, f (p s k))
  rw [← Fintype.sum_prod_type']
  refine (Fintype.sum_equiv (finProdFinEquiv (m := 4) (n := n)) _ _ fun x => congrArg f (Fin.ext ?_)).symm
  show (p x.1 x.2).val = x.2.val + n * x.1.val
  rw [hp, mul_comm, add_comm]

/-- The product's element: row `r` of the cotangent's block by row `q` of the weight's. -/
theorem tile_apply (x0 : Vec Ideal S1024x1024 .bf16) (x1 : Vec Ideal S1x1024x1024 .bf16) (y : S1024x1024.Idx) :
    k0_pay1 (F := Ideal) x0 x1 y = ∑ k : Fin 1024, x0 (ix2 (y 0) k) * x1 (ix3 0 (y 1) k) := by
  unfold k0_pay1
  simp only [matmul]
  rw [Ideal.matmul_constant_zero_apply]
  rw [dot_sum _ 1024 rfl rfl x0 (shapeCast S1024x1024 x1 shapeCasts_S1x1024x1024_S1024x1024) y
    (fun k => ix2 (y 0) k) (fun k => ix2 (y 1) k)]
  · refine Finset.sum_congr rfl fun k _ => congrArg (x0 (ix2 (y 0) k) * ·) ?_
    rw [shapeCast_dropUnit_apply]
    exact congrArg x1 (funext fun a => by match a with | ⟨0, _⟩ => rfl | ⟨1, _⟩ => rfl | ⟨2, _⟩ => rfl)
  · intro k
    have hk := contrEquiv1_symm_val dot_S1024x1024_S1024x1024_S1024x1024_1_1_0_0_n_n 1024 rfl rfl k
    exact funext fun a => Fin.ext (by
      match a with
      | ⟨0, _⟩ => rfl
      | ⟨1, _⟩ => exact (dot_S1024x1024_S1024x1024_S1024x1024_1_1_0_0_n_n.lhsIdx_val_of_single rfl _ _).trans hk)
  · intro k
    have hk := contrEquiv1_symm_val dot_S1024x1024_S1024x1024_S1024x1024_1_1_0_0_n_n 1024 rfl rfl k
    exact funext fun a => Fin.ext (by
      match a with
      | ⟨0, _⟩ => rfl
      | ⟨1, _⟩ => exact (dot_S1024x1024_S1024x1024_S1024x1024_1_1_0_0_n_n.rhsIdx_val_of_single rfl _ _).trans hk)

/-- A term of the reference's sum: row `i 0` of the cotangent by row `i 1` of the whole weight, whose column `k` is column
    `k % 1024` of device `k / 1024`'s shard. -/
abbrev term (a0 : Vec Ideal S2048x4096 .bf16) (a1 : Vec Ideal S4x2048x1024 .bf16) (i : S2048x2048.Idx) (k : Fin 4096) : EReal :=
  a0 (ix2 (i 0) k) * a1 (ix3 ⟨k.val / 1024, by have := k.isLt; omega⟩ (i 1) ⟨k.val % 1024, Nat.mod_lt _ (by decide)⟩)

open Cert.Reference6Ideal.Read in
theorem ref_apply (a0 : Vec Ideal S2048x4096 .bf16) (a1 : Vec Ideal S4x2048x1024 .bf16) (i : S2048x2048.Idx) :
    val_main_v6 (F := Ideal) a0 a1 i = ∑ k : Fin 4096, term a0 a1 i k := by
  rw [val_main_v6_apply]
  refine Finset.sum_congr rfl fun k _ => ?_
  rw [val_main_v5_apply, val_main_v2_apply, val_main_v1_apply, val_main_v0_apply]
  have h1 : (i 1).val < 2048 := (i 1).isLt
  have hk := k.isLt
  show @HMul.hMul EReal EReal EReal _ (a0 _) (a1 _) = _
  refine congrArg₂ (fun x y => a0 x * a1 y) (funext fun a => ?_) (funext fun a => Fin.ext ?_)
  · match a with | ⟨0, _⟩ => rfl | ⟨1, _⟩ => rfl
  · match a with
    | ⟨0, _⟩ => show ((i 1).val * 4096 + k.val) / 1024 % 4 = k.val / 1024; omega
    | ⟨1, _⟩ => show ((i 1).val * 4096 + k.val) / 4096 = (i 1).val; omega
    | ⟨2, _⟩ => show ((i 1).val * 4096 + k.val) % 1024 = k.val % 1024; omega

/-! ## What a point leaves in the scratch and the tile -/

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable (c : Dev nD) (i : grid0.Coords) (a4 : Memref sig .tc .vmem S1024x1024 .bf16) (h4 : a4.IsWhole)
  (a5 : Memref sig .tc .vmem S1x1024x1024 .bf16) (h5 : a5.IsWhole) (a6 : Memref sig .tc .vmem S1024x1024 .f32) (h6 : a6.IsWhole)
  (a7 : Memref sig .tc .vmem S1024x1024 .f32) (h7 : a7.IsWhole)
  (x0 : Vec Ideal S1024x1024 .bf16) (x1 : Vec Ideal S1x1024x1024 .bf16) (xs : Vec Ideal S1024x1024 .f32)

theorem first (hc0 : cond0_0 i) (hc1 : ¬cond0_1 i) (hc2 : ¬cond0_2 i) :
    sout0_A_0 c i a4 h4 a5 h5 a6 h6 a7 h7 hc0 hc1 hc2 x0 x1 = k0_pay1 x0 x1 := by
  unfold sout0_A_0
  rw [View.read_writes_eq_canon _ _ _ (scover0_A_0 c i a4 h4 a5 h5 a6 h6 a7 h7 hc0 hc1 hc2 x0 x1)]
  unfold kernelRun0_A
  dsimp only
  rw [View.canon_unit_zero hz2]
  unfold k0_pay2
  simp only [View.readAt_eq_ld, h4.read_unread, h5.read_unread, View.ld_unit_zero (S := S1024x1024) hz2,
    View.ld_unit_zero (S := S1x1024x1024) hz3, shapeCast_self]

theorem middle (hc0 : ¬cond0_0 i) (hc1 : cond0_1 i) (hc2 : ¬cond0_2 i) :
    sout0_B_0 c i a4 h4 a5 h5 a6 h6 a7 h7 hc0 hc1 hc2 x0 x1 xs = addf xs (k0_pay1 x0 x1) := by
  unfold sout0_B_0
  rw [View.read_writes_eq_canon _ _ _ (scover0_B_0 c i a4 h4 a5 h5 a6 h6 a7 h7 hc0 hc1 hc2 x0 x1 xs)]
  unfold kernelRun0_B
  dsimp only
  rw [View.canon_unit_zero hz2]
  unfold k0_pay3
  simp only [View.readAt_eq_ld, h4.read_unread, h5.read_unread, h7.read_unread, View.ld_unit_zero (S := S1024x1024) hz2,
    View.ld_unit_zero (S := S1x1024x1024) hz3, shapeCast_self]

theorem last (hc0 : ¬cond0_0 i) (hc1 : cond0_1 i) (hc2 : cond0_2 i) :
    out0_C_2 c i a4 h4 a5 h5 a6 h6 a7 h7 hc0 hc1 hc2 x0 x1 xs = addf xs (k0_pay1 x0 x1) := by
  unfold out0_C_2
  rw [View.read_writes_eq_canon _ _ _ (cover0_C_2 c i a4 h4 a5 h5 a6 h6 a7 h7 hc0 hc1 hc2 x0 x1 xs)]
  unfold kernelRun0_C
  dsimp only
  sl_unfold_words
  rw [View.canon_unit_zero hz2, View.readCov_unit_zero (S := S1024x1024) _ hz2]
  unfold k0_pay3
  simp only [View.readAt_eq_ld, h4.read_unread, h5.read_unread, h7.read_unread, View.ld_unit_zero (S := S1024x1024) hz2,
    View.ld_unit_zero (S := S1x1024x1024) hz3, shapeCast_self]

end Cases

/-! ## The windows -/

variable (m : (ℓ : Loc nD τ sig) → Buf (Elt Ideal) ℓ) (ρ : Dev nD → PrngReg)

/-- Grid point `t` is row tile `t / 8`, column tile `t / 4 % 2` and device `t % 4`. -/
theorem idx_all : ∀ t : Fin cfg0.N,
    (win0_0.index t (0 : Fin 2) = t.val / 8 ∧ win0_0.index t (1 : Fin 2) = t.val % 4)
    ∧ (win0_1.index t (0 : Fin 3) = t.val % 4 ∧ win0_1.index t (1 : Fin 3) = t.val / 4 % 2 ∧ win0_1.index t (2 : Fin 3) = 0)
    ∧ (win0_2.index t (0 : Fin 2) = t.val / 8 ∧ win0_2.index t (1 : Fin 2) = t.val / 4 % 2) :=
  (by decide +kernel : ∀ t : Fin grid0.N, _)

theorem point_lt (t : Fin cfg0.N) : t.val < 16 := t.isLt

theorem iblk0_apply (c : Dev nD) (t : Fin cfg0.N) (j : S1024x1024.Idx) (i : S2048x4096.Idx)
    (h0 : (i 0).val = t.val / 8 * 1024 + (j 0).val) (h1 : (i 1).val = t.val % 4 * 1024 + (j 1).val) :
    iblk m c 0 t j = m ((c : Thread nD τ).loc main_arg0) i := by
  obtain ⟨⟨e0, e1⟩, -⟩ := idx_all t
  show V m c main_arg0 (((cfg0.win 0).blk t).view.emb j) = _
  rw [V_main_arg0]
  refine congrArg _ (funext fun a => Fin.ext ?_)
  match a with
  | ⟨0, _⟩ => show win0_0.index t (0 : Fin 2) * 1024 + 1 * (j 0).val = (i 0).val; omega
  | ⟨1, _⟩ => show win0_0.index t (1 : Fin 2) * 1024 + 1 * (j 1).val = (i 1).val; omega

theorem iblk1_apply (c : Dev nD) (t : Fin cfg0.N) (j : S1x1024x1024.Idx) (i : S4x2048x1024.Idx)
    (h0 : (i 0).val = t.val % 4) (h1 : (i 1).val = t.val / 4 % 2 * 1024 + (j 1).val) (h2 : (i 2).val = (j 2).val) :
    iblk m c 1 t j = m ((c : Thread nD τ).loc main_arg1) i := by
  obtain ⟨-, ⟨e0, e1, e2⟩, -⟩ := idx_all t
  have hj : (j 0).val < 1 := (j 0).isLt
  show V m c main_arg1 (((cfg0.win 1).blk t).view.emb j) = _
  rw [V_main_arg1]
  refine congrArg _ (funext fun a => Fin.ext ?_)
  match a with
  | ⟨0, _⟩ => show win0_1.index t (0 : Fin 3) * 1 + 1 * (j 0).val = (i 0).val; omega
  | ⟨1, _⟩ => show win0_1.index t (1 : Fin 3) * 1024 + 1 * (j 1).val = (i 1).val; omega
  | ⟨2, _⟩ => show win0_1.index t (2 : Fin 3) * 1024 + 1 * (j 2).val = (i 2).val; omega

theorem emb_val (t : Fin cfg0.N) (j : S1024x1024.Idx) :
    (((cfg0.win 2).blk t).view.emb j 0).val = t.val / 8 * 1024 + (j 0).val
    ∧ (((cfg0.win 2).blk t).view.emb j 1).val = t.val / 4 % 2 * 1024 + (j 1).val := by
  obtain ⟨-, -, e0, e1⟩ := idx_all t
  refine ⟨?_, ?_⟩
  · show win0_2.index t (0 : Fin 2) * 1024 + 1 * (j 0).val = _; omega
  · show win0_2.index t (1 : Fin 2) * 1024 + 1 * (j 1).val = _; omega

/-- The product of point `t`'s blocks. -/
abbrev part (c : Dev nD) (t : Fin cfg0.N) : FVec Ideal S1024x1024 .f32 := k0_pay1 (F := Ideal) (iblk m c 0 t) (iblk m c 1 t)

theorem scr_first (c : Dev nD) (t : Fin cfg0.N) (h : t.val % 4 = 0) : (outsAt0 m c t.val t.isLt).2 = part m c t := by
  rw [outsAt0_A m c t h (by omega) (by omega)]
  dsimp only
  rw [first]

theorem scr_next (c : Dev nD) (s t : Fin cfg0.N) (hs : s.val + 1 = t.val) (h0 : ¬t.val % 4 = 0) (h3 : ¬t.val % 4 = 3) :
    (outsAt0 m c t.val t.isLt).2 = addf (outsAt0 m c s.val s.isLt).2 (part m c t) := by
  obtain ⟨s, hs'⟩ := s
  obtain rfl : s = t.val - 1 := by have : s + 1 = t.val := hs; omega
  rw [outsAt0_B m c t h0 (by omega) h3]
  dsimp only
  rw [middle]

theorem out_last (c : Dev nD) (s t : Fin cfg0.N) (hs : s.val + 1 = t.val) (h3 : t.val % 4 = 3) :
    (outsAt0 m c t.val t.isLt).1 = addf (outsAt0 m c s.val s.isLt).2 (part m c t) := by
  obtain ⟨s, hs'⟩ := s
  obtain rfl : s = t.val - 1 := by have : s + 1 = t.val := hs; omega
  rw [outsAt0_C m c t (by omega) (by omega) h3]
  dsimp only
  rw [last]

/-- Point `s` of the four that share tile `q`. -/
def pt (q s : Fin 4) : Fin cfg0.N := ⟨4 * q.val + s.val, show _ < 16 by omega⟩

theorem out_eq (c : Dev nD) (q : Fin 4) : (outsAt0 m c (pt q 3).val (pt q 3).isLt).1
    = addf (addf (addf (part m c (pt q 0)) (part m c (pt q 1))) (part m c (pt q 2))) (part m c (pt q 3)) := by
  have h0 : (pt q 0).val = 4 * q.val + 0 := rfl
  have h1 : (pt q 1).val = 4 * q.val + 1 := rfl
  have h2 : (pt q 2).val = 4 * q.val + 2 := rfl
  have h3 : (pt q 3).val = 4 * q.val + 3 := rfl
  rw [out_last m c (pt q 2) (pt q 3) (by omega) (by omega), scr_next m c (pt q 1) (pt q 2) (by omega) (by omega) (by omega),
    scr_next m c (pt q 0) (pt q 1) (by omega) (by omega) (by omega), scr_first m c (pt q 0) (by omega)]

/-! ## The result -/

/-- The gradient the reference takes, of the launch contents. -/
abbrev dX (c : Dev nD) : Buf (Elt Ideal) ((c : Thread nD τ).loc main_v0) :=
  val_main_v6 (F := Ideal) (m ((c : Thread nD τ).loc main_arg0)) (m ((c : Thread nD τ).loc main_arg1))

/-- Column `k` of device `s`'s shard, as a column of the whole weight. -/
def col (s : Fin 4) (k : Fin 1024) : Fin 4096 := ⟨s.val * 1024 + k.val, by omega⟩

theorem part_apply (c : Dev nD) (q s : Fin 4) (j : S1024x1024.Idx) (i : S2048x2048.Idx)
    (h0 : (i 0).val = q.val / 2 * 1024 + (j 0).val) (h1 : (i 1).val = q.val % 2 * 1024 + (j 1).val) :
    part m c (pt q s) j = ∑ k : Fin 1024,
      term (m ((c : Thread nD τ).loc main_arg0)) (m ((c : Thread nD τ).loc main_arg1)) i (col s k) := by
  rw [part, tile_apply]
  refine Finset.sum_congr rfl fun k _ => ?_
  have hp : (pt q s).val = 4 * q.val + s.val := rfl
  have hk := k.isLt
  rw [iblk0_apply m c (pt q s) (ix2 (j 0) k) (ix2 (i 0) (col s k)) (by show (i 0).val = _ / 8 * 1024 + (j 0).val; omega)
      (by show s.val * 1024 + k.val = _ % 4 * 1024 + k.val; omega),
    iblk1_apply m c (pt q s) (ix3 0 (j 1) k) (ix3 ⟨(col s k).val / 1024, by have := (col s k).isLt; omega⟩ (i 1)
        ⟨(col s k).val % 1024, Nat.mod_lt _ (by decide)⟩)
      (by show (s.val * 1024 + k.val) / 1024 = _ % 4; omega) (by show (i 1).val = _ / 4 % 2 * 1024 + (j 1).val; omega)
      (by show (s.val * 1024 + k.val) % 1024 = k.val; omega)]

theorem flushed_eq (c : Dev nD) (t : Fin cfg0.N) (hf : (cfg0.win 2).flush t = true) :
    (dats m 0 c).flushed 2 t = ((cfg0.win 2).blk t).view.read (Elt Ideal) (dX m c) := by
  have h3 : t.val % 4 = 3 := (flush0_2 t).mp hf
  have ht := point_lt t
  obtain ⟨q, rfl⟩ : ∃ q : Fin 4, t = pt q 3 :=
    ⟨⟨t.val / 4, by omega⟩, Fin.ext (by show t.val = 4 * (t.val / 4) + 3; omega)⟩
  rw [flushed2, out_eq]
  funext j
  show ((part m c (pt q 0) j + part m c (pt q 1) j) + part m c (pt q 2) j) + part m c (pt q 3) j
    = dX m c (((cfg0.win 2).blk (pt q 3)).view.emb j)
  obtain ⟨e0, e1⟩ := emb_val (pt q 3) j
  have hp : (pt q 3).val = 4 * q.val + 3 := rfl
  have h0 : (((cfg0.win 2).blk (pt q 3)).view.emb j 0).val = q.val / 2 * 1024 + (j 0).val := by omega
  have h1 : (((cfg0.win 2).blk (pt q 3)).view.emb j 1).val = q.val % 2 * 1024 + (j 1).val := by omega
  rw [dX, ref_apply, sum_four (N := 4096) (n := 1024) rfl _ col (fun _ _ => rfl), part_apply m c q 0 j _ h0 h1,
    part_apply m c q 1 j _ h0 h1, part_apply m c q 2 j _ h0 h1, part_apply m c q 3 j _ h0 h1]

/-- The kernel's run: its result is the reference's gradient. -/
theorem run : θ_run defs (onTc (τ := τ) (main (F := Ideal))) ⟨m, fun _ => 0, ρ⟩ fun r => ∀ c : Dev nD,
      r.2.mem ((c : Thread nD τ).loc main_v0) = dX m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans ((dats m 0 c).arrAt_eq_of_cover 2 (dX m c) (fun t hf => flushed_eq m c t hf) fun i =>
      (covered_iff2 i).2 ⟨Nat.zero_le _, (i 0).isLt, Nat.zero_le _, (i 1).isLt⟩), (h c).2⟩) (run_blocks m ρ)

end Cert.Proof.DxIn

end
-- ==== Proof.DxFox.lean ====
/- Hand-written, untrusted: THE GRADIENT TO THE INPUT OF THE ATTENTION'S PROJECTION. As DxIn.lean, in tiles of 512 rows by 1024
   columns and four stretches of 2048 columns of the cotangent; the last point also adds the gradient that comes through the gate. -/
module

public import proofs.«01_k».proof.Proof.Gen.Kernel7Ideal.Value
public import proofs.«01_k».proof.Proof.Gen.Reference7Ideal.Read
public import proofs.«01_k».proof.Proof.DxIn

@[expose] public section

set_option maxRecDepth 16384

noncomputable section

namespace Cert.Proof.DxFox

open Cert.Kernel7Ideal Cert.Kernel7Ideal.Gen Cert.Kernel7Ideal.Value Cert.Proof.Finite
open Idealize.ShloMosaic Idealize.ShloMosaic.TcCoe Idealize.SL.Sem Idealize.ShloMosaic.ValueIdx
open Cert.Reference7Ideal.Read (val_main_v5)

/-- The product's element: row `r` of the cotangent's block by row `q` of the weight's. -/
theorem tile_apply (x0 : Vec Ideal S512x2048 .bf16) (x1 : Vec Ideal S1024x2048 .bf16) (y : S512x1024.Idx) :
    k0_pay1 (F := Ideal) x0 x1 y = ∑ k : Fin 2048, x0 (ix2 (y 0) k) * x1 (ix2 (y 1) k) := by
  unfold k0_pay1
  simp only [matmul]
  rw [Ideal.matmul_constant_zero_apply, dot_sum _ 2048 rfl rfl x0 x1 y (fun k => ix2 (y 0) k) (fun k => ix2 (y 1) k)]
  · intro k
    have hk := contrEquiv1_symm_val dot_S512x2048_S1024x2048_S512x1024_1_1_0_0_n_n 2048 rfl rfl k
    exact funext fun a => Fin.ext (by
      match a with
      | ⟨0, _⟩ => rfl
      | ⟨1, _⟩ => exact (dot_S512x2048_S1024x2048_S512x1024_1_1_0_0_n_n.lhsIdx_val_of_single rfl _ _).trans hk)
  · intro k
    have hk := contrEquiv1_symm_val dot_S512x2048_S1024x2048_S512x1024_1_1_0_0_n_n 2048 rfl rfl k
    exact funext fun a => Fin.ext (by
      match a with
      | ⟨0, _⟩ => rfl
      | ⟨1, _⟩ => exact (dot_S512x2048_S1024x2048_S512x1024_1_1_0_0_n_n.rhsIdx_val_of_single rfl _ _).trans hk)

/-- A term of the reference's sum: row `i 0` of the cotangent by row `i 1` of the weight. -/
abbrev term (a0 a1 : Vec Ideal S2048x8192 .bf16) (i : S2048x2048.Idx) (k : Fin 8192) : EReal := a0 (ix2 (i 0) k) * a1 (ix2 (i 1) k)

/-- The gate's part of the gradient, as a number. -/
abbrev gate (a2 : Vec Ideal S2048x2048 .f32) (i : S2048x2048.Idx) : EReal := a2 i

open Cert.Reference7Ideal.Read in
theorem ref_apply (a0 a1 : Vec Ideal S2048x8192 .bf16) (a2 : Vec Ideal S2048x2048 .f32) (i : S2048x2048.Idx) :
    val_main_v5 (F := Ideal) a0 a1 a2 i = ∑ k : Fin 8192, term a0 a1 i k + gate a2 i := by
  rw [val_main_v5_apply, val_main_v4_apply]
  refine congrArg (fun s : EReal => s + gate a2 i) (Finset.sum_congr rfl fun k _ => ?_)
  rw [val_main_v3_apply, val_main_v1_apply]
  show @HMul.hMul EReal EReal EReal _ (a0 _) (a1 _) = _
  refine congrArg₂ (fun x y => a0 x * a1 y) (funext fun a => ?_) (funext fun a => ?_)
  · match a with | ⟨0, _⟩ => rfl | ⟨1, _⟩ => rfl
  · match a with | ⟨0, _⟩ => rfl | ⟨1, _⟩ => rfl

/-! ## What a point leaves in the scratch and the tile -/

theorem hz2 : (![0, 0] : Fin 2 → Nat) = fun _ => 0 := funext fun a => by fin_cases a <;> rfl

section Cases

variable (c : Dev nD) (i : grid0.Coords) (a4 : Memref sig .tc .vmem S512x2048 .bf16) (h4 : a4.IsWhole)
  (a5 : Memref sig .tc .vmem S1024x2048 .bf16) (h5 : a5.IsWhole) (a6 : Memref sig .tc .vmem S512x1024 .f32) (h6 : a6.IsWhole)
  (a7 : Memref sig .tc .vmem S512x1024 .f32) (h7 : a7.IsWhole) (a8 : Memref sig .tc .vmem S512x1024 .f32) (h8 : a8.IsWhole)
  (x0 : Vec Ideal S512x2048 .bf16) (x1 : Vec Ideal S1024x2048 .bf16) (x2 xs : Vec Ideal S512x1024 .f32)

theorem first (hc0 : cond0_0 i) (hc1 : ¬cond0_1 i) (hc2 : ¬cond0_2 i) :
    sout0_A_0 c i a4 h4 a5 h5 a6 h6 a7 h7 a8 h8 hc0 hc1 hc2 x0 x1 x2 = k0_pay1 x0 x1 := by
  unfold sout0_A_0
  rw [View.read_writes_eq_canon _ _ _ (scover0_A_0 c i a4 h4 a5 h5 a6 h6 a7 h7 a8 h8 hc0 hc1 hc2 x0 x1 x2)]
  unfold kernelRun0_A
  dsimp only
  rw [View.canon_unit_zero hz2]
  unfold k0_pay2
  simp only [View.readAt_eq_ld, h4.read_unread, h5.read_unread, View.ld_unit_zero (S := S512x2048) hz2,
    View.ld_unit_zero (S := S1024x2048) hz2, shapeCast_self]

theorem middle (hc0 : ¬cond0_0 i) (hc1 : cond0_1 i) (hc2 : ¬cond0_2 i) :
    sout0_B_0 c i a4 h4 a5 h5 a6 h6 a7 h7 a8 h8 hc0 hc1 hc2 x0 x1 x2 xs = addf xs (k0_pay1 x0 x1) := by
  unfold sout0_B_0
  rw [View.read_writes_eq_canon _ _ _ (scover0_B_0 c i a4 h4 a5 h5 a6 h6 a7 h7 a8 h8 hc0 hc1 hc2 x0 x1 x2 xs)]
  unfold kernelRun0_B
  dsimp only
  rw [View.canon_unit_zero hz2]
  unfold k0_pay3
  simp only [View.readAt_eq_ld, h4.read_unread, h5.read_unread, h8.read_unread, View.ld_unit_zero (S := S512x2048) hz2,
    View.ld_unit_zero (S := S1024x2048) hz2, View.ld_unit_zero (S := S512x1024) hz2, shapeCast_self]

theorem last (hc0 : ¬cond0_0 i) (hc1 : cond0_1 i) (hc2 : cond0_2 i) :
    out0_C_3 c i a4 h4 a5 h5 a6 h6 a7 h7 a8 h8 hc0 hc1 hc2 x0 x1 x2 xs = addf (addf xs (k0_pay1 x0 x1)) x2 := by
  unfold out0_C_3
  rw [View.read_writes_eq_canon _ _ _ (cover0_C_3 c i a4 h4 a5 h5 a6 h6 a7 h7 a8 h8 hc0 hc1 hc2 x0 x1 x2 xs)]
  unfold kernelRun0_C
  dsimp only
  sl_unfold_words
  rw [View.canon_unit_zero hz2, View.readCov_unit_zero (S := S512x1024) _ hz2]
  unfold k0_pay4 k0_pay3
  simp only [View.readAt_eq_ld, h4.read_unread, h5.read_unread, h6.read_unread, h8.read_unread,
    View.ld_unit_zero (S := S512x2048) hz2, View.ld_unit_zero (S := S1024x2048) hz2, View.ld_unit_zero (S := S512x1024) hz2,
    shapeCast_self]

end Cases

/-! ## The windows -/

variable (m : (ℓ : Loc nD τ sig) → Buf (Elt Ideal) ℓ) (ρ : Dev nD → PrngReg)

/-- Grid point `t` is row tile `t / 8`, column tile `t / 4 % 2` and stretch `t % 4`. -/
theorem idx_all : ∀ t : Fin cfg0.N,
    (win0_0.index t (0 : Fin 2) = t.val / 8 ∧ win0_0.index t (1 : Fin 2) = t.val % 4)
    ∧ (win0_1.index t (0 : Fin 2) = t.val / 4 % 2 ∧ win0_1.index t (1 : Fin 2) = t.val % 4)
    ∧ (win0_2.index t (0 : Fin 2) = t.val / 8 ∧ win0_2.index t (1 : Fin 2) = t.val / 4 % 2)
    ∧ (win0_3.index t (0 : Fin 2) = t.val / 8 ∧ win0_3.index t (1 : Fin 2) = t.val / 4 % 2) :=
  (by decide +kernel : ∀ t : Fin grid0.N, _)

theorem point_lt (t : Fin cfg0.N) : t.val < 32 := t.isLt

theorem iblk0_apply (c : Dev nD) (t : Fin cfg0.N) (j : S512x2048.Idx) (i : S2048x8192.Idx)
    (h0 : (i 0).val = t.val / 8 * 512 + (j 0).val) (h1 : (i 1).val = t.val % 4 * 2048 + (j 1).val) :
    iblk m c 0 t j = m ((c : Thread nD τ).loc main_arg0) i := by
  obtain ⟨⟨e0, e1⟩, -⟩ := idx_all t
  show V m c main_arg0 (((cfg0.win 0).blk t).view.emb j) = _
  rw [V_main_arg0]
  refine congrArg _ (funext fun a => Fin.ext ?_)
  match a with
  | ⟨0, _⟩ => show win0_0.index t (0 : Fin 2) * 512 + 1 * (j 0).val = (i 0).val; omega
  | ⟨1, _⟩ => show win0_0.index t (1 : Fin 2) * 2048 + 1 * (j 1).val = (i 1).val; omega

theorem iblk1_apply (c : Dev nD) (t : Fin cfg0.N) (j : S1024x2048.Idx) (i : S2048x8192.Idx)
    (h0 : (i 0).val = t.val / 4 % 2 * 1024 + (j 0).val) (h1 : (i 1).val = t.val % 4 * 2048 + (j 1).val) :
    iblk m c 1 t j = m ((c : Thread nD τ).loc main_arg1) i := by
  obtain ⟨-, ⟨e0, e1⟩, -⟩ := idx_all t
  show V m c main_arg1 (((cfg0.win 1).blk t).view.emb j) = _
  rw [V_main_arg1]
  refine congrArg _ (funext fun a => Fin.ext ?_)
  match a with
  | ⟨0, _⟩ => show win0_1.index t (0 : Fin 2) * 1024 + 1 * (j 0).val = (i 0).val; omega
  | ⟨1, _⟩ => show win0_1.index t (1 : Fin 2) * 2048 + 1 * (j 1).val = (i 1).val; omega

theorem iblk2_apply (c : Dev nD) (t : Fin cfg0.N) (j : S512x1024.Idx) (i : S2048x2048.Idx)
    (h0 : (i 0).val = t.val / 8 * 512 + (j 0).val) (h1 : (i 1).val = t.val / 4 % 2 * 1024 + (j 1).val) :
    iblk m c 2 t j = m ((c : Thread nD τ).loc main_arg2) i := by
  obtain ⟨-, -, ⟨e0, e1⟩, -⟩ := idx_all t
  show V m c main_arg2 (((cfg0.win 2).blk t).view.emb j) = _
  rw [V_main_arg2]
  refine congrArg _ (funext fun a => Fin.ext ?_)
  match a with
  | ⟨0, _⟩ => show win0_2.index t (0 : Fin 2) * 512 + 1 * (j 0).val = (i 0).val; omega
  | ⟨1, _⟩ => show win0_2.index t (1 : Fin 2) * 1024 + 1 * (j 1).val = (i 1).val; omega

theorem emb_val (t : Fin cfg0.N) (j : S512x1024.Idx) :
    (((cfg0.win 3).blk t).view.emb j 0).val = t.val / 8 * 512 + (j 0).val
    ∧ (((cfg0.win 3).blk t).view.emb j 1).val = t.val / 4 % 2 * 1024 + (j 1).val := by
  obtain ⟨-, -, -, e0, e1⟩ := idx_all t
  refine ⟨?_, ?_⟩
  · show win0_3.index t (0 : Fin 2) * 512 + 1 * (j 0).val = _; omega
  · show win0_3.index t (1 : Fin 2) * 1024 + 1 * (j 1).val = _; omega

/-- The product of point `t`'s blocks. -/
abbrev part (c : Dev nD) (t : Fin cfg0.N) : FVec Ideal S512x1024 .f32 := k0_pay1 (F := Ideal) (iblk m c 0 t) (iblk m c 1 t)

theorem scr_first (c : Dev nD) (t : Fin cfg0.N) (h : t.val % 4 = 0) : (outsAt0 m c t.val t.isLt).2 = part m c t := by
  rw [outsAt0_A m c t h (by omega) (by omega)]
  dsimp only
  rw [first]

theorem scr_next (c : Dev nD) (s t : Fin cfg0.N) (hs : s.val + 1 = t.val) (h0 : ¬t.val % 4 = 0) (h3 : ¬t.val % 4 = 3) :
    (outsAt0 m c t.val t.isLt).2 = addf (outsAt0 m c s.val s.isLt).2 (part m c t) := by
  obtain ⟨s, hs'⟩ := s
  obtain rfl : s = t.val - 1 := by have : s + 1 = t.val := hs; omega
  rw [outsAt0_B m c t h0 (by omega) h3]
  dsimp only
  rw [middle]

theorem out_last (c : Dev nD) (s t : Fin cfg0.N) (hs : s.val + 1 = t.val) (h3 : t.val % 4 = 3) :
    (outsAt0 m c t.val t.isLt).1 = addf (addf (outsAt0 m c s.val s.isLt).2 (part m c t)) (iblk m c 2 t) := by
  obtain ⟨s, hs'⟩ := s
  obtain rfl : s = t.val - 1 := by have : s + 1 = t.val := hs; omega
  rw [outsAt0_C m c t (by omega) (by omega) h3]
  dsimp only
  rw [last]

/-- Point `s` of the four that share tile `q`. -/
def pt (q : Fin 8) (s : Fin 4) : Fin cfg0.N := ⟨4 * q.val + s.val, show _ < 32 by omega⟩

theorem out_eq (c : Dev nD) (q : Fin 8) : (outsAt0 m c (pt q 3).val (pt q 3).isLt).1
    = addf (addf (addf (addf (part m c (pt q 0)) (part m c (pt q 1))) (part m c (pt q 2))) (part m c (pt q 3)))
      (iblk m c 2 (pt q 3)) := by
  have h0 : (pt q 0).val = 4 * q.val + 0 := rfl
  have h1 : (pt q 1).val = 4 * q.val + 1 := rfl
  have h2 : (pt q 2).val = 4 * q.val + 2 := rfl
  have h3 : (pt q 3).val = 4 * q.val + 3 := rfl
  rw [out_last m c (pt q 2) (pt q 3) (by omega) (by omega), scr_next m c (pt q 1) (pt q 2) (by omega) (by omega) (by omega),
    scr_next m c (pt q 0) (pt q 1) (by omega) (by omega) (by omega), scr_first m c (pt q 0) (by omega)]

/-! ## The result -/

/-- The gradient the reference takes, of the launch contents. -/
abbrev dX (c : Dev nD) : Buf (Elt Ideal) ((c : Thread nD τ).loc main_v0) :=
  val_main_v5 (F := Ideal) (m ((c : Thread nD τ).loc main_arg0)) (m ((c : Thread nD τ).loc main_arg1))
    (m ((c : Thread nD τ).loc main_arg2))

/-- Column `k` of stretch `s`. -/
def col (s : Fin 4) (k : Fin 2048) : Fin 8192 := ⟨s.val * 2048 + k.val, by omega⟩

theorem part_apply (c : Dev nD) (q : Fin 8) (s : Fin 4) (j : S512x1024.Idx) (i : S2048x2048.Idx)
    (h0 : (i 0).val = q.val / 2 * 512 + (j 0).val) (h1 : (i 1).val = q.val % 2 * 1024 + (j 1).val) :
    part m c (pt q s) j = ∑ k : Fin 2048,
      term (m ((c : Thread nD τ).loc main_arg0)) (m ((c : Thread nD τ).loc main_arg1)) i (col s k) := by
  rw [part, tile_apply]
  refine Finset.sum_congr rfl fun k _ => ?_
  have hp : (pt q s).val = 4 * q.val + s.val := rfl
  rw [iblk0_apply m c (pt q s) (ix2 (j 0) k) (ix2 (i 0) (col s k)) (by show (i 0).val = _ / 8 * 512 + (j 0).val; omega)
      (by show s.val * 2048 + k.val = _ % 4 * 2048 + k.val; omega),
    iblk1_apply m c (pt q s) (ix2 (j 1) k) (ix2 (i 1) (col s k)) (by show (i 1).val = _ / 4 % 2 * 1024 + (j 1).val; omega)
      (by show s.val * 2048 + k.val = _ % 4 * 2048 + k.val; omega)]

theorem flushed_eq (c : Dev nD) (t : Fin cfg0.N) (hf : (cfg0.win 3).flush t = true) :
    (dats m 0 c).flushed 3 t = ((cfg0.win 3).blk t).view.read (Elt Ideal) (dX m c) := by
  have h3 : t.val % 4 = 3 := (flush0_3 t).mp hf
  have ht := point_lt t
  obtain ⟨q, rfl⟩ : ∃ q : Fin 8, t = pt q 3 :=
    ⟨⟨t.val / 4, by omega⟩, Fin.ext (by show t.val = 4 * (t.val / 4) + 3; omega)⟩
  rw [flushed3, out_eq]
  funext j
  show (((part m c (pt q 0) j + part m c (pt q 1) j) + part m c (pt q 2) j) + part m c (pt q 3) j) + iblk m c 2 (pt q 3) j
    = dX m c (((cfg0.win 3).blk (pt q 3)).view.emb j)
  obtain ⟨e0, e1⟩ := emb_val (pt q 3) j
  have hp : (pt q 3).val = 4 * q.val + 3 := rfl
  have h0 : (((cfg0.win 3).blk (pt q 3)).view.emb j 0).val = q.val / 2 * 512 + (j 0).val := by omega
  have h1 : (((cfg0.win 3).blk (pt q 3)).view.emb j 1).val = q.val % 2 * 1024 + (j 1).val := by omega
  rw [dX, ref_apply, DxIn.sum_four (N := 8192) (n := 2048) rfl _ col (fun _ _ => rfl), part_apply m c q 0 j _ h0 h1,
    part_apply m c q 1 j _ h0 h1, part_apply m c q 2 j _ h0 h1, part_apply m c q 3 j _ h0 h1,
    iblk2_apply m c (pt q 3) j (((cfg0.win 3).blk (pt q 3)).view.emb j) e0 e1]

/-- The kernel's run: its result is the reference's gradient. -/
theorem run : θ_run defs (onTc (τ := τ) (main (F := Ideal))) ⟨m, fun _ => 0, ρ⟩ fun r => ∀ c : Dev nD,
      r.2.mem ((c : Thread nD τ).loc main_v0) = dX m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans ((dats m 0 c).arrAt_eq_of_cover 3 (dX m c) (fun t hf => flushed_eq m c t hf) fun i =>
      (covered_iff3 i).2 ⟨Nat.zero_le _, (i 0).isLt, Nat.zero_le _, (i 1).isLt⟩), (h c).2⟩) (run_blocks m ρ)

end Cert.Proof.DxFox

end
-- ==== Proof.FwFox.lean ====
/- Hand-written, untrusted: THE ATTENTION'S INPUT PROJECTION. A grid point stores one tile of 1024 rows by 1024 columns of the
   product, each element one sum over the 2048 features, and the sixteen tiles cover the result. -/
module

public import proofs.«01_k».proof.Proof.Gen.Kernel8Ideal.Value
public import proofs.«01_k».proof.Proof.Gen.Reference8Ideal.Read
public import proofs.«01_k».proof.Proof.Finite

@[expose] public section

set_option maxRecDepth 16384

noncomputable section

namespace Cert.Proof.FwFox

open Cert.Kernel8Ideal Cert.Kernel8Ideal.Gen Cert.Kernel8Ideal.Value Cert.Proof.Finite
open Idealize.ShloMosaic Idealize.ShloMosaic.TcCoe Idealize.SL.Sem Idealize.ShloMosaic.ValueIdx
open Cert.Reference8Ideal.Read (val_main_v2)

/-- A product's element: row `r` of the left block by column `q` of the right. -/
theorem prod_apply (x0 : FVec Ideal S1024x2048 .bf16) (x1 : FVec Ideal S2048x1024 .bf16) (y : S1024x1024.Idx) :
    Idealize.ShloMosaic.matmul dot_S1024x2048_S2048x1024_S1024x1024_1_0_0_1_n_n none x0 x1 (constant S1024x1024 .f32 0x00000000#32) y
      = ∑ k : Fin 2048, x0 (ix2 (y 0) k) * x1 (ix2 k (y 1)) := by
  simp only [matmul]
  rw [Ideal.matmul_constant_zero_apply, dot_sum _ 2048 rfl rfl x0 x1 y (fun k => ix2 (y 0) k) (fun k => ix2 k (y 1))]
  · intro k
    have hk := contrEquiv1_symm_val dot_S1024x2048_S2048x1024_S1024x1024_1_0_0_1_n_n 2048 rfl rfl k
    exact funext fun a => Fin.ext (by
      match a with
      | ⟨0, _⟩ => rfl
      | ⟨1, _⟩ => exact (dot_S1024x2048_S2048x1024_S1024x1024_1_0_0_1_n_n.lhsIdx_val_of_single rfl _ _).trans hk)
  · intro k
    have hk := contrEquiv1_symm_val dot_S1024x2048_S2048x1024_S1024x1024_1_0_0_1_n_n 2048 rfl rfl k
    exact funext fun a => Fin.ext (by
      match a with
      | ⟨0, _⟩ => exact (dot_S1024x2048_S2048x1024_S1024x1024_1_0_0_1_n_n.rhsIdx_val_of_single rfl _ _).trans hk
      | ⟨1, _⟩ => rfl)

theorem tile_apply (x0 : Vec Ideal S1024x2048 .bf16) (x1 : Vec Ideal S2048x1024 .bf16) (y : S1024x1024.Idx) :
    k0_pay1 (F := Ideal) x0 x1 y = ∑ k : Fin 2048, x0 (ix2 (y 0) k) * x1 (ix2 k (y 1)) := by
  unfold k0_pay1
  exact prod_apply x0 x1 y

open Cert.Reference8Ideal.Read in
/-- The reference's element at row `i 0`, column `i 1`. -/
theorem ref_apply (a0 : Vec Ideal S2048x2048 .bf16) (a1 : Vec Ideal S2048x8192 .bf16) (i : S2048x8192.Idx) :
    val_main_v2 (F := Ideal) a0 a1 i = ∑ k : Fin 2048, a0 (ix2 (i 0) k) * a1 (ix2 k (i 1)) := by
  rw [val_main_v2_apply]
  refine Finset.sum_congr rfl fun k _ => ?_
  rw [val_main_v0_apply, val_main_v1_apply]
  show @HMul.hMul EReal EReal EReal _ (a0 _) (a1 _) = _
  refine congrArg₂ (fun x y => a0 x * a1 y) (funext fun a => ?_) (funext fun a => ?_)
  · match a with | ⟨0, _⟩ => rfl | ⟨1, _⟩ => rfl
  · match a with | ⟨0, _⟩ => rfl | ⟨1, _⟩ => rfl

/-! ## The windows -/

variable (m : (ℓ : Loc nD τ sig) → Buf (Elt Ideal) ℓ) (ρ : Dev nD → PrngReg)

/-- Grid point `t` is row tile `t / 8` and column tile `t % 8`. -/
theorem idx_all : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = t.val % 8) :=
  (by decide +kernel : ∀ t : Fin grid0.N, _)

theorem iblk0_apply (c : Dev nD) (t : Fin cfg0.N) (j : S1024x2048.Idx) (i : S2048x2048.Idx)
    (h0 : (i 0).val = t.val / 8 * 1024 + (j 0).val) (h1 : (i 1).val = (j 1).val) :
    iblk m c 0 t j = m ((c : Thread nD τ).loc main_arg0) i := by
  obtain ⟨⟨e0, e1⟩, -⟩ := idx_all t
  show V m c main_arg0 (((cfg0.win 0).blk t).view.emb j) = _
  rw [V_main_arg0]
  refine congrArg _ (funext fun a => Fin.ext ?_)
  match a with
  | ⟨0, _⟩ => show win0_0.index t (0 : Fin 2) * 1024 + 1 * (j 0).val = (i 0).val; omega
  | ⟨1, _⟩ => show win0_0.index t (1 : Fin 2) * 2048 + 1 * (j 1).val = (i 1).val; omega

theorem iblk1_apply (c : Dev nD) (t : Fin cfg0.N) (j : S2048x1024.Idx) (i : S2048x8192.Idx)
    (h0 : (i 0).val = (j 0).val) (h1 : (i 1).val = t.val % 8 * 1024 + (j 1).val) :
    iblk m c 1 t j = m ((c : Thread nD τ).loc main_arg1) i := by
  obtain ⟨-, ⟨e0, e1⟩, -⟩ := idx_all t
  show V m c main_arg1 (((cfg0.win 1).blk t).view.emb j) = _
  rw [V_main_arg1]
  refine congrArg _ (funext fun a => Fin.ext ?_)
  match a with
  | ⟨0, _⟩ => show win0_1.index t (0 : Fin 2) * 2048 + 1 * (j 0).val = (i 0).val; omega
  | ⟨1, _⟩ => show win0_1.index t (1 : Fin 2) * 1024 + 1 * (j 1).val = (i 1).val; omega

theorem hz2 : (![0, 0] : Fin 2 → Nat) = fun _ => 0 := funext fun a => by fin_cases a <;> rfl

theorem out_eq (x0 : Vec Ideal S1024x2048 .bf16) (x1 : Vec Ideal S2048x1024 .bf16) : out0_2 x0 x1 = k0_pay1 x0 x1 := by
  unfold out0_2
  rw [View.canon_unit_zero hz2, View.ld_unit_zero hz2, View.ld_unit_zero hz2]

theorem emb_val (t : Fin cfg0.N) (j : S1024x1024.Idx) :
    (((cfg0.win 2).blk t).view.emb j 0).val = t.val / 8 * 1024 + (j 0).val
    ∧ (((cfg0.win 2).blk t).view.emb j 1).val = t.val % 8 * 1024 + (j 1).val := by
  obtain ⟨-, -, e0, e1⟩ := idx_all t
  refine ⟨?_, ?_⟩
  · show win0_2.index t (0 : Fin 2) * 1024 + 1 * (j 0).val = _; omega
  · show win0_2.index t (1 : Fin 2) * 1024 + 1 * (j 1).val = _; omega

/-- The reference's product of the launch contents. -/
abbrev prod (c : Dev nD) : Buf (Elt Ideal) ((c : Thread nD τ).loc main_v0) :=
  val_main_v2 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (prod m c) := by
  rw [flushed2, out_eq]
  funext j
  show k0_pay1 (F := Ideal) (iblk m c 0 t) (iblk m c 1 t) j = prod m c (((cfg0.win 2).blk t).view.emb j)
  obtain ⟨e0, e1⟩ := emb_val t j
  rw [tile_apply, prod, ref_apply]
  refine Finset.sum_congr rfl fun k _ => ?_
  rw [iblk0_apply m c t (ix2 (j 0) k) (ix2 (((cfg0.win 2).blk t).view.emb j 0) k) e0 rfl,
    iblk1_apply m c t (ix2 k (j 1)) (ix2 k (((cfg0.win 2).blk t).view.emb j 1)) rfl e1]

theorem covered (i : S2048x8192.Idx) :
    ∃ t : Fin cfg0.N, (cfg0.win 2).flush t = true ∧ i ∈ ((cfg0.win 2).blk t).view.set := by
  have h0 : (i 0).val < 2048 := (i 0).isLt
  have h1 : (i 1).val < 8192 := (i 1).isLt
  obtain ⟨n, hn⟩ : ∃ n, n = 8 * ((i 0).val / 1024) + (i 1).val / 1024 := ⟨_, rfl⟩
  let t : Fin cfg0.N := ⟨n, show _ < 16 by omega⟩
  let j : S1024x1024.Idx := ix2 ⟨(i 0).val % 1024, Nat.mod_lt _ (by decide)⟩ ⟨(i 1).val % 1024, Nat.mod_lt _ (by decide)⟩
  obtain ⟨e0, e1⟩ := emb_val t j
  have e : ((cfg0.win 2).blk t).view.emb j = i := by
    funext a; apply Fin.ext
    match a with
    | ⟨0, _⟩ => exact e0.trans (show n / 8 * 1024 + (i 0).val % 1024 = (i 0).val by omega)
    | ⟨1, _⟩ => exact e1.trans (show n % 8 * 1024 + (i 1).val % 1024 = (i 1).val by omega)
  exact ⟨t, flush0_2 t, by have h := ((cfg0.win 2).blk t).view.emb_mem_set j; rwa [e] at h⟩

/-- The kernel's run: its result is the reference's product. -/
theorem run : θ_run defs (onTc (τ := τ) (main (F := Ideal))) ⟨m, fun _ => 0, ρ⟩ fun r => ∀ c : Dev nD,
      r.2.mem ((c : Thread nD τ).loc main_v0) = prod m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans ((dats m 0 c).arrAt_eq_of_cover 2 (prod m c) (fun t _ => flushed_eq m c t) covered), (h c).2⟩) (run_blocks m ρ)

end Cert.Proof.FwFox

end
-- ==== Proof.FwIn.lean ====
/- Hand-written, untrusted: A COLUMN-SHARDED PROJECTION. As FwFox.lean, with the weight in four devices' shards of its columns: a grid
   point multiplies 1024 rows by one device's shard. The reference joins the shards to one matrix first. -/
module

public import proofs.«01_k».proof.Proof.Gen.Kernel9Ideal.Value
public import proofs.«01_k».proof.Proof.Gen.Reference9Ideal.Read
public import proofs.«01_k».proof.Proof.FwFox

@[expose] public section

set_option maxRecDepth 16384

noncomputable section

namespace Cert.Proof.FwIn

open Cert.Kernel9Ideal Cert.Kernel9Ideal.Gen Cert.Kernel9Ideal.Value Cert.Proof.Finite
open Idealize.ShloMosaic Idealize.ShloMosaic.TcCoe Idealize.SL.Sem Idealize.ShloMosaic.ValueIdx
open Cert.Reference9Ideal.Read (val_main_v4)

/-- A tile's element: row `y 0` of the activations' block by column `y 1` of the shard. -/
theorem tile_apply (x0 : Vec Ideal S1024x2048 .bf16) (x1 : Vec Ideal S1x2048x1024 .bf16) (y : S1024x1024.Idx) :
    k0_pay1 (F := Ideal) x0 x1 y = ∑ k : Fin 2048, x0 (ix2 (y 0) k) * x1 (ix3 0 k (y 1)) := by
  unfold k0_pay1
  refine (FwFox.prod_apply x0 (shapeCast S2048x1024 x1 shapeCasts_S1x2048x1024_S2048x1024) y).trans ?_
  refine Finset.sum_congr rfl fun k _ => congrArg (x0 (ix2 (y 0) k) * ·) ?_
  rw [shapeCast_dropUnit_apply]
  exact congrArg x1 (funext fun a => by match a with | ⟨0, _⟩ => rfl | ⟨1, _⟩ => rfl | ⟨2, _⟩ => rfl)

/-- Row `k` of the whole weight's column `q`, which is column `q % 1024` of device `q / 1024`'s shard. -/
abbrev wix (k : Fin 2048) (q : Fin 4096) : S4x2048x1024.Idx :=
  ix3 ⟨q.val / 1024, by have := q.isLt; omega⟩ k ⟨q.val % 1024, Nat.mod_lt _ (by decide)⟩

open Cert.Reference9Ideal.Read in
/-- The reference's element at row `i 0`, column `i 1`. -/
theorem ref_apply (a0 : Vec Ideal S2048x2048 .bf16) (a1 : Vec Ideal S4x2048x1024 .bf16) (i : S2048x4096.Idx) :
    val_main_v4 (F := Ideal) a0 a1 i = ∑ k : Fin 2048, a0 (ix2 (i 0) k) * a1 (wix k (i 1)) := by
  rw [val_main_v4_apply]
  refine Finset.sum_congr rfl fun k _ => ?_
  rw [val_main_v0_apply, val_main_v3_apply, val_main_v2_apply, val_main_v1_apply]
  have h1 : (i 1).val < 4096 := (i 1).isLt
  have hk := k.isLt
  show @HMul.hMul EReal EReal EReal _ (a0 _) (a1 _) = _
  refine congrArg₂ (fun x y => a0 x * a1 y) (funext fun a => ?_) (funext fun a => Fin.ext ?_)
  · match a with | ⟨0, _⟩ => rfl | ⟨1, _⟩ => rfl
  · match a with
    | ⟨0, _⟩ => show (k.val * 4096 + (i 1).val) / 1024 % 4 = (i 1).val / 1024; omega
    | ⟨1, _⟩ => show (k.val * 4096 + (i 1).val) / 4096 = k.val; omega
    | ⟨2, _⟩ => show (k.val * 4096 + (i 1).val) % 1024 = (i 1).val % 1024; omega

/-! ## The windows -/

variable (m : (ℓ : Loc nD τ sig) → Buf (Elt Ideal) ℓ) (ρ : Dev nD → PrngReg)

/-- Grid point `t` is row tile `t / 4` and column tile `t % 4`. -/
theorem idx_all : ∀ t : Fin cfg0.N,
    (win0_0.index t (0 : Fin 2) = t.val / 4 ∧ win0_0.index t (1 : Fin 2) = 0)
    ∧ (win0_1.index t (0 : Fin 3) = t.val % 4 ∧ win0_1.index t (1 : Fin 3) = 0 ∧ win0_1.index t (2 : Fin 3) = 0)
    ∧ (win0_2.index t (0 : Fin 2) = t.val / 4 ∧ win0_2.index t (1 : Fin 2) = t.val % 4) :=
  (by decide +kernel : ∀ t : Fin grid0.N, _)

theorem iblk0_apply (c : Dev nD) (t : Fin cfg0.N) (j : S1024x2048.Idx) (i : S2048x2048.Idx)
    (h0 : (i 0).val = t.val / 4 * 1024 + (j 0).val) (h1 : (i 1).val = (j 1).val) :
    iblk m c 0 t j = m ((c : Thread nD τ).loc main_arg0) i := by
  obtain ⟨⟨e0, e1⟩, -⟩ := idx_all t
  show V m c main_arg0 (((cfg0.win 0).blk t).view.emb j) = _
  rw [V_main_arg0]
  refine congrArg _ (funext fun a => Fin.ext ?_)
  match a with
  | ⟨0, _⟩ => show win0_0.index t (0 : Fin 2) * 1024 + 1 * (j 0).val = (i 0).val; omega
  | ⟨1, _⟩ => show win0_0.index t (1 : Fin 2) * 2048 + 1 * (j 1).val = (i 1).val; omega

theorem iblk1_apply (c : Dev nD) (t : Fin cfg0.N) (k : Fin 2048) (q : Fin 1024) (p : Fin 4096)
    (h : p.val = t.val % 4 * 1024 + q.val) :
    iblk m c 1 t (ix3 0 k q) = m ((c : Thread nD τ).loc main_arg1) (wix k p) := by
  obtain ⟨-, ⟨e0, e1, e2⟩, -⟩ := idx_all t
  have hq := q.isLt
  show V m c main_arg1 (((cfg0.win 1).blk t).view.emb (ix3 0 k q)) = _
  rw [V_main_arg1]
  refine congrArg _ (funext fun a => Fin.ext ?_)
  match a with
  | ⟨0, _⟩ => show win0_1.index t (0 : Fin 3) * 1 + 1 * 0 = p.val / 1024; omega
  | ⟨1, _⟩ => show win0_1.index t (1 : Fin 3) * 2048 + 1 * k.val = k.val; omega
  | ⟨2, _⟩ => show win0_1.index t (2 : Fin 3) * 1024 + 1 * q.val = p.val % 1024; omega

theorem hz2 : (![0, 0] : Fin 2 → Nat) = fun _ => 0 := funext fun a => by fin_cases a <;> rfl

theorem hz3 : (![0, 0, 0] : Fin 3 → Nat) = fun _ => 0 := funext fun a => by fin_cases a <;> rfl

theorem out_eq (x0 : Vec Ideal S1024x2048 .bf16) (x1 : Vec Ideal S1x2048x1024 .bf16) : out0_2 x0 x1 = k0_pay1 x0 x1 := by
  unfold out0_2
  rw [View.canon_unit_zero hz2, View.ld_unit_zero hz2, View.ld_unit_zero hz3]

theorem emb_val (t : Fin cfg0.N) (j : S1024x1024.Idx) :
    (((cfg0.win 2).blk t).view.emb j 0).val = t.val / 4 * 1024 + (j 0).val
    ∧ (((cfg0.win 2).blk t).view.emb j 1).val = t.val % 4 * 1024 + (j 1).val := by
  obtain ⟨-, -, e0, e1⟩ := idx_all t
  refine ⟨?_, ?_⟩
  · show win0_2.index t (0 : Fin 2) * 1024 + 1 * (j 0).val = _; omega
  · show win0_2.index t (1 : Fin 2) * 1024 + 1 * (j 1).val = _; omega

/-- The reference's product of the launch contents. -/
abbrev prod (c : Dev nD) : Buf (Elt Ideal) ((c : Thread nD τ).loc main_v0) :=
  val_main_v4 (F := Ideal) (m ((c : Thread nD τ).loc main_arg0)) (m ((c : Thread nD τ).loc main_arg1))

theorem flushed_eq (c : Dev nD) (t : Fin cfg0.N) :
    (dats m 0 c).flushed 2 t = ((cfg0.win 2).blk t).view.read (Elt Ideal) (prod m c) := by
  rw [flushed2, out_eq]
  funext j
  show k0_pay1 (F := Ideal) (iblk m c 0 t) (iblk m c 1 t) j = prod m c (((cfg0.win 2).blk t).view.emb j)
  obtain ⟨e0, e1⟩ := emb_val t j
  rw [tile_apply, prod, ref_apply]
  refine Finset.sum_congr rfl fun k _ => ?_
  rw [iblk0_apply m c t (ix2 (j 0) k) (ix2 (((cfg0.win 2).blk t).view.emb j 0) k) e0 rfl,
    iblk1_apply m c t k (j 1) (((cfg0.win 2).blk t).view.emb j 1) e1]

theorem covered (i : S2048x4096.Idx) :
    ∃ t : Fin cfg0.N, (cfg0.win 2).flush t = true ∧ i ∈ ((cfg0.win 2).blk t).view.set := by
  have h0 : (i 0).val < 2048 := (i 0).isLt
  have h1 : (i 1).val < 4096 := (i 1).isLt
  obtain ⟨n, hn⟩ : ∃ n, n = 4 * ((i 0).val / 1024) + (i 1).val / 1024 := ⟨_, rfl⟩
  let t : Fin cfg0.N := ⟨n, show _ < 8 by omega⟩
  let j : S1024x1024.Idx := ix2 ⟨(i 0).val % 1024, Nat.mod_lt _ (by decide)⟩ ⟨(i 1).val % 1024, Nat.mod_lt _ (by decide)⟩
  obtain ⟨e0, e1⟩ := emb_val t j
  have e : ((cfg0.win 2).blk t).view.emb j = i := by
    funext a; apply Fin.ext
    match a with
    | ⟨0, _⟩ => exact e0.trans (show n / 4 * 1024 + (i 0).val % 1024 = (i 0).val by omega)
    | ⟨1, _⟩ => exact e1.trans (show n % 4 * 1024 + (i 1).val % 1024 = (i 1).val by omega)
  exact ⟨t, flush0_2 t, by have h := ((cfg0.win 2).blk t).view.emb_mem_set j; rwa [e] at h⟩

/-- The kernel's run: its result is the reference's product. -/
theorem run : θ_run defs (onTc (τ := τ) (main (F := Ideal))) ⟨m, fun _ => 0, ρ⟩ fun r => ∀ c : Dev nD,
      r.2.mem ((c : Thread nD τ).loc main_v0) = prod m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans ((dats m 0 c).arrAt_eq_of_cover 2 (prod m c) (fun t _ => flushed_eq m c t) covered), (h c).2⟩) (run_blocks m ρ)

end Cert.Proof.FwIn

end
-- ==== Proof.FwOut.lean ====
/- Hand-written, untrusted: A ROW-SHARDED PROJECTION ADDED TO THE RESIDUAL. As FwFox.lean, in tiles of 512 rows by 1024 columns;
   the weight's four shards of rows are joined on the host before the launch, and each tile adds the residual's. -/
module

public import proofs.«01_k».proof.Proof.Gen.Kernel10Ideal.Value
public import proofs.«01_k».proof.Proof.Gen.Reference10Ideal.Read
public import proofs.«01_k».proof.Proof.Finite

@[expose] public section

set_option maxRecDepth 16384

noncomputable section

namespace Cert.Proof.FwOut

open Cert.Kernel10Ideal Cert.Kernel10Ideal.Gen Cert.Kernel10Ideal.Value Cert.Proof.Finite
open Idealize.ShloMosaic Idealize.ShloMosaic.TcCoe Idealize.SL.Sem Idealize.ShloMosaic.ValueIdx
open Cert.Reference10Ideal.Read (val_main_v4)

/-- The residual's element, as a number. -/
abbrev res {S : Shape} (x : Vec Ideal S .f32) (i : S.Idx) : EReal := x i

/-- A product's element: row `r` of the left block by column `q` of the right. -/
theorem prod_apply (x0 : FVec Ideal S512x2048 .bf16) (x1 : FVec Ideal S2048x1024 .bf16) (y : S512x1024.Idx) :
    Idealize.ShloMosaic.matmul dot_S512x2048_S2048x1024_S512x1024_1_0_0_1_n_n none x0 x1 (constant S512x1024 .f32 0x00000000#32) y
      = ∑ k : Fin 2048, x0 (ix2 (y 0) k) * x1 (ix2 k (y 1)) := by
  simp only [matmul]
  rw [Ideal.matmul_constant_zero_apply, dot_sum _ 2048 rfl rfl x0 x1 y (fun k => ix2 (y 0) k) (fun k => ix2 k (y 1))]
  · intro k
    have hk := contrEquiv1_symm_val dot_S512x2048_S2048x1024_S512x1024_1_0_0_1_n_n 2048 rfl rfl k
    exact funext fun a => Fin.ext (by
      match a with
      | ⟨0, _⟩ => rfl
      | ⟨1, _⟩ => exact (dot_S512x2048_S2048x1024_S512x1024_1_0_0_1_n_n.lhsIdx_val_of_single rfl _ _).trans hk)
  · intro k
    have hk := contrEquiv1_symm_val dot_S512x2048_S2048x1024_S512x1024_1_0_0_1_n_n 2048 rfl rfl k
    exact funext fun a => Fin.ext (by
      match a with
      | ⟨0, _⟩ => exact (dot_S512x2048_S2048x1024_S512x1024_1_0_0_1_n_n.rhsIdx_val_of_single rfl _ _).trans hk
      | ⟨1, _⟩ => rfl)

theorem tile_apply (x0 : Vec Ideal S512x2048 .bf16) (x1 : Vec Ideal S2048x1024 .bf16) (x2 : Vec Ideal S512x1024 .f32)
    (y : S512x1024.Idx) :
    k0_pay1 (F := Ideal) x0 x1 x2 y = res x2 y + ∑ k : Fin 2048, x0 (ix2 (y 0) k) * x1 (ix2 k (y 1)) := by
  unfold k0_pay1
  rw [shapeCast_self]
  exact congrArg (fun s : EReal => res x2 y + s) (prod_apply x0 x1 y)

/-- The row of the joined weight `k` is row `k % 512` of device `k / 512`'s shard. -/
abbrev wix (k q : Fin 2048) : S4x512x2048.Idx :=
  ix3 ⟨k.val / 512, by have := k.isLt; omega⟩ ⟨k.val % 512, Nat.mod_lt _ (by decide)⟩ q

/-- A term of the product. -/
abbrev term (a0 : Vec Ideal S2048x2048 .bf16) (a1 : Vec Ideal S4x512x2048 .bf16) (i : S2048x2048.Idx) (k : Fin 2048) : EReal :=
  a0 (ix2 (i 0) k) * a1 (wix k (i 1))

open Cert.Reference10Ideal.Read in
/-- The reference's element at row `i 0`, column `i 1`. -/
theorem ref_apply (a0 : Vec Ideal S2048x2048 .bf16) (a1 : Vec Ideal S4x512x2048 .bf16) (a2 : Vec Ideal S2048x2048 .f32)
    (i : S2048x2048.Idx) : val_main_v4 (F := Ideal) a0 a1 a2 i = res a2 i + ∑ k : Fin 2048, term a0 a1 i k := by
  rw [val_main_v4_apply, val_main_v3_apply]
  refine congrArg (fun s : EReal => res a2 i + s) (Finset.sum_congr rfl fun k _ => ?_)
  rw [val_main_v0_apply, val_main_v2_apply, val_main_v1_apply]
  have h1 : (i 1).val < 2048 := (i 1).isLt
  have hk := k.isLt
  show @HMul.hMul EReal EReal EReal _ (a0 _) (a1 _) = _
  refine congrArg₂ (fun x y => a0 x * a1 y) (funext fun a => ?_) (funext fun a => Fin.ext ?_)
  · match a with | ⟨0, _⟩ => rfl | ⟨1, _⟩ => rfl
  · match a with
    | ⟨0, _⟩ => show (k.val * 2048 + (i 1).val) / 1048576 = k.val / 512; omega
    | ⟨1, _⟩ => show (k.val * 2048 + (i 1).val) / 2048 % 512 = k.val % 512; omega
    | ⟨2, _⟩ => show (k.val * 2048 + (i 1).val) % 2048 = (i 1).val; omega

/-! ## The windows -/

variable (m : (ℓ : Loc nD τ sig) → Buf (Elt Ideal) ℓ) (ρ : Dev nD → PrngReg)

/-- Grid point `t` is row tile `t / 2` and column tile `t % 2`. -/
theorem idx_all : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ (win0_3.index t (0 : Fin 2) = t.val / 2 ∧ win0_3.index t (1 : Fin 2) = t.val % 2) :=
  (by decide +kernel : ∀ t : Fin grid0.N, _)

theorem iblk0_apply (c : Dev nD) (t : Fin cfg0.N) (j : S512x2048.Idx) (i : S2048x2048.Idx)
    (h0 : (i 0).val = t.val / 2 * 512 + (j 0).val) (h1 : (i 1).val = (j 1).val) :
    iblk m c 0 t j = m ((c : Thread nD τ).loc main_arg0) i := by
  obtain ⟨⟨e0, e1⟩, -⟩ := idx_all t
  show V m c main_arg0 (((cfg0.win 0).blk t).view.emb j) = _
  rw [V_main_arg0]
  refine congrArg _ (funext fun a => Fin.ext ?_)
  match a with
  | ⟨0, _⟩ => show win0_0.index t (0 : Fin 2) * 512 + 1 * (j 0).val = (i 0).val; omega
  | ⟨1, _⟩ => show win0_0.index t (1 : Fin 2) * 2048 + 1 * (j 1).val = (i 1).val; omega

/-- The joined weight, as the launch finds it. -/
theorem V_weight (c : Dev nD) :
    V m c main_v0 = shapeCast S2048x2048 (m ((c : Thread nD τ).loc main_arg1)) shapeCasts_S4x512x2048_S2048x2048 := by
  simp only [V, StableHlo.after_cons, StableHlo.after_nil]
  rfl

theorem iblk1_apply (c : Dev nD) (t : Fin cfg0.N) (k : Fin 2048) (q : Fin 1024) (p : Fin 2048)
    (h : p.val = t.val % 2 * 1024 + q.val) :
    iblk m c 1 t (ix2 k q) = m ((c : Thread nD τ).loc main_arg1) (wix k p) := by
  obtain ⟨-, ⟨e0, e1⟩, -⟩ := idx_all t
  have e : ((cfg0.win 1).blk t).view.emb (ix2 k q) = ix2 k p := funext fun a => Fin.ext (by
    match a with
    | ⟨0, _⟩ => show win0_1.index t (0 : Fin 2) * 2048 + 1 * k.val = k.val; omega
    | ⟨1, _⟩ => show win0_1.index t (1 : Fin 2) * 1024 + 1 * q.val = p.val; omega)
  show V m c main_v0 (((cfg0.win 1).blk t).view.emb (ix2 k q)) = _
  rw [e, V_weight]
  refine shapeCast_apply _ shapeCasts_S4x512x2048_S2048x2048 (ix2 k p) (wix k p) ?_
  rewrite [Shape.rowMajor_val_three, Shape.rowMajor_val_two]
  show (k.val / 512 * 512 + k.val % 512) * 2048 + p.val = k.val * 2048 + p.val
  omega

theorem iblk2_apply (c : Dev nD) (t : Fin cfg0.N) (j : S512x1024.Idx) (i : S2048x2048.Idx)
    (h0 : (i 0).val = t.val / 2 * 512 + (j 0).val) (h1 : (i 1).val = t.val % 2 * 1024 + (j 1).val) :
    iblk m c 2 t j = m ((c : Thread nD τ).loc main_arg2) i := by
  obtain ⟨-, -, ⟨e0, e1⟩, -⟩ := idx_all t
  show V m c main_arg2 (((cfg0.win 2).blk t).view.emb j) = _
  rw [V_main_arg2]
  refine congrArg _ (funext fun a => Fin.ext ?_)
  match a with
  | ⟨0, _⟩ => show win0_2.index t (0 : Fin 2) * 512 + 1 * (j 0).val = (i 0).val; omega
  | ⟨1, _⟩ => show win0_2.index t (1 : Fin 2) * 1024 + 1 * (j 1).val = (i 1).val; omega

theorem hz2 : (![0, 0] : Fin 2 → Nat) = fun _ => 0 := funext fun a => by fin_cases a <;> rfl

theorem out_eq (x0 : Vec Ideal S512x2048 .bf16) (x1 : Vec Ideal S2048x1024 .bf16) (x2 : Vec Ideal S512x1024 .f32) :
    out0_3 x0 x1 x2 = k0_pay1 x0 x1 x2 := by
  unfold out0_3
  rw [View.canon_unit_zero hz2, View.ld_unit_zero hz2, View.ld_unit_zero hz2, View.ld_unit_zero hz2]

theorem emb_val (t : Fin cfg0.N) (j : S512x1024.Idx) :
    (((cfg0.win 3).blk t).view.emb j 0).val = t.val / 2 * 512 + (j 0).val
    ∧ (((cfg0.win 3).blk t).view.emb j 1).val = t.val % 2 * 1024 + (j 1).val := by
  obtain ⟨-, -, -, e0, e1⟩ := idx_all t
  refine ⟨?_, ?_⟩
  · show win0_3.index t (0 : Fin 2) * 512 + 1 * (j 0).val = _; omega
  · show win0_3.index t (1 : Fin 2) * 1024 + 1 * (j 1).val = _; omega

/-- The reference's sum of the launch contents. -/
abbrev prod (c : Dev nD) : Buf (Elt Ideal) ((c : Thread nD τ).loc main_v1) :=
  val_main_v4 (F := Ideal) (m ((c : Thread nD τ).loc main_arg0)) (m ((c : Thread nD τ).loc main_arg1))
    (m ((c : Thread nD τ).loc main_arg2))

theorem flushed_eq (c : Dev nD) (t : Fin cfg0.N) :
    (dats m 0 c).flushed 3 t = ((cfg0.win 3).blk t).view.read (Elt Ideal) (prod m c) := by
  rw [flushed3, out_eq]
  funext j
  show k0_pay1 (F := Ideal) (iblk m c 0 t) (iblk m c 1 t) (iblk m c 2 t) j = prod m c (((cfg0.win 3).blk t).view.emb j)
  obtain ⟨e0, e1⟩ := emb_val t j
  rw [tile_apply, prod, ref_apply, res, iblk2_apply m c t j (((cfg0.win 3).blk t).view.emb j) e0 e1]
  refine congrArg (fun s : EReal => res (m ((c : Thread nD τ).loc main_arg2)) (((cfg0.win 3).blk t).view.emb j) + s)
    (Finset.sum_congr rfl fun k _ => ?_)
  rw [iblk0_apply m c t (ix2 (j 0) k) (ix2 (((cfg0.win 3).blk t).view.emb j 0) k) e0 rfl,
    iblk1_apply m c t k (j 1) (((cfg0.win 3).blk t).view.emb j 1) e1]

theorem covered (i : S2048x2048.Idx) :
    ∃ t : Fin cfg0.N, (cfg0.win 3).flush t = true ∧ i ∈ ((cfg0.win 3).blk t).view.set := by
  have h0 : (i 0).val < 2048 := (i 0).isLt
  have h1 : (i 1).val < 2048 := (i 1).isLt
  obtain ⟨n, hn⟩ : ∃ n, n = 2 * ((i 0).val / 512) + (i 1).val / 1024 := ⟨_, rfl⟩
  let t : Fin cfg0.N := ⟨n, show _ < 8 by omega⟩
  let j : S512x1024.Idx := ix2 ⟨(i 0).val % 512, Nat.mod_lt _ (by decide)⟩ ⟨(i 1).val % 1024, Nat.mod_lt _ (by decide)⟩
  obtain ⟨e0, e1⟩ := emb_val t j
  have e : ((cfg0.win 3).blk t).view.emb j = i := by
    funext a; apply Fin.ext
    match a with
    | ⟨0, _⟩ => exact e0.trans (show n / 2 * 512 + (i 0).val % 512 = (i 0).val by omega)
    | ⟨1, _⟩ => exact e1.trans (show n % 2 * 1024 + (i 1).val % 1024 = (i 1).val by omega)
  exact ⟨t, flush0_3 t, by have h := ((cfg0.win 3).blk t).view.emb_mem_set j; rwa [e] at h⟩

/-- The kernel's run: its result is the reference's. -/
theorem run : θ_run defs (onTc (τ := τ) (main (F := Ideal))) ⟨m, fun _ => 0, ρ⟩ fun r => ∀ c : Dev nD,
      r.2.mem ((c : Thread nD τ).loc main_v1) = prod m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans ((dats m 0 c).arrAt_eq_of_cover 3 (prod m c) (fun t _ => flushed_eq m c t) covered), (h c).2⟩) (run_blocks m ρ)

end Cert.Proof.FwOut

end
-- ==== Proof.Gate.lean ====
/- Hand-written, untrusted: THE FORGETTING ATTENTION'S OUTPUT GATE, BACKWARD. The call multiplies the cotangent of the output
   product by the transposed weights (one 512 by 512 tile of the product at a grid point, the weights in row shards) and
   sends the product through the gate `y * silu z`. The reference is the gradient jax takes of that gate and product. Here:
   what a grid point stores is that gradient's tile (`flushed4_eq`, `flushed5_eq`), so the arrays are the gradient. The
   two spellings of the gate's derivative agree at real numbers (`gate_eq`), not at infinite ones, where a product does
   not distribute over a sum. -/
module

public import proofs.«01_k».proof.Proof.Gen.Kernel2Ideal.Value
public import proofs.«01_k».proof.Proof.Gen.Reference2Ideal.Read
public import proofs.«01_k».proof.Proof.Gen.Pre_finite2
public import proofs.«01_k».proof.Proof.Finite

@[expose] public section

set_option maxRecDepth 16384

noncomputable section

namespace Cert.Proof.Gate

open Cert.Kernel2Ideal Cert.Kernel2Ideal.Gen Cert.Kernel2Ideal.Value Cert.Proof.Finite
open Idealize.ShloMosaic Idealize.ShloMosaic.TcCoe Idealize.SL.Sem Idealize.ShloMosaic.ValueIdx
open Cert.Reference2Ideal.Read (val_main_v9 val_main_v11 val_main_v7)

/-! ## What the body computes at an index -/

/-- The tile of the product: row `y 0` of the cotangent by row `y 1` of the weights' shard. -/
theorem pay1_apply (x0 : Vec Ideal S512x2048 .bf16) (x1 : Vec Ideal S1x512x2048 .bf16) (y : S512x512.Idx) :
    k0_pay1 (F := Ideal) x0 x1 y = ∑ k : Fin 2048, x0 (ix2 (y 0) k) * x1 (ix3 0 (y 1) k) := by
  unfold k0_pay1
  simp only [matmul]
  rw [Ideal.matmul_constant_zero_apply]
  rw [dot_sum _ 2048 rfl rfl x0 (shapeCast S512x2048 x1 shapeCasts_S1x512x2048_S512x2048) y
    (fun k => ix2 (y 0) k) (fun k => ix2 (y 1) k)]
  · refine Finset.sum_congr rfl fun k _ => congrArg (x0 (ix2 (y 0) k) * ·) ?_
    rw [shapeCast_dropUnit_apply]
    exact congrArg x1 (funext fun a => by match a with | ⟨0, _⟩ => rfl | ⟨1, _⟩ => rfl | ⟨2, _⟩ => rfl)
  · intro k
    have hk := contrEquiv1_symm_val dot_S512x2048_S512x2048_S512x512_1_1_0_0_n_n 2048 rfl rfl k
    exact funext fun a => Fin.ext (by
      match a with
      | ⟨0, _⟩ => rfl
      | ⟨1, _⟩ => exact (dot_S512x2048_S512x2048_S512x512_1_1_0_0_n_n.lhsIdx_val_of_single rfl _ _).trans hk)
  · intro k
    have hk := contrEquiv1_symm_val dot_S512x2048_S512x2048_S512x512_1_1_0_0_n_n 2048 rfl rfl k
    exact funext fun a => Fin.ext (by
      match a with
      | ⟨0, _⟩ => rfl
      | ⟨1, _⟩ => exact (dot_S512x2048_S512x2048_S512x512_1_1_0_0_n_n.rhsIdx_val_of_single rfl _ _).trans hk)

/-- The gate's logistic function, as both programs spell it. -/
def logis (z : EReal) : EReal := Ideal.div ((1 : ℝ) : EReal) (((1 : ℝ) : EReal) + Ideal.exp (-z))

theorem pay2_apply (x0 : Vec Ideal S512x2048 .bf16) (x1 : Vec Ideal S1x512x2048 .bf16) (z : Vec Ideal S512x512 .f32)
    (y : S512x512.Idx) : k0_pay2 (F := Ideal) x0 x1 z y = k0_pay1 x0 x1 y * (z y * logis (z y)) := by
  show k0_pay1 (F := Ideal) x0 x1 y * (z y * Ideal.div (Ideal.ofBits .f32 0x3F800000#32)
    (Ideal.ofBits .f32 0x3F800000#32 + Ideal.exp (Ideal.ofBits .f32 0x00000000#32 - z y))) = _
  rw [Ideal.ofBits_zero_f32, ofBits_one, zero_sub]
  rfl

theorem pay3_apply (x0 : Vec Ideal S512x2048 .bf16) (x1 : Vec Ideal S1x512x2048 .bf16) (o z : Vec Ideal S512x512 .f32)
    (y : S512x512.Idx) : k0_pay3 (F := Ideal) x0 x1 o z y
      = (k0_pay1 x0 x1 y * o y) * (logis (z y) * (((1 : ℝ) : EReal) + z y * (((1 : ℝ) : EReal) - logis (z y)))) := by
  show (k0_pay1 (F := Ideal) x0 x1 y * o y) * (Ideal.div (Ideal.ofBits .f32 0x3F800000#32)
    (Ideal.ofBits .f32 0x3F800000#32 + Ideal.exp (Ideal.ofBits .f32 0x00000000#32 - z y))
      * (Ideal.ofBits .f32 0x3F800000#32 + z y * (Ideal.ofBits .f32 0x3F800000#32 - Ideal.div (Ideal.ofBits .f32 0x3F800000#32)
    (Ideal.ofBits .f32 0x3F800000#32 + Ideal.exp (Ideal.ofBits .f32 0x00000000#32 - z y))))) = _
  rw [Ideal.ofBits_zero_f32, ofBits_one, zero_sub]
  rfl

/-! ## What the reference computes at an index -/

open Cert.Reference2Ideal.Read in
theorem ref9_apply (a0 : Vec Ideal S2048x2048 .bf16) (a1 : Vec Ideal S4x512x2048 .bf16) (a3 : Vec Ideal S2048x8192 .f32)
    (i : S2048x2048.Idx) : val_main_v9 (F := Ideal) a0 a1 a3 i
      = val_main_v7 a0 a1 i * (a3 (idx_main_v0 i) * logis (a3 (idx_main_v0 i))) := by
  rw [val_main_v9_apply, val_main_v1_0_apply, val_main_v1_2_apply, val_main_v0_apply, val_main_call0_v4_apply,
    val_main_call0_cst_0_apply, val_main_call0_v3_apply, val_main_call0_v2_apply, val_main_call0_cst_apply,
    val_main_call0_v1_apply, val_main_call0_v0_apply, val_main_v0_apply]
  show _ * (_ * Ideal.div (Ideal.ofBits .f32 0x3F800000#32) (Ideal.ofBits .f32 0x3F800000#32 + Ideal.exp (-_))) = _
  rw [ofBits_one]
  rfl

open Cert.Reference2Ideal.Read in
theorem ref11_apply (a0 : Vec Ideal S2048x2048 .bf16) (a1 : Vec Ideal S4x512x2048 .bf16) (a2 : Vec Ideal S2048x2048 .f32)
    (a3 : Vec Ideal S2048x8192 .f32) (i : S2048x2048.Idx) : val_main_v11 (F := Ideal) a0 a1 a2 a3 i
      = a2 i * val_main_v7 a0 a1 i * logis (a3 (idx_main_v0 i))
        + a3 (idx_main_v0 i) * (a2 i * val_main_v7 a0 a1 i)
          * (logis (a3 (idx_main_v0 i)) * (((1 : ℝ) : EReal) - logis (a3 (idx_main_v0 i)))) := by
  rw [val_main_v11_apply, val_main_v10_apply, val_main_call1_v1_apply, val_main_call1_v2_apply, val_main_call1_v0_apply,
    val_main_v8_apply, val_main_v1_1_apply, val_main_call0_v7_apply, val_main_call0_v6_apply, val_main_call0_cst_1_apply,
    val_main_v1_2_apply, val_main_v0_apply, val_main_call0_v4_apply,
    val_main_call0_cst_0_apply, val_main_call0_v3_apply, val_main_call0_v2_apply, val_main_call0_cst_apply,
    val_main_call0_v1_apply, val_main_call0_v0_apply, val_main_v0_apply]
  show _ * _ * Ideal.div (Ideal.ofBits .f32 0x3F800000#32) (Ideal.ofBits .f32 0x3F800000#32 + Ideal.exp (-_))
    + _ * (_ * _) * (Ideal.div (Ideal.ofBits .f32 0x3F800000#32) (Ideal.ofBits .f32 0x3F800000#32 + Ideal.exp (-_))
      * (Ideal.ofBits .f32 0x3F800000#32 - Ideal.div (Ideal.ofBits .f32 0x3F800000#32) (Ideal.ofBits .f32 0x3F800000#32 + Ideal.exp (-_)))) = _
  rw [ofBits_one]
  rfl

/-- The product's element at row `i 0`, column `i 1`: the weights' row `i 1` is row `i 1 % 512` of shard `i 1 / 512`. -/
theorem ref7_apply (a0 : Vec Ideal S2048x2048 .bf16) (a1 : Vec Ideal S4x512x2048 .bf16) (i : S2048x2048.Idx)
    (p : Fin 4) (r : Fin 512) (hi : (i 1).val = p.val * 512 + r.val) :
    val_main_v7 (F := Ideal) a0 a1 i = ∑ k : Fin 2048, a0 (ix2 (i 0) k) * a1 (ix3 p r k) := by
  rw [Cert.Reference2Ideal.Read.val_main_v7_apply]
  refine Finset.sum_congr rfl fun k _ => ?_
  rw [Cert.Reference2Ideal.Read.val_main_v6_apply, Cert.Reference2Ideal.Read.val_main_v4_apply,
    Cert.Reference2Ideal.Read.val_main_v3_apply]
  show a0 _ * a1 _ = a0 _ * a1 _
  have hk := k.isLt
  have hr := r.isLt
  refine congrArg₂ (fun x y => a0 x * a1 y) (funext fun a => ?_) (funext fun a => Fin.ext ?_)
  · match a with | ⟨0, _⟩ => rfl | ⟨1, _⟩ => rfl
  · match a with
    | ⟨0, _⟩ => show ((i 1).val * 2048 + k.val) / 1048576 = p.val; omega
    | ⟨1, _⟩ => show ((i 1).val * 2048 + k.val) / 2048 % 512 = r.val; omega
    | ⟨2, _⟩ => show ((i 1).val * 2048 + k.val) % 2048 = k.val; omega

/-! ## The gate's derivative -/

/-- At real numbers the two spellings of the gate's derivative agree. -/
theorem gate_eq (d o z : ℝ) :
    ((d : EReal) * (o : EReal)) * (logis z * (((1 : ℝ) : EReal) + (z : EReal) * (((1 : ℝ) : EReal) - logis z)))
      = (o : EReal) * (d : EReal) * logis z
        + (z : EReal) * ((o : EReal) * (d : EReal)) * (logis z * (((1 : ℝ) : EReal) - logis z)) := by
  have hs : logis z = (((1 : ℝ) / (1 + Real.exp (-z)) : ℝ) : EReal) := by
    unfold logis; rw [← EReal.coe_neg, logistic_coe]
  rw [hs]
  generalize (1 : ℝ) / (1 + Real.exp (-z)) = s
  simp only [← EReal.coe_mul, ← EReal.coe_sub, ← EReal.coe_add]
  exact congrArg _ (by ring)

/-! ## The windows -/

variable (m : (ℓ : Loc nD τ sig) → Buf (Elt Ideal) ℓ) (ρ : Dev nD → PrngReg)

/-- Grid point `t` is row tile `t / 4` and column tile `t % 4`. -/
theorem idx_in : ∀ t : Fin cfg0.N,
    (win0_0.index t (0 : Fin 2) = t.val / 4 ∧ win0_0.index t (1 : Fin 2) = 0)
    ∧ (win0_1.index t (0 : Fin 3) = t.val % 4 ∧ win0_1.index t (1 : Fin 3) = 0 ∧ win0_1.index t (2 : Fin 3) = 0)
    ∧ (win0_2.index t (0 : Fin 2) = t.val / 4 ∧ win0_2.index t (1 : Fin 2) = t.val % 4)
    ∧ (win0_3.index t (0 : Fin 2) = t.val / 4 ∧ win0_3.index t (1 : Fin 2) = t.val % 4 + 12) :=
  (by decide +kernel : ∀ t : Fin grid0.N, _)
theorem idx_out : ∀ t : Fin cfg0.N,
    (win0_4.index t (0 : Fin 2) = t.val / 4 ∧ win0_4.index t (1 : Fin 2) = t.val % 4)
    ∧ (win0_5.index t (0 : Fin 2) = t.val / 4 ∧ win0_5.index t (1 : Fin 2) = t.val % 4) :=
  (by decide +kernel : ∀ t : Fin grid0.N, _)

theorem point_lt (t : Fin cfg0.N) : t.val < 16 := t.isLt

/-- The array index of place `(a, b)` of tile `t`. -/
def at2 (t : Fin cfg0.N) (j : S512x512.Idx) : S2048x2048.Idx := ix2
  ⟨t.val / 4 * 512 + (j 0).val, by have := point_lt t; have h : (j 0).val < 512 := (j 0).isLt; omega⟩
  ⟨t.val % 4 * 512 + (j 1).val, by have h : (j 1).val < 512 := (j 1).isLt; omega⟩

theorem iblk0_apply (c : Dev nD) (t : Fin cfg0.N) (j : S512x2048.Idx) (i : S2048x2048.Idx)
    (h0 : (i 0).val = t.val / 4 * 512 + (j 0).val) (h1 : (i 1).val = (j 1).val) :
    iblk m c 0 t j = m ((c : Thread nD τ).loc main_arg0) i := by
  obtain ⟨⟨e0, e1⟩, -⟩ := idx_in t
  show V m c main_arg0 (((cfg0.win 0).blk t).view.emb j) = _
  rw [V_main_arg0]
  refine congrArg _ (funext fun a => Fin.ext ?_)
  match a with
  | ⟨0, _⟩ => show win0_0.index t (0 : Fin 2) * 512 + 1 * (j 0).val = (i 0).val; omega
  | ⟨1, _⟩ => show win0_0.index t (1 : Fin 2) * 2048 + 1 * (j 1).val = (i 1).val; omega

theorem iblk1_apply (c : Dev nD) (t : Fin cfg0.N) (j : S1x512x2048.Idx) (i : S4x512x2048.Idx)
    (h0 : (i 0).val = t.val % 4) (h1 : (i 1).val = (j 1).val) (h2 : (i 2).val = (j 2).val) :
    iblk m c 1 t j = m ((c : Thread nD τ).loc main_arg1) i := by
  obtain ⟨-, ⟨e0, e1, e2⟩, -⟩ := idx_in t
  show V m c main_arg1 (((cfg0.win 1).blk t).view.emb j) = _
  rw [V_main_arg1]
  have hj : (j 0).val < 1 := (j 0).isLt
  refine congrArg _ (funext fun a => Fin.ext ?_)
  match a with
  | ⟨0, _⟩ => show win0_1.index t (0 : Fin 3) * 1 + 1 * (j 0).val = (i 0).val; omega
  | ⟨1, _⟩ => show win0_1.index t (1 : Fin 3) * 512 + 1 * (j 1).val = (i 1).val; omega
  | ⟨2, _⟩ => show win0_1.index t (2 : Fin 3) * 2048 + 1 * (j 2).val = (i 2).val; omega

theorem iblk2_apply (c : Dev nD) (t : Fin cfg0.N) (j : S512x512.Idx) :
    iblk m c 2 t j = m ((c : Thread nD τ).loc main_arg2) (at2 t j) := by
  obtain ⟨-, -, ⟨e0, e1⟩, -⟩ := idx_in t
  show V m c main_arg2 (((cfg0.win 2).blk t).view.emb j) = _
  rw [V_main_arg2]
  refine congrArg _ (funext fun a => Fin.ext ?_)
  match a with
  | ⟨0, _⟩ => show win0_2.index t (0 : Fin 2) * 512 + 1 * (j 0).val = t.val / 4 * 512 + (j 0).val; omega
  | ⟨1, _⟩ => show win0_2.index t (1 : Fin 2) * 512 + 1 * (j 1).val = t.val % 4 * 512 + (j 1).val; omega

theorem iblk3_apply (c : Dev nD) (t : Fin cfg0.N) (j : S512x512.Idx) :
    iblk m c 3 t j = m ((c : Thread nD τ).loc main_arg3) (Cert.Reference2Ideal.Read.idx_main_v0 (at2 t j)) := by
  obtain ⟨-, -, -, ⟨e0, e1⟩⟩ := idx_in t
  show V m c main_arg3 (((cfg0.win 3).blk t).view.emb j) = _
  rw [V_main_arg3]
  refine congrArg _ (funext fun a => Fin.ext ?_)
  match a with
  | ⟨0, _⟩ => show win0_3.index t (0 : Fin 2) * 512 + 1 * (j 0).val = t.val / 4 * 512 + (j 0).val; omega
  | ⟨1, _⟩ => show win0_3.index t (1 : Fin 2) * 512 + 1 * (j 1).val = 6144 + (t.val % 4 * 512 + (j 1).val); omega

/-- Point `t`'s tile of the product is the reference's product there. -/
theorem pay1_blk (c : Dev nD) (t : Fin cfg0.N) (y : S512x512.Idx) :
    k0_pay1 (F := Ideal) (iblk m c 0 t) (iblk m c 1 t) y
      = val_main_v7 (F := Ideal) (m ((c : Thread nD τ).loc main_arg0)) (m ((c : Thread nD τ).loc main_arg1)) (at2 t y) := by
  have ht := point_lt t
  rw [pay1_apply, ref7_apply _ _ (at2 t y) ⟨t.val % 4, by omega⟩ (y 1) rfl]
  refine Finset.sum_congr rfl fun k _ => ?_
  rw [iblk0_apply m c t (ix2 (y 0) k) (ix2 (at2 t y 0) k) rfl rfl,
    iblk1_apply m c t (ix3 0 (y 1) k) (ix3 ⟨t.val % 4, by omega⟩ (y 1) k) rfl rfl rfl]

/-! ## What the points write -/

theorem hz2 : (![0, 0] : Fin 2 → Nat) = fun _ => 0 := funext fun a => by fin_cases a <;> rfl
theorem hz3 : (![0, 0, 0] : Fin 3 → Nat) = fun _ => 0 := funext fun a => by fin_cases a <;> rfl

theorem out4_eq (x0 : Vec Ideal S512x2048 .bf16) (x1 : Vec Ideal S1x512x2048 .bf16) (x2 x3 : Vec Ideal S512x512 .f32) :
    out0_4 x0 x1 x2 x3 = k0_pay2 x0 x1 x3 := by
  unfold out0_4
  rw [View.canon_unit_zero hz2, View.ld_unit_zero hz2, View.ld_unit_zero hz3, View.ld_unit_zero hz2]

theorem out5_eq (x0 : Vec Ideal S512x2048 .bf16) (x1 : Vec Ideal S1x512x2048 .bf16) (x2 x3 : Vec Ideal S512x512 .f32) :
    out0_5 x0 x1 x2 x3 = k0_pay3 x0 x1 x2 x3 := by
  unfold out0_5
  rw [View.canon_unit_zero hz2, View.ld_unit_zero hz2, View.ld_unit_zero hz3, View.ld_unit_zero hz2, View.ld_unit_zero hz2]

theorem emb4 (t : Fin cfg0.N) (j : S512x512.Idx) : ((cfg0.win 4).blk t).view.emb j = at2 t j := by
  obtain ⟨⟨e0, e1⟩, -⟩ := idx_out t
  funext a; apply Fin.ext
  match a with
  | ⟨0, _⟩ => show win0_4.index t (0 : Fin 2) * 512 + 1 * (j 0).val = t.val / 4 * 512 + (j 0).val; omega
  | ⟨1, _⟩ => show win0_4.index t (1 : Fin 2) * 512 + 1 * (j 1).val = t.val % 4 * 512 + (j 1).val; omega

theorem emb5 (t : Fin cfg0.N) (j : S512x512.Idx) : ((cfg0.win 5).blk t).view.emb j = at2 t j := by
  obtain ⟨-, ⟨e0, e1⟩⟩ := idx_out t
  funext a; apply Fin.ext
  match a with
  | ⟨0, _⟩ => show win0_5.index t (0 : Fin 2) * 512 + 1 * (j 0).val = t.val / 4 * 512 + (j 0).val; omega
  | ⟨1, _⟩ => show win0_5.index t (1 : Fin 2) * 512 + 1 * (j 1).val = t.val % 4 * 512 + (j 1).val; omega

/-- The gradients the reference takes, of the launch contents. -/
abbrev dOut (c : Dev nD) : Buf (Elt Ideal) ((c : Thread nD τ).loc main_v0_0) :=
  val_main_v9 (F := Ideal) (m ((c : Thread nD τ).loc main_arg0)) (m ((c : Thread nD τ).loc main_arg1))
    (m ((c : Thread nD τ).loc main_arg3))
abbrev dGate (c : Dev nD) : Buf (Elt Ideal) ((c : Thread nD τ).loc main_v0_1) :=
  val_main_v11 (F := Ideal) (m ((c : Thread nD τ).loc main_arg0)) (m ((c : Thread nD τ).loc main_arg1))
    (m ((c : Thread nD τ).loc main_arg2)) (m ((c : Thread nD τ).loc main_arg3))

/-- All four arguments hold real numbers. -/
structure Real4 (c : Dev nD) : Prop where
  r0 : AllReal (m ((c : Thread nD τ).loc main_arg0))
  r1 : AllReal (m ((c : Thread nD τ).loc main_arg1))
  r2 : AllReal (m ((c : Thread nD τ).loc main_arg2))
  r3 : AllReal (m ((c : Thread nD τ).loc main_arg3))

instance : Subsingleton Cert.Pre_finite2.S_.Idx := ⟨fun a b => funext fun i => i.elim0⟩

/-- The claim's precondition says so. -/
theorem real4_of_pre (c : Dev nD) (j : Cert.Pre_finite2.S_.Idx)
    (h : Cert.Pre_finite2.fn (F := Ideal) (m ((c : Thread nD τ).loc main_arg0)) (m ((c : Thread nD τ).loc main_arg1))
      (m ((c : Thread nD τ).loc main_arg2)) (m ((c : Thread nD τ).loc main_arg3)) j = 1#1) : Real4 m c := by
  unfold Cert.Pre_finite2.fn Cert.Pre_finite2.fn_part1 at h
  obtain ⟨h, h3⟩ := andi_one h
  obtain ⟨h, h2⟩ := andi_one h
  obtain ⟨h0, h1⟩ := andi_one h
  exact ⟨allReal_of_reduce _ _ (fun _ => ofBits_inf) _ _ _ _ h0, allReal_of_reduce _ _ (fun _ => ofBits_inf) _ _ _ _ h1,
    allReal_of_reduce _ _ (fun _ => ofBits_inf) _ _ _ _ h2, allReal_of_reduce _ _ (fun _ => ofBits_inf) _ _ _ _ h3⟩

theorem flushed4_eq (c : Dev nD) (t : Fin cfg0.N) :
    (dats m 0 c).flushed 4 t = ((cfg0.win 4).blk t).view.read (Elt Ideal) (dOut m c) := by
  rw [flushed4, out4_eq]
  funext j
  show k0_pay2 (F := Ideal) (iblk m c 0 t) (iblk m c 1 t) (iblk m c 3 t) j = dOut m c (((cfg0.win 4).blk t).view.emb j)
  rw [emb4, pay2_apply, pay1_blk, iblk3_apply, dOut, ref9_apply]

theorem flushed5_eq (c : Dev nD) (hr : Real4 m c) (t : Fin cfg0.N) :
    (dats m 0 c).flushed 5 t = ((cfg0.win 5).blk t).view.read (Elt Ideal) (dGate m c) := by
  rw [flushed5, out5_eq]
  funext j
  show k0_pay3 (F := Ideal) (iblk m c 0 t) (iblk m c 1 t) (iblk m c 2 t) (iblk m c 3 t) j
    = dGate m c (((cfg0.win 5).blk t).view.emb j)
  rw [emb5, pay3_apply, pay1_blk, iblk2_apply, iblk3_apply, dGate, ref11_apply]
  obtain ⟨⟨r0, h0⟩, ⟨r1, h1⟩, ⟨r2, h2⟩, ⟨r3, h3⟩⟩ := hr
  obtain ⟨d, hd⟩ : ∃ d : ℝ, val_main_v7 (F := Ideal) (m ((c : Thread nD τ).loc main_arg0))
      (m ((c : Thread nD τ).loc main_arg1)) (at2 t j) = (d : EReal) := by
    have ht := point_lt t
    rw [ref7_apply _ _ (at2 t j) ⟨t.val % 4, by omega⟩ (j 1) rfl, h0, h1]
    exact ⟨_, sum_mul_coe _ _ _⟩
  rw [hd, h2, h3]
  exact gate_eq _ _ _

/-- Every index is in the tile of the point at its row tile and column tile. -/
theorem at2_surj (i : S2048x2048.Idx) : ∃ (t : Fin cfg0.N) (j : S512x512.Idx), at2 t j = i := by
  have h0 : (i 0).val < 2048 := (i 0).isLt
  have h1 : (i 1).val < 2048 := (i 1).isLt
  refine ⟨⟨(i 0).val / 512 * 4 + (i 1).val / 512, show _ < 16 by omega⟩,
    ix2 ⟨(i 0).val % 512, by omega⟩ ⟨(i 1).val % 512, by omega⟩, ?_⟩
  funext a; apply Fin.ext
  match a with
  | ⟨0, _⟩ => show ((i 0).val / 512 * 4 + (i 1).val / 512) / 4 * 512 + (i 0).val % 512 = (i 0).val; omega
  | ⟨1, _⟩ => show ((i 0).val / 512 * 4 + (i 1).val / 512) % 4 * 512 + (i 1).val % 512 = (i 1).val; omega

theorem covered4 (i : S2048x2048.Idx) :
    ∃ t : Fin cfg0.N, (cfg0.win 4).flush t = true ∧ i ∈ ((cfg0.win 4).blk t).view.set := by
  obtain ⟨t, j, h⟩ := at2_surj i
  exact ⟨t, flush0_4 t, by have e := ((cfg0.win 4).blk t).view.emb_mem_set j; rwa [emb4, h] at e⟩

theorem covered5 (i : S2048x2048.Idx) :
    ∃ t : Fin cfg0.N, (cfg0.win 5).flush t = true ∧ i ∈ ((cfg0.win 5).blk t).view.set := by
  obtain ⟨t, j, h⟩ := at2_surj i
  exact ⟨t, flush0_5 t, by have e := ((cfg0.win 5).blk t).view.emb_mem_set j; rwa [emb5, h] at e⟩

/-- The kernel's run: its two results are the reference's gradients. -/
theorem run (hr : ∀ c, Real4 m c) :
    θ_run defs (onTc (τ := τ) (main (F := Ideal))) ⟨m, fun _ => 0, ρ⟩ fun r => ∀ c : Dev nD,
      r.2.mem ((c : Thread nD τ).loc main_v0_0) = dOut m c
      ∧ r.2.mem ((c : Thread nD τ).loc main_v0_1) = dGate m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans ((dats m 0 c).arrAt_eq_of_cover 4 (dOut m c) (fun t _ => flushed4_eq m c t) covered4),
      (h c).2.1.trans ((dats m 0 c).arrAt_eq_of_cover 5 (dGate m c) (fun t _ => flushed5_eq m c (hr c) t) covered5),
      (h c).2.2⟩) (run_blocks m ρ)

end Cert.Proof.Gate

end
-- ==== Proof.S5Act.lean ====
/- Hand-written, untrusted: THE BACKWARD OF THE S5 BRANCH'S TWO GATES. The call multiplies the cotangent of the output product
   by the transposed weights (one 512 by 512 tile of the product at a grid point, the weights in row shards) and sends the
   product through `(gelu y * sigmoid lin) * silu z`: the cotangents of the three, and the column sums of the second over
   each block of 512 rows. The reference is the gradient jax takes of that gate and product. Here: what a grid point stores
   is that gradient's tile (`flushed5_eq` to `flushed8_eq`), so the arrays are the gradient. The two spellings of silu's
   derivative agree at real numbers (`Gate.gate_eq`), not at infinite ones; the logistic function is a real number
   everywhere, so `lin` is free. -/
module

public import proofs.«01_k».proof.Proof.Gen.Kernel11Ideal.Value
public import proofs.«01_k».proof.Proof.Gen.Reference11Ideal.Read
public import proofs.«01_k».proof.Proof.Gen.Pre_finite11
public import proofs.«01_k».proof.Proof.Finite
public import proofs.«01_k».proof.Proof.Gate
public import Idealize.ShloMosaic.PureOps.Ideal.Laws

@[expose] public section

set_option maxRecDepth 16384

noncomputable section

namespace Cert.Proof.S5Act

open Cert.Kernel11Ideal Cert.Kernel11Ideal.Gen Cert.Kernel11Ideal.Value Cert.Proof.Finite
open Idealize.ShloMosaic Idealize.ShloMosaic.TcCoe Idealize.SL.Sem Idealize.ShloMosaic.ValueIdx
open Cert.Proof.Gate (logis gate_eq)
open Cert.Reference11Ideal.Read (val_main_v37 val_main_v38 val_main_v36 val_main_v35 val_main_v41 val_main_v30 val_main_v13)

/-! ## The functions of a number -/

/-- The approximate gelu, as the reference spells it. -/
def gelu (y : EReal) : EReal := y * (Ideal.ofBits .f32 0x3F000000#32 * (((1 : ℝ) : EReal)
  + Ideal.tanh (Ideal.ofBits .f32 0x3F4C422A#32 * (y + Ideal.ofBits .f32 0x3D372713#32 * (y * y * y)))))

/-- The four cotangents' factors, of the product's element `d`. -/
def dy2 (d z : EReal) : EReal := d * (z * logis z)
def dlin (d y l z : EReal) : EReal := dy2 d z * gelu y * (logis l * (((1 : ℝ) : EReal) - logis l))
def dgd (d l z : EReal) : EReal := dy2 d z * logis l
def dz (d y l z : EReal) : EReal :=
  d * (gelu y * logis l) * (logis z * (((1 : ℝ) : EReal) + z * (((1 : ℝ) : EReal) - logis z)))

/-- The logistic function is a real number everywhere. -/
theorem logis_real (z : EReal) : ∃ r : ℝ, logis z = (r : EReal) := by
  induction z with
  | bot =>
    refine ⟨0, ?_⟩
    show Ideal.div ((1 : ℝ) : EReal) (((1 : ℝ) : EReal) + Ideal.exp (-⊥)) = _
    rw [EReal.neg_bot]
    show Ideal.div ((1 : ℝ) : EReal) (((1 : ℝ) : EReal) + ⊤) = _
    rw [EReal.coe_add_top]
    show (if (⊤ : EReal) = 0 then _ else ((1 : ℝ) : EReal) * (⊤ : EReal)⁻¹) = _
    rw [if_neg EReal.top_ne_zero, EReal.inv_top, mul_zero]
    rfl
  | top =>
    refine ⟨1, ?_⟩
    show Ideal.div ((1 : ℝ) : EReal) (((1 : ℝ) : EReal) + Ideal.exp (-⊤)) = _
    rw [EReal.neg_top]
    show Ideal.div ((1 : ℝ) : EReal) (((1 : ℝ) : EReal) + 0) = _
    rw [add_zero, div_coe_coe one_ne_zero, div_one]
  | coe r => exact ⟨_, by unfold logis; rw [← EReal.coe_neg, logistic_coe]⟩

theorem ofBits_half_real : ∃ r : ℝ, Ideal.ofBits .f32 0x3F000000#32 = (r : EReal) := by
  simp [Ideal.ofBits, Ideal.ieee, -EReal.coe_mul]
theorem ofBits_c_real : ∃ r : ℝ, Ideal.ofBits .f32 0x3F4C422A#32 = (r : EReal) := by
  simp [Ideal.ofBits, Ideal.ieee, -EReal.coe_mul]
theorem ofBits_a_real : ∃ r : ℝ, Ideal.ofBits .f32 0x3D372713#32 = (r : EReal) := by
  simp [Ideal.ofBits, Ideal.ieee, -EReal.coe_mul]

/-- At a real number gelu is one. -/
theorem gelu_real (y : ℝ) : ∃ r : ℝ, gelu y = (r : EReal) := by
  obtain ⟨h, hh⟩ := ofBits_half_real
  obtain ⟨c, hc⟩ := ofBits_c_real
  obtain ⟨a, ha⟩ := ofBits_a_real
  refine ⟨y * (h * (1 + Real.tanh (c * (y + a * (y * y * y))))), ?_⟩
  unfold gelu
  rw [hh, hc, ha]
  simp only [EReal.coe_mul, EReal.coe_add]
  simp only [← EReal.coe_mul, ← EReal.coe_add]
  show (y : EReal) * ((h : EReal) * (((1 : ℝ) : EReal) + ((Real.tanh (c * (y + a * (y * y * y))) : ℝ) : EReal))) = _
  simp only [← EReal.coe_mul, ← EReal.coe_add]

/-! ## What the body computes at an index -/

/-- The tile of the product: row `y 0` of the cotangent by row `y 1` of the weights' shard. -/
theorem pay7_apply (x0 : Vec Ideal S512x2048 .bf16) (x1 : Vec Ideal S1x512x2048 .bf16) (y : S512x512.Idx) :
    k0_pay7 (F := Ideal) x0 x1 y = ∑ k : Fin 2048, x0 (ix2 (y 0) k) * x1 (ix3 0 (y 1) k) := by
  unfold k0_pay7
  simp only [matmul]
  rw [Ideal.matmul_constant_zero_apply]
  rw [dot_sum _ 2048 rfl rfl x0 (shapeCast S512x2048 x1 shapeCasts_S1x512x2048_S512x2048) y
    (fun k => ix2 (y 0) k) (fun k => ix2 (y 1) k)]
  · refine Finset.sum_congr rfl fun k _ => congrArg (x0 (ix2 (y 0) k) * ·) ?_
    rw [shapeCast_dropUnit_apply]
    exact congrArg x1 (funext fun a => by match a with | ⟨0, _⟩ => rfl | ⟨1, _⟩ => rfl | ⟨2, _⟩ => rfl)
  · intro k
    have hk := contrEquiv1_symm_val dot_S512x2048_S512x2048_S512x512_1_1_0_0_n_n 2048 rfl rfl k
    exact funext fun a => Fin.ext (by
      match a with
      | ⟨0, _⟩ => rfl
      | ⟨1, _⟩ => exact (dot_S512x2048_S512x2048_S512x512_1_1_0_0_n_n.lhsIdx_val_of_single rfl _ _).trans hk)
  · intro k
    have hk := contrEquiv1_symm_val dot_S512x2048_S512x2048_S512x512_1_1_0_0_n_n 2048 rfl rfl k
    exact funext fun a => Fin.ext (by
      match a with
      | ⟨0, _⟩ => rfl
      | ⟨1, _⟩ => exact (dot_S512x2048_S512x2048_S512x512_1_1_0_0_n_n.rhsIdx_val_of_single rfl _ _).trans hk)

theorem pay8_apply (v : Vec Ideal S512x512 .f32) (y : S512x512.Idx) : k0_pay8 (F := Ideal) v y = gelu (v y) := by
  show (Ideal.ofBits .f32 0x3F000000#32 * v y) * (Ideal.ofBits .f32 0x3F800000#32
    + Ideal.tanh (Ideal.ofBits .f32 0x3F4C422A#32 * (v y + Ideal.ofBits .f32 0x3D372713#32 * (v y * v y * v y)))) = _
  rw [ofBits_one, mul_comm (Ideal.ofBits .f32 0x3F000000#32) (v y), mul_assoc]
  rfl

theorem pay9_apply (v : Vec Ideal S512x512 .f32) (y : S512x512.Idx) : k0_pay9 (F := Ideal) v y = logis (v y) := by
  show Ideal.div (Ideal.ofBits .f32 0x3F800000#32)
    (Ideal.ofBits .f32 0x3F800000#32 + Ideal.exp (Ideal.ofBits .f32 0x00000000#32 - v y)) = _
  rw [Ideal.ofBits_zero_f32, ofBits_one, zero_sub]
  rfl

theorem pay10_apply (v : Vec Ideal S512x512 .f32) (y : S512x512.Idx) : k0_pay10 (F := Ideal) v y = logis (v y) := by
  show Ideal.div (Ideal.ofBits .f32 0x3F800000#32)
    (Ideal.ofBits .f32 0x3F800000#32 + Ideal.exp (Ideal.ofBits .f32 0x00000000#32 - v y)) = _
  rw [Ideal.ofBits_zero_f32, ofBits_one, zero_sub]
  rfl

theorem pay4_apply (d z gt sg : Vec Ideal S512x512 .f32) (y : S512x512.Idx) : k0_pay4 (F := Ideal) d z gt sg y
      = d y * (gt y * sg y) * (logis (z y) * (((1 : ℝ) : EReal) + z y * (((1 : ℝ) : EReal) - logis (z y)))) := by
  show (d y * (gt y * sg y)) * (Ideal.div (Ideal.ofBits .f32 0x3F800000#32)
    (Ideal.ofBits .f32 0x3F800000#32 + Ideal.exp (Ideal.ofBits .f32 0x00000000#32 - z y))
      * (Ideal.ofBits .f32 0x3F800000#32 + z y * (Ideal.ofBits .f32 0x3F800000#32 - Ideal.div (Ideal.ofBits .f32 0x3F800000#32)
    (Ideal.ofBits .f32 0x3F800000#32 + Ideal.exp (Ideal.ofBits .f32 0x00000000#32 - z y))))) = _
  rw [Ideal.ofBits_zero_f32, ofBits_one, zero_sub]
  rfl

theorem pay3_apply (d z sg sz : Vec Ideal S512x512 .f32) (y : S512x512.Idx) :
    k0_pay3 (F := Ideal) d z sg sz y = d y * (z y * sz y) * sg y := rfl

theorem pay2_apply (d z gt sg sz : Vec Ideal S512x512 .f32) (y : S512x512.Idx) :
    k0_pay2 (F := Ideal) d z gt sg sz y = d y * (z y * sz y) * gt y * (sg y * (((1 : ℝ) : EReal) - sg y)) := by
  show d y * (z y * sz y) * gt y * (sg y * (Ideal.ofBits .f32 0x3F800000#32 - sg y)) = _
  rw [ofBits_one]

theorem pay5_eq (d z gt sg sz : Vec Ideal S512x512 .f32) : k0_pay5 (F := Ideal) d z gt sg sz = k0_pay2 d z gt sg sz := rfl

/-- The column sums of the second cotangent's tile. -/
theorem pay6_apply (d z gt sg sz : Vec Ideal S512x512 .f32) (y : S1x1x512.Idx) :
    k0_pay6 (F := Ideal) d z gt sg sz y = ∑ k : Fin 512, k0_pay2 (F := Ideal) d z gt sg sz (ix2 k (y 2)) := by
  have hy0 : (y 0).val < 1 := (y 0).isLt
  have hy1 : (y 1).val < 1 := (y 1).isLt
  unfold k0_pay6
  dsimp only
  rw [shapeCast_apply _ _ y (ix2 (0 : Fin 1) (y 2) : S1x512.Idx) (by
      rw [Shape.rowMajor_val_two, Shape.rowMajor_val_three]
      show 0 * 512 + (y 2).val = ((y 0).val * 1 + (y 1).val) * 512 + (y 2).val; omega),
    shapeCast_apply _ _ (ix2 (0 : Fin 1) (y 2) : S1x512.Idx) (ix1 (y 2) : S512.Idx) (by
      rw [Shape.rowMajor_val_one, Shape.rowMajor_val_two]
      show (y 2).val = 0 * 512 + (y 2).val; omega)]
  refine (Ideal.multiReduction_add_single _ _ _ _ _ _).trans ?_
  refine Finset.sum_congr rfl fun k _ => congrArg _ (funext fun a => Fin.ext ?_)
  match a with
  | ⟨0, _⟩ => rfl
  | ⟨1, _⟩ => rfl

/-! ## What the reference computes at an index -/

open Cert.Reference11Ideal.Read in
theorem ref12_apply (a2 : Vec Ideal S2048x2048 .f32) (i : S2048x2048.Idx) : val_main_v12 (F := Ideal) a2 i = gelu (a2 i) := by
  rw [val_main_v12_apply, val_main_v11_apply, val_main_v10_apply, val_main_cst_2_apply, val_main_v9_apply, val_main_v8_apply,
    val_main_cst_1_apply, val_main_v7_apply, val_main_v6_apply, val_main_v5_apply, val_main_cst_0_apply, val_main_v4_apply,
    val_main_v3_apply, val_main_v2_apply, val_main_cst_apply, val_main_v1_apply, val_main_v0_apply]
  show _ * (Ideal.ofBits .f32 0x3F000000#32 * (Ideal.ofBits .f32 0x3F800000#32 + _)) = _
  rw [ofBits_one]
  rfl

open Cert.Reference11Ideal.Read in
theorem ref19_apply (a3 : Vec Ideal S2048x2048 .f32) (i : S2048x2048.Idx) : val_main_v19 (F := Ideal) a3 i = logis (a3 i) := by
  rw [val_main_v19_apply, val_main_v18_apply, val_main_cst_4_apply, val_main_v17_apply, val_main_v16_apply,
    val_main_cst_3_apply, val_main_v15_apply, val_main_v14_apply]
  show Ideal.div (Ideal.ofBits .f32 0x3F800000#32) (Ideal.ofBits .f32 0x3F800000#32 + Ideal.exp (-_)) = _
  rw [ofBits_one]
  rfl

open Cert.Reference11Ideal.Read in
theorem ref24_apply (a4 : Vec Ideal S2048x4096 .f32) (i : S2048x2048.Idx) :
    val_main_v24_2 (F := Ideal) a4 i = logis (val_main_v13 (F := Ideal) a4 i) := by
  rw [val_main_v24_2_apply, val_main_call0_v4_apply, val_main_call0_cst_0_apply, val_main_call0_v3_apply,
    val_main_call0_v2_apply, val_main_call0_cst_apply, val_main_call0_v1_apply, val_main_call0_v0_apply]
  show Ideal.div (Ideal.ofBits .f32 0x3F800000#32) (Ideal.ofBits .f32 0x3F800000#32 + Ideal.exp (-_)) = _
  rw [ofBits_one]
  rfl

open Cert.Reference11Ideal.Read in
theorem ref32_apply (a0 : Vec Ideal S2048x2048 .bf16) (a1 : Vec Ideal S4x512x2048 .bf16) (a4 : Vec Ideal S2048x4096 .f32)
    (i : S2048x2048.Idx) : val_main_v32 (F := Ideal) a0 a1 a4 i
      = dy2 (val_main_v30 (F := Ideal) a0 a1 i) (val_main_v13 (F := Ideal) a4 i) := by
  rw [val_main_v32_apply, val_main_v24_0_apply, ref24_apply]
  rfl

open Cert.Reference11Ideal.Read in
theorem ref35_apply (a0 : Vec Ideal S2048x2048 .bf16) (a1 : Vec Ideal S4x512x2048 .bf16) (a3 : Vec Ideal S2048x2048 .f32)
    (a4 : Vec Ideal S2048x4096 .f32) (i : S2048x2048.Idx) : val_main_v35 (F := Ideal) a0 a1 a3 a4 i
      = dgd (val_main_v30 (F := Ideal) a0 a1 i) (a3 i) (val_main_v13 (F := Ideal) a4 i) := by
  rw [val_main_v35_apply, ref32_apply, ref19_apply]
  rfl

open Cert.Reference11Ideal.Read in
theorem ref36_apply (a0 : Vec Ideal S2048x2048 .bf16) (a1 : Vec Ideal S4x512x2048 .bf16) (a2 a3 : Vec Ideal S2048x2048 .f32)
    (a4 : Vec Ideal S2048x4096 .f32) (i : S2048x2048.Idx) : val_main_v36 (F := Ideal) a0 a1 a2 a3 a4 i
      = dlin (val_main_v30 (F := Ideal) a0 a1 i) (a2 i) (a3 i) (val_main_v13 (F := Ideal) a4 i) := by
  rw [val_main_v36_apply, val_main_v34_apply, val_main_v22_apply, val_main_v21_apply, val_main_v20_apply,
    val_main_cst_5_apply, ref32_apply, ref19_apply, ref12_apply]
  show gelu _ * dy2 _ _ * (logis _ * (Ideal.ofBits .f32 0x3F800000#32 - logis _)) = dy2 _ _ * gelu _ * _
  rw [ofBits_one, mul_comm (gelu _)]

open Cert.Reference11Ideal.Read in
theorem ref33_apply (a0 : Vec Ideal S2048x2048 .bf16) (a1 : Vec Ideal S4x512x2048 .bf16) (a2 a3 : Vec Ideal S2048x2048 .f32)
    (a4 : Vec Ideal S2048x4096 .f32) (i : S2048x2048.Idx) : val_main_v37 (F := Ideal) a0 a1 a2 a3 a4 i
      = gelu (a2 i) * logis (a3 i) * val_main_v30 (F := Ideal) a0 a1 i * logis (val_main_v13 (F := Ideal) a4 i)
        + val_main_v13 (F := Ideal) a4 i * (gelu (a2 i) * logis (a3 i) * val_main_v30 (F := Ideal) a0 a1 i)
          * (logis (val_main_v13 (F := Ideal) a4 i) * (((1 : ℝ) : EReal) - logis (val_main_v13 (F := Ideal) a4 i))) := by
  rw [val_main_v37_apply, val_main_v33_apply, val_main_call1_v1_apply, val_main_call1_v2_apply, val_main_call1_v0_apply,
    val_main_v24_1_apply, val_main_call0_v7_apply, val_main_call0_v6_apply, val_main_call0_cst_1_apply, ref24_apply,
    val_main_v31_apply, val_main_v23_apply, ref12_apply, ref19_apply]
  show gelu _ * logis _ * _ * logis _ + _ * (gelu _ * logis _ * _) * (logis _ * (Ideal.ofBits .f32 0x3F800000#32 - logis _)) = _
  rw [ofBits_one]

/-- Row `p` of the third axis's sums, of the block of 512 rows. -/
theorem ref41_apply (a0 : Vec Ideal S2048x2048 .bf16) (a1 : Vec Ideal S4x512x2048 .bf16) (a2 a3 : Vec Ideal S2048x2048 .f32)
    (a4 : Vec Ideal S2048x4096 .f32) (i : S4x1x2048.Idx) : val_main_v41 (F := Ideal) a0 a1 a2 a3 a4 i
      = ∑ k : Fin 512, val_main_v36 (F := Ideal) a0 a1 a2 a3 a4
          (ix2 ⟨(i 0).val * 512 + k.val, by have h : (i 0).val < 4 := (i 0).isLt; omega⟩ (i 2)) := by
  rw [Cert.Reference11Ideal.Read.val_main_v41_apply, Cert.Reference11Ideal.Read.val_main_v40_apply,
    Cert.Reference11Ideal.Read.val_main_cst_6_apply]
  show Ideal.ofBits .f32 0x00000000#32 + _ = _
  rw [Ideal.ofBits_zero_f32, zero_add]
  have h0 : (i 0).val < 4 := (i 0).isLt
  have h1 : (i 1).val < 1 := (i 1).isLt
  have h2 : (i 2).val < 2048 := (i 2).isLt
  refine Finset.sum_congr rfl fun k _ => ?_
  have hk := k.isLt
  rw [Cert.Reference11Ideal.Read.val_main_v39_apply]
  refine congrArg _ (funext fun a => Fin.ext ?_)
  match a with
  | ⟨0, _⟩ =>
    show (((((i 0).val * 1 + (i 1).val) * 2048 + (i 2).val) / 2048 * 512 + k.val) * 2048
      + (((i 0).val * 1 + (i 1).val) * 2048 + (i 2).val) % 2048) / 2048 = (i 0).val * 512 + k.val
    omega
  | ⟨1, _⟩ =>
    show (((((i 0).val * 1 + (i 1).val) * 2048 + (i 2).val) / 2048 * 512 + k.val) * 2048
      + (((i 0).val * 1 + (i 1).val) * 2048 + (i 2).val) % 2048) % 2048 = (i 2).val
    omega

/-- The product's element at row `i 0`, column `i 1`: the weights' row `i 1` is row `i 1 % 512` of shard `i 1 / 512`. -/
theorem ref30_apply (a0 : Vec Ideal S2048x2048 .bf16) (a1 : Vec Ideal S4x512x2048 .bf16) (i : S2048x2048.Idx)
    (p : Fin 4) (r : Fin 512) (hi : (i 1).val = p.val * 512 + r.val) :
    val_main_v30 (F := Ideal) a0 a1 i = ∑ k : Fin 2048, a0 (ix2 (i 0) k) * a1 (ix3 p r k) := by
  rw [Cert.Reference11Ideal.Read.val_main_v30_apply]
  refine Finset.sum_congr rfl fun k _ => ?_
  rw [Cert.Reference11Ideal.Read.val_main_v29_apply, Cert.Reference11Ideal.Read.val_main_v27_apply,
    Cert.Reference11Ideal.Read.val_main_v26_apply]
  show a0 _ * a1 _ = a0 _ * a1 _
  have hk := k.isLt
  have hr := r.isLt
  refine congrArg₂ (fun x y => a0 x * a1 y) (funext fun a => ?_) (funext fun a => Fin.ext ?_)
  · match a with | ⟨0, _⟩ => rfl | ⟨1, _⟩ => rfl
  · match a with
    | ⟨0, _⟩ => show ((i 1).val * 2048 + k.val) / 1048576 = p.val; omega
    | ⟨1, _⟩ => show ((i 1).val * 2048 + k.val) / 2048 % 512 = r.val; omega
    | ⟨2, _⟩ => show ((i 1).val * 2048 + k.val) % 2048 = k.val; omega

/-! ## The windows -/

variable (m : (ℓ : Loc nD τ sig) → Buf (Elt Ideal) ℓ) (ρ : Dev nD → PrngReg)

/-- Grid point `t` is row tile `t / 4` and column tile `t % 4`. -/
theorem idx_in : ∀ t : Fin cfg0.N,
    (win0_0.index t (0 : Fin 2) = t.val / 4 ∧ win0_0.index t (1 : Fin 2) = 0)
    ∧ (win0_1.index t (0 : Fin 3) = t.val % 4 ∧ win0_1.index t (1 : Fin 3) = 0 ∧ win0_1.index t (2 : Fin 3) = 0)
    ∧ (win0_2.index t (0 : Fin 2) = t.val / 4 ∧ win0_2.index t (1 : Fin 2) = t.val % 4)
    ∧ (win0_3.index t (0 : Fin 2) = t.val / 4 ∧ win0_3.index t (1 : Fin 2) = t.val % 4)
    ∧ (win0_4.index t (0 : Fin 2) = t.val / 4 ∧ win0_4.index t (1 : Fin 2) = t.val % 4 + 4) :=
  (by decide +kernel : ∀ t : Fin grid0.N, _)
theorem idx_out : ∀ t : Fin cfg0.N,
    (win0_5.index t (0 : Fin 2) = t.val / 4 ∧ win0_5.index t (1 : Fin 2) = t.val % 4)
    ∧ (win0_6.index t (0 : Fin 2) = t.val / 4 ∧ win0_6.index t (1 : Fin 2) = t.val % 4)
    ∧ (win0_7.index t (0 : Fin 2) = t.val / 4 ∧ win0_7.index t (1 : Fin 2) = t.val % 4)
    ∧ (win0_8.index t (0 : Fin 3) = t.val / 4 ∧ win0_8.index t (1 : Fin 3) = 0 ∧ win0_8.index t (2 : Fin 3) = t.val % 4) :=
  (by decide +kernel : ∀ t : Fin grid0.N, _)

theorem point_lt (t : Fin cfg0.N) : t.val < 16 := t.isLt

/-- The array index of place `(a, b)` of tile `t`. -/
def at2 (t : Fin cfg0.N) (j : S512x512.Idx) : S2048x2048.Idx := ix2
  ⟨t.val / 4 * 512 + (j 0).val, by have := point_lt t; have h : (j 0).val < 512 := (j 0).isLt; omega⟩
  ⟨t.val % 4 * 512 + (j 1).val, by have h : (j 1).val < 512 := (j 1).isLt; omega⟩

theorem iblk0_apply (c : Dev nD) (t : Fin cfg0.N) (j : S512x2048.Idx) (i : S2048x2048.Idx)
    (h0 : (i 0).val = t.val / 4 * 512 + (j 0).val) (h1 : (i 1).val = (j 1).val) :
    iblk m c 0 t j = m ((c : Thread nD τ).loc main_arg0) i := by
  obtain ⟨⟨e0, e1⟩, -⟩ := idx_in t
  show V m c main_arg0 (((cfg0.win 0).blk t).view.emb j) = _
  rw [V_main_arg0]
  refine congrArg _ (funext fun a => Fin.ext ?_)
  match a with
  | ⟨0, _⟩ => show win0_0.index t (0 : Fin 2) * 512 + 1 * (j 0).val = (i 0).val; omega
  | ⟨1, _⟩ => show win0_0.index t (1 : Fin 2) * 2048 + 1 * (j 1).val = (i 1).val; omega

theorem iblk1_apply (c : Dev nD) (t : Fin cfg0.N) (j : S1x512x2048.Idx) (i : S4x512x2048.Idx)
    (h0 : (i 0).val = t.val % 4) (h1 : (i 1).val = (j 1).val) (h2 : (i 2).val = (j 2).val) :
    iblk m c 1 t j = m ((c : Thread nD τ).loc main_arg1) i := by
  obtain ⟨-, ⟨e0, e1, e2⟩, -⟩ := idx_in t
  show V m c main_arg1 (((cfg0.win 1).blk t).view.emb j) = _
  rw [V_main_arg1]
  have hj : (j 0).val < 1 := (j 0).isLt
  refine congrArg _ (funext fun a => Fin.ext ?_)
  match a with
  | ⟨0, _⟩ => show win0_1.index t (0 : Fin 3) * 1 + 1 * (j 0).val = (i 0).val; omega
  | ⟨1, _⟩ => show win0_1.index t (1 : Fin 3) * 512 + 1 * (j 1).val = (i 1).val; omega
  | ⟨2, _⟩ => show win0_1.index t (2 : Fin 3) * 2048 + 1 * (j 2).val = (i 2).val; omega

theorem iblk2_apply (c : Dev nD) (t : Fin cfg0.N) (j : S512x512.Idx) :
    iblk m c 2 t j = m ((c : Thread nD τ).loc main_arg2) (at2 t j) := by
  obtain ⟨-, -, ⟨e0, e1⟩, -⟩ := idx_in t
  show V m c main_arg2 (((cfg0.win 2).blk t).view.emb j) = _
  rw [V_main_arg2]
  refine congrArg _ (funext fun a => Fin.ext ?_)
  match a with
  | ⟨0, _⟩ => show win0_2.index t (0 : Fin 2) * 512 + 1 * (j 0).val = t.val / 4 * 512 + (j 0).val; omega
  | ⟨1, _⟩ => show win0_2.index t (1 : Fin 2) * 512 + 1 * (j 1).val = t.val % 4 * 512 + (j 1).val; omega

theorem iblk3_apply (c : Dev nD) (t : Fin cfg0.N) (j : S512x512.Idx) :
    iblk m c 3 t j = m ((c : Thread nD τ).loc main_arg3) (at2 t j) := by
  obtain ⟨-, -, -, ⟨e0, e1⟩, -⟩ := idx_in t
  show V m c main_arg3 (((cfg0.win 3).blk t).view.emb j) = _
  rw [V_main_arg3]
  refine congrArg _ (funext fun a => Fin.ext ?_)
  match a with
  | ⟨0, _⟩ => show win0_3.index t (0 : Fin 2) * 512 + 1 * (j 0).val = t.val / 4 * 512 + (j 0).val; omega
  | ⟨1, _⟩ => show win0_3.index t (1 : Fin 2) * 512 + 1 * (j 1).val = t.val % 4 * 512 + (j 1).val; omega

theorem iblk4_apply (c : Dev nD) (t : Fin cfg0.N) (j : S512x512.Idx) :
    iblk m c 4 t j = val_main_v13 (F := Ideal) (m ((c : Thread nD τ).loc main_arg4)) (at2 t j) := by
  obtain ⟨-, -, -, -, ⟨e0, e1⟩⟩ := idx_in t
  rw [Cert.Reference11Ideal.Read.val_main_v13_apply]
  show V m c main_arg4 (((cfg0.win 4).blk t).view.emb j) = _
  rw [V_main_arg4]
  refine congrArg _ (funext fun a => Fin.ext ?_)
  match a with
  | ⟨0, _⟩ => show win0_4.index t (0 : Fin 2) * 512 + 1 * (j 0).val = t.val / 4 * 512 + (j 0).val; omega
  | ⟨1, _⟩ => show win0_4.index t (1 : Fin 2) * 512 + 1 * (j 1).val = 2048 + (t.val % 4 * 512 + (j 1).val); omega

/-- Point `t`'s tile of the product is the reference's product there. -/
theorem pay7_blk (c : Dev nD) (t : Fin cfg0.N) (y : S512x512.Idx) :
    k0_pay7 (F := Ideal) (iblk m c 0 t) (iblk m c 1 t) y
      = val_main_v30 (F := Ideal) (m ((c : Thread nD τ).loc main_arg0)) (m ((c : Thread nD τ).loc main_arg1)) (at2 t y) := by
  have ht := point_lt t
  rw [pay7_apply, ref30_apply _ _ (at2 t y) ⟨t.val % 4, by omega⟩ (y 1) rfl]
  refine Finset.sum_congr rfl fun k _ => ?_
  rw [iblk0_apply m c t (ix2 (y 0) k) (ix2 (at2 t y 0) k) rfl rfl,
    iblk1_apply m c t (ix3 0 (y 1) k) (ix3 ⟨t.val % 4, by omega⟩ (y 1) k) rfl rfl rfl]

/-! ## What the points write -/

theorem hz2 : (![0, 0] : Fin 2 → Nat) = fun _ => 0 := funext fun a => by fin_cases a <;> rfl
theorem hz3 : (![0, 0, 0] : Fin 3 → Nat) = fun _ => 0 := funext fun a => by fin_cases a <;> rfl

section
variable (x0 : Vec Ideal S512x2048 .bf16) (x1 : Vec Ideal S1x512x2048 .bf16) (x2 x3 x4 : Vec Ideal S512x512 .f32)

theorem pay11_eq : k0_pay11 x0 x1 x2 x3 x4 = k0_pay7 x0 x1 := by
  unfold k0_pay11; rw [View.ld_unit_zero hz2, View.ld_unit_zero hz3]
theorem pay12_eq : k0_pay12 x0 x1 x2 x3 x4 = k0_pay8 x2 := by unfold k0_pay12; rw [View.ld_unit_zero hz2]
theorem pay13_eq : k0_pay13 x0 x1 x2 x3 x4 = k0_pay9 x3 := by unfold k0_pay13; rw [View.ld_unit_zero hz2]
theorem pay14_eq : k0_pay14 x0 x1 x2 x3 x4 = k0_pay10 x4 := by unfold k0_pay14; rw [View.ld_unit_zero hz2]

theorem out5_eq : out0_5 x0 x1 x2 x3 x4 = k0_pay4 (k0_pay7 x0 x1) x4 (k0_pay8 x2) (k0_pay9 x3) := by
  unfold out0_5
  rw [View.canon_unit_zero hz2, View.ld_unit_zero hz2, pay11_eq, pay12_eq, pay13_eq]

theorem out6_eq : out0_6 x0 x1 x2 x3 x4
    = k0_pay2 (k0_pay7 x0 x1) x4 (k0_pay8 x2) (k0_pay9 x3) (k0_pay10 x4) := by
  unfold out0_6
  rw [View.canon_unit_zero hz2, View.ld_unit_zero hz2, pay11_eq, pay12_eq, pay13_eq, pay14_eq, pay5_eq]

theorem out7_eq : out0_7 x0 x1 x2 x3 x4 = k0_pay3 (k0_pay7 x0 x1) x4 (k0_pay9 x3) (k0_pay10 x4) := by
  unfold out0_7
  rw [View.canon_unit_zero hz2, View.ld_unit_zero hz2, pay11_eq, pay13_eq, pay14_eq]

theorem out8_eq : out0_8 x0 x1 x2 x3 x4
    = k0_pay6 (k0_pay7 x0 x1) x4 (k0_pay8 x2) (k0_pay9 x3) (k0_pay10 x4) := by
  unfold out0_8
  rw [View.canon_unit_zero hz3, View.ld_unit_zero hz2, pay11_eq, pay12_eq, pay13_eq, pay14_eq]
end

theorem emb5 (t : Fin cfg0.N) (j : S512x512.Idx) : ((cfg0.win 5).blk t).view.emb j = at2 t j := by
  obtain ⟨⟨e0, e1⟩, -⟩ := idx_out t
  funext a; apply Fin.ext
  match a with
  | ⟨0, _⟩ => show win0_5.index t (0 : Fin 2) * 512 + 1 * (j 0).val = t.val / 4 * 512 + (j 0).val; omega
  | ⟨1, _⟩ => show win0_5.index t (1 : Fin 2) * 512 + 1 * (j 1).val = t.val % 4 * 512 + (j 1).val; omega

theorem emb6 (t : Fin cfg0.N) (j : S512x512.Idx) : ((cfg0.win 6).blk t).view.emb j = at2 t j := by
  obtain ⟨-, ⟨e0, e1⟩, -⟩ := idx_out t
  funext a; apply Fin.ext
  match a with
  | ⟨0, _⟩ => show win0_6.index t (0 : Fin 2) * 512 + 1 * (j 0).val = t.val / 4 * 512 + (j 0).val; omega
  | ⟨1, _⟩ => show win0_6.index t (1 : Fin 2) * 512 + 1 * (j 1).val = t.val % 4 * 512 + (j 1).val; omega

theorem emb7 (t : Fin cfg0.N) (j : S512x512.Idx) : ((cfg0.win 7).blk t).view.emb j = at2 t j := by
  obtain ⟨-, -, ⟨e0, e1⟩, -⟩ := idx_out t
  funext a; apply Fin.ext
  match a with
  | ⟨0, _⟩ => show win0_7.index t (0 : Fin 2) * 512 + 1 * (j 0).val = t.val / 4 * 512 + (j 0).val; omega
  | ⟨1, _⟩ => show win0_7.index t (1 : Fin 2) * 512 + 1 * (j 1).val = t.val % 4 * 512 + (j 1).val; omega

/-- The array index of place `b` of the row of sums of tile `t`. -/
def at3 (t : Fin cfg0.N) (j : S1x1x512.Idx) : S4x1x2048.Idx := ix3
  ⟨t.val / 4, by have := point_lt t; omega⟩ 0
  ⟨t.val % 4 * 512 + (j 2).val, by have h : (j 2).val < 512 := (j 2).isLt; omega⟩

theorem emb8 (t : Fin cfg0.N) (j : S1x1x512.Idx) : ((cfg0.win 8).blk t).view.emb j = at3 t j := by
  obtain ⟨-, -, -, ⟨e0, e1, e2⟩⟩ := idx_out t
  have h0 : (j 0).val < 1 := (j 0).isLt
  have h1 : (j 1).val < 1 := (j 1).isLt
  funext a; apply Fin.ext
  match a with
  | ⟨0, _⟩ => show win0_8.index t (0 : Fin 3) * 1 + 1 * (j 0).val = t.val / 4; omega
  | ⟨1, _⟩ => show win0_8.index t (1 : Fin 3) * 1 + 1 * (j 1).val = 0; omega
  | ⟨2, _⟩ => show win0_8.index t (2 : Fin 3) * 512 + 1 * (j 2).val = t.val % 4 * 512 + (j 2).val; omega

/-- The gradients the reference takes, of the launch contents. -/
abbrev dZ (c : Dev nD) : Buf (Elt Ideal) ((c : Thread nD τ).loc main_v0_0) :=
  val_main_v37 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
abbrev dLin (c : Dev nD) : Buf (Elt Ideal) ((c : Thread nD τ).loc main_v0_1) :=
  val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
abbrev dGelu (c : Dev nD) : Buf (Elt Ideal) ((c : Thread nD τ).loc main_v0_2) :=
  val_main_v35 (F := Ideal) (m ((c : Thread nD τ).loc main_arg0)) (m ((c : Thread nD τ).loc main_arg1))
    (m ((c : Thread nD τ).loc main_arg3)) (m ((c : Thread nD τ).loc main_arg4))
abbrev dBias (c : Dev nD) : Buf (Elt Ideal) ((c : Thread nD τ).loc main_v0_3) :=
  val_main_v41 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The cotangent, the weights, gelu's argument and the gate's columns of the projection hold real numbers. -/
structure Real4 (c : Dev nD) : Prop where
  r0 : AllReal (m ((c : Thread nD τ).loc main_arg0))
  r1 : AllReal (m ((c : Thread nD τ).loc main_arg1))
  r2 : AllReal (m ((c : Thread nD τ).loc main_arg2))
  r4 : AllReal (val_main_v13 (F := Ideal) (m ((c : Thread nD τ).loc main_arg4)))

instance : Subsingleton Cert.Pre_finite11.S_.Idx := ⟨fun a b => funext fun i => i.elim0⟩

/-- The claim's precondition says so. -/
theorem real4_of_pre (c : Dev nD) (j : Cert.Pre_finite11.S_.Idx)
    (h : Cert.Pre_finite11.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) j
        = 1#1) : Real4 m c := by
  unfold Cert.Pre_finite11.fn Cert.Pre_finite11.fn_part1 at h
  obtain ⟨h, h3⟩ := andi_one h
  obtain ⟨h, h2⟩ := andi_one h
  obtain ⟨h0, h1⟩ := andi_one h
  exact ⟨allReal_of_reduce _ _ (fun _ => ofBits_inf) _ _ _ _ h0, allReal_of_reduce _ _ (fun _ => ofBits_inf) _ _ _ _ h1,
    allReal_of_reduce _ _ (fun _ => ofBits_inf) _ _ _ _ h2, allReal_of_reduce _ _ (fun _ => ofBits_inf) _ _ _ _ h3⟩

/-- The second cotangent's tile is the reference's there. -/
theorem dlin_blk (c : Dev nD) (t : Fin cfg0.N) (j : S512x512.Idx) :
    k0_pay2 (F := Ideal) (k0_pay7 (iblk m c 0 t) (iblk m c 1 t)) (iblk m c 4 t) (k0_pay8 (iblk m c 2 t))
        (k0_pay9 (iblk m c 3 t)) (k0_pay10 (iblk m c 4 t)) j
      = val_main_v36 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (at2 t j) := by
  rw [pay2_apply, pay7_blk, pay8_apply, pay9_apply, pay10_apply, iblk2_apply, iblk3_apply, iblk4_apply, ref36_apply]
  rfl

theorem flushed5_eq (c : Dev nD) (hr : Real4 m c) (t : Fin cfg0.N) :
    (dats m 0 c).flushed 5 t = ((cfg0.win 5).blk t).view.read (Elt Ideal) (dZ m c) := by
  rw [flushed5, out5_eq]
  funext j
  show k0_pay4 (F := Ideal) (k0_pay7 (iblk m c 0 t) (iblk m c 1 t)) (iblk m c 4 t) (k0_pay8 (iblk m c 2 t))
    (k0_pay9 (iblk m c 3 t)) j = dZ m c (((cfg0.win 5).blk t).view.emb j)
  rw [emb5, pay4_apply, pay7_blk, pay8_apply, pay9_apply, iblk2_apply, iblk3_apply, iblk4_apply, dZ, ref33_apply]
  obtain ⟨⟨r0, h0⟩, ⟨r1, h1⟩, ⟨r2, h2⟩, ⟨r4, h4⟩⟩ := hr
  obtain ⟨d, hd⟩ : ∃ d : ℝ, val_main_v30 (F := Ideal) (m ((c : Thread nD τ).loc main_arg0))
      (m ((c : Thread nD τ).loc main_arg1)) (at2 t j) = (d : EReal) := by
    have ht := point_lt t
    rw [ref30_apply _ _ (at2 t j) ⟨t.val % 4, by omega⟩ (j 1) rfl, h0, h1]
    exact ⟨_, sum_mul_coe _ _ _⟩
  obtain ⟨l, hl⟩ := logis_real (m ((c : Thread nD τ).loc main_arg3) (at2 t j))
  obtain ⟨g, hg⟩ := gelu_real (r2 (at2 t j))
  rw [hd, h2, h4, hl]
  dsimp only
  rw [hg, ← EReal.coe_mul g l]
  exact gate_eq _ _ _

theorem flushed6_eq (c : Dev nD) (t : Fin cfg0.N) :
    (dats m 0 c).flushed 6 t = ((cfg0.win 6).blk t).view.read (Elt Ideal) (dLin m c) := by
  rw [flushed6, out6_eq]
  funext j
  show k0_pay2 (F := Ideal) (k0_pay7 (iblk m c 0 t) (iblk m c 1 t)) (iblk m c 4 t) (k0_pay8 (iblk m c 2 t))
    (k0_pay9 (iblk m c 3 t)) (k0_pay10 (iblk m c 4 t)) j = dLin m c (((cfg0.win 6).blk t).view.emb j)
  rw [emb6, dlin_blk]
  rfl

theorem flushed7_eq (c : Dev nD) (t : Fin cfg0.N) :
    (dats m 0 c).flushed 7 t = ((cfg0.win 7).blk t).view.read (Elt Ideal) (dGelu m c) := by
  rw [flushed7, out7_eq]
  funext j
  show k0_pay3 (F := Ideal) (k0_pay7 (iblk m c 0 t) (iblk m c 1 t)) (iblk m c 4 t) (k0_pay9 (iblk m c 3 t))
    (k0_pay10 (iblk m c 4 t)) j = dGelu m c (((cfg0.win 7).blk t).view.emb j)
  rw [emb7, pay3_apply, pay7_blk, pay9_apply, pay10_apply, iblk3_apply, iblk4_apply, dGelu, ref35_apply]
  rfl

theorem flushed8_eq (c : Dev nD) (t : Fin cfg0.N) :
    (dats m 0 c).flushed 8 t = ((cfg0.win 8).blk t).view.read (Elt Ideal) (dBias m c) := by
  rw [flushed8, out8_eq]
  funext j
  show k0_pay6 (F := Ideal) (k0_pay7 (iblk m c 0 t) (iblk m c 1 t)) (iblk m c 4 t) (k0_pay8 (iblk m c 2 t))
    (k0_pay9 (iblk m c 3 t)) (k0_pay10 (iblk m c 4 t)) j = dBias m c (((cfg0.win 8).blk t).view.emb j)
  rw [emb8, pay6_apply, dBias, ref41_apply]
  exact Finset.sum_congr rfl fun k _ => dlin_blk m c t (ix2 k (j 2))

/-- Every index is in the tile of the point at its row tile and column tile. -/
theorem at2_surj (i : S2048x2048.Idx) : ∃ (t : Fin cfg0.N) (j : S512x512.Idx), at2 t j = i := by
  have h0 : (i 0).val < 2048 := (i 0).isLt
  have h1 : (i 1).val < 2048 := (i 1).isLt
  refine ⟨⟨(i 0).val / 512 * 4 + (i 1).val / 512, show _ < 16 by omega⟩,
    ix2 ⟨(i 0).val % 512, by omega⟩ ⟨(i 1).val % 512, by omega⟩, ?_⟩
  funext a; apply Fin.ext
  match a with
  | ⟨0, _⟩ => show ((i 0).val / 512 * 4 + (i 1).val / 512) / 4 * 512 + (i 0).val % 512 = (i 0).val; omega
  | ⟨1, _⟩ => show ((i 0).val / 512 * 4 + (i 1).val / 512) % 4 * 512 + (i 1).val % 512 = (i 1).val; omega

theorem covered5 (i : S2048x2048.Idx) :
    ∃ t : Fin cfg0.N, (cfg0.win 5).flush t = true ∧ i ∈ ((cfg0.win 5).blk t).view.set := by
  obtain ⟨t, j, h⟩ := at2_surj i
  exact ⟨t, flush0_5 t, by have e := ((cfg0.win 5).blk t).view.emb_mem_set j; rwa [emb5, h] at e⟩

theorem covered6 (i : S2048x2048.Idx) :
    ∃ t : Fin cfg0.N, (cfg0.win 6).flush t = true ∧ i ∈ ((cfg0.win 6).blk t).view.set := by
  obtain ⟨t, j, h⟩ := at2_surj i
  exact ⟨t, flush0_6 t, by have e := ((cfg0.win 6).blk t).view.emb_mem_set j; rwa [emb6, h] at e⟩

theorem covered7 (i : S2048x2048.Idx) :
    ∃ t : Fin cfg0.N, (cfg0.win 7).flush t = true ∧ i ∈ ((cfg0.win 7).blk t).view.set := by
  obtain ⟨t, j, h⟩ := at2_surj i
  exact ⟨t, flush0_7 t, by have e := ((cfg0.win 7).blk t).view.emb_mem_set j; rwa [emb7, h] at e⟩

theorem at3_surj (i : S4x1x2048.Idx) : ∃ (t : Fin cfg0.N) (j : S1x1x512.Idx), at3 t j = i := by
  have h0 : (i 0).val < 4 := (i 0).isLt
  have h1 : (i 1).val < 1 := (i 1).isLt
  have h2 : (i 2).val < 2048 := (i 2).isLt
  refine ⟨⟨(i 0).val * 4 + (i 2).val / 512, show _ < 16 by omega⟩, ix3 0 0 ⟨(i 2).val % 512, by omega⟩, ?_⟩
  funext a; apply Fin.ext
  match a with
  | ⟨0, _⟩ => show ((i 0).val * 4 + (i 2).val / 512) / 4 = (i 0).val; omega
  | ⟨1, _⟩ => show 0 = (i 1).val; omega
  | ⟨2, _⟩ => show ((i 0).val * 4 + (i 2).val / 512) % 4 * 512 + (i 2).val % 512 = (i 2).val; omega

theorem covered8 (i : S4x1x2048.Idx) :
    ∃ t : Fin cfg0.N, (cfg0.win 8).flush t = true ∧ i ∈ ((cfg0.win 8).blk t).view.set := by
  obtain ⟨t, j, h⟩ := at3_surj i
  exact ⟨t, flush0_8 t, by have e := ((cfg0.win 8).blk t).view.emb_mem_set j; rwa [emb8, h] at e⟩

/-- The kernel's run: its four results are the reference's gradients. -/
theorem run (hr : ∀ c, Real4 m c) :
    θ_run defs (onTc (τ := τ) (main (F := Ideal))) ⟨m, fun _ => 0, ρ⟩ fun r => ∀ c : Dev nD,
      r.2.mem ((c : Thread nD τ).loc main_v0_0) = dZ m c
      ∧ r.2.mem ((c : Thread nD τ).loc main_v0_1) = dLin m c
      ∧ r.2.mem ((c : Thread nD τ).loc main_v0_2) = dGelu m c
      ∧ r.2.mem ((c : Thread nD τ).loc main_v0_3) = dBias m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c).1.trans ((dats m 0 c).arrAt_eq_of_cover 5 (dZ m c) (fun t _ => flushed5_eq m c (hr c) t) covered5),
      (h c).2.1.trans ((dats m 0 c).arrAt_eq_of_cover 6 (dLin m c) (fun t _ => flushed6_eq m c t) covered6),
      (h c).2.2.1.trans ((dats m 0 c).arrAt_eq_of_cover 7 (dGelu m c) (fun t _ => flushed7_eq m c t) covered7),
      (h c).2.2.2.1.trans ((dats m 0 c).arrAt_eq_of_cover 8 (dBias m c) (fun t _ => flushed8_eq m c t) covered8),
      (h c).2.2.2.2⟩) (run_blocks m ρ)

end Cert.Proof.S5Act

end
-- ==== Proof.AttnOps.lean ====
/-
  The attention gradient's arithmetic on one block of 256 queries and 256 keys of one head: the operations the body
  performs, named once, and what each gives at an index over the extended reals. The body runs them four times (the two
  heads of the masked block and of a block of later queries); each of its printed values is one of these.
-/
module

public import proofs.«01_k».proof.Proof.Gen.KernelIdeal.Skeleton
public import Idealize.ShloMosaic.Lib.Pointwise
public import proofs.«01_k».proof.Proof.Finite

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

/-- The exponentials of the scores of a block. -/
def opE (q k : Vec F S256x128 .bf16) (cql : Vec F S1x256x128 .f32) (ck : FVec F S1x256 .f32) : FVec F S256x256 .f32 :=
  exp (addf (mulf (matmul dot_S256x128_S256x128_S256x256_1_1_0_0_n_n none q k (constant S256x256 .f32 0x00000000#32))
      (broadcast S256x256 (Scalar.ofBits .f32 0x3DB504F3#32)))
    (subf (concatenate S256x256 1 [⟨S256x128, shapeCast S256x128 cql shapeCasts_S1x256x128_S256x128⟩,
        ⟨S256x128, shapeCast S256x128 cql shapeCasts_S1x256x128_S256x128⟩] concatenates_S256x128_S256x128_S256x256_d1)
      (broadcastTo S256x256 ck broadcasts_S1x256_S256x256)))

/-- The mask of the diagonal block. -/
def opMask (kloc qloc : IVec S256x256 32) (e : FVec F S256x256 .f32) : FVec F S256x256 .f32 :=
  select (cmpi .sle kloc (addi qloc (broadcast S256x256 0#32))) e (broadcast S256x256 (Scalar.ofBits .f32 0x00000000#32))

/-- The gradient of the scores. -/
def opDs (p : FVec F S256x256 .f32) (v ct : Vec F S256x128 .f32) (dl : Vec F S1x256x128 .f32) : FVec F S256x256 .f32 :=
  mulf p (subf (matmul dot_S256x128_S256x128_S256x256_1_1_0_0_n_n none (truncf .bf16 ct bitsLt_bf16_f32)
      (truncf .bf16 v bitsLt_bf16_f32) (constant S256x256 .f32 0x00000000#32))
    (concatenate S256x256 1 [⟨S256x128, shapeCast S256x128 dl shapeCasts_S1x256x128_S256x128⟩,
        ⟨S256x128, shapeCast S256x128 dl shapeCasts_S1x256x128_S256x128⟩] concatenates_S256x128_S256x128_S256x256_d1))

/-- A sum over the block's queries of a weight times a row, added to what was there. -/
def opT (p : FVec F S256x256 .f32) (x : FVec F S256x128 .bf16) (acc : Vec F S256x128 .f32) : FVec F S256x128 .f32 :=
  shapeCast S256x128 (addf acc (matmul dot_S256x256_S256x128_S256x128_0_0_1_1_n_n none (truncf .bf16 p bitsLt_bf16_f32)
    x (constant S256x128 .f32 0x00000000#32))) shapeCasts_S256x128_S256x128

/-- The gradient of the queries: a sum over the block's keys, scaled, added to what was there. -/
def opQ (ds : FVec F S256x256 .f32) (k : Vec F S256x128 .bf16) (acc : Vec F S256x128 .f32) : FVec F S256x128 .f32 :=
  addf (shapeCast S256x128 acc shapeCasts_S256x128_S256x128)
    (mulf (matmul dot_S256x256_S256x128_S256x128_1_0_0_1_n_n none (truncf .bf16 ds bitsLt_bf16_f32) k (constant S256x128 .f32 0x00000000#32))
      (broadcast S256x128 (Scalar.ofBits .f32 0x3DB504F3#32)))

/-- The gradient of the query side's gate: the row sums, in the lane of the head. -/
def opR (w : BitVec 32) (lane : IVec S256x128 32) (ds : FVec F S256x256 .f32) (acc : Vec F S256x128 .f32) : FVec F S256x128 .f32 :=
  addf (shapeCast S256x128 acc shapeCasts_S256x128_S256x128)
    (select (cmpi .eq lane (broadcast S256x128 w))
      (broadcastTo S256x128 (shapeCast S256x1 (shapeCast S256x1
        (multiReduction .add [1] S256 ds 0x00000000#32 reduces_S256x256_S256 (.inl rfl) rfl) shapeCasts_S256_S256x1)
        shapeCasts_S256x1_S256x1) broadcasts_S256x1_S256x128)
      (broadcast S256x128 (Scalar.ofBits .f32 0x00000000#32)))

/-- The gradient of the key side's gate, up to its sign: the column sums. -/
def opC (ds : FVec F S256x256 .f32) (acc : Vec F S1x1x256 .f32) : FVec F S1x1x256 .f32 :=
  shapeCast S1x1x256 (addf (shapeCast S1x256 acc shapeCasts_S1x1x256_S1x256)
    (shapeCast S1x256 (multiReduction .add [0] S256 ds 0x00000000#32 reduces_S256x256_S256_2 (.inl rfl) rfl) shapeCasts_S256_S1x256))
    shapeCasts_S1x256_S1x1x256

section Ideal

/-- A lane of two copies side by side. -/
theorem twice (f : Fin 128 → EReal) (b : Fin 256) :
    (if h : b.val < 128 then f ⟨b.val, h⟩ else f ⟨b.val - 128, by have := b.isLt; omega⟩)
      = f ⟨b.val % 128, Nat.mod_lt _ (by decide)⟩ := by
  split
  · exact congrArg f (Fin.ext (Nat.mod_eq_of_lt ‹_›).symm)
  · exact congrArg f (Fin.ext (by show b.val - 128 = b.val % 128; have := b.isLt; omega))

theorem select_ofBool (c : Bool) (x y : EReal) : Scalar.select (BitVec.ofBool c) x y = if c then x else y := by
  cases c <;> rfl

/-- The scale the body multiplies by. -/
def σ : EReal := Ideal.ofBits .f32 0x3DB504F3#32

theorem opE_apply (q k : Vec Ideal S256x128 .bf16) (cql : Vec Ideal S1x256x128 .f32) (ck : FVec Ideal S1x256 .f32)
    (a b : Fin 256) :
    opE (F := Ideal) q k cql ck (ix2 a b)
      = Ideal.exp ((∑ d : Fin 128, q (ix2 a d) * k (ix2 b d)) * σ
          + (cql (ix3 0 a ⟨b.val % 128, Nat.mod_lt _ (by decide)⟩) - ck (ix2 0 b))) := by
  pointwise [opE]
  rw [twice (fun l => cql (ix3 0 a l)) b]
  rfl

theorem opMask_apply (kloc qloc : IVec S256x256 32) (e : FVec Ideal S256x256 .f32) (a b : Fin 256) :
    opMask (F := Ideal) kloc qloc e (ix2 a b)
      = if (kloc (ix2 a b)).sle (qloc (ix2 a b)) then e (ix2 a b) else 0 := by
  pointwise [opMask]
  rw [show IntOp.addi (qloc (ix2 a b)) 0#32 = qloc (ix2 a b) from BitVec.add_zero _]
  exact select_ofBool _ _ _

theorem opDs_apply (p : FVec Ideal S256x256 .f32) (v ct : Vec Ideal S256x128 .f32) (dl : Vec Ideal S1x256x128 .f32)
    (a b : Fin 256) :
    opDs (F := Ideal) p v ct dl (ix2 a b)
      = p (ix2 a b) * ((∑ d : Fin 128, ct (ix2 a d) * v (ix2 b d))
          - dl (ix3 0 a ⟨b.val % 128, Nat.mod_lt _ (by decide)⟩)) := by
  pointwise [opDs]
  rw [twice (fun l => dl (ix3 0 a l)) b]

theorem opT_apply (p : FVec Ideal S256x256 .f32) (x : FVec Ideal S256x128 .bf16) (acc : Vec Ideal S256x128 .f32)
    (b : Fin 256) (d : Fin 128) :
    opT (F := Ideal) p x acc (ix2 b d) = acc (ix2 b d) + ∑ a : Fin 256, p (ix2 a b) * x (ix2 a d) := by
  pointwise [opT]

theorem opQ_apply (ds : FVec Ideal S256x256 .f32) (k : Vec Ideal S256x128 .bf16) (acc : Vec Ideal S256x128 .f32)
    (a : Fin 256) (d : Fin 128) :
    opQ (F := Ideal) ds k acc (ix2 a d) = acc (ix2 a d) + (∑ b : Fin 256, ds (ix2 a b) * k (ix2 b d)) * σ := by
  pointwise [opQ]
  rfl

theorem opR_apply (w : BitVec 32) (lane : IVec S256x128 32) (ds : FVec Ideal S256x256 .f32) (acc : Vec Ideal S256x128 .f32)
    (a : Fin 256) (l : Fin 128) :
    opR (F := Ideal) w lane ds acc (ix2 a l) = acc (ix2 a l) + if lane (ix2 a l) = w then ∑ b : Fin 256, ds (ix2 a b) else 0 := by
  pointwise [opR]
  refine congrArg _ ((select_ofBool (lane (ix2 a l) == w) _ _).trans ?_)
  simp only [beq_iff_eq]

theorem opC_apply (ds : FVec Ideal S256x256 .f32) (acc : Vec Ideal S1x1x256 .f32) (b : Fin 256) :
    opC (F := Ideal) ds acc (ix3 0 0 b) = acc (ix3 0 0 b) + ∑ a : Fin 256, ds (ix2 a b) := by
  pointwise [opC]

end Ideal

end Cert.Proof.Attn

end
-- ==== Proof.AttnIdx.lean ====
/-
  The attention gradient's grid: what the coordinates of a grid point are (a pair of heads, a block of keys), where the
  blocks of queries lie that the point's body reads and writes, and how many of them its loop runs over.
-/
module

public import proofs.«01_k».proof.Proof.Gen.KernelIdeal.Points

@[expose] public section

set_option maxRecDepth 16384

noncomputable section

namespace Cert.Proof.Attn

open Cert.KernelIdeal Cert.KernelIdeal.Gen
open Idealize.ShloMosaic Idealize.ShloMosaic.TcCoe

/-- The pair of heads of a grid point, -/
abbrev hd (t : Fin grid0.N) : ℕ := t.val / 8
/-- and its block of keys. -/
abbrev kb (t : Fin grid0.N) : ℕ := t.val % 8

theorem coord0 : ∀ t : Fin grid0.N, ((grid0.coords t) 0).val = hd t := by decide +kernel
theorem coord1 : ∀ t : Fin grid0.N, ((grid0.coords t) 1).val = kb t := by decide +kernel
theorem hd_lt : ∀ t : Fin grid0.N, hd t < 8 := by decide +kernel
theorem kb_lt : ∀ t : Fin grid0.N, kb t < 8 := by decide +kernel
theorem trips1 : ∀ t : Fin grid0.N, (k0_t1_loop (grid0.coords t)).trips = 7 - kb t := by decide +kernel
theorem trips2 : ∀ t : Fin grid0.N, (k0_t2_loop (grid0.coords t)).trips = 0 := by decide +kernel
theorem off1 : ∀ t : Fin grid0.N, k0_off1 (grid0.coords t) = ![256 * kb t, 0] := by decide +kernel
theorem off2 : ∀ t : Fin grid0.N, k0_off2 (grid0.coords t) = ![0, 256 * kb t, 0] := by decide +kernel
theorem off3 : ∀ t : Fin grid0.N, k0_off3 (grid0.coords t) = ![256 * kb t, 0] := by decide +kernel
theorem off4 : ∀ t : Fin grid0.N, k0_off4 (grid0.coords t) = ![256 * kb t, 128] := by decide +kernel
theorem off5 : ∀ t : Fin grid0.N, k0_off5 (grid0.coords t) = ![1, 256 * kb t, 0] := by decide +kernel
theorem off6 : ∀ (t : Fin grid0.N) (k : Fin (k0_t1_loop (grid0.coords t)).trips),
    k0_off6 (grid0.coords t) k = ![256 * (kb t + 1 + k.val), 0] := by decide +kernel
theorem off7 : ∀ (t : Fin grid0.N) (k : Fin (k0_t1_loop (grid0.coords t)).trips),
    k0_off7 (grid0.coords t) k = ![0, 256 * (kb t + 1 + k.val), 0] := by decide +kernel
theorem off8 : ∀ (t : Fin grid0.N) (k : Fin (k0_t1_loop (grid0.coords t)).trips),
    k0_off8 (grid0.coords t) k = ![256 * (kb t + 1 + k.val), 0] := by decide +kernel
theorem off9 : ∀ (t : Fin grid0.N) (k : Fin (k0_t1_loop (grid0.coords t)).trips),
    k0_off9 (grid0.coords t) k = ![256 * (kb t + 1 + k.val), 128] := by decide +kernel
theorem off10 : ∀ (t : Fin grid0.N) (k : Fin (k0_t1_loop (grid0.coords t)).trips),
    k0_off10 (grid0.coords t) k = ![1, 256 * (kb t + 1 + k.val), 0] := by decide +kernel

end Cert.Proof.Attn

end
-- ==== Proof.AttnStep.lean ====
/-
  One block of queries against one block of keys, by numbers: what the attention gradient's body reads of its windows
  (as functions of natural numbers, so that no proof of a bound stands in the way), the probabilities and the score
  gradients of the block, and what the block of queries contributes to each of the five sums.
-/
module

public import proofs.«01_k».proof.Proof.AttnOps
public import proofs.«01_k».proof.Proof.AttnIdx
public import Idealize.ShloMosaic.Lib.WholeRead
public import Idealize.ShloMosaic.Lib.WritesUnit
public import Idealize.ShloMosaic.Lib.Pipeline.Frame

@[expose] public section

set_option maxRecDepth 16384

noncomputable section

namespace Cert.Proof.Attn

open Cert.KernelIdeal Cert.KernelIdeal.Gen
open Idealize.ShloMosaic Idealize.ShloMosaic.TcCoe

/-- A matrix as a function of two numbers, zero outside. -/
def nat2 {m n : ℕ} (x : (⟨2, ![m, n]⟩ : Shape).Idx → EReal) (i j : ℕ) : EReal :=
  if h : i < m ∧ j < n then x (ix2 ⟨i, h.1⟩ ⟨j, h.2⟩) else 0

/-- A stack of matrices as a function of three numbers, zero outside. -/
def nat3 {l m n : ℕ} (x : (⟨3, ![l, m, n]⟩ : Shape).Idx → EReal) (i j k : ℕ) : EReal :=
  if h : i < l ∧ j < m ∧ k < n then x (ix3 ⟨i, h.1⟩ ⟨j, h.2.1⟩ ⟨k, h.2.2⟩) else 0

/-- A stack of rows as a function of two numbers, zero outside. -/
def nat4 {l n : ℕ} (x : (⟨4, ![l, 1, 1, n]⟩ : Shape).Idx → EReal) (i j : ℕ) : EReal :=
  if h : i < l ∧ j < n then x (ix4 ⟨i, h.1⟩ 0 0 ⟨j, h.2⟩) else 0

theorem nat2_val {m n : ℕ} (x : (⟨2, ![m, n]⟩ : Shape).Idx → EReal) (y : (⟨2, ![m, n]⟩ : Shape).Idx) {i j : ℕ}
    (hi : (y 0).val = i) (hj : (y 1).val = j) : x y = nat2 x i j := by
  subst hi; subst hj
  have h : (y 0).val < m ∧ (y 1).val < n := ⟨(y 0).isLt, (y 1).isLt⟩
  unfold nat2
  rw [dif_pos h]
  exact congrArg x (funext fun a => match a with | ⟨0, _⟩ => rfl | ⟨1, _⟩ => rfl)

theorem nat3_val {l m n : ℕ} (x : (⟨3, ![l, m, n]⟩ : Shape).Idx → EReal) (y : (⟨3, ![l, m, n]⟩ : Shape).Idx) {i j k : ℕ}
    (hi : (y 0).val = i) (hj : (y 1).val = j) (hk : (y 2).val = k) : x y = nat3 x i j k := by
  subst hi; subst hj; subst hk
  have h : (y 0).val < l ∧ (y 1).val < m ∧ (y 2).val < n := ⟨(y 0).isLt, (y 1).isLt, (y 2).isLt⟩
  unfold nat3
  rw [dif_pos h]
  exact congrArg x (funext fun a => match a with | ⟨0, _⟩ => rfl | ⟨1, _⟩ => rfl | ⟨2, _⟩ => rfl)

theorem nat4_val {l n : ℕ} (x : (⟨4, ![l, 1, 1, n]⟩ : Shape).Idx → EReal) (y : (⟨4, ![l, 1, 1, n]⟩ : Shape).Idx) {i j : ℕ}
    (hi : (y 0).val = i) (hj : (y 3).val = j) : x y = nat4 x i j := by
  subst hi; subst hj
  have h : (y 0).val < l ∧ (y 3).val < n := ⟨(y 0).isLt, (y 3).isLt⟩
  unfold nat4
  rw [dif_pos h]
  refine congrArg x (funext fun a => ?_)
  match a with
  | ⟨0, _⟩ => rfl
  | ⟨1, _⟩ => exact Fin.ext (by show (y 1).val = 0; have : (y 1).val < 1 := (y 1).isLt; omega)
  | ⟨2, _⟩ => exact Fin.ext (by show (y 2).val = 0; have : (y 2).val < 1 := (y 2).isLt; omega)
  | ⟨3, _⟩ => rfl

/-- What the body reads of its windows at a grid point: the pair of heads `h` and block of keys `j`, the queries, keys,
values and output cotangents of the pair (the two heads side by side), the key side's gate, and per query the row
normaliser `cql` (gate less log-sum-exp) and the row product `dl` of cotangent and output. -/
structure Blk where
  h : ℕ
  j : ℕ
  q : ℕ → ℕ → EReal
  k : ℕ → ℕ → EReal
  v : ℕ → ℕ → EReal
  ct : ℕ → ℕ → EReal
  ck : ℕ → ℕ → EReal
  dl : ℕ → ℕ → ℕ → EReal
  cql : ℕ → ℕ → ℕ → EReal

/-- The same, from the windows' contents. -/
def Blk.of (h j : ℕ) (x2 : S2048x256.Idx → EReal) (x3 x4 : S256x256.Idx → EReal) (x5 : S2048x256.Idx → EReal)
    (x9 : S2x1x1x256.Idx → EReal) (x15 x16 : S2x2048x128.Idx → EReal) : Blk :=
  ⟨h, j, nat2 x2, nat2 x3, nat2 x4, nat2 x5, nat4 x9, nat3 x15, nat3 x16⟩

namespace Blk

variable (D : Blk)

/-- The exponential of the score of query `r` and the block's key `b` in head `g` of the pair. -/
def e (g r b : ℕ) : EReal :=
  Ideal.exp ((∑ d : Fin 128, D.q r (128 * g + d.val) * D.k b (128 * g + d.val)) * σ + (D.cql g r (b % 128) - D.ck g b))

/-- The probability: zero for a key after the query. -/
def p (g r b : ℕ) : EReal := if 256 * D.j + b ≤ r then D.e g r b else 0

/-- The gradient of the score. -/
def ds (g r b : ℕ) : EReal :=
  D.p g r b * ((∑ d : Fin 128, D.ct r (128 * g + d.val) * D.v b (128 * g + d.val)) - D.dl g r (b % 128))

/-- What query block `n` adds to the values' gradient, -/
def cV (n b c : ℕ) : EReal := ∑ a : Fin 256, D.p (c / 128) (256 * n + a.val) b * D.ct (256 * n + a.val) c
/-- to the keys' gradient (before scaling), -/
def cK (n b c : ℕ) : EReal := ∑ a : Fin 256, D.ds (c / 128) (256 * n + a.val) b * D.q (256 * n + a.val) c
/-- to the queries' gradient, -/
def cQ (n r c : ℕ) : EReal := if r / 256 = n then (∑ b : Fin 256, D.ds (c / 128) r b.val * D.k b.val c) * σ else 0
/-- to the query side's gate gradient (one lane per head), -/
def cR (n r l : ℕ) : EReal :=
  if r / 256 = n then (if l = 2 * D.h then ∑ b : Fin 256, D.ds 0 r b.val else 0)
    + (if l = 2 * D.h + 1 then ∑ b : Fin 256, D.ds 1 r b.val else 0) else 0
/-- and to the key side's, up to its sign. -/
def cC (n g b : ℕ) : EReal := ∑ a : Fin 256, D.ds g (256 * n + a.val) b

end Blk

section Loads

theorem unit_idx {s : Shape} (off size : Fin s.rank → ℕ) (inb) (y : (Rect.unit (s := s) off size inb).shape.Idx)
    (a : Fin s.rank) : ((Rect.unit off size inb).idx y a).val = off a + (y a).val := by
  show off a + 1 * (y a).val = _
  omega

/-! A load of a rectangle of a whole window, by numbers. -/

theorem ld2 {m n : ℕ} (M : Memref sig .tc .vmem ⟨2, ![m, n]⟩ .f32) (h : M.IsWhole)
    (x : (⟨2, ![m, n]⟩ : Shape).Idx → EReal) (off size : Fin 2 → ℕ) (inb) (y) :
    View.readAt (Elt Ideal) M.view (Rect.unit (s := ⟨2, ![m, n]⟩) off size inb).toLoadRect (h.unread x) y
      = nat2 x (off 0 + (y 0).val) (off 1 + (y 1).val) :=
  (Memref.IsWhole.readAt_unread (Val := Elt Ideal) h x _ y).trans (nat2_val x _ (unit_idx ..) (unit_idx ..))

theorem ld2b {m n : ℕ} (M : Memref sig .tc .vmem ⟨2, ![m, n]⟩ .bf16) (h : M.IsWhole)
    (x : (⟨2, ![m, n]⟩ : Shape).Idx → EReal) (off size : Fin 2 → ℕ) (inb) (y) :
    View.readAt (Elt Ideal) M.view (Rect.unit (s := ⟨2, ![m, n]⟩) off size inb).toLoadRect (h.unread x) y
      = nat2 x (off 0 + (y 0).val) (off 1 + (y 1).val) :=
  (Memref.IsWhole.readAt_unread (Val := Elt Ideal) h x _ y).trans (nat2_val x _ (unit_idx ..) (unit_idx ..))

theorem ld3 {l m n : ℕ} (M : Memref sig .tc .vmem ⟨3, ![l, m, n]⟩ .f32) (h : M.IsWhole)
    (x : (⟨3, ![l, m, n]⟩ : Shape).Idx → EReal) (off size : Fin 3 → ℕ) (inb) (y) :
    View.readAt (Elt Ideal) M.view (Rect.unit (s := ⟨3, ![l, m, n]⟩) off size inb).toLoadRect (h.unread x) y
      = nat3 x (off 0 + (y 0).val) (off 1 + (y 1).val) (off 2 + (y 2).val) :=
  (Memref.IsWhole.readAt_unread (Val := Elt Ideal) h x _ y).trans (nat3_val x _ (unit_idx ..) (unit_idx ..) (unit_idx ..))

theorem ld4 {l n : ℕ} (M : Memref sig .tc .vmem ⟨4, ![l, 1, 1, n]⟩ .f32) (h : M.IsWhole)
    (x : (⟨4, ![l, 1, 1, n]⟩ : Shape).Idx → EReal) (off size : Fin 4 → ℕ) (inb) (y) :
    View.readAt (Elt Ideal) M.view (Rect.unit (s := ⟨4, ![l, 1, 1, n]⟩) off size inb).toLoadRect (h.unread x) y
      = nat4 x (off 0 + (y 0).val) (off 3 + (y 3).val) :=
  (Memref.IsWhole.readAt_unread (Val := Elt Ideal) h x _ y).trans (nat4_val x _ (unit_idx ..) (unit_idx ..))

end Loads

end Cert.Proof.Attn

end
-- ==== Proof.AttnBlock.lean ====
/-
  One block of 256 queries against 256 keys of one head, from the vectors the body has loaded: each of the body's
  operations gives the block's numbers, and each of its accumulating stores adds the block's contribution. Also how a
  buffer reads after the body's pairs of stores (the two heads side by side).
-/
module

public import proofs.«01_k».proof.Proof.AttnStep

@[expose] public section

set_option maxRecDepth 16384

noncomputable section

namespace Cert.Proof.Attn

open Cert.KernelIdeal Cert.KernelIdeal.Gen
open Idealize.ShloMosaic Idealize.ShloMosaic.TcCoe

/-- The vectors loaded for head `g` and query block `n` hold the block's numbers. -/
structure Loaded (D : Blk) (g n : ℕ) (q k : Vec Ideal S256x128 .bf16) (cql : Vec Ideal S1x256x128 .f32)
    (ck : FVec Ideal S1x256 .f32) (v ct : Vec Ideal S256x128 .f32) (dl : Vec Ideal S1x256x128 .f32) : Prop where
  q : ∀ a d, q (ix2 a d) = D.q (256 * n + a.val) (128 * g + d.val)
  k : ∀ b d, k (ix2 b d) = D.k b.val (128 * g + d.val)
  cql : ∀ a l, cql (ix3 0 a l) = D.cql g (256 * n + a.val) l.val
  ck : ∀ b, ck (ix2 0 b) = D.ck g b.val
  v : ∀ b d, v (ix2 b d) = D.v b.val (128 * g + d.val)
  ct : ∀ a d, ct (ix2 a d) = D.ct (256 * n + a.val) (128 * g + d.val)
  dl : ∀ a l, dl (ix3 0 a l) = D.dl g (256 * n + a.val) l.val

/-- A vector of probabilities, or of score gradients, of the block. -/
def IsP (D : Blk) (g n : ℕ) (p : FVec Ideal S256x256 .f32) : Prop := ∀ a b, p (ix2 a b) = D.p g (256 * n + a.val) b.val
def IsDs (D : Blk) (g n : ℕ) (s : FVec Ideal S256x256 .f32) : Prop := ∀ a b, s (ix2 a b) = D.ds g (256 * n + a.val) b.val

section

variable {D : Blk} {g n : ℕ} {q k : Vec Ideal S256x128 .bf16} {cql : Vec Ideal S1x256x128 .f32}
  {ck : FVec Ideal S1x256 .f32} {v ct : Vec Ideal S256x128 .f32} {dl : Vec Ideal S1x256x128 .f32}

theorem Loaded.e (H : Loaded D g n q k cql ck v ct dl) (a b : Fin 256) :
    opE (F := Ideal) q k cql ck (ix2 a b) = D.e g (256 * n + a.val) b.val := by
  rw [opE_apply]
  simp only [H.q, H.k, H.cql, H.ck]
  rfl

/-- A block of later queries has no masked key. -/
theorem Loaded.isP_of_lt (H : Loaded D g n q k cql ck v ct dl) (hn : D.j < n) :
    IsP D g n (opE (F := Ideal) q k cql ck) := fun a b => by
  rw [H.e, Blk.p, if_pos (by have := b.isLt; omega)]

theorem toInt_small (x : Fin 256) : (BitVec.ofNat 32 x.val).toInt = (x.val : ℤ) := by
  have := x.isLt
  rw [BitVec.toInt_eq_toNat_cond, BitVec.toNat_ofNat, Nat.mod_eq_of_lt (by omega), if_pos (by omega)]

/-- The diagonal block's mask. -/
theorem Loaded.isP_mask (H : Loaded D g n q k cql ck v ct dl) (hn : D.j = n) (kloc qloc : IVec S256x256 32)
    (hk : ∀ a b, kloc (ix2 a b) = BitVec.ofNat 32 b.val) (hq : ∀ a b, qloc (ix2 a b) = BitVec.ofNat 32 a.val) :
    IsP D g n (opMask (F := Ideal) kloc qloc (opE (F := Ideal) q k cql ck)) := fun a b => by
  rw [opMask_apply, H.e, hk, hq, Blk.p]
  have e : (BitVec.ofNat 32 b.val).sle (BitVec.ofNat 32 a.val) = decide (b.val ≤ a.val) := by
    have ha := a.isLt; have hb := b.isLt
    rw [BitVec.sle_eq_decide]
    rw [toInt_small a, toInt_small b]
    simp only [Nat.cast_le]
  rw [e, hn]
  by_cases h : b.val ≤ a.val
  · rw [if_pos (by simpa using h), if_pos (by omega)]
  · rw [if_neg (by simpa using h), if_neg (by omega)]

theorem Loaded.isDs (H : Loaded D g n q k cql ck v ct dl) {p : FVec Ideal S256x256 .f32} (hp : IsP D g n p) :
    IsDs D g n (opDs (F := Ideal) p v ct dl) := fun a b => by
  rw [opDs_apply, hp a b]
  simp only [H.ct, H.v, H.dl]
  rfl

theorem div_head (g d : ℕ) (h : d < 128) : (128 * g + d) / 128 = g := by omega

theorem Loaded.addV (H : Loaded D g n q k cql ck v ct dl) {p : FVec Ideal S256x256 .f32} (hp : IsP D g n p)
    (acc : Vec Ideal S256x128 .f32) (b : Fin 256) (d : Fin 128) :
    opT (F := Ideal) p (truncf .bf16 ct bitsLt_bf16_f32) acc (ix2 b d) = acc (ix2 b d) + D.cV n b.val (128 * g + d.val) := by
  rw [opT_apply, Blk.cV, div_head g d.val d.isLt]
  refine congrArg _ (Finset.sum_congr rfl fun a _ => ?_)
  rw [hp a b, ← H.ct a d]
  rfl

theorem Loaded.addK (H : Loaded D g n q k cql ck v ct dl) {s : FVec Ideal S256x256 .f32} (hs : IsDs D g n s)
    (acc : Vec Ideal S256x128 .f32) (b : Fin 256) (d : Fin 128) :
    opT (F := Ideal) s q acc (ix2 b d) = acc (ix2 b d) + D.cK n b.val (128 * g + d.val) := by
  rw [opT_apply, Blk.cK, div_head g d.val d.isLt]
  refine congrArg _ (Finset.sum_congr rfl fun a _ => ?_)
  rw [hs a b, ← H.q a d]

theorem Loaded.addQ (H : Loaded D g n q k cql ck v ct dl) {s : FVec Ideal S256x256 .f32} (hs : IsDs D g n s)
    (acc : Vec Ideal S256x128 .f32) (a : Fin 256) (d : Fin 128) :
    opQ (F := Ideal) s k acc (ix2 a d) = acc (ix2 a d) + D.cQ n (256 * n + a.val) (128 * g + d.val) := by
  rw [opQ_apply, Blk.cQ, div_head g d.val d.isLt, if_pos (by have := a.isLt; omega)]
  refine congrArg (fun z => acc (ix2 a d) + z * σ) (Finset.sum_congr rfl fun b _ => ?_)
  rw [hs a b, ← H.k b d]

/-- The row sums go to the lane of the head. -/
theorem IsDs.addR {s : FVec Ideal S256x256 .f32} (hs : IsDs D g n s) (w : BitVec 32) (lane : IVec S256x128 32)
    (hl : ∀ a l, lane (ix2 a l) = BitVec.ofNat 32 l.val) (m : ℕ) (hm : m < 128) (hw : w = BitVec.ofNat 32 m)
    (acc : Vec Ideal S256x128 .f32) (a : Fin 256) (l : Fin 128) :
    opR (F := Ideal) w lane s acc (ix2 a l)
      = acc (ix2 a l) + if l.val = m then ∑ b : Fin 256, D.ds g (256 * n + a.val) b.val else 0 := by
  rw [opR_apply, hl, hw]
  refine congrArg _ ?_
  have e : (BitVec.ofNat 32 l.val = BitVec.ofNat 32 m) ↔ l.val = m := by
    have hl := l.isLt
    constructor
    · intro h
      have := congrArg BitVec.toNat h
      simp only [BitVec.toNat_ofNat] at this
      omega
    · intro h; rw [h]
  simp only [e]
  exact if_congr Iff.rfl (Finset.sum_congr rfl fun b _ => hs a b) rfl

theorem IsDs.addC {s : FVec Ideal S256x256 .f32} (hs : IsDs D g n s) (acc : Vec Ideal S1x1x256 .f32) (b : Fin 256) :
    opC (F := Ideal) s acc (ix3 0 0 b) = acc (ix3 0 0 b) + D.cC n g b.val := by
  rw [opC_apply, Blk.cC]
  exact congrArg _ (Finset.sum_congr rfl fun a _ => hs a b)

end

section Stores

variable {Val : EltTy → Type} {e : EltTy}

/-- Two stores side by side over a block of 256 by 256. -/
theorem pair256 (v : View sig .tc .vmem S256x256 e) (f : v.ty.Contents Val)
    (i2 : ∀ a, (![0, 128] : Fin 2 → ℕ) a + S256x128.size a ≤ S256x256.size a)
    (i1 : ∀ a, (![0, 0] : Fin 2 → ℕ) a + S256x128.size a ≤ S256x256.size a)
    (w1 w2 : S256x128.Idx → Val e) (L : List (View.Piece Val S256x256 e)) (b c : Fin 256) :
    v.read Val (v.writes Val f (⟨Rect.unit (s := S256x256) ![0, 128] S256x128.size i2, w2⟩
        :: ⟨Rect.unit (s := S256x256) ![0, 0] S256x128.size i1, w1⟩ :: L)) (ix2 b c)
      = if h : c.val < 128 then w1 (ix2 b ⟨c.val, h⟩) else w2 (ix2 b ⟨c.val - 128, by have := c.isLt; omega⟩) := by
  split
  next h =>
    rw [View.read_writes_cons_unit_of_not_mem v f i2 w2 _ (ix2 b c) rfl 1 (Or.inl h)]
    exact View.read_writes_cons_unit_of_mem v f i1 w1 L (ix2 b c) (ix2 b ⟨c.val, h⟩) rfl
      (Fin.forall_fin_two.mpr ⟨(Nat.zero_add _).symm, (Nat.zero_add _).symm⟩)
  next h =>
    exact View.read_writes_cons_unit_of_mem v f i2 w2 _ (ix2 b c) (ix2 b ⟨c.val - 128, by have := c.isLt; omega⟩) rfl
      (Fin.forall_fin_two.mpr ⟨(Nat.zero_add _).symm, by show c.val = 128 + (c.val - 128); omega⟩)

/-- Two stores side by side over the rows of query block `n`. -/
theorem pairRows (v : View sig .tc .vmem S2048x256 e) (f : v.ty.Contents Val) {o1 o2 : Fin 2 → ℕ} (n : ℕ)
    (h2 : o2 = ![256 * n, 128]) (h1 : o1 = ![256 * n, 0])
    (i2 : ∀ a, o2 a + S256x128.size a ≤ S2048x256.size a) (i1 : ∀ a, o1 a + S256x128.size a ≤ S2048x256.size a)
    (w1 w2 : S256x128.Idx → Val e) (L : List (View.Piece Val S2048x256 e)) (r : Fin 2048) (c : Fin 256) :
    v.read Val (v.writes Val f (⟨Rect.unit (s := S2048x256) o2 S256x128.size i2, w2⟩
        :: ⟨Rect.unit (s := S2048x256) o1 S256x128.size i1, w1⟩ :: L)) (ix2 r c)
      = if hr : r.val / 256 = n then
          if h : c.val < 128 then w1 (ix2 ⟨r.val - 256 * n, by omega⟩ ⟨c.val, h⟩)
          else w2 (ix2 ⟨r.val - 256 * n, by omega⟩ ⟨c.val - 128, by have := c.isLt; omega⟩)
        else v.read Val (v.writes Val f L) (ix2 r c) := by
  split
  next hr =>
    split
    next h =>
      rw [View.read_writes_cons_unit_of_not_mem v f i2 w2 _ (ix2 r c) h2 1 (Or.inl h)]
      exact View.read_writes_cons_unit_of_mem v f i1 w1 L (ix2 r c) (ix2 ⟨r.val - 256 * n, by omega⟩ ⟨c.val, h⟩) h1
        (Fin.forall_fin_two.mpr ⟨by show r.val = 256 * n + (r.val - 256 * n); omega, (Nat.zero_add _).symm⟩)
    next h =>
      exact View.read_writes_cons_unit_of_mem v f i2 w2 _ (ix2 r c)
        (ix2 ⟨r.val - 256 * n, by omega⟩ ⟨c.val - 128, by have := c.isLt; omega⟩) h2
        (Fin.forall_fin_two.mpr ⟨by show r.val = 256 * n + (r.val - 256 * n); omega, by show c.val = 128 + (c.val - 128); omega⟩)
  next hr =>
    rw [View.read_writes_cons_unit_of_not_mem v f i2 w2 _ (ix2 r c) h2 0 (by show r.val < 256 * n ∨ 256 * n + 256 ≤ r.val; omega),
      View.read_writes_cons_unit_of_not_mem v f i1 w1 _ (ix2 r c) h1 0 (by show r.val < 256 * n ∨ 256 * n + 256 ≤ r.val; omega)]

/-- One store over the rows of query block `n`. -/
theorem oneRows (v : View sig .tc .vmem S2048x128 e) (f : v.ty.Contents Val) {o : Fin 2 → ℕ} (n : ℕ)
    (h1 : o = ![256 * n, 0]) (i1 : ∀ a, o a + S256x128.size a ≤ S2048x128.size a)
    (w : S256x128.Idx → Val e) (L : List (View.Piece Val S2048x128 e)) (r : Fin 2048) (c : Fin 128) :
    v.read Val (v.writes Val f (⟨Rect.unit (s := S2048x128) o S256x128.size i1, w⟩ :: L)) (ix2 r c)
      = if hr : r.val / 256 = n then w (ix2 ⟨r.val - 256 * n, by omega⟩ c)
        else v.read Val (v.writes Val f L) (ix2 r c) := by
  split
  next hr =>
    exact View.read_writes_cons_unit_of_mem v f i1 w L (ix2 r c) (ix2 ⟨r.val - 256 * n, by omega⟩ c) h1
        (Fin.forall_fin_two.mpr ⟨by show r.val = 256 * n + (r.val - 256 * n); omega, (Nat.zero_add _).symm⟩)
  next hr =>
    rw [View.read_writes_cons_unit_of_not_mem v f i1 w _ (ix2 r c) h1 0 (by show r.val < 256 * n ∨ 256 * n + 256 ≤ r.val; omega)]

/-- Two stores one above the other. -/
theorem pairStack (v : View sig .tc .vmem S2x1x256 e) (f : v.ty.Contents Val)
    (i2 : ∀ a, (![1, 0, 0] : Fin 3 → ℕ) a + S1x1x256.size a ≤ S2x1x256.size a)
    (i1 : ∀ a, (![0, 0, 0] : Fin 3 → ℕ) a + S1x1x256.size a ≤ S2x1x256.size a)
    (w1 w2 : S1x1x256.Idx → Val e) (L : List (View.Piece Val S2x1x256 e)) (g : Fin 2) (b : Fin 256) :
    v.read Val (v.writes Val f (⟨Rect.unit (s := S2x1x256) ![1, 0, 0] S1x1x256.size i2, w2⟩
        :: ⟨Rect.unit (s := S2x1x256) ![0, 0, 0] S1x1x256.size i1, w1⟩ :: L)) (ix3 g 0 b)
      = if g.val = 0 then w1 (ix3 0 0 b) else w2 (ix3 0 0 b) := by
  match g with
  | ⟨0, _⟩ =>
    refine Eq.trans ?_ (if_pos rfl).symm
    rw [View.read_writes_cons_unit_of_not_mem v f i2 w2 _ (ix3 _ 0 b) rfl 0 (Or.inl (by exact Nat.zero_lt_one))]
    exact View.read_writes_cons_unit_of_mem v f i1 w1 L _ (ix3 0 0 b) rfl
      (fun a => by match a with | ⟨0, _⟩ => rfl | ⟨1, _⟩ => rfl | ⟨2, _⟩ => exact (Nat.zero_add _).symm)
  | ⟨1, _⟩ =>
    refine Eq.trans ?_ (if_neg Nat.one_ne_zero).symm
    exact View.read_writes_cons_unit_of_mem v f i2 w2 _ _ (ix3 0 0 b) rfl
      (fun a => by match a with | ⟨0, _⟩ => rfl | ⟨1, _⟩ => rfl | ⟨2, _⟩ => exact (Nat.zero_add _).symm)

end Stores

end Cert.Proof.Attn

end
-- ==== Proof.AttnTrip.lean ====
/-
  One trip of the attention gradient's loop: a block of queries after the diagonal one. The trip reads the block's queries,
  cotangents and rows, and adds the block's contribution to each of the five accumulators.
-/
module

public import proofs.«01_k».proof.Proof.AttnBlock
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the launch. -/
abbrev AttnM : Type := MT nD τ Cert.KernelIdeal.sig Unit (Elt Ideal) ℕ (UR Cert.KernelIdeal.sig nD τ) ℕ

theorem forall_ix2 {m n : ℕ} {P : (⟨2, ![m, n]⟩ : Shape).Idx → Prop} (h : ∀ a b, P (ix2 a b)) : ∀ y, P y := fun y => by
  have e : y = ix2 (y 0) (y 1) := funext fun a => match a with | ⟨0, _⟩ => rfl | ⟨1, _⟩ => rfl
  rw [e]; exact h _ _

theorem forall_ix3 {l n : ℕ} {P : (⟨3, ![l, 1, n]⟩ : Shape).Idx → Prop} (h : ∀ a b, P (ix3 a 0 b)) : ∀ y, P y := fun y => by
  have e : y = ix3 (y 0) 0 (y 2) := funext fun a => match a with
    | ⟨0, _⟩ => rfl
    | ⟨1, _⟩ => Fin.ext (by show (y 1).val = 0; have : (y 1).val < 1 := (y 1).isLt; omega)
    | ⟨2, _⟩ => rfl
  rw [e]; exact h _ _

/-- The accumulators after one more block of queries: `n`'s contribution added. -/
def addQ (D : Blk) (n : ℕ) (x : S2048x256.Idx → EReal) : S2048x256.Idx → EReal := fun y => x y + D.cQ n (y 0).val (y 1).val
def addR (D : Blk) (n : ℕ) (x : S2048x128.Idx → EReal) : S2048x128.Idx → EReal := fun y => x y + D.cR n (y 0).val (y 1).val
def addK (D : Blk) (n : ℕ) (x : S256x256.Idx → EReal) : S256x256.Idx → EReal := fun y => x y + D.cK n (y 0).val (y 1).val
def addV (D : Blk) (n : ℕ) (x : S256x256.Idx → EReal) : S256x256.Idx → EReal := fun y => x y + D.cV n (y 0).val (y 1).val
def addC (D : Blk) (n : ℕ) (x : S2x1x256.Idx → EReal) : S2x1x256.Idx → EReal := fun y => x y + D.cC n (y 0).val (y 2).val

section

variable (𝒱 : Variants) (c : Dev nD) (bd : Option 𝒱.V) (t : Fin grid0.N)
  (arg2 : Memref sig .tc .vmem S2048x256 .bf16) (harg2 : arg2.IsWhole) (arg3 : Memref sig .tc .vmem S256x256 .bf16) (harg3 : arg3.IsWhole) (arg4 : Memref sig .tc .vmem S256x256 .f32) (harg4 : arg4.IsWhole)
  (arg5 : Memref sig .tc .vmem S2048x256 .f32) (harg5 : arg5.IsWhole) (arg6 : Memref sig .tc .vmem S2048x256 .f32) (harg6 : arg6.IsWhole) (arg7 : Memref sig .tc .vmem S2x2048x128 .f32) (harg7 : arg7.IsWhole)
  (arg8 : Memref sig .tc .vmem S2x2048x128 .f32) (harg8 : arg8.IsWhole) (arg9 : Memref sig .tc .vmem S2x1x1x256 .f32) (harg9 : arg9.IsWhole) (arg10 : Memref sig .tc .vmem S2048x256 .f32) (harg10 : arg10.IsWhole)
  (arg11 : Memref sig .tc .vmem S256x256 .f32) (harg11 : arg11.IsWhole) (arg12 : Memref sig .tc .vmem S256x256 .bf16) (harg12 : arg12.IsWhole) (arg13 : Memref sig .tc .vmem S2048x128 .f32) (harg13 : arg13.IsWhole)
  (arg14 : Memref sig .tc .vmem S2x1x1x256 .f32) (harg14 : arg14.IsWhole) (arg15 : Memref sig .tc .vmem S2x2048x128 .f32) (harg15 : arg15.IsWhole) (arg16 : Memref sig .tc .vmem S2x2048x128 .f32) (harg16 : arg16.IsWhole)
  (arg17 : Memref sig .tc .vmem S256x256 .f32) (harg17 : arg17.IsWhole) (arg18 : Memref sig .tc .vmem S256x256 .f32) (harg18 : arg18.IsWhole) (arg19 : Memref sig .tc .vmem S2x1x256 .f32) (harg19 : arg19.IsWhole)
  (arg0 arg1 : BitVec 32) (v8 : IVec S256x128 32) (v148 : FVec Ideal S256x256 .f32) (v178 : FVec Ideal S256x128 .f32) (v189 : BitVec 32)
  (x2 : S2048x256.Idx → EReal) (x3 : S256x256.Idx → EReal) (x4 : S256x256.Idx → EReal) (x5 : S2048x256.Idx → EReal) (x9 : S2x1x1x256.Idx → EReal) (x15 : S2x2048x128.Idx → EReal) (x16 : S2x2048x128.Idx → EReal)

/-- What the loop holds: the windows it reads, and the five accumulators at given contents. -/
def Held (x10 : S2048x256.Idx → EReal) (x13 : S2048x128.Idx → EReal) (x17 x18 : S256x256.Idx → EReal) (x19 : S2x1x256.Idx → EReal) : sProp AttnM :=
  iprop((arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg9.view.loc (c : Thread nD τ) ↦[arg9.view.set]{fullShare} (harg9.unread x9)) ∗ (arg15.view.loc (c : Thread nD τ) ↦[arg15.view.set]{fullShare} (harg15.unread x15)) ∗ (arg16.view.loc (c : Thread nD τ) ↦[arg16.view.set]{fullShare} (harg16.unread x16)) ∗ (arg10.view.loc (c : Thread nD τ) ↦[arg10.view.set]{fullShare} (harg10.unread x10)) ∗ (arg13.view.loc (c : Thread nD τ) ↦[arg13.view.set]{fullShare} (harg13.unread x13)) ∗ (arg17.view.loc (c : Thread nD τ) ↦[arg17.view.set]{fullShare} (harg17.unread x17)) ∗ (arg18.view.loc (c : Thread nD τ) ↦[arg18.view.set]{fullShare} (harg18.unread x18)) ∗ (arg19.view.loc (c : Thread nD τ) ↦[arg19.view.set]{fullShare} (harg19.unread x19)))

/-- The body's loads for head `g` and the block of queries `n`. -/
theorem loaded (h j g n : ℕ) {o o' : Fin 2 → ℕ} {o3 : Fin 3 → ℕ} {o4 : Fin 4 → ℕ} (ho : o = ![256 * n, 128 * g]) (ho' : o' = ![0, 128 * g])
    (ho3 : o3 = ![g, 256 * n, 0]) (ho4 : o4 = ![g, 0, 0, 0]) (i2 i3 i16 i9 i4 i5 i15) :
    Loaded (Blk.of h j x2 x3 x4 x5 x9 x15 x16) g n
      (View.readAt (Elt Ideal) arg2.view (Rect.unit (s := S2048x256) o S256x128.size i2).toLoadRect (harg2.unread x2))
      (View.readAt (Elt Ideal) arg3.view (Rect.unit (s := S256x256) o' S256x128.size i3).toLoadRect (harg3.unread x3))
      (View.readAt (Elt Ideal) arg16.view (Rect.unit (s := S2x2048x128) o3 S1x256x128.size i16).toLoadRect (harg16.unread x16))
      (shapeCast S1x256 (View.readAt (Elt Ideal) arg9.view (Rect.unit (s := S2x1x1x256) o4 S1x1x1x256.size i9).toLoadRect
        (harg9.unread x9)) shapeCasts_S1x1x1x256_S1x256)
      (View.readAt (Elt Ideal) arg4.view (Rect.unit (s := S256x256) o' S256x128.size i4).toLoadRect (harg4.unread x4))
      (View.readAt (Elt Ideal) arg5.view (Rect.unit (s := S2048x256) o S256x128.size i5).toLoadRect (harg5.unread x5))
      (View.readAt (Elt Ideal) arg15.view (Rect.unit (s := S2x2048x128) o3 S1x256x128.size i15).toLoadRect (harg15.unread x15)) := by
  subst ho ho' ho3 ho4
  have z : ∀ x : ℕ, 0 + x = x := Nat.zero_add
  have c : ∀ (y : FVec Ideal S1x1x1x256 .f32) (b : Fin 256), shapeCast S1x256 y shapeCasts_S1x1x1x256_S1x256 (ix2 0 b) = y (ix4 0 0 0 b) :=
    fun y b => by pointwise []
  refine ⟨fun a d => ?_, fun b d => ?_, fun a l => ?_, fun b => ?_, fun b d => ?_, fun a d => ?_, fun a l => ?_⟩
  · exact ld2b ..
  · exact (ld2b ..).trans (congrArg (fun i => nat2 x3 i (128 * g + d.val)) (z _))
  · exact (ld3 ..).trans (congrArg (nat3 x16 g (256 * n + a.val)) (z _))
  · exact (c _ b).trans ((ld4 ..).trans (congrArg (nat4 x9 g) (z _)))
  · exact (ld2 ..).trans (congrArg (fun i => nat2 x4 i (128 * g + d.val)) (z _))
  · exact ld2 ..
  · exact (ld3 ..).trans (congrArg (nat3 x15 g (256 * n + a.val)) (z _))

/-- A load of a rectangle of a whole buffer at the index it places. -/
theorem ld_at {s : Shape} {e : EltTy} (m : Memref sig .tc .vmem s e) (h : m.IsWhole) (x : s.Idx → Elt Ideal e)
    {off off' size : Fin s.rank → ℕ} (inb) (y) (z : s.Idx) (ho : off = off') (hz : ∀ a, (z a).val = off' a + (y a).val) :
    View.readAt (Elt Ideal) m.view (Rect.unit (s := s) off size inb).toLoadRect (h.unread x) y = x z := by
  subst ho
  exact (h.readAt_unread x _ y).trans (congrArg x (funext fun a => Fin.ext ((unit_idx ..).trans (hz a).symm)))

/-- The lanes of a pair's two heads. -/
theorem word0 {w : BitVec 32} {m : ℕ} (h : w = BitVec.ofNat 32 m) : Scalar.addi (Scalar.muli w 2#32) 0#32 = BitVec.ofNat 32 (2 * m) := by
  subst h
  show BitVec.ofNat 32 m * 2#32 + 0#32 = _
  rw [BitVec.add_zero, Nat.mul_comm 2 m, BitVec.ofNat_mul]

theorem word1 {w : BitVec 32} {m : ℕ} (h : w = BitVec.ofNat 32 m) : Scalar.addi (Scalar.muli w 2#32) 1#32 = BitVec.ofNat 32 (2 * m + 1) := by
  subst h
  show BitVec.ofNat 32 m * 2#32 + 1#32 = _
  rw [Nat.mul_comm 2 m, BitVec.ofNat_add, BitVec.ofNat_mul]

theorem pay17_op (s : FVec Ideal S256x256 .f32) (acc : Vec Ideal S1x1x256 .f32) : k0_pay17 s (k0_pay16 acc) = opC (F := Ideal) s acc := rfl
theorem pay75_op (s : FVec Ideal S256x256 .f32) (acc : Vec Ideal S1x1x256 .f32) : k0_pay75 s acc = opC (F := Ideal) s acc := rfl

theorem Blk.cQ_ne {D : Blk} {n r c : ℕ} (h : ¬ r / 256 = n) : D.cQ n r c = 0 := if_neg h
theorem Blk.cR_ne {D : Blk} {n r l : ℕ} (h : ¬ r / 256 = n) : D.cR n r l = 0 := if_neg h
theorem Blk.cR_eq {D : Blk} {n r l : ℕ} (h : r / 256 = n) : D.cR n r l =
    (if l = 2 * D.h then ∑ b : Fin 256, D.ds 0 r b.val else 0) + (if l = 2 * D.h + 1 then ∑ b : Fin 256, D.ds 1 r b.val else 0) := if_pos h
theorem add_right_zero {x y : EReal} (h : y = 0) : x = x + y := by rw [h, add_zero]

/-- A load of the rectangle just stored. -/
theorem readCov_same {s : Shape} {e : EltTy} (v : View sig .tc .vmem s e) {off size : Fin s.rank → ℕ} (inb)
    (w : (Rect.unit (s := s) off size inb).shape.Idx → Elt Ideal e) (L : List (View.Piece (Elt Ideal) s e)) (x) :
    v.readCov (⟨Rect.unit (s := s) off size inb, w⟩ :: L) (Rect.unit (s := s) off size inb).toLoadRect x = w x :=
  View.read_writes_cons_unit_of_mem v v.junk inb w L _ x rfl (fun a => unit_idx ..)

/-- Contents that read as wanted are the contents wanted. -/
theorem hold_eq {s : Shape} {e : EltTy} {m : Memref sig .tc .vmem s e} (h : m.IsWhole) {f : m.view.ty.Contents (Elt Ideal)}
    {X : s.Idx → Elt Ideal e} (hf : m.view.read (Elt Ideal) f = X) :
    (m.view.loc (c : Thread nD τ) ↦[m.view.set]{fullShare} f : sProp AttnM)
      ⊢ (m.view.loc (c : Thread nD τ) ↦[m.view.set]{fullShare} h.unread X) := by
  rw [h.eq_unread hf]

theorem trip (k : Fin (k0_t1_loop (grid0.coords t)).trips) (E : Set ℕ)
    (h0 : arg0 = BitVec.ofNat 32 (hd t)) (h8 : ∀ a l, v8 (ix2 a l) = BitVec.ofNat 32 l.val)
    (x10 : S2048x256.Idx → EReal) (x13 : S2048x128.Idx → EReal) (x17 x18 : S256x256.Idx → EReal) (x19 : S2x1x256.Idx → EReal) :
    (Held c arg2 harg2 arg3 harg3 arg4 harg4 arg5 harg5 arg9 harg9 arg10 harg10 arg13 harg13 arg15 harg15 arg16 harg16 arg17 harg17 arg18 harg18 arg19 harg19 x2 x3 x4 x5 x9 x15 x16 x10 x13 x17 x18 x19) ⊢ wp frame (wpE (defs₀ (F := Ideal)) 𝒱 (c : Thread nD τ) bd) E
      (k0_t1_body (F := Ideal) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v8 v148 v178 v189 k PUnit.unit)
      (fun _ => (Held c arg2 harg2 arg3 harg3 arg4 harg4 arg5 harg5 arg9 harg9 arg10 harg10 arg13 harg13 arg15 harg15 arg16 harg16 arg17 harg17 arg18 harg18 arg19 harg19 x2 x3 x4 x5 x9 x15 x16 (addQ (Blk.of (hd t) (kb t) x2 x3 x4 x5 x9 x15 x16) (kb t + 1 + k.val) x10) (addR (Blk.of (hd t) (kb t) x2 x3 x4 x5 x9 x15 x16) (kb t + 1 + k.val) x13) (addK (Blk.of (hd t) (kb t) x2 x3 x4 x5 x9 x15 x16) (kb t + 1 + k.val) x17) (addV (Blk.of (hd t) (kb t) x2 x3 x4 x5 x9 x15 x16) (kb t + 1 + k.val) x18) (addC (Blk.of (hd t) (kb t) x2 x3 x4 x5 x9 x15 x16) (kb t + 1 + k.val) x19))) := by
  unfold Held k0_t1_body
  iintro ⟨H2, H3, H4, H5, H9, H15, H16, H10, H13, H17, H18, H19⟩
  sl_exec
  sl_step
  have hn : ∀ x : ℕ, x < x + 1 + k.val := fun x => by omega
  have L0 := loaded arg2 harg2 arg3 harg3 arg4 harg4 arg5 harg5 arg9 harg9 arg15 harg15 arg16 harg16 x2 x3 x4 x5 x9 x15 x16 (hd t) (kb t) 0
    (kb t + 1 + k.val) (off6 t k) rfl (off7 t k) rfl (k0_off6_inb (grid0.coords t) k) inb_S256x256_S256x128_0_0
    (k0_off7_inb (grid0.coords t) k) inb_S2x1x1x256_S1x1x1x256_0_0_0_0 inb_S256x256_S256x128_0_0 (k0_off6_inb (grid0.coords t) k)
    (k0_off7_inb (grid0.coords t) k)
  have L1 := loaded arg2 harg2 arg3 harg3 arg4 harg4 arg5 harg5 arg9 harg9 arg15 harg15 arg16 harg16 x2 x3 x4 x5 x9 x15 x16 (hd t) (kb t) 1
    (kb t + 1 + k.val) (off9 t k) rfl (off10 t k) rfl (k0_off9_inb (grid0.coords t) k) inb_S256x256_S256x128_0_128
    (k0_off10_inb (grid0.coords t) k) inb_S2x1x1x256_S1x1x1x256_1_0_0_0 inb_S256x256_S256x128_0_128 (k0_off9_inb (grid0.coords t) k)
    (k0_off10_inb (grid0.coords t) k)
  have P0 := L0.isP_of_lt (hn _)
  have P1 := L1.isP_of_lt (hn _)
  have S0 := L0.isDs P0
  have S1 := L1.isDs P1
  isplitl [H2]; · iexact H2
  isplitl [H3]; · iexact H3
  isplitl [H4]; · iexact H4
  isplitl [H5]; · iexact H5
  isplitl [H9]; · iexact H9
  isplitl [H15]; · iexact H15
  isplitl [H16]; · iexact H16
  isplitl [H10]
  · istop
    refine hold_eq c harg10 (funext (forall_ix2 fun r d => ?_))
    refine (pairRows arg10.view _ (kb t + 1 + k.val) (off9 t k) (off6 t k) _ _ _ _ _ r d).trans ?_
    have er : ∀ hr : r.val / 256 = kb t + 1 + k.val, r.val = 256 * (kb t + 1 + k.val) + (r.val - 256 * (kb t + 1 + k.val)) := fun hr => by omega
    split
    next hr =>
      split
      next h =>
        refine (L0.addQ S0 _ _ _).trans (congrArg₂ (· + ·) ?_ ?_ : _ = addQ _ _ x10 (ix2 r d))
        · exact ld_at arg10 harg10 x10 _ _ (ix2 r d) (off6 t k) (Fin.forall_fin_two.mpr ⟨er hr, (Nat.zero_add _).symm⟩)
        · exact congrArg₂ (Blk.cQ _ _) (er hr).symm (by show 128 * 0 + d.val = d.val; omega)
      next h =>
        have ed : d.val = 128 + (d.val - 128) := by omega
        refine (L1.addQ S1 _ _ _).trans (congrArg₂ (· + ·) ?_ ?_ : _ = addQ _ _ x10 (ix2 r d))
        · exact ld_at arg10 harg10 x10 _ _ (ix2 r d) (off9 t k) (Fin.forall_fin_two.mpr ⟨er hr, ed⟩)
        · exact congrArg₂ (Blk.cQ _ _) (er hr).symm ed.symm
    next hr =>
      exact (congrFun (Memref.IsWhole.read_unread (Val := Elt Ideal) harg10 x10) (ix2 r d)).trans (add_right_zero (Blk.cQ_ne hr))
  isplitl [H13]
  · istop
    refine hold_eq c harg13 (funext (forall_ix2 fun r l => ?_))
    refine (oneRows arg13.view _ (kb t + 1 + k.val) (off8 t k) _ _ _ r l).trans ?_
    have er : ∀ hr : r.val / 256 = kb t + 1 + k.val, r.val = 256 * (kb t + 1 + k.val) + (r.val - 256 * (kb t + 1 + k.val)) := fun hr => by omega
    have hh := hd_lt t
    split
    next hr =>
      have e1 := S0.addR _ v8 h8 (2 * hd t) (by omega) (word0 h0) (View.readAt (Elt Ideal) arg13.view
        (Rect.unit (s := S2048x128) (k0_off8 (grid0.coords t) k) S256x128.size (k0_off8_inb (grid0.coords t) k)).toLoadRect (harg13.unread x13))
        ⟨r.val - 256 * (kb t + 1 + k.val), by omega⟩ l
      refine (S1.addR _ v8 h8 (2 * hd t + 1) (by omega) (word1 h0) _ _ l).trans ?_
      refine (congrArg₂ (· + ·) ((readCov_same arg13.view (k0_off8_inb (grid0.coords t) k) _ _ _).trans e1) rfl).trans ?_
      rw [add_assoc]
      refine congrArg₂ (· + ·) ?_ ?_
      · exact ld_at arg13 harg13 x13 _ _ (ix2 r l) (off8 t k) (Fin.forall_fin_two.mpr ⟨er hr, (Nat.zero_add _).symm⟩)
      · rw [Blk.cR_eq (show (ix2 r l 0).val / 256 = kb t + 1 + k.val from hr)]
        simp only [← er hr]
        rfl
    next hr =>
      refine (oneRows arg13.view _ (kb t + 1 + k.val) (off8 t k) (k0_off8_inb (grid0.coords t) k) _ [] r l).trans ?_
      rw [dif_neg hr]
      exact (congrFun (Memref.IsWhole.read_unread (Val := Elt Ideal) harg13 x13) (ix2 r l)).trans (add_right_zero (Blk.cR_ne hr))
  isplitl [H17]
  · istop
    refine hold_eq c harg17 (funext (forall_ix2 fun b d => ?_))
    refine (pair256 arg17.view _ _ _ _ _ _ b d).trans ?_
    split
    next h =>
      refine (L0.addK S0 _ _ _).trans (congrArg₂ (· + ·) ?_ ?_ : _ = addK _ _ x17 (ix2 b d))
      · exact ld_at arg17 harg17 x17 _ _ (ix2 b d) rfl (Fin.forall_fin_two.mpr ⟨(Nat.zero_add _).symm, (Nat.zero_add _).symm⟩)
      · exact congrArg (Blk.cK _ _ _) (by show 128 * 0 + d.val = d.val; omega)
    next h =>
      have ed : d.val = 128 + (d.val - 128) := by omega
      refine (L1.addK S1 _ _ _).trans (congrArg₂ (· + ·) ?_ ?_ : _ = addK _ _ x17 (ix2 b d))
      · exact ld_at arg17 harg17 x17 _ _ (ix2 b d) rfl (Fin.forall_fin_two.mpr ⟨(Nat.zero_add _).symm, ed⟩)
      · exact congrArg (Blk.cK _ _ _) ed.symm
  isplitl [H18]
  · istop
    refine hold_eq c harg18 (funext (forall_ix2 fun b d => ?_))
    refine (pair256 arg18.view _ _ _ _ _ _ b d).trans ?_
    split
    next h =>
      refine (L0.addV P0 _ _ _).trans (congrArg₂ (· + ·) ?_ ?_ : _ = addV _ _ x18 (ix2 b d))
      · exact ld_at arg18 harg18 x18 _ _ (ix2 b d) rfl (Fin.forall_fin_two.mpr ⟨(Nat.zero_add _).symm, (Nat.zero_add _).symm⟩)
      · exact congrArg (Blk.cV _ _ _) (by show 128 * 0 + d.val = d.val; omega)
    next h =>
      have ed : d.val = 128 + (d.val - 128) := by omega
      refine (L1.addV P1 _ _ _).trans (congrArg₂ (· + ·) ?_ ?_ : _ = addV _ _ x18 (ix2 b d))
      · exact ld_at arg18 harg18 x18 _ _ (ix2 b d) rfl (Fin.forall_fin_two.mpr ⟨(Nat.zero_add _).symm, ed⟩)
      · exact congrArg (Blk.cV _ _ _) ed.symm
  · istop
    refine hold_eq c harg19 (funext (forall_ix3 fun g b => ?_))
    refine (pairStack arg19.view _ _ _ _ _ _ g b).trans ?_
    split
    next h =>
      refine (congrFun (pay17_op _ _) _).trans ((IsDs.addC (D := Blk.of (hd t) (kb t) x2 x3 x4 x5 x9 x15 x16) (g := 0) (n := kb t + 1 + k.val) S0 _ b).trans ?_)
      refine congrArg₂ (· + ·) ?_ ?_
      · exact ld_at arg19 harg19 x19 _ _ (ix3 g 0 b) rfl (fun a => match a with | ⟨0, _⟩ => h | ⟨1, _⟩ => rfl | ⟨2, _⟩ => (Nat.zero_add _).symm)
      · exact congrArg (fun z => Blk.cC _ _ z _) h.symm
    next h =>
      have h' : g.val = 1 := by have := g.isLt; omega
      refine (congrFun (pay75_op _ _) _).trans ((IsDs.addC (D := Blk.of (hd t) (kb t) x2 x3 x4 x5 x9 x15 x16) (g := 1) (n := kb t + 1 + k.val) S1 _ b).trans ?_)
      refine congrArg₂ (· + ·) ?_ ?_
      · exact ld_at arg19 harg19 x19 _ _ (ix3 g 0 b) rfl (fun a => match a with | ⟨0, _⟩ => h' | ⟨1, _⟩ => rfl | ⟨2, _⟩ => (Nat.zero_add _).symm)
      · exact congrArg (fun z => Blk.cC _ _ z _) h'.symm

end

end Cert.Proof.Attn

end
-- ==== Proof.AttnHead.lean ====
/-
  The head of the attention gradient's body: at a pair of heads' first block of keys it clears the query gradient and
  computes the rows that the pair's blocks share (the cotangent's row sums, and the difference of the queries' cumulated
  gates and normalisers); at the very first point it clears the gates' gradient; and always the accumulators of the block.
-/
module

public import proofs.«01_k».proof.Proof.AttnTrip

@[expose] public section

set_option maxRecDepth 16384
set_option maxHeartbeats 400000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The cotangent's row sums, one for each head of the pair, at every lane. -/
def rowDots (x5 x6 : S2048x256.Idx → EReal) : S2x2048x128.Idx → EReal := fun y =>
  ∑ d : Fin 128, nat2 x5 (y 1).val (128 * (y 0).val + d.val) * nat2 x6 (y 1).val (128 * (y 0).val + d.val)

/-- The accumulators and shared rows after the head of point `t`. -/
def headQ (t : Fin grid0.N) (x10 : S2048x256.Idx → EReal) : S2048x256.Idx → EReal := if kb t = 0 then fun _ => 0 else x10
def headR (t : Fin grid0.N) (x13 : S2048x128.Idx → EReal) : S2048x128.Idx → EReal := if hd t = 0 ∧ kb t = 0 then fun _ => 0 else x13
def headD (t : Fin grid0.N) (x5 x6 : S2048x256.Idx → EReal) (x15 : S2x2048x128.Idx → EReal) : S2x2048x128.Idx → EReal :=
  if kb t = 0 then rowDots x5 x6 else x15
def headL (t : Fin grid0.N) (x7 x8 x16 : S2x2048x128.Idx → EReal) : S2x2048x128.Idx → EReal :=
  if kb t = 0 then fun y => x8 y - x7 y else x16

/-- The two conditions of the head, as the body computes them. -/
theorem cond1 : ∀ t : Fin grid0.N, Iff ((Scalar.cmpi .ne (Scalar.extui (Scalar.andi (Scalar.cmpi .eq (BitVec.ofNat 32 ((grid0.coords t) 0).val) 0#32)
    (Scalar.cmpi .eq (BitVec.ofNat 32 ((grid0.coords t) 1).val) 0#32))) 0#32 = 1#1)) (hd t = 0 ∧ kb t = 0) := by decide +kernel
theorem cond2 : ∀ t : Fin grid0.N, Iff ((Scalar.cmpi .ne (Scalar.extui (Scalar.cmpi .eq (BitVec.ofNat 32 ((grid0.coords t) 1).val) 0#32)) 0#32 = 1#1))
    (kb t = 0) := by decide +kernel

theorem zero3 : ∀ a : Fin 3, (![0, 0, 0] : Fin 3 → ℕ) a = 0 := by decide

/-- Contents whose last store covers the buffer. -/
theorem whole_hold {s : Shape} {e : EltTy} (c : Dev nD) {m : Memref sig .tc .vmem s e} (h : m.IsWhole) {off : Fin s.rank → ℕ}
    (ho : off = fun _ => 0) (inb) (w : s.Idx → Elt Ideal e) (L : List (View.Piece (Elt Ideal) s e)) (f : m.view.ty.Contents (Elt Ideal))
    {X : s.Idx → Elt Ideal e} (hw : w = X) :
    (m.view.loc (c : Thread nD τ) ↦[m.view.set]{fullShare} m.view.writes (Elt Ideal) f (⟨Rect.unit (s := s) off s.size inb, w⟩ :: L) : sProp AttnM)
      ⊢ (m.view.loc (c : Thread nD τ) ↦[m.view.set]{fullShare} h.unread X) :=
  hold_eq c h (funext fun y => (View.read_writes_cons_unit_of_mem m.view f inb w L y y ho (fun a => (Nat.zero_add _).symm)).trans (congrFun hw y))

theorem same_hold {s : Shape} {e : EltTy} (c : Dev nD) {m : Memref sig .tc .vmem s e} (h : m.IsWhole) {x X : s.Idx → Elt Ideal e} (e : x = X) :
    (m.view.loc (c : Thread nD τ) ↦[m.view.set]{fullShare} h.unread x : sProp AttnM)
      ⊢ (m.view.loc (c : Thread nD τ) ↦[m.view.set]{fullShare} h.unread X) := by rw [e]

theorem zero3q : k0_pay3 (F := Ideal) = fun _ => 0 := funext (forall_ix2 fun a b => by pointwise [k0_pay3])
theorem zero49 : k0_pay49 (F := Ideal) = fun _ => 0 := funext (forall_ix2 fun a b => by pointwise [k0_pay49])
theorem zero51 : k0_pay51 (F := Ideal) = fun _ => 0 := funext (forall_ix2 fun a b => by pointwise [k0_pay51])
theorem zero52 : k0_pay52 (F := Ideal) = fun _ => 0 := funext (forall_ix2 fun a b => by pointwise [k0_pay52])
theorem zero53 : k0_pay53 (F := Ideal) = fun _ => 0 := funext (forall_ix3 fun a b => by pointwise [k0_pay53])

theorem pay4_apply (x y : Vec Ideal S2048x128 .f32) (r : Fin 2048) (l : Fin 128) :
    k0_pay4 (F := Ideal) x y (ix3 0 r l) = ∑ d : Fin 128, x (ix2 r d) * y (ix2 r d) := by pointwise [k0_pay4]
theorem pay5_apply (x y : Vec Ideal S2048x128 .f32) (r : Fin 2048) (l : Fin 128) :
    k0_pay5 (F := Ideal) x y (ix3 0 r l) = ∑ d : Fin 128, x (ix2 r d) * y (ix2 r d) := by pointwise [k0_pay5]

/-- The two stores of the row sums leave them. -/
theorem dots_read (arg5 : Memref sig .tc .vmem S2048x256 .f32) (harg5 : arg5.IsWhole) (arg6 : Memref sig .tc .vmem S2048x256 .f32) (harg6 : arg6.IsWhole)
    (arg15 : Memref sig .tc .vmem S2x2048x128 .f32) (x5 x6 : S2048x256.Idx → EReal) (f : arg15.view.ty.Contents (Elt Ideal)) (i1 i0 j1 j1' j0 j0') :
    View.read (Elt Ideal) arg15.view (arg15.view.writes (Elt Ideal) f
      [⟨Rect.unit (s := S2x2048x128) ![1, 0, 0] S1x2048x128.size i1, k0_pay5
          (View.readAt (Elt Ideal) arg5.view (Rect.unit (s := S2048x256) ![0, 128] S2048x128.size j1).toLoadRect (harg5.unread x5))
          (View.readAt (Elt Ideal) arg6.view (Rect.unit (s := S2048x256) ![0, 128] S2048x128.size j1').toLoadRect (harg6.unread x6))⟩,
        ⟨Rect.unit (s := S2x2048x128) ![0, 0, 0] S1x2048x128.size i0, k0_pay4
          (View.readAt (Elt Ideal) arg5.view (Rect.unit (s := S2048x256) ![0, 0] S2048x128.size j0).toLoadRect (harg5.unread x5))
          (View.readAt (Elt Ideal) arg6.view (Rect.unit (s := S2048x256) ![0, 0] S2048x128.size j0').toLoadRect (harg6.unread x6))⟩]) = rowDots x5 x6 := by
  funext y
  have z : ∀ x : ℕ, 0 + x = x := Nat.zero_add
  have e : y = ix3 (y 0) (y 1) (y 2) := funext fun a => match a with | ⟨0, _⟩ => rfl | ⟨1, _⟩ => rfl | ⟨2, _⟩ => rfl
  have hg : (y 0).val = 0 ∨ (y 0).val = 1 := by have : (y 0).val < 2 := (y 0).isLt; omega
  rcases hg with hg | hg
  · rw [View.read_writes_cons_unit_of_not_mem _ _ i1 _ _ y rfl 0 (Or.inl (by show (y 0).val < 1; omega))]
    refine (View.read_writes_cons_unit_of_mem _ _ i0 _ _ y (ix3 0 (y 1) (y 2)) rfl
      (fun a => match a with | ⟨0, _⟩ => hg | ⟨1, _⟩ => (z _).symm | ⟨2, _⟩ => (z _).symm)).trans ?_
    refine (pay4_apply _ _ _ _).trans (Finset.sum_congr rfl fun d _ => congrArg₂ (· * ·) ((ld2 ..).trans ?_) ((ld2 ..).trans ?_)) <;>
      exact congrArg₂ (nat2 _) (z _) (by show 0 + d.val = 128 * (y 0).val + d.val; rw [hg])
  · refine (View.read_writes_cons_unit_of_mem _ _ i1 _ _ y (ix3 0 (y 1) (y 2)) rfl
      (fun a => match a with | ⟨0, _⟩ => hg | ⟨1, _⟩ => (z _).symm | ⟨2, _⟩ => (z _).symm)).trans ?_
    refine (pay5_apply _ _ _ _).trans (Finset.sum_congr rfl fun d _ => congrArg₂ (· * ·) ((ld2 ..).trans ?_) ((ld2 ..).trans ?_)) <;>
      exact congrArg₂ (nat2 _) (z _) (by show 128 + d.val = 128 * (y 0).val + d.val; rw [hg])

theorem pay50_apply (x y : Vec Ideal S2x2048x128 .f32) : k0_pay50 (F := Ideal) (k0_pay6 x y) = fun z => x z - y z := by
  funext z
  have e : z = ix3 (z 0) (z 1) (z 2) := funext fun a => match a with | ⟨0, _⟩ => rfl | ⟨1, _⟩ => rfl | ⟨2, _⟩ => rfl
  rw [e]
  pointwise [k0_pay50, k0_pay6]

theorem diff_read (arg7 : Memref sig .tc .vmem S2x2048x128 .f32) (harg7 : arg7.IsWhole) (arg8 : Memref sig .tc .vmem S2x2048x128 .f32) (harg8 : arg8.IsWhole)
    (x7 x8 : S2x2048x128.Idx → EReal) (i7 i8) :
    k0_pay50 (F := Ideal) (k0_pay6 (View.readAt (Elt Ideal) arg8.view (Rect.unit (s := S2x2048x128) ![0, 0, 0] S2x2048x128.size i8).toLoadRect (harg8.unread x8))
      (View.readAt (Elt Ideal) arg7.view (Rect.unit (s := S2x2048x128) ![0, 0, 0] S2x2048x128.size i7).toLoadRect (harg7.unread x7)))
      = fun y => x8 y - x7 y :=
  (pay50_apply _ _).trans (funext fun y => congrArg₂ (· - ·) (ld_at arg8 harg8 x8 i8 y y (funext zero3) (fun a => (Nat.zero_add _).symm))
    (ld_at arg7 harg7 x7 i7 y y (funext zero3) (fun a => (Nat.zero_add _).symm)))

section

variable (𝒱 : Variants) (c : Dev nD) (bd : Option 𝒱.V) (t : Fin grid0.N)
  (arg2 : Memref sig .tc .vmem S2048x256 .bf16) (harg2 : arg2.IsWhole) (arg3 : Memref sig .tc .vmem S256x256 .bf16) (harg3 : arg3.IsWhole) (arg4 : Memref sig .tc .vmem S256x256 .f32) (harg4 : arg4.IsWhole)
  (arg5 : Memref sig .tc .vmem S2048x256 .f32) (harg5 : arg5.IsWhole) (arg6 : Memref sig .tc .vmem S2048x256 .f32) (harg6 : arg6.IsWhole) (arg7 : Memref sig .tc .vmem S2x2048x128 .f32) (harg7 : arg7.IsWhole)
  (arg8 : Memref sig .tc .vmem S2x2048x128 .f32) (harg8 : arg8.IsWhole) (arg9 : Memref sig .tc .vmem S2x1x1x256 .f32) (harg9 : arg9.IsWhole) (arg10 : Memref sig .tc .vmem S2048x256 .f32) (harg10 : arg10.IsWhole)
  (arg11 : Memref sig .tc .vmem S256x256 .f32) (harg11 : arg11.IsWhole) (arg12 : Memref sig .tc .vmem S256x256 .bf16) (harg12 : arg12.IsWhole) (arg13 : Memref sig .tc .vmem S2048x128 .f32) (harg13 : arg13.IsWhole)
  (arg14 : Memref sig .tc .vmem S2x1x1x256 .f32) (harg14 : arg14.IsWhole) (arg15 : Memref sig .tc .vmem S2x2048x128 .f32) (harg15 : arg15.IsWhole) (arg16 : Memref sig .tc .vmem S2x2048x128 .f32) (harg16 : arg16.IsWhole)
  (arg17 : Memref sig .tc .vmem S256x256 .f32) (harg17 : arg17.IsWhole) (arg18 : Memref sig .tc .vmem S256x256 .f32) (harg18 : arg18.IsWhole) (arg19 : Memref sig .tc .vmem S2x1x256 .f32) (harg19 : arg19.IsWhole)

/-- Every window and scratch buffer of the body at given contents. -/
def Owns (x2 : S2048x256.Idx → EReal) (x3 : S256x256.Idx → EReal) (x4 : S256x256.Idx → EReal) (x5 : S2048x256.Idx → EReal) (x6 : S2048x256.Idx → EReal) (x7 : S2x2048x128.Idx → EReal) (x8 : S2x2048x128.Idx → EReal) (x9 : S2x1x1x256.Idx → EReal) (x10 : S2048x256.Idx → EReal) (x11 : S256x256.Idx → EReal) (x12 : S256x256.Idx → EReal) (x13 : S2048x128.Idx → EReal) (x14 : S2x1x1x256.Idx → EReal) (x15 : S2x2048x128.Idx → EReal) (x16 : S2x2048x128.Idx → EReal) (x17 : S256x256.Idx → EReal) (x18 : S256x256.Idx → EReal) (x19 : S2x1x256.Idx → EReal) : sProp AttnM :=
  iprop((arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7)) ∗ (arg8.view.loc (c : Thread nD τ) ↦[arg8.view.set]{fullShare} (harg8.unread x8)) ∗ (arg9.view.loc (c : Thread nD τ) ↦[arg9.view.set]{fullShare} (harg9.unread x9)) ∗ (arg10.view.loc (c : Thread nD τ) ↦[arg10.view.set]{fullShare} (harg10.unread x10)) ∗ (arg11.view.loc (c : Thread nD τ) ↦[arg11.view.set]{fullShare} (harg11.unread x11)) ∗ (arg12.view.loc (c : Thread nD τ) ↦[arg12.view.set]{fullShare} (harg12.unread x12)) ∗ (arg13.view.loc (c : Thread nD τ) ↦[arg13.view.set]{fullShare} (harg13.unread x13)) ∗ (arg14.view.loc (c : Thread nD τ) ↦[arg14.view.set]{fullShare} (harg14.unread x14)) ∗ (arg15.view.loc (c : Thread nD τ) ↦[arg15.view.set]{fullShare} (harg15.unread x15)) ∗ (arg16.view.loc (c : Thread nD τ) ↦[arg16.view.set]{fullShare} (harg16.unread x16)) ∗ (arg17.view.loc (c : Thread nD τ) ↦[arg17.view.set]{fullShare} (harg17.unread x17)) ∗ (arg18.view.loc (c : Thread nD τ) ↦[arg18.view.set]{fullShare} (harg18.unread x18)) ∗ (arg19.view.loc (c : Thread nD τ) ↦[arg19.view.set]{fullShare} (harg19.unread x19)))

/-- What the head returns. -/
abbrev head (x3 : S256x256.Idx → EReal) (x4 : S256x256.Idx → EReal) (x9 : S2x1x1x256.Idx → EReal) :
    Σ' (arg0 : BitVec 32) (arg1 : BitVec 32) (v8 : IVec S256x128 32) (v21 : IVec S256x256 32) (v22 : IVec S256x256 32) (v23 : Vec Ideal S256x128 .bf16) (v25 : FVec Ideal S256x128 .bf16) (v27 : FVec Ideal S1x256 .f32), BitVec 32 :=
  ⟨BitVec.ofNat 32 ((grid0.coords t) 0).val, BitVec.ofNat 32 ((grid0.coords t) 1).val, iota .tc S256x128 32 [1] iota_S256x128_d1_w32,
    iota .tc S256x256 32 [1] iota_S256x256_d1_w32, iota .tc S256x256 32 [0] iota_S256x256_d0_w32,
    View.readAt (Elt Ideal) arg3.view (Rect.unit (s := S256x256) ![0, 0] S256x128.size inb_S256x256_S256x128_0_0).toLoadRect (harg3.unread x3),
    k0_pay54 (View.readAt (Elt Ideal) arg4.view (Rect.unit (s := S256x256) ![0, 0] S256x128.size inb_S256x256_S256x128_0_0).toLoadRect (harg4.unread x4)),
    k0_pay55 (View.readAt (Elt Ideal) arg9.view (Rect.unit (s := S2x1x1x256) ![0, 0, 0, 0] S1x1x1x256.size inb_S2x1x1x256_S1x1x1x256_0_0_0_0).toLoadRect (harg9.unread x9)),
    Scalar.muli (BitVec.ofNat 32 ((grid0.coords t) 1).val) 256#32⟩

theorem head_spec (E : Set ℕ) (x2 : S2048x256.Idx → EReal) (x3 : S256x256.Idx → EReal) (x4 : S256x256.Idx → EReal) (x5 : S2048x256.Idx → EReal) (x6 : S2048x256.Idx → EReal) (x7 : S2x2048x128.Idx → EReal) (x8 : S2x2048x128.Idx → EReal) (x9 : S2x1x1x256.Idx → EReal) (x10 : S2048x256.Idx → EReal) (x11 : S256x256.Idx → EReal) (x12 : S256x256.Idx → EReal) (x13 : S2048x128.Idx → EReal) (x14 : S2x1x1x256.Idx → EReal) (x15 : S2x2048x128.Idx → EReal) (x16 : S2x2048x128.Idx → EReal) (x17 : S256x256.Idx → EReal) (x18 : S256x256.Idx → EReal) (x19 : S2x1x256.Idx → EReal) :
    Owns c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 x12 x13 x14 x15 x16 x17 x18 x19 ⊢ wp frame (wpE (defs₀ (F := Ideal)) 𝒱 (c : Thread nD τ) bd) E
      (k0_part10 (F := Ideal) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun r => iprop(⌜r = head t arg3 harg3 arg4 harg4 arg9 harg9 x3 x4 x9⌝ ∗ Owns c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 (headQ t x10) x11 x12 (headR t x13) x14 (headD t x5 x6 x15) (headL t x7 x8 x16) (fun _ => 0) (fun _ => 0) (fun _ => 0))) := by
  unfold Owns
  rw [k0_part10_eq_skeleton, k0_part10_skel]
  iintro ⟨H2, H3, H4, H5, H6, H7, H8, H9, H10, H11, H12, H13, H14, H15, H16, H17, H18, H19⟩
  by_cases hk : kb t = 0
  · have c2 := (cond2 t).mpr hk
    by_cases hh : hd t = 0
    · have c1 := (cond1 t).mpr ⟨hh, hk⟩
      sl_exec (disch := first | sl_exact c1 | sl_exact c2)
      sl_step
      isplitr; · ipureintro; rfl
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · istop; exact whole_hold c harg10 (funext (Fin.forall_fin_two.mpr ⟨rfl, rfl⟩)) _ _ _ _ (zero3q.trans (if_pos hk).symm)
      isplitl [H11]; · iexact H11
      isplitl [H12]; · iexact H12
      isplitl [H13]; · istop; exact whole_hold c harg13 (funext (Fin.forall_fin_two.mpr ⟨rfl, rfl⟩)) _ _ _ _ (zero49.trans (if_pos ⟨hh, hk⟩).symm)
      isplitl [H14]; · iexact H14
      isplitl [H15]; · istop; exact hold_eq c harg15 ((dots_read arg5 harg5 arg6 harg6 arg15 x5 x6 _ _ _ _ _ _ _).trans (if_pos hk).symm)
      isplitl [H16]; · istop; exact whole_hold c harg16 (funext zero3) _ _ _ _ ((diff_read arg7 harg7 arg8 harg8 x7 x8 _ _).trans (if_pos hk).symm)
      isplitl [H17]; · istop; exact whole_hold c harg17 (funext (Fin.forall_fin_two.mpr ⟨rfl, rfl⟩)) _ _ _ _ zero51
      isplitl [H18]; · istop; exact whole_hold c harg18 (funext (Fin.forall_fin_two.mpr ⟨rfl, rfl⟩)) _ _ _ _ zero52
      · istop; exact whole_hold c harg19 (funext zero3) _ _ _ _ zero53
    · have c1 := mt (cond1 t).mp (fun h => hh h.1)
      sl_exec (disch := first | sl_exact c1 | sl_exact c2)
      sl_step
      isplitr; · ipureintro; rfl
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · istop; exact whole_hold c harg10 (funext (Fin.forall_fin_two.mpr ⟨rfl, rfl⟩)) _ _ _ _ (zero3q.trans (if_pos hk).symm)
      isplitl [H11]; · iexact H11
      isplitl [H12]; · iexact H12
      isplitl [H13]; · istop; exact same_hold c harg13 (if_neg (fun h => hh h.1)).symm
      isplitl [H14]; · iexact H14
      isplitl [H15]; · istop; exact hold_eq c harg15 ((dots_read arg5 harg5 arg6 harg6 arg15 x5 x6 _ _ _ _ _ _ _).trans (if_pos hk).symm)
      isplitl [H16]; · istop; exact whole_hold c harg16 (funext zero3) _ _ _ _ ((diff_read arg7 harg7 arg8 harg8 x7 x8 _ _).trans (if_pos hk).symm)
      isplitl [H17]; · istop; exact whole_hold c harg17 (funext (Fin.forall_fin_two.mpr ⟨rfl, rfl⟩)) _ _ _ _ zero51
      isplitl [H18]; · istop; exact whole_hold c harg18 (funext (Fin.forall_fin_two.mpr ⟨rfl, rfl⟩)) _ _ _ _ zero52
      · istop; exact whole_hold c harg19 (funext zero3) _ _ _ _ zero53
  · have c1 := mt (cond1 t).mp (fun h => hk h.2)
    have c2 := mt (cond2 t).mp hk
    sl_exec (disch := first | sl_exact c1 | sl_exact c2)
    sl_step
    isplitr; · ipureintro; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · istop; exact same_hold c harg10 (if_neg hk).symm
    isplitl [H11]; · iexact H11
    isplitl [H12]; · iexact H12
    isplitl [H13]; · istop; exact same_hold c harg13 (if_neg (fun h => hk h.2)).symm
    isplitl [H14]; · iexact H14
    isplitl [H15]; · istop; exact same_hold c harg15 (if_neg hk).symm
    isplitl [H16]; · istop; exact same_hold c harg16 (if_neg hk).symm
    isplitl [H17]; · istop; exact whole_hold c harg17 (funext (Fin.forall_fin_two.mpr ⟨rfl, rfl⟩)) _ _ _ _ zero51
    isplitl [H18]; · istop; exact whole_hold c harg18 (funext (Fin.forall_fin_two.mpr ⟨rfl, rfl⟩)) _ _ _ _ zero52
    · istop; exact whole_hold c harg19 (funext zero3) _ _ _ _ zero53

end

end Cert.Proof.Attn

end
-- ==== Proof.AttnBody.lean ====
/-
  The attention gradient's body at one grid point: the head, the masked block on the diagonal, the loop over the later
  blocks of queries, and the results of the block of keys.
-/
module

public import proofs.«01_k».proof.Proof.AttnHead

@[expose] public section

set_option maxRecDepth 16384
set_option maxHeartbeats 400000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What the blocks of queries `j`, `j + 1`, …, `j + k` leave, each by `f`. -/
def through {α : Type} (f : ℕ → α → α) (j : ℕ) (x : α) : ℕ → α
  | 0 => f j x
  | k + 1 => f (j + 1 + k) (through f j x k)

theorem io1 (a b : Fin 256) : iota .tc S256x256 32 [1] iota_S256x256_d1_w32 (ix2 a b) = BitVec.ofNat 32 b.val := by pointwise []
theorem io0 (a b : Fin 256) : iota .tc S256x256 32 [0] iota_S256x256_d0_w32 (ix2 a b) = BitVec.ofNat 32 a.val := by pointwise []
theorem io8 (a : Fin 256) (b : Fin 128) : iota .tc S256x128 32 [1] iota_S256x128_d1_w32 (ix2 a b) = BitVec.ofNat 32 b.val := by pointwise []

theorem pay77_fun (v : Vec Ideal S256x256 .f32) (x : S256x256.Idx → EReal) (h : ∀ y, v y = x y) :
    k0_pay77 (F := Ideal) v = fun y => x y * σ := by
  obtain rfl : v = x := funext h
  exact funext (forall_ix2 fun a b => by pointwise [k0_pay77]; rfl)

theorem keys_read (arg17 : Memref sig .tc .vmem S256x256 .f32) (harg17 : arg17.IsWhole) (x : S256x256.Idx → EReal) (j) :
    k0_pay77 (F := Ideal) (View.readAt (Elt Ideal) arg17.view (Rect.unit (s := S256x256) ![0, 0] S256x256.size j).toLoadRect (harg17.unread x))
      = fun y => x y * σ :=
  pay77_fun _ x fun y => ld_at arg17 harg17 x j y y (off' := fun _ => 0) (funext (Fin.forall_fin_two.mpr ⟨rfl, rfl⟩)) (fun a => (Nat.zero_add _).symm)
theorem vals_read (arg18 : Memref sig .tc .vmem S256x256 .f32) (harg18 : arg18.IsWhole) (x : S256x256.Idx → EReal) (j) :
    k0_pay78 (F := Ideal) (View.readAt (Elt Ideal) arg18.view (Rect.unit (s := S256x256) ![0, 0] S256x256.size j).toLoadRect (harg18.unread x)) = x :=
  funext fun y => ld_at arg18 harg18 x j y y (off' := fun _ => 0) (funext (Fin.forall_fin_two.mpr ⟨rfl, rfl⟩)) (fun a => (Nat.zero_add _).symm)

theorem pay64_op (s : FVec Ideal S256x256 .f32) (acc : Vec Ideal S1x1x256 .f32) : k0_pay64 s acc = opC (F := Ideal) s acc := rfl
theorem pay74_op (s : FVec Ideal S256x256 .f32) (acc : Vec Ideal S1x1x256 .f32) : k0_pay74 s acc = opC (F := Ideal) s acc := rfl

theorem pay1_apply (v : Vec Ideal S1x1x256 .f32) (b : Fin 256) : k0_pay1 (k0_pay79 (F := Ideal) v) (ix4 0 0 0 b) = 0 - v (ix3 0 0 b) := by
  pointwise [k0_pay1, k0_pay79]
theorem pay2_apply (v : Vec Ideal S1x1x256 .f32) (b : Fin 256) : k0_pay2 (F := Ideal) v (ix4 0 0 0 b) = 0 - v (ix3 0 0 b) := by
  pointwise [k0_pay2]

/-- The two stores of the key side's gate leave the negated column sums. -/
theorem neg_read (arg19 : Memref sig .tc .vmem S2x1x256 .f32) (harg19 : arg19.IsWhole) (arg14 : Memref sig .tc .vmem S2x1x1x256 .f32)
    (x : S2x1x256.Idx → EReal) (f : arg14.view.ty.Contents (Elt Ideal)) (i1 i0 j1 j0) :
    View.read (Elt Ideal) arg14.view (arg14.view.writes (Elt Ideal) f
      [⟨Rect.unit (s := S2x1x1x256) ![1, 0, 0, 0] S1x1x1x256.size i1, k0_pay2
          (View.readAt (Elt Ideal) arg19.view (Rect.unit (s := S2x1x256) ![1, 0, 0] S1x1x256.size j1).toLoadRect (harg19.unread x))⟩,
        ⟨Rect.unit (s := S2x1x1x256) ![0, 0, 0, 0] S1x1x1x256.size i0, k0_pay1 (k0_pay79
          (View.readAt (Elt Ideal) arg19.view (Rect.unit (s := S2x1x256) ![0, 0, 0] S1x1x256.size j0).toLoadRect (harg19.unread x)))⟩])
      = fun y : S2x1x1x256.Idx => 0 - x (ix3 (y 0) 0 (y 3)) := by
  funext y
  have z : ∀ x : ℕ, 0 + x = x := Nat.zero_add
  have hg : (y 0).val = 0 ∨ (y 0).val = 1 := by have : (y 0).val < 2 := (y 0).isLt; omega
  have h1 : (y 1).val = 0 := by have : (y 1).val < 1 := (y 1).isLt; omega
  have h2 : (y 2).val = 0 := by have : (y 2).val < 1 := (y 2).isLt; omega
  rcases hg with hg | hg
  · rw [View.read_writes_cons_unit_of_not_mem _ _ i1 _ _ y rfl 0 (Or.inl (by show (y 0).val < 1; omega))]
    refine (View.read_writes_cons_unit_of_mem _ _ i0 _ _ y (ix4 0 0 0 (y 3)) rfl
      (fun a => match a with | ⟨0, _⟩ => hg | ⟨1, _⟩ => h1 | ⟨2, _⟩ => h2 | ⟨3, _⟩ => (z _).symm)).trans ?_
    refine (pay1_apply _ _).trans (congrArg (0 - ·) ?_)
    exact ld_at arg19 harg19 x j0 _ (ix3 (y 0) 0 (y 3)) rfl (fun a => match a with | ⟨0, _⟩ => hg | ⟨1, _⟩ => rfl | ⟨2, _⟩ => (z _).symm)
  · refine (View.read_writes_cons_unit_of_mem _ _ i1 _ _ y (ix4 0 0 0 (y 3)) rfl
      (fun a => match a with | ⟨0, _⟩ => hg | ⟨1, _⟩ => h1 | ⟨2, _⟩ => h2 | ⟨3, _⟩ => (z _).symm)).trans ?_
    refine (pay2_apply _ _).trans (congrArg (0 - ·) ?_)
    exact ld_at arg19 harg19 x j1 _ (ix3 (y 0) 0 (y 3)) rfl (fun a => match a with | ⟨0, _⟩ => hg | ⟨1, _⟩ => rfl | ⟨2, _⟩ => (z _).symm)

section

variable (𝒱 : Variants) (c : Dev nD) (bd : Option 𝒱.V) (t : Fin grid0.N)
  (arg2 : Memref sig .tc .vmem S2048x256 .bf16) (harg2 : arg2.IsWhole) (arg3 : Memref sig .tc .vmem S256x256 .bf16) (harg3 : arg3.IsWhole) (arg4 : Memref sig .tc .vmem S256x256 .f32) (harg4 : arg4.IsWhole)
  (arg5 : Memref sig .tc .vmem S2048x256 .f32) (harg5 : arg5.IsWhole) (arg6 : Memref sig .tc .vmem S2048x256 .f32) (harg6 : arg6.IsWhole) (arg7 : Memref sig .tc .vmem S2x2048x128 .f32) (harg7 : arg7.IsWhole)
  (arg8 : Memref sig .tc .vmem S2x2048x128 .f32) (harg8 : arg8.IsWhole) (arg9 : Memref sig .tc .vmem S2x1x1x256 .f32) (harg9 : arg9.IsWhole) (arg10 : Memref sig .tc .vmem S2048x256 .f32) (harg10 : arg10.IsWhole)
  (arg11 : Memref sig .tc .vmem S256x256 .f32) (harg11 : arg11.IsWhole) (arg12 : Memref sig .tc .vmem S256x256 .bf16) (harg12 : arg12.IsWhole) (arg13 : Memref sig .tc .vmem S2048x128 .f32) (harg13 : arg13.IsWhole)
  (arg14 : Memref sig .tc .vmem S2x1x1x256 .f32) (harg14 : arg14.IsWhole) (arg15 : Memref sig .tc .vmem S2x2048x128 .f32) (harg15 : arg15.IsWhole) (arg16 : Memref sig .tc .vmem S2x2048x128 .f32) (harg16 : arg16.IsWhole)
  (arg17 : Memref sig .tc .vmem S256x256 .f32) (harg17 : arg17.IsWhole) (arg18 : Memref sig .tc .vmem S256x256 .f32) (harg18 : arg18.IsWhole) (arg19 : Memref sig .tc .vmem S2x1x256 .f32) (harg19 : arg19.IsWhole)

theorem body_spec (E : Set ℕ) (x2 : S2048x256.Idx → EReal) (x3 : S256x256.Idx → EReal) (x4 : S256x256.Idx → EReal) (x5 : S2048x256.Idx → EReal) (x6 : S2048x256.Idx → EReal) (x7 : S2x2048x128.Idx → EReal) (x8 : S2x2048x128.Idx → EReal) (x9 : S2x1x1x256.Idx → EReal) (x10 : S2048x256.Idx → EReal) (x11 : S256x256.Idx → EReal) (x12 : S256x256.Idx → EReal) (x13 : S2048x128.Idx → EReal) (x14 : S2x1x1x256.Idx → EReal) (x15 : S2x2048x128.Idx → EReal) (x16 : S2x2048x128.Idx → EReal) (x17 : S256x256.Idx → EReal) (x18 : S256x256.Idx → EReal) (x19 : S2x1x256.Idx → EReal) :
    Owns c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 x12 x13 x14 x15 x16 x17 x18 x19 ⊢ wp frame (wpE (defs₀ (F := Ideal)) 𝒱 (c : Thread nD τ) bd) E
      (cc0_d_fox_attn (F := Ideal) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun r => iprop(Owns c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 (through (addQ (Blk.of (hd t) (kb t) x2 x3 x4 x5 x9 (headD t x5 x6 x15) (headL t x7 x8 x16))) (kb t) (headQ t x10) (7 - kb t)) (fun y => (through (addK (Blk.of (hd t) (kb t) x2 x3 x4 x5 x9 (headD t x5 x6 x15) (headL t x7 x8 x16))) (kb t) (fun _ => 0) (7 - kb t)) y * σ) (through (addV (Blk.of (hd t) (kb t) x2 x3 x4 x5 x9 (headD t x5 x6 x15) (headL t x7 x8 x16))) (kb t) (fun _ => 0) (7 - kb t)) (through (addR (Blk.of (hd t) (kb t) x2 x3 x4 x5 x9 (headD t x5 x6 x15) (headL t x7 x8 x16))) (kb t) (headR t x13) (7 - kb t)) (fun y => 0 - (through (addC (Blk.of (hd t) (kb t) x2 x3 x4 x5 x9 (headD t x5 x6 x15) (headL t x7 x8 x16))) (kb t) (fun _ => 0) (7 - kb t)) (ix3 (y 0) 0 (y 3))) (headD t x5 x6 x15) (headL t x7 x8 x16) (through (addK (Blk.of (hd t) (kb t) x2 x3 x4 x5 x9 (headD t x5 x6 x15) (headL t x7 x8 x16))) (kb t) (fun _ => 0) (7 - kb t)) (through (addV (Blk.of (hd t) (kb t) x2 x3 x4 x5 x9 (headD t x5 x6 x15) (headL t x7 x8 x16))) (kb t) (fun _ => 0) (7 - kb t)) (through (addC (Blk.of (hd t) (kb t) x2 x3 x4 x5 x9 (headD t x5 x6 x15) (headL t x7 x8 x16))) (kb t) (fun _ => 0) (7 - kb t)))) := by
  rw [cc0_d_fox_attn_eq_skeleton, cc0_d_fox_attn_skel, wp_bind]
  refine (head_spec 𝒱 c bd t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E x2 x3 x4 x5 x6 x7 x8 x9 x10 x11 x12 x13 x14 x15 x16 x17 x18 x19).trans (wp_mono _ _ _ fun r => ?_)
  unfold Owns
  iintro ⟨%hr, H2, H3, H4, H5, H6, H7, H8, H9, H10, H11, H12, H13, H14, H15, H16, H17, H18, H19⟩
  subst hr
  have h0 : BitVec.ofNat 32 ((grid0.coords t) 0).val = BitVec.ofNat 32 (hd t) := congrArg _ (coord0 t)
  have h8 := io8
  sl_exec
  iapply (Scf.wp_for_bind frame (wpE (defs₀ (F := Ideal)) 𝒱 (c : Thread nD τ) bd) E _ _ _ (k0_t1_ok (grid0.coords t)) _ _
    (fun k _ => Held c arg2 harg2 arg3 harg3 arg4 harg4 arg5 harg5 arg9 harg9 arg10 harg10 arg13 harg13 arg15 harg15 arg16 harg16 arg17 harg17 arg18 harg18 arg19 harg19 x2 x3 x4 x5 x9 (headD t x5 x6 x15) (headL t x7 x8 x16) (through (addQ (Blk.of (hd t) (kb t) x2 x3 x4 x5 x9 (headD t x5 x6 x15) (headL t x7 x8 x16))) (kb t) (headQ t x10) k) (through (addR (Blk.of (hd t) (kb t) x2 x3 x4 x5 x9 (headD t x5 x6 x15) (headL t x7 x8 x16))) (kb t) (headR t x13) k) (through (addK (Blk.of (hd t) (kb t) x2 x3 x4 x5 x9 (headD t x5 x6 x15) (headL t x7 x8 x16))) (kb t) (fun _ => 0) k) (through (addV (Blk.of (hd t) (kb t) x2 x3 x4 x5 x9 (headD t x5 x6 x15) (headL t x7 x8 x16))) (kb t) (fun _ => 0) k) (through (addC (Blk.of (hd t) (kb t) x2 x3 x4 x5 x9 (headD t x5 x6 x15) (headL t x7 x8 x16))) (kb t) (fun _ => 0) k))
    (fun k acc => trip 𝒱 c bd t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ x2 x3 x4 x5 x9 (headD t x5 x6 x15) (headL t x7 x8 x16) k E h0 h8 _ _ _ _ _)) $$ [H2 H3 H4 H5 H9 H15 H16 H10 H13 H17 H18 H19]
  · unfold Held
    have L0 := loaded arg2 harg2 arg3 harg3 arg4 harg4 arg5 harg5 arg9 harg9 arg15 harg15 arg16 harg16 x2 x3 x4 x5 x9 (headD t x5 x6 x15) (headL t x7 x8 x16) (hd t) (kb t) 0
      (kb t) (off1 t) rfl (off2 t) rfl (k0_off1_inb (grid0.coords t)) inb_S256x256_S256x128_0_0
      (k0_off2_inb (grid0.coords t)) inb_S2x1x1x256_S1x1x1x256_0_0_0_0 inb_S256x256_S256x128_0_0 (k0_off1_inb (grid0.coords t))
      (k0_off2_inb (grid0.coords t))
    have L1 := loaded arg2 harg2 arg3 harg3 arg4 harg4 arg5 harg5 arg9 harg9 arg15 harg15 arg16 harg16 x2 x3 x4 x5 x9 (headD t x5 x6 x15) (headL t x7 x8 x16) (hd t) (kb t) 1
      (kb t) (off4 t) rfl (off5 t) rfl (k0_off4_inb (grid0.coords t)) inb_S256x256_S256x128_0_128
      (k0_off5_inb (grid0.coords t)) inb_S2x1x1x256_S1x1x1x256_1_0_0_0 inb_S256x256_S256x128_0_128 (k0_off4_inb (grid0.coords t))
      (k0_off5_inb (grid0.coords t))
    have P0 := L0.isP_mask (rfl) (iota .tc S256x256 32 [1] iota_S256x256_d1_w32) (iota .tc S256x256 32 [0] iota_S256x256_d0_w32) io1 io0
    have P1 := L1.isP_mask (rfl) (iota .tc S256x256 32 [1] iota_S256x256_d1_w32) (iota .tc S256x256 32 [0] iota_S256x256_d0_w32) io1 io0
    have S0 := L0.isDs P0
    have S1 := L1.isDs P1
    isplitl [H2]; · iexact H2
    isplitl [H3]; · iexact H3
    isplitl [H4]; · iexact H4
    isplitl [H5]; · iexact H5
    isplitl [H9]; · iexact H9
    isplitl [H15]; · iexact H15
    isplitl [H16]; · iexact H16
    isplitl [H10]
    · istop
      refine hold_eq c harg10 (funext (forall_ix2 fun r d => ?_))
      refine (pairRows arg10.view _ (kb t) (off4 t) (off1 t) _ _ _ _ _ r d).trans ?_
      have er : ∀ hr : r.val / 256 = kb t, r.val = 256 * (kb t) + (r.val - 256 * (kb t)) := fun hr => by omega
      split
      next hr =>
        split
        next h =>
          refine (L0.addQ S0 _ _ _).trans (congrArg₂ (· + ·) ?_ ?_ : _ = addQ _ _ (headQ t x10) (ix2 r d))
          · exact ld_at arg10 harg10 (headQ t x10) _ _ (ix2 r d) (off1 t) (Fin.forall_fin_two.mpr ⟨er hr, (Nat.zero_add _).symm⟩)
          · exact congrArg₂ (Blk.cQ _ _) (er hr).symm (by show 128 * 0 + d.val = d.val; omega)
        next h =>
          have ed : d.val = 128 + (d.val - 128) := by omega
          refine (L1.addQ S1 _ _ _).trans (congrArg₂ (· + ·) ?_ ?_ : _ = addQ _ _ (headQ t x10) (ix2 r d))
          · exact ld_at arg10 harg10 (headQ t x10) _ _ (ix2 r d) (off4 t) (Fin.forall_fin_two.mpr ⟨er hr, ed⟩)
          · exact congrArg₂ (Blk.cQ _ _) (er hr).symm ed.symm
      next hr =>
        exact (congrFun (Memref.IsWhole.read_unread (Val := Elt Ideal) harg10 (headQ t x10)) (ix2 r d)).trans (add_right_zero (Blk.cQ_ne hr))
    isplitl [H13]
    · istop
      refine hold_eq c harg13 (funext (forall_ix2 fun r l => ?_))
      refine (oneRows arg13.view _ (kb t) (off3 t) _ _ _ r l).trans ?_
      have er : ∀ hr : r.val / 256 = kb t, r.val = 256 * (kb t) + (r.val - 256 * (kb t)) := fun hr => by omega
      have hh := hd_lt t
      split
      next hr =>
        have e1 := S0.addR _ (iota .tc S256x128 32 [1] iota_S256x128_d1_w32) h8 (2 * hd t) (by omega) (word0 h0) (View.readAt (Elt Ideal) arg13.view
          (Rect.unit (s := S2048x128) (k0_off3 (grid0.coords t)) S256x128.size (k0_off3_inb (grid0.coords t))).toLoadRect (harg13.unread (headR t x13)))
          ⟨r.val - 256 * (kb t), by omega⟩ l
        refine (S1.addR _ (iota .tc S256x128 32 [1] iota_S256x128_d1_w32) h8 (2 * hd t + 1) (by omega) (word1 h0) _ _ l).trans ?_
        refine (congrArg₂ (· + ·) ((readCov_same arg13.view (k0_off3_inb (grid0.coords t)) _ _ _).trans e1) rfl).trans ?_
        rw [add_assoc]
        refine congrArg₂ (· + ·) ?_ ?_
        · exact ld_at arg13 harg13 (headR t x13) _ _ (ix2 r l) (off3 t) (Fin.forall_fin_two.mpr ⟨er hr, (Nat.zero_add _).symm⟩)
        · rw [Blk.cR_eq (show (ix2 r l 0).val / 256 = kb t from hr)]
          simp only [← er hr]
          rfl
      next hr =>
        refine (oneRows arg13.view _ (kb t) (off3 t) (k0_off3_inb (grid0.coords t)) _ [] r l).trans ?_
        rw [dif_neg hr]
        exact (congrFun (Memref.IsWhole.read_unread (Val := Elt Ideal) harg13 (headR t x13)) (ix2 r l)).trans (add_right_zero (Blk.cR_ne hr))
    isplitl [H17]
    · istop
      refine hold_eq c harg17 (funext (forall_ix2 fun b d => ?_))
      refine (pair256 arg17.view _ _ _ _ _ _ b d).trans ?_
      split
      next h =>
        refine (L0.addK S0 _ _ _).trans (congrArg₂ (· + ·) ?_ ?_ : _ = addK _ _ (fun _ => 0) (ix2 b d))
        · exact ld_at arg17 harg17 (fun _ => 0) _ _ (ix2 b d) rfl (Fin.forall_fin_two.mpr ⟨(Nat.zero_add _).symm, (Nat.zero_add _).symm⟩)
        · exact congrArg (Blk.cK _ _ _) (by show 128 * 0 + d.val = d.val; omega)
      next h =>
        have ed : d.val = 128 + (d.val - 128) := by omega
        refine (L1.addK S1 _ _ _).trans (congrArg₂ (· + ·) ?_ ?_ : _ = addK _ _ (fun _ => 0) (ix2 b d))
        · exact ld_at arg17 harg17 (fun _ => 0) _ _ (ix2 b d) rfl (Fin.forall_fin_two.mpr ⟨(Nat.zero_add _).symm, ed⟩)
        · exact congrArg (Blk.cK _ _ _) ed.symm
    isplitl [H18]
    · istop
      refine hold_eq c harg18 (funext (forall_ix2 fun b d => ?_))
      refine (pair256 arg18.view _ _ _ _ _ _ b d).trans ?_
      split
      next h =>
        refine (L0.addV P0 _ _ _).trans (congrArg₂ (· + ·) ?_ ?_ : _ = addV _ _ (fun _ => 0) (ix2 b d))
        · exact ld_at arg18 harg18 (fun _ => 0) _ _ (ix2 b d) rfl (Fin.forall_fin_two.mpr ⟨(Nat.zero_add _).symm, (Nat.zero_add _).symm⟩)
        · exact congrArg (Blk.cV _ _ _) (by show 128 * 0 + d.val = d.val; omega)
      next h =>
        have ed : d.val = 128 + (d.val - 128) := by omega
        refine (L1.addV P1 _ _ _).trans (congrArg₂ (· + ·) ?_ ?_ : _ = addV _ _ (fun _ => 0) (ix2 b d))
        · exact ld_at arg18 harg18 (fun _ => 0) _ _ (ix2 b d) rfl (Fin.forall_fin_two.mpr ⟨(Nat.zero_add _).symm, ed⟩)
        · exact congrArg (Blk.cV _ _ _) ed.symm
    · istop
      refine hold_eq c harg19 (funext (forall_ix3 fun g b => ?_))
      refine (pairStack arg19.view _ _ _ _ _ _ g b).trans ?_
      split
      next h =>
        refine (congrFun (pay64_op _ _) _).trans ((IsDs.addC (D := Blk.of (hd t) (kb t) x2 x3 x4 x5 x9 (headD t x5 x6 x15) (headL t x7 x8 x16)) (g := 0) (n := kb t) S0 _ b).trans ?_)
        refine congrArg₂ (· + ·) ?_ ?_
        · exact ld_at arg19 harg19 (fun _ => 0) _ _ (ix3 g 0 b) rfl (fun a => match a with | ⟨0, _⟩ => h | ⟨1, _⟩ => rfl | ⟨2, _⟩ => (Nat.zero_add _).symm)
        · exact congrArg (fun z => Blk.cC _ _ z _) h.symm
      next h =>
        have h' : g.val = 1 := by have := g.isLt; omega
        refine (congrFun (pay74_op _ _) _).trans ((IsDs.addC (D := Blk.of (hd t) (kb t) x2 x3 x4 x5 x9 (headD t x5 x6 x15) (headL t x7 x8 x16)) (g := 1) (n := kb t) S1 _ b).trans ?_)
        refine congrArg₂ (· + ·) ?_ ?_
        · exact ld_at arg19 harg19 (fun _ => 0) _ _ (ix3 g 0 b) rfl (fun a => match a with | ⟨0, _⟩ => h' | ⟨1, _⟩ => rfl | ⟨2, _⟩ => (Nat.zero_add _).symm)
        · exact congrArg (fun z => Blk.cC _ _ z _) h'.symm

  iintro %s Hinv
  unfold Held
  icases Hinv with ⟨H2, H3, H4, H5, H9, H15, H16, H10, H13, H17, H18, H19⟩
  sl_for0 (trips2 t)
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · istop; exact same_hold c harg10 (congrArg _ (trips1 t))
  isplitl [H11]; · istop; exact whole_hold c harg11 (funext (Fin.forall_fin_two.mpr ⟨rfl, rfl⟩)) _ _ _ _ ((keys_read arg17 harg17 _ _).trans (congrArg (fun k => fun y => through (addK (Blk.of (hd t) (kb t) x2 x3 x4 x5 x9 (headD t x5 x6 x15) (headL t x7 x8 x16))) (kb t) (fun _ => 0) k y * σ) (trips1 t)))
  isplitl [H12]; · istop; exact whole_hold c harg12 (funext (Fin.forall_fin_two.mpr ⟨rfl, rfl⟩)) _ _ _ _ ((vals_read arg18 harg18 _ _).trans (congrArg (through (addV (Blk.of (hd t) (kb t) x2 x3 x4 x5 x9 (headD t x5 x6 x15) (headL t x7 x8 x16))) (kb t) (fun _ => 0)) (trips1 t)))
  isplitl [H13]; · istop; exact same_hold c harg13 (congrArg _ (trips1 t))
  isplitl [H14]; · istop; exact hold_eq c harg14 ((neg_read arg19 harg19 arg14 _ _ _ _ _ _).trans (congrArg (fun k => fun y : S2x1x1x256.Idx => 0 - through (addC (Blk.of (hd t) (kb t) x2 x3 x4 x5 x9 (headD t x5 x6 x15) (headL t x7 x8 x16))) (kb t) (fun _ => 0) k (ix3 (y 0) 0 (y 3))) (trips1 t)))
  isplitl [H15]; · iexact H15
  isplitl [H16]; · iexact H16
  isplitl [H17]; · istop; exact same_hold c harg17 (congrArg _ (trips1 t))
  isplitl [H18]; · istop; exact same_hold c harg18 (congrArg _ (trips1 t))
  · istop; exact same_hold c harg19 (congrArg _ (trips1 t))

end

end Cert.Proof.Attn

end
-- ==== Proof.AttnCont.lean ====
/-
  The attention gradient's body over owned windows and scratch buffers, with a continuation.
-/
module

public import proofs.«01_k».proof.Proof.AttnBody

@[expose] public section

set_option maxRecDepth 16384
set_option maxHeartbeats 400000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A window owned at what it reads, and its buffer at those contents, are the same. -/
theorem own_raw {s : Shape} {e : EltTy} (c : Dev nD) {m : Memref sig .tc .vmem s e} (h : m.IsWhole) {x : s.Idx → Elt Ideal e} :
    (owns (c : Thread nD τ) m fullShare x : sProp AttnM) ⊢ (m.view.loc (c : Thread nD τ) ↦[m.view.set]{fullShare} h.unread x) := by
  unfold owns
  iintro ⟨%f, %hf, H⟩
  obtain rfl := h.eq_unread hf
  iexact H
theorem raw_own {s : Shape} {e : EltTy} (c : Dev nD) {m : Memref sig .tc .vmem s e} (h : m.IsWhole) {x : s.Idx → Elt Ideal e} :
    (m.view.loc (c : Thread nD τ) ↦[m.view.set]{fullShare} h.unread x : sProp AttnM) ⊢ owns (c : Thread nD τ) m fullShare x := by
  unfold owns
  iintro H
  iexists _; isplitr; · ipureintro; exact h.read_unread x
  iexact H

section

variable (c : Dev nD)
  (arg2 : Memref sig .tc .vmem S2048x256 .bf16) (harg2 : arg2.IsWhole) (arg3 : Memref sig .tc .vmem S256x256 .bf16) (harg3 : arg3.IsWhole) (arg4 : Memref sig .tc .vmem S256x256 .f32) (harg4 : arg4.IsWhole)
  (arg5 : Memref sig .tc .vmem S2048x256 .f32) (harg5 : arg5.IsWhole) (arg6 : Memref sig .tc .vmem S2048x256 .f32) (harg6 : arg6.IsWhole) (arg7 : Memref sig .tc .vmem S2x2048x128 .f32) (harg7 : arg7.IsWhole)
  (arg8 : Memref sig .tc .vmem S2x2048x128 .f32) (harg8 : arg8.IsWhole) (arg9 : Memref sig .tc .vmem S2x1x1x256 .f32) (harg9 : arg9.IsWhole) (arg10 : Memref sig .tc .vmem S2048x256 .f32) (harg10 : arg10.IsWhole)
  (arg11 : Memref sig .tc .vmem S256x256 .f32) (harg11 : arg11.IsWhole) (arg12 : Memref sig .tc .vmem S256x256 .bf16) (harg12 : arg12.IsWhole) (arg13 : Memref sig .tc .vmem S2048x128 .f32) (harg13 : arg13.IsWhole)
  (arg14 : Memref sig .tc .vmem S2x1x1x256 .f32) (harg14 : arg14.IsWhole) (arg15 : Memref sig .tc .vmem S2x2048x128 .f32) (harg15 : arg15.IsWhole) (arg16 : Memref sig .tc .vmem S2x2048x128 .f32) (harg16 : arg16.IsWhole)
  (arg17 : Memref sig .tc .vmem S256x256 .f32) (harg17 : arg17.IsWhole) (arg18 : Memref sig .tc .vmem S256x256 .f32) (harg18 : arg18.IsWhole) (arg19 : Memref sig .tc .vmem S2x1x256 .f32) (harg19 : arg19.IsWhole)

/-- The windows and scratch buffers owned, each with what it reads. -/
def Holds (x2 : S2048x256.Idx → EReal) (x3 : S256x256.Idx → EReal) (x4 : S256x256.Idx → EReal) (x5 : S2048x256.Idx → EReal) (x6 : S2048x256.Idx → EReal) (x7 : S2x2048x128.Idx → EReal) (x8 : S2x2048x128.Idx → EReal) (x9 : S2x1x1x256.Idx → EReal) (x10 : S2048x256.Idx → EReal) (x11 : S256x256.Idx → EReal) (x12 : S256x256.Idx → EReal) (x13 : S2048x128.Idx → EReal) (x14 : S2x1x1x256.Idx → EReal) (x15 : S2x2048x128.Idx → EReal) (x16 : S2x2048x128.Idx → EReal) (x17 : S256x256.Idx → EReal) (x18 : S256x256.Idx → EReal) (x19 : S2x1x256.Idx → EReal) : sProp AttnM :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19)

theorem open_all (x2 : S2048x256.Idx → EReal) (x3 : S256x256.Idx → EReal) (x4 : S256x256.Idx → EReal) (x5 : S2048x256.Idx → EReal) (x6 : S2048x256.Idx → EReal) (x7 : S2x2048x128.Idx → EReal) (x8 : S2x2048x128.Idx → EReal) (x9 : S2x1x1x256.Idx → EReal) (x10 : S2048x256.Idx → EReal) (x11 : S256x256.Idx → EReal) (x12 : S256x256.Idx → EReal) (x13 : S2048x128.Idx → EReal) (x14 : S2x1x1x256.Idx → EReal) (x15 : S2x2048x128.Idx → EReal) (x16 : S2x2048x128.Idx → EReal) (x17 : S256x256.Idx → EReal) (x18 : S256x256.Idx → EReal) (x19 : S2x1x256.Idx → EReal) : Holds c arg2 arg3 arg4 arg5 arg6 arg7 arg8 arg9 arg10 arg11 arg12 arg13 arg14 arg15 arg16 arg17 arg18 arg19 x2 x3 x4 x5 x6 x7 x8 x9 x10 x11 x12 x13 x14 x15 x16 x17 x18 x19 ⊢ Owns c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 x12 x13 x14 x15 x16 x17 x18 x19 := by
  unfold Owns Holds
  iintro ⟨H2, H3, H4, H5, H6, H7, H8, H9, H10, H11, H12, H13, H14, H15, H16, H17, H18, H19⟩
  isplitl [H2]; · istop; exact own_raw c harg2
  isplitl [H3]; · istop; exact own_raw c harg3
  isplitl [H4]; · istop; exact own_raw c harg4
  isplitl [H5]; · istop; exact own_raw c harg5
  isplitl [H6]; · istop; exact own_raw c harg6
  isplitl [H7]; · istop; exact own_raw c harg7
  isplitl [H8]; · istop; exact own_raw c harg8
  isplitl [H9]; · istop; exact own_raw c harg9
  isplitl [H10]; · istop; exact own_raw c harg10
  isplitl [H11]; · istop; exact own_raw c harg11
  isplitl [H12]; · istop; exact own_raw c harg12
  isplitl [H13]; · istop; exact own_raw c harg13
  isplitl [H14]; · istop; exact own_raw c harg14
  isplitl [H15]; · istop; exact own_raw c harg15
  isplitl [H16]; · istop; exact own_raw c harg16
  isplitl [H17]; · istop; exact own_raw c harg17
  isplitl [H18]; · istop; exact own_raw c harg18
  · istop; exact own_raw c harg19

theorem close_all (x2 : S2048x256.Idx → EReal) (x3 : S256x256.Idx → EReal) (x4 : S256x256.Idx → EReal) (x5 : S2048x256.Idx → EReal) (x6 : S2048x256.Idx → EReal) (x7 : S2x2048x128.Idx → EReal) (x8 : S2x2048x128.Idx → EReal) (x9 : S2x1x1x256.Idx → EReal) (x10 : S2048x256.Idx → EReal) (x11 : S256x256.Idx → EReal) (x12 : S256x256.Idx → EReal) (x13 : S2048x128.Idx → EReal) (x14 : S2x1x1x256.Idx → EReal) (x15 : S2x2048x128.Idx → EReal) (x16 : S2x2048x128.Idx → EReal) (x17 : S256x256.Idx → EReal) (x18 : S256x256.Idx → EReal) (x19 : S2x1x256.Idx → EReal) : Owns c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 x12 x13 x14 x15 x16 x17 x18 x19 ⊢ Holds c arg2 arg3 arg4 arg5 arg6 arg7 arg8 arg9 arg10 arg11 arg12 arg13 arg14 arg15 arg16 arg17 arg18 arg19 x2 x3 x4 x5 x6 x7 x8 x9 x10 x11 x12 x13 x14 x15 x16 x17 x18 x19 := by
  unfold Owns Holds
  iintro ⟨H2, H3, H4, H5, H6, H7, H8, H9, H10, H11, H12, H13, H14, H15, H16, H17, H18, H19⟩
  isplitl [H2]; · istop; exact raw_own c harg2
  isplitl [H3]; · istop; exact raw_own c harg3
  isplitl [H4]; · istop; exact raw_own c harg4
  isplitl [H5]; · istop; exact raw_own c harg5
  isplitl [H6]; · istop; exact raw_own c harg6
  isplitl [H7]; · istop; exact raw_own c harg7
  isplitl [H8]; · istop; exact raw_own c harg8
  isplitl [H9]; · istop; exact raw_own c harg9
  isplitl [H10]; · istop; exact raw_own c harg10
  isplitl [H11]; · istop; exact raw_own c harg11
  isplitl [H12]; · istop; exact raw_own c harg12
  isplitl [H13]; · istop; exact raw_own c harg13
  isplitl [H14]; · istop; exact raw_own c harg14
  isplitl [H15]; · istop; exact raw_own c harg15
  isplitl [H16]; · istop; exact raw_own c harg16
  isplitl [H17]; · istop; exact raw_own c harg17
  isplitl [H18]; · istop; exact raw_own c harg18
  · istop; exact raw_own c harg19

/-- The body's triple over owned windows, with a continuation. -/
theorem body_cont (𝒱 : Variants) (bd : Option 𝒱.V) (t : Fin grid0.N) (E : Set ℕ) (x2 : S2048x256.Idx → EReal) (x3 : S256x256.Idx → EReal) (x4 : S256x256.Idx → EReal) (x5 : S2048x256.Idx → EReal) (x6 : S2048x256.Idx → EReal) (x7 : S2x2048x128.Idx → EReal) (x8 : S2x2048x128.Idx → EReal) (x9 : S2x1x1x256.Idx → EReal) (x10 : S2048x256.Idx → EReal) (x11 : S256x256.Idx → EReal) (x12 : S256x256.Idx → EReal) (x13 : S2048x128.Idx → EReal) (x14 : S2x1x1x256.Idx → EReal) (x15 : S2x2048x128.Idx → EReal) (x16 : S2x2048x128.Idx → EReal) (x17 : S256x256.Idx → EReal) (x18 : S256x256.Idx → EReal) (x19 : S2x1x256.Idx → EReal) (K : PUnit → sProp AttnM) :
    iprop(Holds c arg2 arg3 arg4 arg5 arg6 arg7 arg8 arg9 arg10 arg11 arg12 arg13 arg14 arg15 arg16 arg17 arg18 arg19 x2 x3 x4 x5 x6 x7 x8 x9 x10 x11 x12 x13 x14 x15 x16 x17 x18 x19
        ∗ (Holds c arg2 arg3 arg4 arg5 arg6 arg7 arg8 arg9 arg10 arg11 arg12 arg13 arg14 arg15 arg16 arg17 arg18 arg19 x2 x3 x4 x5 x6 x7 x8 x9 (through (addQ (Blk.of (hd t) (kb t) x2 x3 x4 x5 x9 (headD t x5 x6 x15) (headL t x7 x8 x16))) (kb t) (headQ t x10) (7 - kb t)) (fun y => (through (addK (Blk.of (hd t) (kb t) x2 x3 x4 x5 x9 (headD t x5 x6 x15) (headL t x7 x8 x16))) (kb t) (fun _ => 0) (7 - kb t)) y * σ) (through (addV (Blk.of (hd t) (kb t) x2 x3 x4 x5 x9 (headD t x5 x6 x15) (headL t x7 x8 x16))) (kb t) (fun _ => 0) (7 - kb t)) (through (addR (Blk.of (hd t) (kb t) x2 x3 x4 x5 x9 (headD t x5 x6 x15) (headL t x7 x8 x16))) (kb t) (headR t x13) (7 - kb t)) (fun y => 0 - (through (addC (Blk.of (hd t) (kb t) x2 x3 x4 x5 x9 (headD t x5 x6 x15) (headL t x7 x8 x16))) (kb t) (fun _ => 0) (7 - kb t)) (ix3 (y 0) 0 (y 3))) (headD t x5 x6 x15) (headL t x7 x8 x16) (through (addK (Blk.of (hd t) (kb t) x2 x3 x4 x5 x9 (headD t x5 x6 x15) (headL t x7 x8 x16))) (kb t) (fun _ => 0) (7 - kb t)) (through (addV (Blk.of (hd t) (kb t) x2 x3 x4 x5 x9 (headD t x5 x6 x15) (headL t x7 x8 x16))) (kb t) (fun _ => 0) (7 - kb t)) (through (addC (Blk.of (hd t) (kb t) x2 x3 x4 x5 x9 (headD t x5 x6 x15) (headL t x7 x8 x16))) (kb t) (fun _ => 0) (7 - kb t)) -∗ K ⟨⟩))
      ⊢ wp frame (wpE (defs₀ (F := Ideal)) 𝒱 (c : Thread nD τ) bd) E (cc0_d_fox_attn (F := Ideal) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  refine (sep_mono_l ((open_all c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 x12 x13 x14 x15 x16 x17 x18 x19).trans (body_spec 𝒱 c bd t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E x2 x3 x4 x5 x6 x7 x8 x9 x10 x11 x12 x13 x14 x15 x16 x17 x18 x19))).trans ?_
  refine (wp_frame_r _ _ E).trans (wp_mono _ _ E fun a => ?_)
  exact (sep_mono_l (close_all c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ _ _ _ _ _ _ _)).trans (BI.sep_comm.trans (BI.wand_elim (BI.Entails.refl _)))

end

end Cert.Proof.Attn

end
-- ==== Proof.AttnData.lean ====
/-
  The attention gradient's windows by numbers: what each input window holds at a grid point, read off the arrays the
  region finds, and what the grid's points leave in the accumulated outputs.
-/
module

public import proofs.«01_k».proof.Proof.AttnCont
public import proofs.«01_k».proof.Proof.Gen.KernelIdeal.Frame

@[expose] public section

set_option maxRecDepth 16384
set_option maxHeartbeats 400000

noncomputable section

namespace Cert.Proof.Attn

open Cert.KernelIdeal Cert.KernelIdeal.Gen
open Idealize.ShloMosaic Idealize.ShloMosaic.TcCoe

/-- An array of rows as a function of three numbers, zero outside. -/
def nat5 {l m n : ℕ} (x : (⟨4, ![l, m, 1, n]⟩ : Shape).Idx → EReal) (i j k : ℕ) : EReal :=
  if h : i < l ∧ j < m ∧ k < n then x (ix4 ⟨i, h.1⟩ ⟨j, h.2.1⟩ 0 ⟨k, h.2.2⟩) else 0

theorem nat5_val {l m n : ℕ} (x : (⟨4, ![l, m, 1, n]⟩ : Shape).Idx → EReal) (y : (⟨4, ![l, m, 1, n]⟩ : Shape).Idx) {i j k : ℕ}
    (hi : (y 0).val = i) (hj : (y 1).val = j) (hk : (y 3).val = k) : x y = nat5 x i j k := by
  subst hi; subst hj; subst hk
  have h : (y 0).val < l ∧ (y 1).val < m ∧ (y 3).val < n := ⟨(y 0).isLt, (y 1).isLt, (y 3).isLt⟩
  unfold nat5
  rw [dif_pos h]
  refine congrArg x (funext fun a => ?_)
  match a with
  | ⟨0, _⟩ => rfl
  | ⟨1, _⟩ => rfl
  | ⟨2, _⟩ => exact Fin.ext (by show (y 2).val = 0; have : (y 2).val < 1 := (y 2).isLt; omega)
  | ⟨3, _⟩ => rfl

variable (m : (ℓ : Loc nD τ sig) → Buf (Elt Ideal) ℓ) (c : Dev nD)

/-! The arrays as the region finds them. -/
def aQ : S2048x2048.Idx → EReal := V m c (Pipeline.arrRef spec0 0)
def aK : S2048x2048.Idx → EReal := V m c (Pipeline.arrRef spec0 1)
def aV : S2048x8192.Idx → EReal := V m c (Pipeline.arrRef spec0 2)
def aCt : S2048x2048.Idx → EReal := V m c (Pipeline.arrRef spec0 3)
def aO : S2048x2048.Idx → EReal := V m c (Pipeline.arrRef spec0 4)
def aLse : S16x2048x128.Idx → EReal := V m c (Pipeline.arrRef spec0 5)
def aCq : S16x2048x128.Idx → EReal := V m c (Pipeline.arrRef spec0 6)
def aCk : S16x8x1x256.Idx → EReal := V m c (Pipeline.arrRef spec0 7)

/-! The windows' contents, for a pair of heads `h` and a block of keys `j`. -/
def X2 (h : ℕ) : S2048x256.Idx → EReal := fun y => nat2 (aQ m c) (y 0).val (256 * h + (y 1).val)
def X3 (h j : ℕ) : S256x256.Idx → EReal := fun y => nat2 (aK m c) (256 * j + (y 0).val) (256 * h + (y 1).val)
def X4 (h j : ℕ) : S256x256.Idx → EReal := fun y => nat2 (aV m c) (256 * j + (y 0).val) (4096 + (256 * h + (y 1).val))
def X5 (h : ℕ) : S2048x256.Idx → EReal := fun y => nat2 (aCt m c) (y 0).val (256 * h + (y 1).val)
def X6 (h : ℕ) : S2048x256.Idx → EReal := fun y => nat2 (aO m c) (y 0).val (256 * h + (y 1).val)
def X7 (h : ℕ) : S2x2048x128.Idx → EReal := fun y => nat3 (aLse m c) (2 * h + (y 0).val) (y 1).val (y 2).val
def X8 (h : ℕ) : S2x2048x128.Idx → EReal := fun y => nat3 (aCq m c) (2 * h + (y 0).val) (y 1).val (y 2).val
def X9 (h j : ℕ) : S2x1x1x256.Idx → EReal := fun y => nat5 (aCk m c) (2 * h + (y 0).val) j (y 3).val

/-- The rows a pair of heads' blocks share. -/
def dlt (h : ℕ) : S2x2048x128.Idx → EReal := rowDots (X5 m c h) (X6 m c h)
def lcl (h : ℕ) : S2x2048x128.Idx → EReal := fun y => X8 m c h y - X7 m c h y

/-- What the body works on at point `n`. -/
def blk (n : ℕ) : Blk := Blk.of (n / 8) (n % 8) (X2 m c (n / 8)) (X3 m c (n / 8) (n % 8)) (X4 m c (n / 8) (n % 8)) (X5 m c (n / 8))
  (X9 m c (n / 8) (n % 8)) (dlt m c (n / 8)) (lcl m c (n / 8))

/-- The queries' gradient accumulated at point `n`, over the pair's blocks of keys so far, -/
def accQ : ℕ → S2048x256.Idx → EReal
  | 0 => through (addQ (blk m c 0)) 0 (fun _ => 0) 7
  | n + 1 => through (addQ (blk m c (n + 1))) ((n + 1) % 8) (if (n + 1) % 8 = 0 then fun _ => 0 else accQ n) (7 - (n + 1) % 8)
/-- and the query side's gate gradient, over all points so far. -/
def accR : ℕ → S2048x128.Idx → EReal
  | 0 => through (addR (blk m c 0)) 0 (fun _ => 0) 7
  | n + 1 => through (addR (blk m c (n + 1))) ((n + 1) % 8) (accR n) (7 - (n + 1) % 8)

/-- What a block of keys leaves: its keys' gradient, -/
def outK (n : ℕ) : S256x256.Idx → EReal := fun y => through (addK (blk m c n)) (n % 8) (fun _ => 0) (7 - n % 8) y * σ
/-- its values' gradient, -/
def outV (n : ℕ) : S256x256.Idx → EReal := through (addV (blk m c n)) (n % 8) (fun _ => 0) (7 - n % 8)
/-- and the key side's gate gradient. -/
def outC (n : ℕ) : S2x1x1x256.Idx → EReal := fun y => 0 - through (addC (blk m c n)) (n % 8) (fun _ => 0) (7 - n % 8) (ix3 (y 0) 0 (y 3))

/-! ## The windows' index maps -/

theorem ix_0 : ∀ t : Fin cfg0.N, win0_0.index t (0 : Fin 2) = 0 ∧ win0_0.index t (1 : Fin 2) = t.val / 8 := by decide +kernel
theorem ix_1 : ∀ t : Fin cfg0.N, win0_1.index t (0 : Fin 2) = t.val % 8 ∧ win0_1.index t (1 : Fin 2) = t.val / 8 := by decide +kernel
theorem ix_2 : ∀ t : Fin cfg0.N, win0_2.index t (0 : Fin 2) = t.val % 8 ∧ win0_2.index t (1 : Fin 2) = 16 + t.val / 8 := by decide +kernel
theorem ix_3 : ∀ t : Fin cfg0.N, win0_3.index t (0 : Fin 2) = 0 ∧ win0_3.index t (1 : Fin 2) = t.val / 8 := by decide +kernel
theorem ix_4 : ∀ t : Fin cfg0.N, win0_4.index t (0 : Fin 2) = 0 ∧ win0_4.index t (1 : Fin 2) = t.val / 8 := by decide +kernel
theorem ix_5 : ∀ t : Fin cfg0.N, win0_5.index t (0 : Fin 3) = t.val / 8 ∧ win0_5.index t (1 : Fin 3) = 0 ∧ win0_5.index t (2 : Fin 3) = 0 := by
  decide +kernel
theorem ix_6 : ∀ t : Fin cfg0.N, win0_6.index t (0 : Fin 3) = t.val / 8 ∧ win0_6.index t (1 : Fin 3) = 0 ∧ win0_6.index t (2 : Fin 3) = 0 := by
  decide +kernel
theorem ix_7 : ∀ t : Fin cfg0.N, win0_7.index t (0 : Fin 4) = t.val / 8 ∧ win0_7.index t (1 : Fin 4) = t.val % 8
    ∧ win0_7.index t (3 : Fin 4) = 0 := by decide +kernel
theorem ix_8 : ∀ t : Fin cfg0.N, win0_8.index t (0 : Fin 2) = 0 ∧ win0_8.index t (1 : Fin 2) = t.val / 8 := by decide +kernel
theorem ix_9 : ∀ t : Fin cfg0.N, win0_9.index t (0 : Fin 2) = t.val % 8 ∧ win0_9.index t (1 : Fin 2) = t.val / 8 := by decide +kernel
theorem ix_10 : ∀ t : Fin cfg0.N, win0_10.index t (0 : Fin 2) = t.val % 8 ∧ win0_10.index t (1 : Fin 2) = t.val / 8 := by decide +kernel
theorem ix_11 : ∀ t : Fin cfg0.N, win0_11.index t (0 : Fin 2) = 0 ∧ win0_11.index t (1 : Fin 2) = 0 := by decide +kernel
theorem ix_12 : ∀ t : Fin cfg0.N, win0_12.index t (0 : Fin 4) = t.val / 8 ∧ win0_12.index t (1 : Fin 4) = t.val % 8
    ∧ win0_12.index t (2 : Fin 4) = 0 ∧ win0_12.index t (3 : Fin 4) = 0 := by decide +kernel

/-! ## The input windows' blocks -/

theorem read_0 (A : S2048x2048.Idx → EReal) (t : Fin cfg0.N) (y : S2048x256.Idx) :
    ((cfg0.win 0).blk t).view.read (Elt Ideal) A y = nat2 A (y 0).val (256 * (t.val / 8) + (y 1).val) := by
  obtain ⟨e0, e1⟩ := ix_0 t
  refine nat2_val A (((cfg0.win 0).blk t).view.emb y) ?_ ?_
  · show win0_0.index t (0 : Fin 2) * 2048 + 1 * (y 0).val = (y 0).val; omega
  · show win0_0.index t (1 : Fin 2) * 256 + 1 * (y 1).val = 256 * (t.val / 8) + (y 1).val; omega

theorem iblk_0 (t : Fin cfg0.N) : iblk m c 0 t = X2 m c (t.val / 8) := by
  unfold iblk X2
  exact funext (read_0 (aQ m c) t)

theorem read_1 (A : S2048x2048.Idx → EReal) (t : Fin cfg0.N) (y : S256x256.Idx) :
    ((cfg0.win 1).blk t).view.read (Elt Ideal) A y = nat2 A (256 * (t.val % 8) + (y 0).val) (256 * (t.val / 8) + (y 1).val) := by
  obtain ⟨e0, e1⟩ := ix_1 t
  refine nat2_val A (((cfg0.win 1).blk t).view.emb y) ?_ ?_
  · show win0_1.index t (0 : Fin 2) * 256 + 1 * (y 0).val = 256 * (t.val % 8) + (y 0).val; omega
  · show win0_1.index t (1 : Fin 2) * 256 + 1 * (y 1).val = 256 * (t.val / 8) + (y 1).val; omega

theorem iblk_1 (t : Fin cfg0.N) : iblk m c 1 t = X3 m c (t.val / 8) (t.val % 8) := by
  unfold iblk X3
  exact funext (read_1 (aK m c) t)

theorem read_2 (A : S2048x8192.Idx → EReal) (t : Fin cfg0.N) (y : S256x256.Idx) :
    ((cfg0.win 2).blk t).view.read (Elt Ideal) A y = nat2 A (256 * (t.val % 8) + (y 0).val) (4096 + (256 * (t.val / 8) + (y 1).val)) := by
  obtain ⟨e0, e1⟩ := ix_2 t
  refine nat2_val A (((cfg0.win 2).blk t).view.emb y) ?_ ?_
  · show win0_2.index t (0 : Fin 2) * 256 + 1 * (y 0).val = 256 * (t.val % 8) + (y 0).val; omega
  · show win0_2.index t (1 : Fin 2) * 256 + 1 * (y 1).val = 4096 + (256 * (t.val / 8) + (y 1).val); omega

theorem iblk_2 (t : Fin cfg0.N) : iblk m c 2 t = X4 m c (t.val / 8) (t.val % 8) := by
  unfold iblk X4
  exact funext (read_2 (aV m c) t)

theorem read_3 (A : S2048x2048.Idx → EReal) (t : Fin cfg0.N) (y : S2048x256.Idx) :
    ((cfg0.win 3).blk t).view.read (Elt Ideal) A y = nat2 A (y 0).val (256 * (t.val / 8) + (y 1).val) := by
  obtain ⟨e0, e1⟩ := ix_3 t
  refine nat2_val A (((cfg0.win 3).blk t).view.emb y) ?_ ?_
  · show win0_3.index t (0 : Fin 2) * 2048 + 1 * (y 0).val = (y 0).val; omega
  · show win0_3.index t (1 : Fin 2) * 256 + 1 * (y 1).val = 256 * (t.val / 8) + (y 1).val; omega

theorem iblk_3 (t : Fin cfg0.N) : iblk m c 3 t = X5 m c (t.val / 8) := by
  unfold iblk X5
  exact funext (read_3 (aCt m c) t)

theorem read_4 (A : S2048x2048.Idx → EReal) (t : Fin cfg0.N) (y : S2048x256.Idx) :
    ((cfg0.win 4).blk t).view.read (Elt Ideal) A y = nat2 A (y 0).val (256 * (t.val / 8) + (y 1).val) := by
  obtain ⟨e0, e1⟩ := ix_4 t
  refine nat2_val A (((cfg0.win 4).blk t).view.emb y) ?_ ?_
  · show win0_4.index t (0 : Fin 2) * 2048 + 1 * (y 0).val = (y 0).val; omega
  · show win0_4.index t (1 : Fin 2) * 256 + 1 * (y 1).val = 256 * (t.val / 8) + (y 1).val; omega

theorem iblk_4 (t : Fin cfg0.N) : iblk m c 4 t = X6 m c (t.val / 8) := by
  unfold iblk X6
  exact funext (read_4 (aO m c) t)

theorem read_5 (A : S16x2048x128.Idx → EReal) (t : Fin cfg0.N) (y : S2x2048x128.Idx) :
    ((cfg0.win 5).blk t).view.read (Elt Ideal) A y = nat3 A (2 * (t.val / 8) + (y 0).val) (y 1).val (y 2).val := by
  obtain ⟨e0, e1, e2⟩ := ix_5 t
  refine nat3_val A (((cfg0.win 5).blk t).view.emb y) ?_ ?_ ?_
  · show win0_5.index t (0 : Fin 3) * 2 + 1 * (y 0).val = 2 * (t.val / 8) + (y 0).val; omega
  · show win0_5.index t (1 : Fin 3) * 2048 + 1 * (y 1).val = (y 1).val; omega
  · show win0_5.index t (2 : Fin 3) * 128 + 1 * (y 2).val = (y 2).val; omega

theorem iblk_5 (t : Fin cfg0.N) : iblk m c 5 t = X7 m c (t.val / 8) := by
  unfold iblk X7
  exact funext (read_5 (aLse m c) t)

theorem read_6 (A : S16x2048x128.Idx → EReal) (t : Fin cfg0.N) (y : S2x2048x128.Idx) :
    ((cfg0.win 6).blk t).view.read (Elt Ideal) A y = nat3 A (2 * (t.val / 8) + (y 0).val) (y 1).val (y 2).val := by
  obtain ⟨e0, e1, e2⟩ := ix_6 t
  refine nat3_val A (((cfg0.win 6).blk t).view.emb y) ?_ ?_ ?_
  · show win0_6.index t (0 : Fin 3) * 2 + 1 * (y 0).val = 2 * (t.val / 8) + (y 0).val; omega
  · show win0_6.index t (1 : Fin 3) * 2048 + 1 * (y 1).val = (y 1).val; omega
  · show win0_6.index t (2 : Fin 3) * 128 + 1 * (y 2).val = (y 2).val; omega

theorem iblk_6 (t : Fin cfg0.N) : iblk m c 6 t = X8 m c (t.val / 8) := by
  unfold iblk X8
  exact funext (read_6 (aCq m c) t)

theorem read_7 (A : S16x8x1x256.Idx → EReal) (t : Fin cfg0.N) (y : S2x1x1x256.Idx) :
    ((cfg0.win 7).blk t).view.read (Elt Ideal) A y = nat5 A (2 * (t.val / 8) + (y 0).val) (t.val % 8) (y 3).val := by
  obtain ⟨e0, e1, e3⟩ := ix_7 t
  refine nat5_val A (((cfg0.win 7).blk t).view.emb y) ?_ ?_ ?_
  · show win0_7.index t (0 : Fin 4) * 2 + 1 * (y 0).val = 2 * (t.val / 8) + (y 0).val; omega
  · show win0_7.index t (1 : Fin 4) * 1 + 1 * (y 1).val = t.val % 8; have : (y 1).val < 1 := (y 1).isLt; omega
  · show win0_7.index t (3 : Fin 4) * 256 + 1 * (y 3).val = (y 3).val; omega

theorem iblk_7 (t : Fin cfg0.N) : iblk m c 7 t = X9 m c (t.val / 8) (t.val % 8) := by
  unfold iblk X9
  exact funext (read_7 (aCk m c) t)

end Cert.Proof.Attn

end
-- ==== Proof.AttnRun.lean ====
/-
  The attention gradient's run: the proof data of its pipeline, the body's obligation at every grid point, and the launch.
-/
module

public import proofs.«01_k».proof.Proof.AttnData
public import Idealize.ShloMosaic.Lib.Claim

@[expose] public section

set_option maxRecDepth 16384
set_option maxHeartbeats 400000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ) (ρ : Dev nD → PrngReg)

/-- What is carried from point to point outside the windows: before a point that is not a pair's first, the two shared
rows of the pair; the accumulators and the generator register at anything. -/
def carry (c : Dev nD) (n : ℕ) : sProp AttnM :=
  iprop(∃ (d l : S2x2048x128.Idx → EReal) (a b : S256x256.Idx → EReal) (e : S2x1x256.Idx → EReal),
    ⌜n % 8 ≠ 0 → d = dlt m c (n / 8) ∧ l = lcl m c (n / 8)⌝
    ∗ owns (c : Thread nD τ) (Memref.whole cc0_scratch0) fullShare d ∗ owns (c : Thread nD τ) (Memref.whole cc0_scratch1) fullShare l
    ∗ owns (c : Thread nD τ) (Memref.whole cc0_scratch2) fullShare a ∗ owns (c : Thread nD τ) (Memref.whole cc0_scratch3) fullShare b
    ∗ owns (c : Thread nD τ) (Memref.whole cc0_scratch4) fullShare e ∗ ∃ r, prngReg c r)

theorem carry_in (c : Dev nD) : Pipeline.ΦA (U := UR Cert.KernelIdeal.sig nD τ) (Val := Elt Ideal) spec0 c ⊢ carry m c 0 := by
  unfold Pipeline.ΦA carry
  rw [scopedRest0_eq]
  simp only [owns_whole]
  iintro ⟨⟨⟨%f0, H0⟩, ⟨%f1, H1⟩, ⟨%f2, H2⟩, ⟨%f3, H3⟩, ⟨%f4, H4⟩⟩, Hp⟩
  iexists f0, f1, f2, f3, f4
  isplitr; · ipureintro; exact fun h => absurd rfl h
  isplitl [H0]; · iexact H0
  isplitl [H1]; · iexact H1
  isplitl [H2]; · iexact H2
  isplitl [H3]; · iexact H3
  isplitl [H4]; · iexact H4
  iexact Hp

theorem carry_out (c : Dev nD) (n : ℕ) : carry m c n ⊢ Pipeline.ΦA (U := UR Cert.KernelIdeal.sig nD τ) (Val := Elt Ideal) spec0 c := by
  unfold Pipeline.ΦA carry
  rw [scopedRest0_eq]
  simp only [owns_whole]
  iintro ⟨%f0, %f1, %f2, %f3, %f4, %hn, H0, H1, H2, H3, H4, Hp⟩
  isplitr [Hp]
  · isplitl [H0]; · iexists f0; iexact H0
    isplitl [H1]; · iexists f1; iexact H1
    isplitl [H2]; · iexists f2; iexact H2
    isplitl [H3]; · iexists f3; iexact H3
    iexists f4; iexact H4
  iexact Hp

/-- The proof data of the pipeline. -/
def dats (_ : Fin 1) (c : Dev nD) : Dat τ (Elt Ideal) Unit ℕ (UR Cert.KernelIdeal.sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => accQ m c t.val
    | ⟨9, _⟩ => outK m c t.val
    | ⟨10, _⟩ => outV m c t.val
    | ⟨11, _⟩ => accR m c t.val
    | ⟨12, _⟩ => outC m c t.val
  Φ t := carry m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = accQ m c t.val := by dsimp only [dats]
theorem after_9 (c : Dev nD) (t : Fin cfg0.N) : (dats m 0 c).after 9 t = outK m c t.val := by dsimp only [dats]
theorem after_10 (c : Dev nD) (t : Fin cfg0.N) : (dats m 0 c).after 10 t = outV m c t.val := by dsimp only [dats]
theorem after_11 (c : Dev nD) (t : Fin cfg0.N) : (dats m 0 c).after 11 t = accR m c t.val := by dsimp only [dats]
theorem after_12 (c : Dev nD) (t : Fin cfg0.N) : (dats m 0 c).after 12 t = outC m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem carry_at (c : Dev nD) (t : Fin cfg0.N) : (dats m 0 c).Φ t.castSucc = carry m c t.val := by dsimp only [dats]; rfl
theorem carry_next (c : Dev nD) (t : Fin cfg0.N) : (dats m 0 c).Φ t.succ = carry m c (t.val + 1) := by dsimp only [dats]; rfl

/-! ## What a point finds and leaves -/

theorem found_q (c : Dev nD) (t : Fin cfg0.N) (h : t.val % 8 ≠ 0) (d) :
    (dats m 0 c).before 8 t d = accQ m c (t.val - 1) := by
  refine ((dats m 0 c).before_out_kept 8 rfl t (fun e => h (by rw [e])) ?_ (fun _ => rfl) (fun _ _ => rfl) d).trans (after_8 m c _)
  refine Bool.eq_false_iff.mpr fun hf => ?_
  have := (flush0_8 _).mp hf
  have e : (t.val - 1) % 8 = 7 := this
  omega

theorem found_r (c : Dev nD) (t : Fin cfg0.N) (h : t.val ≠ 0) (d) :
    (dats m 0 c).before 11 t d = accR m c (t.val - 1) := by
  refine ((dats m 0 c).before_out_kept 11 rfl t h ?_ (fun _ => rfl) (fun _ _ => rfl) d).trans (after_11 m c _)
  refine Bool.eq_false_iff.mpr fun hf => ?_
  have := (flush0_11 _).mp hf
  have e : (t.val - 1) % 64 = 63 := this
  have : t.val < 64 := t.isLt
  omega

theorem left_q (c : Dev nD) (t : Fin cfg0.N) (d) :
    through (addQ (blk m c t.val)) (kb t) (headQ t ((dats m 0 c).before 8 t d)) (7 - kb t) = accQ m c t.val := by
  rcases ht : t.val with _ | n
  · unfold headQ; rw [if_pos (by show t.val % 8 = 0; omega)]
    show through _ (t.val % 8) _ (7 - t.val % 8) = _
    rw [ht]; rfl
  · show through _ (t.val % 8) _ (7 - t.val % 8) = _
    rw [accQ]
    by_cases hk : t.val % 8 = 0
    · unfold headQ; rw [if_pos hk, ht, if_pos (by omega)]
    · unfold headQ; rw [if_neg hk, found_q m c t hk, ht, if_neg (by omega)]; rfl

theorem left_r (c : Dev nD) (t : Fin cfg0.N) (d) :
    through (addR (blk m c t.val)) (kb t) (headR t ((dats m 0 c).before 11 t d)) (7 - kb t) = accR m c t.val := by
  rcases ht : t.val with _ | n
  · unfold headR; rw [if_pos ⟨by show t.val / 8 = 0; omega, by show t.val % 8 = 0; omega⟩]
    show through _ (t.val % 8) _ (7 - t.val % 8) = _
    rw [ht]; rfl
  · show through _ (t.val % 8) _ (7 - t.val % 8) = _
    have hh : ¬ (hd t = 0 ∧ kb t = 0) := fun h => by have h1 : t.val / 8 = 0 := h.1; have h2 : t.val % 8 = 0 := h.2; omega
    rw [accR]; unfold headR; rw [if_neg hh, found_r m c t (by omega), ht]; rfl

theorem shared_d (c : Dev nD) (t : Fin cfg0.N) (d : S2x2048x128.Idx → EReal) (h : t.val % 8 ≠ 0 → d = dlt m c (t.val / 8)) :
    headD t (X5 m c (t.val / 8)) (X6 m c (t.val / 8)) d = dlt m c (t.val / 8) := by
  unfold headD
  by_cases hk : t.val % 8 = 0
  · rw [if_pos hk]; rfl
  · rw [if_neg hk]; exact h hk

theorem shared_l (c : Dev nD) (t : Fin cfg0.N) (l : S2x2048x128.Idx → EReal) (h : t.val % 8 ≠ 0 → l = lcl m c (t.val / 8)) :
    headL t (X7 m c (t.val / 8)) (X8 m c (t.val / 8)) l = lcl m c (t.val / 8) := by
  unfold headL
  by_cases hk : t.val % 8 = 0
  · rw [if_pos hk]; rfl
  · rw [if_neg hk]; exact h hk

/-! ## The body's obligation -/

def bodyPre (c : Dev nD) (t : Fin cfg0.N) : sProp AttnM :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp AttnM :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, iblk_0, iblk_1, iblk_2, iblk_3, iblk_4, iblk_5, iblk_6, iblk_7]
  rw [carry_at, carry_next, show (dats m 0 c).owesAt () t.succ = (dats m 0 c).owesAt () t.castSucc from rfl,
    after_0, after_1, after_2, after_3, after_4, after_5, after_6, after_7, after_8, after_9, after_10, after_11, after_12, iblk_0, iblk_1, iblk_2, iblk_3, iblk_4, iblk_5, iblk_6, iblk_7]
  rw [carry]
  iintro ⟨⟨%d, %l, %a, %b, %e, %hdl, S0, S1, S2, S3, S4, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have ed := shared_d m c t d fun h => (hdl h).1
  have el := shared_l m c t l fun h => (hdl h).2
  iapply (body_cont c _ _ _ _ _ _ _ _ _ _ _ _ _ _ _ _ _ _ _ _ _ _ _ _ _ _ _ _ _ _ _ _ _ _ _ _ Variants.none none t Set.univ (X2 m c (t.val / 8)) (X3 m c (t.val / 8) (t.val % 8)) (X4 m c (t.val / 8) (t.val % 8)) (X5 m c (t.val / 8)) (X6 m c (t.val / 8)) (X7 m c (t.val / 8)) (X8 m c (t.val / 8)) (X9 m c (t.val / 8) (t.val % 8)) ((dats m 0 c).before 8 t d8) _ _ ((dats m 0 c).before 11 t d11) _ d l a b e _)
  unfold Holds
  rw [ed, el]
  isplitr [Hp Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    iexact S4
  iintro ⟨H0, H1, H2, H3, H4, H5, H6, H7, H8, H9, H10, H11, H12, S0, S1, S2, S3, S4⟩
  isplitl [S0 S1 S2 S3 S4 Hp]
  · unfold carry
    iexists _, _, _, _, _
    isplitr
    swap
    · isplitl [S0]; · iexact S0
      isplitl [S1]; · iexact S1
      isplitl [S2]; · iexact S2
      isplitl [S3]; · iexact S3
      isplitl [S4]; · iexact S4
      iexact Hp
    ipureintro
    intro h
    have e8 : (t.val + 1) / 8 = t.val / 8 := by omega
    rw [e8]
    exact ⟨rfl, rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · istop; exact .of_eq (congrArg _ (left_q m c t d8))
  isplitl [H9]; · iexact H9
  isplitl [H10]; · iexact H10
  isplitl [H11]; · istop; exact .of_eq (congrArg _ (left_r m c t d11))
  iexact H12

theorem row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, row]
  exact triple_restated (sound_body m c t) rfl .rfl fun _ => .rfl

/-! ## The launch -/

set_option backward.isDefEq.respectTransparency.types false in
set_option maxHeartbeats 800000 in
theorem run_quiet : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carry_in m c) (hout := fun c => carry_out m c _)

theorem run_main : θ_run defs (onTc (τ := τ) (main (F := Ideal))) (s₀ m ρ) (Pipeline.FramePost cfgs (dats m) 0 (V m)) :=
  (θ_run defs _ _).mono (fun _ h => h.1) (run_quiet m ρ)

/-- Termination, the arguments unchanged, the counters at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Proof.Attn

end
-- ==== Proof.AttnWords.lean ====
/-
  The attention gradient's frame at the machine's words: every window and scratch buffer at some contents.
-/
module

public import proofs.«01_k».proof.Proof.Gen.Kernel.Frame
public import proofs.«01_k».proof.Proof.Gen.Kernel.Skeleton
public import Idealize.ShloMosaic.Lib.Tactic
public import Idealize.ShloMosaic.Lib.Claim
public import Idealize.ShloMosaic.PureOps.BitExact

@[expose] public section

set_option maxRecDepth 16384
set_option maxHeartbeats 400000

noncomputable section

namespace Cert.Proof.AttnWords

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The logic the run is stated in. -/
abbrev WordM := MT nD τ Cert.Kernel.sig Unit (Elt Bits) ℕ (UR Cert.Kernel.sig nD τ) ℕ

/-- The inner loop over the blocks left of the diagonal never runs. -/
theorem none2 : ∀ t : Fin grid0.N, (k0_t2_loop (grid0.coords t)).trips = 0 := by decide +kernel

section

variable (𝒱 : Variants) (c : Dev nD) (bd : Option 𝒱.V) (t : Fin grid0.N)
  (arg2 : Memref sig .tc .vmem S2048x256 .bf16) (harg2 : arg2.IsWhole) (arg3 : Memref sig .tc .vmem S256x256 .bf16) (harg3 : arg3.IsWhole) (arg4 : Memref sig .tc .vmem S256x256 .f32) (harg4 : arg4.IsWhole)
  (arg5 : Memref sig .tc .vmem S2048x256 .f32) (harg5 : arg5.IsWhole) (arg6 : Memref sig .tc .vmem S2048x256 .f32) (harg6 : arg6.IsWhole) (arg7 : Memref sig .tc .vmem S2x2048x128 .f32) (harg7 : arg7.IsWhole)
  (arg8 : Memref sig .tc .vmem S2x2048x128 .f32) (harg8 : arg8.IsWhole) (arg9 : Memref sig .tc .vmem S2x1x1x256 .f32) (harg9 : arg9.IsWhole) (arg10 : Memref sig .tc .vmem S2048x256 .f32) (harg10 : arg10.IsWhole)
  (arg11 : Memref sig .tc .vmem S256x256 .f32) (harg11 : arg11.IsWhole) (arg12 : Memref sig .tc .vmem S256x256 .bf16) (harg12 : arg12.IsWhole) (arg13 : Memref sig .tc .vmem S2048x128 .f32) (harg13 : arg13.IsWhole)
  (arg14 : Memref sig .tc .vmem S2x1x1x256 .f32) (harg14 : arg14.IsWhole) (arg15 : Memref sig .tc .vmem S2x2048x128 .f32) (harg15 : arg15.IsWhole) (arg16 : Memref sig .tc .vmem S2x2048x128 .f32) (harg16 : arg16.IsWhole)
  (arg17 : Memref sig .tc .vmem S256x256 .f32) (harg17 : arg17.IsWhole) (arg18 : Memref sig .tc .vmem S256x256 .f32) (harg18 : arg18.IsWhole) (arg19 : Memref sig .tc .vmem S2x1x256 .f32) (harg19 : arg19.IsWhole)

/-- The windows read, at the contents named, and everything written at some contents. -/
def Any (f2 : Buf (Elt Bits) (arg2.view.loc (c : Thread nD τ))) (f3 : Buf (Elt Bits) (arg3.view.loc (c : Thread nD τ))) (f4 : Buf (Elt Bits) (arg4.view.loc (c : Thread nD τ))) (f5 : Buf (Elt Bits) (arg5.view.loc (c : Thread nD τ))) (f6 : Buf (Elt Bits) (arg6.view.loc (c : Thread nD τ))) (f7 : Buf (Elt Bits) (arg7.view.loc (c : Thread nD τ))) (f8 : Buf (Elt Bits) (arg8.view.loc (c : Thread nD τ))) (f9 : Buf (Elt Bits) (arg9.view.loc (c : Thread nD τ))) : sProp WordM :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))

variable (E : Set ℕ) (f2 : Buf (Elt Bits) (arg2.view.loc (c : Thread nD τ))) (f3 : Buf (Elt Bits) (arg3.view.loc (c : Thread nD τ))) (f4 : Buf (Elt Bits) (arg4.view.loc (c : Thread nD τ))) (f5 : Buf (Elt Bits) (arg5.view.loc (c : Thread nD τ))) (f6 : Buf (Elt Bits) (arg6.view.loc (c : Thread nD τ))) (f7 : Buf (Elt Bits) (arg7.view.loc (c : Thread nD τ))) (f8 : Buf (Elt Bits) (arg8.view.loc (c : Thread nD τ))) (f9 : Buf (Elt Bits) (arg9.view.loc (c : Thread nD τ)))

/-- One block of queries. -/
theorem trip (arg0 arg1 : BitVec 32) (v8 v148 v178 v189) (k : Fin (k0_t1_loop (grid0.coords t)).trips) :
    Any c arg2 arg3 arg4 arg5 arg6 arg7 arg8 arg9 arg10 arg11 arg12 arg13 arg14 arg15 arg16 arg17 arg18 arg19 f2 f3 f4 f5 f6 f7 f8 f9 ⊢ wp frame (wpE (defs₀ (F := Bits)) 𝒱 (c : Thread nD τ) bd) E
      (k0_t1_body (F := Bits) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v8 v148 v178 v189 k PUnit.unit)
      (fun _ => Any c arg2 arg3 arg4 arg5 arg6 arg7 arg8 arg9 arg10 arg11 arg12 arg13 arg14 arg15 arg16 arg17 arg18 arg19 f2 f3 f4 f5 f6 f7 f8 f9) := by
  unfold Any k0_t1_body
  iintro ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- What comes before the blocks, whichever of its two conditions hold. -/
theorem first_part :
    Any c arg2 arg3 arg4 arg5 arg6 arg7 arg8 arg9 arg10 arg11 arg12 arg13 arg14 arg15 arg16 arg17 arg18 arg19 f2 f3 f4 f5 f6 f7 f8 f9 ⊢ wp frame (wpE (defs₀ (F := Bits)) 𝒱 (c : Thread nD τ) bd) E
      (k0_part10 (F := Bits) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => Any c arg2 arg3 arg4 arg5 arg6 arg7 arg8 arg9 arg10 arg11 arg12 arg13 arg14 arg15 arg16 arg17 arg18 arg19 f2 f3 f4 f5 f6 f7 f8 f9) := by
  unfold Any
  rw [k0_part10_eq_skeleton, k0_part10_skel]
  iintro ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  by_cases c2 : (Scalar.cmpi .ne (Scalar.extui (Scalar.cmpi .eq (BitVec.ofNat 32 ((grid0.coords t) 1).val) 0#32)) 0#32 = 1#1)
  · by_cases c1 : (Scalar.cmpi .ne (Scalar.extui (Scalar.andi (Scalar.cmpi .eq (BitVec.ofNat 32 ((grid0.coords t) 0).val) 0#32) (Scalar.cmpi .eq (BitVec.ofNat 32 ((grid0.coords t) 1).val) 0#32))) 0#32 = 1#1)
    · sl_exec (disch := first | sl_exact c1 | sl_exact c2)
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19
    · sl_exec (disch := first | sl_exact c1 | sl_exact c2)
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19
  · by_cases c1 : (Scalar.cmpi .ne (Scalar.extui (Scalar.andi (Scalar.cmpi .eq (BitVec.ofNat 32 ((grid0.coords t) 0).val) 0#32) (Scalar.cmpi .eq (BitVec.ofNat 32 ((grid0.coords t) 1).val) 0#32))) 0#32 = 1#1)
    · sl_exec (disch := first | sl_exact c1 | sl_exact c2)
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19
    · sl_exec (disch := first | sl_exact c1 | sl_exact c2)
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19

/-- The whole body. -/
theorem body :
    Any c arg2 arg3 arg4 arg5 arg6 arg7 arg8 arg9 arg10 arg11 arg12 arg13 arg14 arg15 arg16 arg17 arg18 arg19 f2 f3 f4 f5 f6 f7 f8 f9 ⊢ wp frame (wpE (defs₀ (F := Bits)) 𝒱 (c : Thread nD τ) bd) E
      (cc0_d_fox_attn (F := Bits) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => Any c arg2 arg3 arg4 arg5 arg6 arg7 arg8 arg9 arg10 arg11 arg12 arg13 arg14 arg15 arg16 arg17 arg18 arg19 f2 f3 f4 f5 f6 f7 f8 f9) := by
  rw [cc0_d_fox_attn_eq_skeleton, cc0_d_fox_attn_skel, wp_bind]
  refine (first_part 𝒱 c bd t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E f2 f3 f4 f5 f6 f7 f8 f9).trans (wp_mono _ _ _ fun r => ?_)
  obtain ⟨arg0, arg1, v8, v21, v22, v23, v25, v27, v28⟩ := r
  unfold Any
  iintro ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  sl_exec
  iapply (Scf.wp_for_bind frame (wpE (defs₀ (F := Bits)) 𝒱 (c : Thread nD τ) bd) E _ _ _ (k0_t1_ok (grid0.coords t)) _ _
    (fun k _ => Any c arg2 arg3 arg4 arg5 arg6 arg7 arg8 arg9 arg10 arg11 arg12 arg13 arg14 arg15 arg16 arg17 arg18 arg19 f2 f3 f4 f5 f6 f7 f8 f9)
    (fun k acc => trip 𝒱 c bd t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E f2 f3 f4 f5 f6 f7 f8 f9 _ _ _ _ _ _ k)) $$ [H2 H3 H4 H5 H6 H7 H8 H9 H10 H11 H12 H13 H14 H15 H16 H17 H18 H19]
  · unfold Any
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

  iintro %s Hinv
  unfold Any
  icases Hinv with ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  sl_for0 (none2 t)
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

end

/-! ## The run -/

variable (m : (ℓ : Loc nD τ sig) → Buf (Elt Bits) ℓ) (ρ : Dev nD → PrngReg)

/-- The outputs are not read: what the body leaves in them is not named. -/
def forgets : Fin 13 → Bool := fun w => decide (8 ≤ w.val)

def dats (_ : Fin 1) (c : Dev nD) : Dat τ (Elt Bits) Unit ℕ (UR Cert.Kernel.sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The scratch buffers and the generator register, at anything. -/
theorem scratch_eq (c : Dev nD) : (Pipeline.ΦA (U := UR Cert.Kernel.sig nD τ) (Val := Elt Bits) spec0 c : sProp WordM)
    = iprop(((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f) ∗ (∃ f, owns (c : Thread nD τ) (Memref.whole cc0_scratch4) fullShare f)) ∗ (∃ r, prngReg c r)) := by
  unfold Pipeline.ΦA
  rw [scopedRest0_eq]
  simp only [owns_whole]

def bodyPre (c : Dev nD) (t : Fin cfg0.N) : sProp WordM :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

def bodyPost (c : Dev nD) (t : Fin cfg0.N) : sProp WordM :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq,
    after_0, after_1, after_2, after_3, after_4, after_5, after_6, after_7]
  unfold owns
  iintro ⟨⟨⟨⟨%s0, %g0, -, S0⟩, ⟨%s1, %g1, -, S1⟩, ⟨%s2, %g2, -, S2⟩, ⟨%s3, %g3, -, S3⟩, ⟨%s4, %g4, -, S4⟩⟩, Hp⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, -, H8⟩, ⟨%d9, %f9, -, H9⟩, ⟨%d10, %f10, -, H10⟩, ⟨%d11, %f11, -, H11⟩, ⟨%d12, %f12, -, H12⟩⟩
  iapply (wp_wand_r frame (wpE (defs₀ (F := Bits)) Variants.none (c : Thread nD τ) none) Set.univ)
  isplitr [Hp Ho]
  · iapply (body Variants.none c none t _ _ _ _ _ _ _ _ _ _ _ _ _ _ _ _ _ _ _ _ _ _ _ _ _ _ _ _ _ _ _ _ _ _ _ _ Set.univ f0 f1 f2 f3 f4 f5 f6 f7)
    unfold Any
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [S0]; · iexists _; iexact S0
    isplitl [S1]; · iexists _; iexact S1
    isplitl [S2]; · iexists _; iexact S2
    isplitl [S3]; · iexists _; iexact S3
    iexists _; iexact S4
  iintro %r HA
  unfold Any
  icases HA with ⟨H0, H1, H2, H3, H4, H5, H6, H7, ⟨%k8, H8⟩, ⟨%k9, H9⟩, ⟨%k10, H10⟩, ⟨%k11, H11⟩, ⟨%k12, H12⟩, ⟨%l0, S0⟩, ⟨%l1, S1⟩, ⟨%l2, S2⟩, ⟨%l3, S3⟩, ⟨%l4, S4⟩⟩
  isplitl [S0 S1 S2 S3 S4 Hp]
  · isplitr [Hp]
    · isplitl [S0]
      · iexists _, _; isplitr; swap; · iexact S0
        ipureintro; rfl
      isplitl [S1]
      · iexists _, _; isplitr; swap; · iexact S1
        ipureintro; rfl
      isplitl [S2]
      · iexists _, _; isplitr; swap; · iexact S2
        ipureintro; rfl
      isplitl [S3]
      · iexists _, _; isplitr; swap; · iexact S3
        ipureintro; rfl
      iexists _, _; isplitr; swap; · iexact S4
      ipureintro; rfl
    iexact Hp
  isplitl [Ho]; · iexact Ho
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

theorem row (t : Fin cfg0.N) : defs₀ (F := Bits) .tc cfg0.body (cfg0.bodyArgs t (cfg0.slots t)) = bodyAt0 t := by
  unfold defs₀; rw [Defs.onTc_tc]

theorem body_obligation (c : Dev nD) : BodyObligation (dats m 0 c) (defs₀ (F := Bits)) Variants.none () Set.univ forgets := fun t => by
  rw [bigSep_W0, bigSep_W0, row]
  exact triple_restated (sound_body m c t) rfl .rfl fun _ => .rfl

set_option backward.isDefEq.respectTransparency.types false in
set_option maxHeartbeats 800000 in
theorem run_main : θ_run defs (onTc (τ := τ) (main (F := Bits))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

section

variable {m ρ} {r : PUnit × MemSt nD τ Cert.Kernel.sig (Elt Bits)}
  (h : Pipeline.RDat.FramePost (cfgs 0) (fun c => (dats m 0 c).toRForget forgets) (V m) r) (c : Dev nD)

include h

theorem final_0 : r.2.mem ((c.tc : Thread nD τ).loc main_arg0) = m ((c.tc : Thread nD τ).loc main_arg0) := by
  have e : r.2.mem ((c.tc : Thread nD τ).loc main_arg0) = V m c main_arg0 := (h.arr_in c 0 rfl).trans (A_eq m c 0)
  exact e.trans (V_main_arg0 m c)
theorem final_1 : r.2.mem ((c.tc : Thread nD τ).loc main_arg1) = m ((c.tc : Thread nD τ).loc main_arg1) := by
  have e : r.2.mem ((c.tc : Thread nD τ).loc main_arg1) = V m c main_arg1 := (h.arr_in c 1 rfl).trans (A_eq m c 1)
  exact e.trans (V_main_arg1 m c)
theorem final_2 : r.2.mem ((c.tc : Thread nD τ).loc main_arg2) = m ((c.tc : Thread nD τ).loc main_arg2) := by
  have e : r.2.mem ((c.tc : Thread nD τ).loc main_arg2) = V m c main_arg2 := (h.arr_in c 2 rfl).trans (A_eq m c 2)
  exact e.trans (V_main_arg2 m c)
theorem final_4 : r.2.mem ((c.tc : Thread nD τ).loc main_arg4) = m ((c.tc : Thread nD τ).loc main_arg4) := by
  have e : r.2.mem ((c.tc : Thread nD τ).loc main_arg4) = V m c main_arg4 := (h.arr_in c 3 rfl).trans (A_eq m c 3)
  exact e.trans (V_main_arg4 m c)
theorem final_3 : r.2.mem ((c.tc : Thread nD τ).loc main_arg3) = m ((c.tc : Thread nD τ).loc main_arg3) :=
  ((h c).2 main_arg3 (Pipeline.mem_restRefs_of main_arg3 (by decide) (by decide))).trans (V_main_arg3 m c)

end

/-- The arguments unchanged and the counters at zero. -/
def Kept (r : PUnit × MemSt nD τ Cert.Kernel.sig (Elt Bits)) : Prop := (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0

/-- The frame of the kernel as printed. -/
theorem frame_words : θ_run defs (onTc (τ := τ) (main (F := Bits))) (s₀ m ρ) (Kept m) :=
  (θ_run defs _ _).mono (fun _ h => ⟨fun c => ⟨final_0 h.1 c, final_1 h.1 c, final_2 h.1 c, final_3 h.1 c, final_4 h.1 c⟩, h.2⟩) (run_main m ρ)

end Cert.Proof.AttnWords

end
-- ==== Proof.AttnRef.lean ====
/-
  The attention's reference as a straight line of host operations, cut into nine stretches (the calls of `where` and
  `pad` stand apart), and its run: every buffer ends at the fold of those operations over the arguments, the arguments
  as they were.
-/
module

public import proofs.«01_k».proof.Proof.Gen.ReferenceIdeal
public import Idealize.ShloMosaic.Lib.Pipeline.Regions
public import Idealize.ShloMosaic.Lib.StableHlo.RunRead

@[expose] public section

set_option maxRecDepth 8192
set_option maxHeartbeats 400000

noncomputable section

namespace Cert.Proof.AttnRef

open Cert.ReferenceIdeal Cert.ReferenceIdeal.Gen Idealize.ShloMosaic Idealize.ShloMosaic.TcCoe Idealize.SL.Sem Idealize.ShloMosaic.StableHlo

variable {F : FTy → Type} [FloatOps F]

/-- The masked scores' operations, before the mask is laid. -/
abbrev L0 : List (HloOp τ sig (Elt F)) :=
  [ unary main_arg0 main_v0 ((extf .f32 · bitsLt_bf16_f32) : (⟨S2048x2048, .bf16⟩ : BufTy).Contents (Elt F) → (⟨S2048x2048, .f32⟩ : BufTy).Contents (Elt F)),
    unary main_arg1 main_v1 ((extf .f32 · bitsLt_bf16_f32) : (⟨S2048x2048, .bf16⟩ : BufTy).Contents (Elt F) → (⟨S2048x2048, .f32⟩ : BufTy).Contents (Elt F)),
    unary main_arg2 main_v2 ((extractStridedSlice S2048x2048 ![0, 4096] · slices_S2048x8192_S2048x2048_0_4096) : (⟨S2048x8192, .f32⟩ : BufTy).Contents (Elt F) → (⟨S2048x2048, .f32⟩ : BufTy).Contents (Elt F)),
    reshape main_v0 main_v3 (rfl : (.f32 : EltTy) = .f32) shapeCasts_S2048x2048_S2048x16x128,
    reshape main_v1 main_v4 (rfl : (.f32 : EltTy) = .f32) shapeCasts_S2048x2048_S2048x16x128,
    binary main_v3 main_v4 main_v5 ((fun l r => Host.dotGeneral dot_S2048x16x128_S2048x16x128_S16x2048x2048_2_2_0_0_1_1 none l r) : (⟨S2048x16x128, .f32⟩ : BufTy).Contents (Elt F) → (⟨S2048x16x128, .f32⟩ : BufTy).Contents (Elt F) → (⟨S16x2048x2048, .f32⟩ : BufTy).Contents (Elt F)),
    nullary main_cst (constant S_ .f32 0x3DB504F3#32),
    unary main_cst main_v6 (broadcastInDim S16x2048x2048 ![] bcast_S_S16x2048x2048 : (⟨S_, .f32⟩ : BufTy).Contents (Elt F) → (⟨S16x2048x2048, .f32⟩ : BufTy).Contents (Elt F)),
    binary main_v5 main_v6 main_v7 (mulf : (⟨S16x2048x2048, .f32⟩ : BufTy).Contents (Elt F) → (⟨S16x2048x2048, .f32⟩ : BufTy).Contents (Elt F) → (⟨S16x2048x2048, .f32⟩ : BufTy).Contents (Elt F)),
    unary main_arg3 main_v8 ((transpose S16x2048 [1, 0] · transposes_S2048x16_S16x2048_1_0) : (⟨S2048x16, .f32⟩ : BufTy).Contents (Elt F) → (⟨S16x2048, .f32⟩ : BufTy).Contents (Elt F)),
    unary main_v8 main_v9 (broadcastInDim S16x2048x1 ![0, 1] bcast_S16x2048_S16x2048x1_0_1 : (⟨S16x2048, .f32⟩ : BufTy).Contents (Elt F) → (⟨S16x2048x1, .f32⟩ : BufTy).Contents (Elt F)),
    unary main_v9 main_v10 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v7 main_v10 main_v11 (addf : (⟨S16x2048x2048, .f32⟩ : BufTy).Contents (Elt F) → (⟨S16x2048x2048, .f32⟩ : BufTy).Contents (Elt F) → (⟨S16x2048x2048, .f32⟩ : BufTy).Contents (Elt F)),
    unary main_arg3 main_v12 ((transpose S16x2048 [1, 0] · transposes_S2048x16_S16x2048_1_0) : (⟨S2048x16, .f32⟩ : BufTy).Contents (Elt F) → (⟨S16x2048, .f32⟩ : BufTy).Contents (Elt F)),
    unary main_v12 main_v13 (broadcastInDim S16x1x2048 ![0, 2] bcast_S16x2048_S16x1x2048_0_2 : (⟨S16x2048, .f32⟩ : BufTy).Contents (Elt F) → (⟨S16x1x2048, .f32⟩ : BufTy).Contents (Elt F)),
    unary main_v13 main_v14 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    binary main_v11 main_v14 main_v15 (subf : (⟨S16x2048x2048, .f32⟩ : BufTy).Contents (Elt F) → (⟨S16x2048x2048, .f32⟩ : BufTy).Contents (Elt F) → (⟨S16x2048x2048, .f32⟩ : BufTy).Contents (Elt F)),
    nullary main_v16 (iotaInDim S2048 32 0),
    unary main_v16 main_v17 (broadcastInDim S1x2048 ![1] bcast_S2048_S1x2048_1 : (⟨S2048, .i32⟩ : BufTy).Contents (Elt F) → (⟨S1x2048, .i32⟩ : BufTy).Contents (Elt F)),
    unary main_v16 main_v18 (broadcastInDim S2048x1 ![0] bcast_S2048_S2048x1_0 : (⟨S2048, .i32⟩ : BufTy).Contents (Elt F) → (⟨S2048x1, .i32⟩ : BufTy).Contents (Elt F)),
    unary main_v17 main_v19 (broadcastInDim S2048x2048 ![0, 1] bcast_S1x2048_S2048x2048_0_1 : (⟨S1x2048, .i32⟩ : BufTy).Contents (Elt F) → (⟨S2048x2048, .i32⟩ : BufTy).Contents (Elt F)),
    unary main_v18 main_v20 (broadcastInDim S2048x2048 ![0, 1] bcast_S2048x1_S2048x2048_0_1 : (⟨S2048x1, .i32⟩ : BufTy).Contents (Elt F) → (⟨S2048x2048, .i32⟩ : BufTy).Contents (Elt F)),
    binary main_v19 main_v20 main_v21 (cmpi .sle : (⟨S2048x2048, .i32⟩ : BufTy).Contents (Elt F) → (⟨S2048x2048, .i32⟩ : BufTy).Contents (Elt F) → (⟨S2048x2048, .i1⟩ : BufTy).Contents (Elt F)),
    nullary main_cst_0 (constant S_ .f32 0xFF800000#32) ]

/-- The mask laid on the scores (a called function). -/
abbrev L1 : List (HloOp τ sig (Elt F)) :=
  [ TRef.unary (TRef.of (T := ⟨S_, .f32⟩) main_cst_0) (TRef.of (T := ⟨S_, .f32⟩) main_call0_v0) id,
    TRef.unary (TRef.of (T := ⟨S2048x2048, .i1⟩) main_v21) (TRef.of (T := ⟨S16x2048x2048, .i1⟩) main_v22_1) (broadcastInDim S16x2048x2048 ![1, 2] bcast_S2048x2048_S16x2048x2048_1_2),
    TRef.unary (TRef.of (T := ⟨S_, .f32⟩) main_call0_v0) (TRef.of (T := ⟨S16x2048x2048, .f32⟩) main_call0_v2) (broadcastInDim S16x2048x2048 ![] bcast_S_S16x2048x2048),
    TRef.ternary (TRef.of (T := ⟨S16x2048x2048, .i1⟩) main_v22_1) (TRef.of (T := ⟨S16x2048x2048, .f32⟩) main_v15) (TRef.of (T := ⟨S16x2048x2048, .f32⟩) main_call0_v2) (TRef.of (T := ⟨S16x2048x2048, .f32⟩) main_v22_0) select,
    TRef.nullary (TRef.of (T := ⟨S_, .f32⟩) main_call0_cst) (constant S_ .f32 0x00000000#32),
    TRef.unary (TRef.of (T := ⟨S_, .f32⟩) main_call0_cst) (TRef.of (T := ⟨S16x2048x2048, .f32⟩) main_v22_2) (broadcastInDim S16x2048x2048 ![] bcast_S_S16x2048x2048) ]

/-- The row maximum of the masked scores. -/
abbrev L2 : List (HloOp τ sig (Elt F)) :=
  [ nullary main_cst_1 (constant S_ .f32 0xFF800000#32),
    binary main_v22_0 main_cst_1 main_v23 ((fun x v => Host.reduce FloatOps.maximumf x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)) ]

/-- The softmax. -/
abbrev L3 : List (HloOp τ sig (Elt F)) :=
  [ reshape main_v23 main_v24 (rfl : (.f32 : EltTy) = .f32) shapeCasts_S16x2048_S16x2048x1,
    unary main_v24 main_v25 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v22_0 main_v25 main_v26 (cmpf .oeq : (⟨S16x2048x2048, .f32⟩ : BufTy).Contents (Elt F) → (⟨S16x2048x2048, .f32⟩ : BufTy).Contents (Elt F) → (⟨S16x2048x2048, .i1⟩ : BufTy).Contents (Elt F)),
    unary main_v26 main_v27 (uitofp .f32 : (⟨S16x2048x2048, .i1⟩ : BufTy).Contents (Elt F) → (⟨S16x2048x2048, .f32⟩ : BufTy).Contents (Elt F)),
    nullary main_cst_2 (constant S_ .f32 0x00000000#32),
    binary main_v27 main_cst_2 main_v28 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    nullary main_cst_3 (constant S_ .f32 0xFF800000#32),
    unary main_cst_3 main_v29 (broadcastInDim S16x2048 ![] bcast_S_S16x2048 : (⟨S_, .f32⟩ : BufTy).Contents (Elt F) → (⟨S16x2048, .f32⟩ : BufTy).Contents (Elt F)),
    binary main_v29 main_v23 main_v30 (maximumf : (⟨S16x2048, .f32⟩ : BufTy).Contents (Elt F) → (⟨S16x2048, .f32⟩ : BufTy).Contents (Elt F) → (⟨S16x2048, .f32⟩ : BufTy).Contents (Elt F)),
    nullary main_cst_4 (constant S_ .f32 0xFF800000#32),
    unary main_cst_4 main_v31 (broadcastInDim S16x2048 ![] bcast_S_S16x2048 : (⟨S_, .f32⟩ : BufTy).Contents (Elt F) → (⟨S16x2048, .f32⟩ : BufTy).Contents (Elt F)),
    binary main_v23 main_v31 main_v32 (cmpf .ogt : (⟨S16x2048, .f32⟩ : BufTy).Contents (Elt F) → (⟨S16x2048, .f32⟩ : BufTy).Contents (Elt F) → (⟨S16x2048, .i1⟩ : BufTy).Contents (Elt F)),
    nullary main_cst_5 (constant S_ .f32 0xFF800000#32),
    unary main_cst_5 main_v33 (broadcastInDim S16x2048 ![] bcast_S_S16x2048 : (⟨S_, .f32⟩ : BufTy).Contents (Elt F) → (⟨S16x2048, .f32⟩ : BufTy).Contents (Elt F)),
    binary main_v23 main_v33 main_v34 (cmpf .oeq : (⟨S16x2048, .f32⟩ : BufTy).Contents (Elt F) → (⟨S16x2048, .f32⟩ : BufTy).Contents (Elt F) → (⟨S16x2048, .i1⟩ : BufTy).Contents (Elt F)),
    nullary main_cst_6 (constant S_ .f32 0x3F800000#32),
    unary main_cst_6 main_v35 (broadcastInDim S16x2048 ![] bcast_S_S16x2048 : (⟨S_, .f32⟩ : BufTy).Contents (Elt F) → (⟨S16x2048, .f32⟩ : BufTy).Contents (Elt F)),
    nullary main_cst_7 (constant S_ .f32 0x00000000#32),
    unary main_cst_7 main_v36 (broadcastInDim S16x2048 ![] bcast_S_S16x2048 : (⟨S_, .f32⟩ : BufTy).Contents (Elt F) → (⟨S16x2048, .f32⟩ : BufTy).Contents (Elt F)),
    nullary main_cst_8 (constant S_ .f32 0x3F000000#32),
    unary main_cst_8 main_v37 (broadcastInDim S16x2048 ![] bcast_S_S16x2048 : (⟨S_, .f32⟩ : BufTy).Contents (Elt F) → (⟨S16x2048, .f32⟩ : BufTy).Contents (Elt F)),
    ternary main_v34 main_v37 main_v36 main_v38 (select : (⟨S16x2048, .i1⟩ : BufTy).Contents (Elt F) → (⟨S16x2048, .f32⟩ : BufTy).Contents (Elt F) → (⟨S16x2048, .f32⟩ : BufTy).Contents (Elt F) → (⟨S16x2048, .f32⟩ : BufTy).Contents (Elt F)),
    ternary main_v32 main_v35 main_v38 main_v39 (select : (⟨S16x2048, .i1⟩ : BufTy).Contents (Elt F) → (⟨S16x2048, .f32⟩ : BufTy).Contents (Elt F) → (⟨S16x2048, .f32⟩ : BufTy).Contents (Elt F) → (⟨S16x2048, .f32⟩ : BufTy).Contents (Elt F)),
    unary main_v30 main_v40 (broadcastInDim S16x2048x1 ![0, 1] bcast_S16x2048_S16x2048x1_0_1 : (⟨S16x2048, .f32⟩ : BufTy).Contents (Elt F) → (⟨S16x2048x1, .f32⟩ : BufTy).Contents (Elt F)),
    unary main_v40 main_v41 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v22_0 main_v41 main_v42 (subf : (⟨S16x2048x2048, .f32⟩ : BufTy).Contents (Elt F) → (⟨S16x2048x2048, .f32⟩ : BufTy).Contents (Elt F) → (⟨S16x2048x2048, .f32⟩ : BufTy).Contents (Elt F)),
    unary main_v42 main_v43 (Host.exp : (⟨S16x2048x2048, .f32⟩ : BufTy).Contents (Elt F) → (⟨S16x2048x2048, .f32⟩ : BufTy).Contents (Elt F)),
    nullary main_cst_9 (constant S_ .f32 0x00000000#32),
    binary main_v43 main_cst_9 main_v44 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    unary main_v44 main_v45 (broadcastInDim S16x2048x1 ![0, 1] bcast_S16x2048_S16x2048x1_0_1 : (⟨S16x2048, .f32⟩ : BufTy).Contents (Elt F) → (⟨S16x2048x1, .f32⟩ : BufTy).Contents (Elt F)),
    unary main_v45 main_v46 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v43 main_v46 main_v47 (Host.divf : (⟨S16x2048x2048, .f32⟩ : BufTy).Contents (Elt F) → (⟨S16x2048x2048, .f32⟩ : BufTy).Contents (Elt F) → (⟨S16x2048x2048, .f32⟩ : BufTy).Contents (Elt F)),
    binary main_v45 main_v45 main_v48 (mulf : (⟨S16x2048x1, .f32⟩ : BufTy).Contents (Elt F) → (⟨S16x2048x1, .f32⟩ : BufTy).Contents (Elt F) → (⟨S16x2048x1, .f32⟩ : BufTy).Contents (Elt F)) ]

/-- The output and the gradient of the masked scores. -/
abbrev L4 : List (HloOp τ sig (Elt F)) :=
  [ nullary main_cst_10 (constant S_ .f32 0x3F800000#32),
    unary main_cst_10 main_v49 (broadcastInDim S16x2048x1 ![] bcast_S_S16x2048x1 : (⟨S_, .f32⟩ : BufTy).Contents (Elt F) → (⟨S16x2048x1, .f32⟩ : BufTy).Contents (Elt F)),
    binary main_v49 main_v48 main_v50 (Host.divf : (⟨S16x2048x1, .f32⟩ : BufTy).Contents (Elt F) → (⟨S16x2048x1, .f32⟩ : BufTy).Contents (Elt F) → (⟨S16x2048x1, .f32⟩ : BufTy).Contents (Elt F)),
    reshape main_v2 main_v51 (rfl : (.f32 : EltTy) = .f32) shapeCasts_S2048x2048_S2048x16x128,
    binary main_v51 main_v47 main_v52 ((fun l r => Host.dotGeneral dot_S2048x16x128_S16x2048x2048_S16x128x2048_0_2_2_1_1_0 none l r) : (⟨S2048x16x128, .f32⟩ : BufTy).Contents (Elt F) → (⟨S16x2048x2048, .f32⟩ : BufTy).Contents (Elt F) → (⟨S16x128x2048, .f32⟩ : BufTy).Contents (Elt F)),
    unary main_v52 main_v53 ((transpose S2048x16x128 [2, 0, 1] · transposes_S16x128x2048_S2048x16x128_2_0_1) : (⟨S16x128x2048, .f32⟩ : BufTy).Contents (Elt F) → (⟨S2048x16x128, .f32⟩ : BufTy).Contents (Elt F)),
    reshape main_v53 main_v54 (rfl : (.f32 : EltTy) = .f32) shapeCasts_S2048x16x128_S2048x2048,
    reshape main_arg4 main_v55 (rfl : (.f32 : EltTy) = .f32) shapeCasts_S2048x2048_S2048x16x128,
    unary main_v55 main_v56 ((transpose S16x128x2048 [1, 2, 0] · transposes_S2048x16x128_S16x128x2048_1_2_0) : (⟨S2048x16x128, .f32⟩ : BufTy).Contents (Elt F) → (⟨S16x128x2048, .f32⟩ : BufTy).Contents (Elt F)),
    binary main_v56 main_v51 main_v57 ((fun l r => Host.dotGeneral dot_S16x128x2048_S2048x16x128_S16x2048x2048_1_2_2_0_0_1 none l r) : (⟨S16x128x2048, .f32⟩ : BufTy).Contents (Elt F) → (⟨S2048x16x128, .f32⟩ : BufTy).Contents (Elt F) → (⟨S16x2048x2048, .f32⟩ : BufTy).Contents (Elt F)),
    binary main_v56 main_v47 main_v58 ((fun l r => Host.dotGeneral dot_S16x128x2048_S16x2048x2048_S16x128x2048_2_1_1_2_0_0 none l r) : (⟨S16x128x2048, .f32⟩ : BufTy).Contents (Elt F) → (⟨S16x2048x2048, .f32⟩ : BufTy).Contents (Elt F) → (⟨S16x128x2048, .f32⟩ : BufTy).Contents (Elt F)),
    unary main_v58 main_v59 ((transpose S2048x16x128 [2, 0, 1] · transposes_S16x128x2048_S2048x16x128_2_0_1) : (⟨S16x128x2048, .f32⟩ : BufTy).Contents (Elt F) → (⟨S2048x16x128, .f32⟩ : BufTy).Contents (Elt F)),
    reshape main_v59 main_v60 (rfl : (.f32 : EltTy) = .f32) shapeCasts_S2048x16x128_S2048x2048,
    unary main_v50 main_v61 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v57 main_v61 main_v62 (mulf : (⟨S16x2048x2048, .f32⟩ : BufTy).Contents (Elt F) → (⟨S16x2048x2048, .f32⟩ : BufTy).Contents (Elt F) → (⟨S16x2048x2048, .f32⟩ : BufTy).Contents (Elt F)),
    binary main_v62 main_v43 main_v63 (mulf : (⟨S16x2048x2048, .f32⟩ : BufTy).Contents (Elt F) → (⟨S16x2048x2048, .f32⟩ : BufTy).Contents (Elt F) → (⟨S16x2048x2048, .f32⟩ : BufTy).Contents (Elt F)),
    nullary main_cst_11 (constant S_ .f32 0x00000000#32),
    binary main_v63 main_cst_11 main_v64 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    reshape main_v64 main_v65 (rfl : (.f32 : EltTy) = .f32) shapeCasts_S16x2048_S16x2048x1,
    unary main_v65 main_v66 (Host.negf : (⟨S16x2048x1, .f32⟩ : BufTy).Contents (Elt F) → (⟨S16x2048x1, .f32⟩ : BufTy).Contents (Elt F)),
    unary main_v45 main_v67 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v57 main_v67 main_v68 (Host.divf : (⟨S16x2048x2048, .f32⟩ : BufTy).Contents (Elt F) → (⟨S16x2048x2048, .f32⟩ : BufTy).Contents (Elt F) → (⟨S16x2048x2048, .f32⟩ : BufTy).Contents (Elt F)),
    nullary main_cst_12 (constant S_ .f32 0x00000000#32),
    binary main_v66 main_cst_12 main_v69 ((fun x v => Host.reduceAdd x v reducesTo_S16x2048x1_S16x2048_d2 h_S_) : (⟨S16x2048x1, .f32⟩ : BufTy).Contents (Elt F) → (⟨S_, .f32⟩ : BufTy).Contents (Elt F) → (⟨S16x2048, .f32⟩ : BufTy).Contents (Elt F)),
    unary main_v69 main_v70 (broadcastInDim S16x2048x2048 ![0, 1] bcast_S16x2048_S16x2048x2048_0_1 : (⟨S16x2048, .f32⟩ : BufTy).Contents (Elt F) → (⟨S16x2048x2048, .f32⟩ : BufTy).Contents (Elt F)),
    binary main_v68 main_v70 main_v71 (addf : (⟨S16x2048x2048, .f32⟩ : BufTy).Contents (Elt F) → (⟨S16x2048x2048, .f32⟩ : BufTy).Contents (Elt F) → (⟨S16x2048x2048, .f32⟩ : BufTy).Contents (Elt F)),
    binary main_v71 main_v43 main_v72 (mulf : (⟨S16x2048x2048, .f32⟩ : BufTy).Contents (Elt F) → (⟨S16x2048x2048, .f32⟩ : BufTy).Contents (Elt F) → (⟨S16x2048x2048, .f32⟩ : BufTy).Contents (Elt F)) ]

/-- The mask laid on that gradient (a called function). -/
abbrev L5 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S16x2048x2048, .f32⟩) main_call1_v0) (broadcastInDim S16x2048x2048 ![] bcast_S_S16x2048x2048),
    TRef.ternary (TRef.of (T := ⟨S16x2048x2048, .i1⟩) main_v22_1) (TRef.of (T := ⟨S16x2048x2048, .f32⟩) main_v72) (TRef.of (T := ⟨S16x2048x2048, .f32⟩) main_call1_v0) (TRef.of (T := ⟨S16x2048x2048, .f32⟩) main_v73) select ]

/-- The gradients of the arguments. -/
abbrev L6 : List (HloOp τ sig (Elt F)) :=
  [ unary main_v73 main_v74 (Host.negf : (⟨S16x2048x2048, .f32⟩ : BufTy).Contents (Elt F) → (⟨S16x2048x2048, .f32⟩ : BufTy).Contents (Elt F)),
    nullary main_cst_13 (constant S_ .f32 0x00000000#32),
    binary main_v74 main_cst_13 main_v75 ((fun x v => Host.reduceAdd x v reducesTo_S16x2048x2048_S16x2048_d1 h_S_) : (⟨S16x2048x2048, .f32⟩ : BufTy).Contents (Elt F) → (⟨S_, .f32⟩ : BufTy).Contents (Elt F) → (⟨S16x2048, .f32⟩ : BufTy).Contents (Elt F)),
    reshape main_v75 main_v76 (rfl : (.f32 : EltTy) = .f32) shapeCasts_S16x2048_S16x1x2048,
    nullary main_cst_14 (constant S_ .f32 0x00000000#32),
    binary main_v76 main_cst_14 main_v77 ((fun x v => Host.reduceAdd x v reducesTo_S16x1x2048_S16x2048_d1 h_S_) : (⟨S16x1x2048, .f32⟩ : BufTy).Contents (Elt F) → (⟨S_, .f32⟩ : BufTy).Contents (Elt F) → (⟨S16x2048, .f32⟩ : BufTy).Contents (Elt F)),
    unary main_v77 main_v78 ((transpose S2048x16 [1, 0] · transposes_S16x2048_S2048x16_1_0) : (⟨S16x2048, .f32⟩ : BufTy).Contents (Elt F) → (⟨S2048x16, .f32⟩ : BufTy).Contents (Elt F)),
    nullary main_cst_15 (constant S_ .f32 0x00000000#32),
    binary main_v73 main_cst_15 main_v79 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    reshape main_v79 main_v80 (rfl : (.f32 : EltTy) = .f32) shapeCasts_S16x2048_S16x2048x1,
    nullary main_cst_16 (constant S_ .f32 0x00000000#32),
    binary main_v80 main_cst_16 main_v81 ((fun x v => Host.reduceAdd x v reducesTo_S16x2048x1_S16x2048_d2 h_S_) : (⟨S16x2048x1, .f32⟩ : BufTy).Contents (Elt F) → (⟨S_, .f32⟩ : BufTy).Contents (Elt F) → (⟨S16x2048, .f32⟩ : BufTy).Contents (Elt F)),
    unary main_v81 main_v82 ((transpose S2048x16 [1, 0] · transposes_S16x2048_S2048x16_1_0) : (⟨S16x2048, .f32⟩ : BufTy).Contents (Elt F) → (⟨S2048x16, .f32⟩ : BufTy).Contents (Elt F)),
    nullary main_cst_17 (constant S_ .f32 0x3DB504F3#32),
    unary main_cst_17 main_v83 (broadcastInDim S16x2048x2048 ![] bcast_S_S16x2048x2048 : (⟨S_, .f32⟩ : BufTy).Contents (Elt F) → (⟨S16x2048x2048, .f32⟩ : BufTy).Contents (Elt F)),
    binary main_v73 main_v83 main_v84 (mulf : (⟨S16x2048x2048, .f32⟩ : BufTy).Contents (Elt F) → (⟨S16x2048x2048, .f32⟩ : BufTy).Contents (Elt F) → (⟨S16x2048x2048, .f32⟩ : BufTy).Contents (Elt F)),
    binary main_v84 main_v3 main_v85 ((fun l r => Host.dotGeneral dot_S16x2048x2048_S2048x16x128_S16x2048x128_1_0_2_2_0_1 none l r) : (⟨S16x2048x2048, .f32⟩ : BufTy).Contents (Elt F) → (⟨S2048x16x128, .f32⟩ : BufTy).Contents (Elt F) → (⟨S16x2048x128, .f32⟩ : BufTy).Contents (Elt F)),
    unary main_v85 main_v86 ((transpose S2048x16x128 [1, 0, 2] · transposes_S16x2048x128_S2048x16x128_1_0_2) : (⟨S16x2048x128, .f32⟩ : BufTy).Contents (Elt F) → (⟨S2048x16x128, .f32⟩ : BufTy).Contents (Elt F)),
    binary main_v84 main_v4 main_v87 ((fun l r => Host.dotGeneral dot_S16x2048x2048_S2048x16x128_S16x2048x128_2_0_1_2_0_1 none l r) : (⟨S16x2048x2048, .f32⟩ : BufTy).Contents (Elt F) → (⟨S2048x16x128, .f32⟩ : BufTy).Contents (Elt F) → (⟨S16x2048x128, .f32⟩ : BufTy).Contents (Elt F)),
    unary main_v87 main_v88 ((transpose S2048x16x128 [1, 0, 2] · transposes_S16x2048x128_S2048x16x128_1_0_2) : (⟨S16x2048x128, .f32⟩ : BufTy).Contents (Elt F) → (⟨S2048x16x128, .f32⟩ : BufTy).Contents (Elt F)),
    reshape main_v86 main_v89 (rfl : (.f32 : EltTy) = .f32) shapeCasts_S2048x16x128_S2048x2048,
    reshape main_v88 main_v90 (rfl : (.f32 : EltTy) = .f32) shapeCasts_S2048x16x128_S2048x2048,
    unary main_v60 main_v91 ((truncf .bf16 · bitsLt_bf16_f32) : (⟨S2048x2048, .f32⟩ : BufTy).Contents (Elt F) → (⟨S2048x2048, .bf16⟩ : BufTy).Contents (Elt F)),
    nullary main_c (constantI S_ 32 0#32) ]

/-- The padding of one of them (a called function). -/
abbrev L7 : List (HloOp τ sig (Elt F)) :=
  [ TRef.unary (TRef.of (T := ⟨S_, .i32⟩) main_c) (TRef.of (T := ⟨S_, .f32⟩) main_call2_v0) (sitofp .f32),
    TRef.binary (TRef.of (T := ⟨S2048x16, .f32⟩) main_v82) (TRef.of (T := ⟨S_, .f32⟩) main_call2_v0) (TRef.of (T := ⟨S2048x128, .f32⟩) main_v92) (fun x v => pad S2048x128 ![0, 0] ![0, 112] ![0, 0] x v pads_S2048x16_S2048x128_000_01120 h_S_) ]

/-- The layout of the last one. -/
abbrev L8 : List (HloOp τ sig (Elt F)) :=
  [ unary main_v78 main_v93 ((transpose S16x2048 [1, 0] · transposes_S2048x16_S16x2048_1_0) : (⟨S2048x16, .f32⟩ : BufTy).Contents (Elt F) → (⟨S16x2048, .f32⟩ : BufTy).Contents (Elt F)),
    reshape main_v93 main_v94 (rfl : (.f32 : EltTy) = .f32) shapeCasts_S16x2048_S16x8x1x256 ]

theorem L0_sub : (L0 : List (HloOp τ sig (Elt F))).Forall fun op => op.bufs ⊆ tcRefs τ sig :=
  ⟨unary_bufs_sub .., unary_bufs_sub .., unary_bufs_sub .., reshape_bufs_sub .., reshape_bufs_sub .., binary_bufs_sub .., nullary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., unary_bufs_sub .., unary_bufs_sub .., binary_bufs_sub .., nullary_bufs_sub ..⟩
theorem L1_sub : (L1 : List (HloOp τ sig (Elt F))).Forall fun op => op.bufs ⊆ tcRefs τ sig :=
  ⟨unary_bufs_sub .., unary_bufs_sub .., unary_bufs_sub .., ternary_bufs_sub .., nullary_bufs_sub .., unary_bufs_sub ..⟩
theorem L2_sub : (L2 : List (HloOp τ sig (Elt F))).Forall fun op => op.bufs ⊆ tcRefs τ sig :=
  ⟨nullary_bufs_sub .., binary_bufs_sub ..⟩
theorem L3_sub : (L3 : List (HloOp τ sig (Elt F))).Forall fun op => op.bufs ⊆ tcRefs τ sig :=
  ⟨reshape_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem L4_sub : (L4 : List (HloOp τ sig (Elt F))).Forall fun op => op.bufs ⊆ tcRefs τ sig :=
  ⟨nullary_bufs_sub .., unary_bufs_sub .., binary_bufs_sub .., reshape_bufs_sub .., binary_bufs_sub .., unary_bufs_sub .., reshape_bufs_sub .., reshape_bufs_sub .., unary_bufs_sub .., binary_bufs_sub .., binary_bufs_sub .., unary_bufs_sub .., reshape_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub ..⟩
theorem L5_sub : (L5 : List (HloOp τ sig (Elt F))).Forall fun op => op.bufs ⊆ tcRefs τ sig :=
  ⟨nullary_bufs_sub .., unary_bufs_sub .., ternary_bufs_sub ..⟩
theorem L6_sub : (L6 : List (HloOp τ sig (Elt F))).Forall fun op => op.bufs ⊆ tcRefs τ sig :=
  ⟨unary_bufs_sub .., nullary_bufs_sub .., binary_bufs_sub .., reshape_bufs_sub .., nullary_bufs_sub .., binary_bufs_sub .., unary_bufs_sub .., nullary_bufs_sub .., binary_bufs_sub .., reshape_bufs_sub .., nullary_bufs_sub .., binary_bufs_sub .., unary_bufs_sub .., nullary_bufs_sub .., unary_bufs_sub .., binary_bufs_sub .., binary_bufs_sub .., unary_bufs_sub .., binary_bufs_sub .., unary_bufs_sub .., reshape_bufs_sub .., reshape_bufs_sub .., unary_bufs_sub .., nullary_bufs_sub ..⟩
theorem L7_sub : (L7 : List (HloOp τ sig (Elt F))).Forall fun op => op.bufs ⊆ tcRefs τ sig :=
  ⟨unary_bufs_sub .., binary_bufs_sub ..⟩
theorem L8_sub : (L8 : List (HloOp τ sig (Elt F))).Forall fun op => op.bufs ⊆ tcRefs τ sig :=
  ⟨unary_bufs_sub .., reshape_bufs_sub ..⟩

/-- The line. -/
abbrev line : List (HloOp τ sig (Elt F)) := List.flatten [L0, L1, L2, L3, L4, L5, L6, L7, L8]

theorem part0_chain (c : Dev nD) : main_part0 (F := F) c = Pipeline.chainK [seq L0, seq L1, seq L2] (seq L3) := by
  rewrite [chainK_seq_cons, Pipeline.chainK_cons, chainK_seq_cons]
  chain_rfl

theorem part1_chain (c : Dev nD) : main_part1 (F := F) c = Pipeline.chain [seq L4, seq L5, seq L6, seq L7, seq L8] := by
  rewrite [chain_seq_cons, Pipeline.chain_cons, chain_seq_cons, Pipeline.chain_cons, chain_seq_cons]
  chain_rfl

theorem main_eq (c : Dev nD) : main (F := F) c = seq line := by
  show (main_part0 (F := F) c >>= fun _ => main_part1 (F := F) c) = _
  rewrite [part1_chain, part0_chain, Pipeline.chainK_bind_chain]
  exact (chain_map_seq_append [L0, L1, L2, L3, L4, L5, L6, L7, L8] []).trans (bind_pure_unit)

theorem scopedRefs_eq : (Finset.univ.filter fun b : Ref sig .tc => b.isScoped) = ∅ := by decide

theorem scopedSems_eq : (Finset.univ.filter fun sm : SemLoc sig => sm.isScoped .tc) = ∅ := by decide

theorem line_sub : (line : List (HloOp τ sig (Elt F))).Forall fun op => op.bufs ⊆ tcRefs τ sig := by
  simp only [line, List.flatten_cons, List.flatten_nil, List.forall_append]
  exact ⟨L0_sub, L1_sub, L2_sub, L3_sub, L4_sub, L5_sub, L6_sub, L7_sub, L8_sub, trivial⟩

variable (m : (ℓ : Loc nD τ sig) → Buf (Elt F) ℓ) (ρ : Dev nD → PrngReg)

/-- What a device's buffers hold after the line. -/
def W (c : Dev nD) : Valuation τ sig (Elt F) := after line (launchContents m c)

theorem run_main : θ_run defs (onTc (τ := τ) (main (F := F))) ⟨m, fun _ => 0, ρ⟩ fun r =>
    ∀ (c : Dev nD) (b : Ref sig .tc), r.2.mem ((c.tc : Thread nD τ).loc b) = W m c (Proc.devRef .tc b) :=
  run_seq scopedRefs_eq scopedSems_eq defs main (fun _ => line) main_eq (fun _ => line_sub) m ρ

theorem kept_0 (c : Dev nD) : W m c (Proc.devRef .tc main_arg0) = m ((c.tc : Thread nD τ).loc main_arg0) := by
  unfold W line; after_reads_simp

theorem kept_1 (c : Dev nD) : W m c (Proc.devRef .tc main_arg1) = m ((c.tc : Thread nD τ).loc main_arg1) := by
  unfold W line; after_reads_simp

theorem kept_2 (c : Dev nD) : W m c (Proc.devRef .tc main_arg2) = m ((c.tc : Thread nD τ).loc main_arg2) := by
  unfold W line; after_reads_simp

theorem kept_3 (c : Dev nD) : W m c (Proc.devRef .tc main_arg3) = m ((c.tc : Thread nD τ).loc main_arg3) := by
  unfold W line; after_reads_simp

theorem kept_4 (c : Dev nD) : W m c (Proc.devRef .tc main_arg4) = m ((c.tc : Thread nD τ).loc main_arg4) := by
  unfold W line; after_reads_simp

end Cert.Proof.AttnRef

end
-- ==== Proof.AttnReal.lean ====
/-
  The forgetting attention and its gradients over the real numbers, as functions of natural-number positions: scores,
  softmax weights under the causal mask, the gradient of the scores, and the two spellings of that gradient (through the
  log-sum-exp, and through the quotient of exponentials) that the two programs have.
-/
module

public import Mathlib.Analysis.SpecialFunctions.Log.Basic
public import Mathlib.Algebra.BigOperators.Fin
public import Mathlib.Algebra.BigOperators.Field
public import Mathlib.Tactic.FieldSimp

@[expose] public section

noncomputable section

namespace Cert.Proof.AttnReal

open Finset

/-- The attention's arguments: queries, keys, values and the output's cotangent by row and column, the cumulative gate by
    row and head, the scale of the scores. -/
structure In where
  q : ℕ → ℕ → ℝ
  k : ℕ → ℕ → ℝ
  v : ℕ → ℕ → ℝ
  ct : ℕ → ℕ → ℝ
  c : ℕ → ℕ → ℝ
  sc : ℝ

variable (I : In)

/-- The score of row `r` and key `b` in head `h`. -/
def s (h r b : ℕ) : ℝ := (∑ d : Fin 128, I.q r (128 * h + d) * I.k b (128 * h + d)) * I.sc + I.c r h - I.c b h

/-- The exponential of the score less `M`, zero past the diagonal. -/
def E (M : ℝ) (h r b : ℕ) : ℝ := if b ≤ r then Real.exp (s I h r b - M) else 0

/-- The row sum of those. -/
def Z (M : ℝ) (h r : ℕ) : ℝ := ∑ b : Fin 2048, E I M h r b

/-- The log-sum-exp of a row. -/
def L (h r : ℕ) : ℝ := Real.log (Z I 0 h r)

/-- The softmax weight. -/
def p (h r b : ℕ) : ℝ := E I (L I h r) h r b

/-- The cotangent of the weight. -/
def dp (h r b : ℕ) : ℝ := ∑ d : Fin 128, I.ct r (128 * h + d) * I.v b (128 * h + d)

/-- The attention's output. -/
def o (h r d : ℕ) : ℝ := ∑ b : Fin 2048, p I h r b * I.v b (128 * h + d)

/-- The row sum of the cotangent times the output. -/
def dl (h r : ℕ) : ℝ := ∑ d : Fin 128, I.ct r (128 * h + d) * o I h r d

/-- The gradient of the score. -/
def ds (h r b : ℕ) : ℝ := p I h r b * (dp I h r b - dl I h r)

theorem E_nonneg (M : ℝ) (h r b : ℕ) : 0 ≤ E I M h r b := by
  unfold E; split
  · exact (Real.exp_pos _).le
  · exact le_rfl

theorem Z_pos (M : ℝ) (h r : ℕ) : 0 < Z I M h r := by
  refine sum_pos' (fun b _ => E_nonneg I M h r b) ⟨⟨0, by decide⟩, mem_univ _, ?_⟩
  show 0 < E I M h r 0
  unfold E; rw [if_pos (Nat.zero_le r)]; exact Real.exp_pos _

theorem Z_ne (M : ℝ) (h r : ℕ) : Z I M h r ≠ 0 := (Z_pos I M h r).ne'

/-- Another shift multiplies the exponentials by one factor. -/
theorem E_shift (M M' : ℝ) (h r b : ℕ) : E I M h r b = Real.exp (M' - M) * E I M' h r b := by
  unfold E; split
  · rw [← Real.exp_add]; congr 1; ring
  · rw [mul_zero]

theorem Z_shift (M M' : ℝ) (h r : ℕ) : Z I M h r = Real.exp (M' - M) * Z I M' h r := by
  unfold Z; rw [mul_sum]; exact sum_congr rfl fun b _ => E_shift I M M' h r b

theorem Z_L (h r : ℕ) : Z I (L I h r) h r = 1 := by
  rw [Z_shift I (L I h r) 0, zero_sub, Real.exp_neg]
  unfold L
  rw [Real.exp_log (Z_pos I 0 h r), inv_mul_cancel₀ (Z_ne I 0 h r)]

/-- The weight through the quotient, whatever the shift. -/
theorem p_eq (M : ℝ) (h r b : ℕ) : p I h r b = E I M h r b / Z I M h r := by
  unfold p
  rw [E_shift I M (L I h r), Z_shift I M (L I h r), Z_L, mul_one, mul_div_assoc, mul_comm, div_mul_cancel₀ _ (Real.exp_pos _).ne']

/-- The log-sum-exp through the shifted sum. -/
theorem L_eq (M : ℝ) (h r : ℕ) : L I h r = M + Real.log (Z I M h r) := by
  unfold L
  rw [Z_shift I 0 M, sub_zero, Real.log_mul (Real.exp_pos _).ne' (Z_ne I M h r), Real.log_exp]

/-- The row sum of the cotangent times the output is that of the weights times their cotangents. -/
theorem dl_eq (h r : ℕ) : dl I h r = ∑ b : Fin 2048, p I h r b * dp I h r b := by
  unfold dl o dp
  simp only [mul_sum]
  rw [sum_comm]
  exact sum_congr rfl fun b _ => sum_congr rfl fun d _ => by ring

/-- The gradient of the score as the quotient's gradient spells it. -/
theorem ds_eq (M : ℝ) (h r b : ℕ) :
    ds I h r b = (dp I h r b / Z I M h r + -(∑ b' : Fin 2048, dp I h r b' * (1 / (Z I M h r * Z I M h r)) * E I M h r b')) * E I M h r b := by
  have hz := Z_ne I M h r
  have e : (∑ b' : Fin 2048, dp I h r b' * (1 / (Z I M h r * Z I M h r)) * E I M h r b') = dl I h r / Z I M h r := by
    rw [dl_eq, sum_div]
    refine sum_congr rfl fun b' _ => ?_
    rw [p_eq I M]; field_simp
  rw [e]; unfold ds; rw [p_eq I M]; field_simp; ring

theorem p_zero {h r b : ℕ} (hb : r < b) : p I h r b = 0 := if_neg (by omega)

theorem ds_zero {h r b : ℕ} (hb : r < b) : ds I h r b = 0 := by unfold ds; rw [p_zero I hb, zero_mul]

/-- A sum over all rows is the sum over eight blocks of 256. -/
theorem sum_blocks (f : ℕ → ℝ) : (∑ b : Fin 2048, f b) = ∑ n : Fin 8, ∑ a : Fin 256, f (256 * n + a) := by
  rw [← Fintype.sum_prod_type' (f := fun (n : Fin 8) (a : Fin 256) => f (256 * n + a))]
  exact (Fintype.sum_equiv (finProdFinEquiv (m := 8) (n := 256)) _ _ fun x => by
    congr 1
    show 256 * (x.1 : ℕ) + x.2 = x.2 + 256 * x.1
    omega).symm

/-- The gradient of the queries. -/
def dq (r c : ℕ) : ℝ := ∑ b : Fin 2048, ds I (c / 128) r b * I.sc * I.k b c
/-- The gradient of the keys. -/
def dk (b c : ℕ) : ℝ := ∑ r : Fin 2048, ds I (c / 128) r b * I.sc * I.q r c
/-- The gradient of the values. -/
def dv (b c : ℕ) : ℝ := ∑ r : Fin 2048, p I (c / 128) r b * I.ct r c
/-- The gradient of the cumulative gate as the rows take it. -/
def dcq (r h : ℕ) : ℝ := ∑ b : Fin 2048, ds I h r b
/-- The gradient of the cumulative gate as the keys take it. -/
def dck (h b : ℕ) : ℝ := -∑ r : Fin 2048, ds I h r b

end Cert.Proof.AttnReal

end
-- ==== Proof.AttnMax.lean ====
/-
  The causal softmax of extended reals whose kept scores are real numbers: the mask's bit, the row maximum, the
  exponentials, their sum, and the sums and quotients over real entries.
-/
module

public import proofs.«01_k».proof.Proof.AttnReal
public import proofs.«01_k».proof.Proof.Finite
public import Idealize.ShloMosaic.PureOps.Ideal.Laws

@[expose] public section

noncomputable section

namespace Cert.Proof.AttnMax

open Idealize.ShloMosaic Cert.Proof.AttnReal Cert.Proof.Finite

/-- The scale of the scores is a real number. -/
theorem scale_real : ∃ x : ℝ, Ideal.ofBits .f32 0x3DB504F3#32 = (x : EReal) := by
  refine ⟨(11863283 : ℝ) / 134217728, ?_⟩
  simp [Ideal.ofBits, Ideal.ieee, -EReal.coe_mul]; norm_num

theorem ofBits_zero : Ideal.ofBits .f32 0x00000000#32 = ((0 : ℝ) : EReal) := by
  simp [Ideal.ofBits, Ideal.ieee]

/-- The causal mask's bit, read as a condition. -/
theorem select_le {α : Type} (b r : Fin 2048) (x y : α) :
    Scalar.select (IntOp.cmpi .sle (BitVec.ofNat 32 b.val) (BitVec.ofNat 32 r.val)) x y = if b.val ≤ r.val then x else y := by
  have hb : (BitVec.ofNat 32 b.val).toInt = b.val := by
    rw [BitVec.toInt_ofNat']; simp only [Int.bmod]; omega
  have hr : (BitVec.ofNat 32 r.val).toInt = r.val := by
    rw [BitVec.toInt_ofNat']; simp only [Int.bmod]; omega
  have h : (BitVec.ofNat 32 b.val).sle (BitVec.ofNat 32 r.val) = decide (b.val ≤ r.val) := by
    simp only [BitVec.sle, hb, hr, Int.ofNat_le]
  simp only [IntOp.cmpi, Scalar.select, h]
  by_cases hle : b.val ≤ r.val <;> simp [hle]

variable (I : In)

/-- A masked score. -/
def ms (h r b : ℕ) : EReal := if b ≤ r then ((s I h r b : ℝ) : EReal) else ⊥

/-- The largest masked score of a row is a real number. -/
theorem max_real (h : ℕ) (r : Fin 2048) (f : Fin 2048 → EReal) (hf : ∀ b, f b = ms I h r b) :
    ∃ M : ℝ, Finset.fold max (⊥ : EReal) f Finset.univ = (M : EReal) := by
  have key : ∀ t : Finset (Fin 2048), Finset.fold max (⊥ : EReal) f t ≠ ⊤ := by
    intro t
    classical
    induction t using Finset.induction_on with
    | empty => simp
    | insert a t ha ih =>
      rw [Finset.fold_insert ha]
      intro hc
      rcases max_eq_top.mp hc with h1 | h1
      · rw [hf] at h1; unfold ms at h1; split at h1
        · exact EReal.coe_ne_top _ h1
        · exact bot_ne_top h1
      · exact ih h1
  have hbot : Finset.fold max (⊥ : EReal) f Finset.univ ≠ ⊥ := by
    have h0 : f r ≤ Finset.fold max (⊥ : EReal) f Finset.univ :=
      Finset.le_fold_max _ |>.mpr (Or.inr ⟨r, Finset.mem_univ _, le_rfl⟩)
    intro hc
    rw [hc, hf] at h0; unfold ms at h0; rw [if_pos le_rfl] at h0
    exact EReal.coe_ne_bot _ (le_bot_iff.mp h0)
  have htop := key Finset.univ
  exact ⟨_, (EReal.coe_toReal htop hbot).symm⟩

/-- The exponential of a masked score less a real number. -/
theorem exp_ms (M : ℝ) (h r b : ℕ) : Ideal.exp (ms I h r b - (M : EReal)) = ((E I M h r b : ℝ) : EReal) := by
  unfold ms E
  split
  · rw [← EReal.coe_sub, Ideal.exp_coe]
  · rw [EReal.bot_sub]; simp

/-- The sum of a row of them. -/
theorem sum_E (M : ℝ) (h r : ℕ) (f : Fin 2048 → EReal) (hf : ∀ b : Fin 2048, f b = ((E I M h r b : ℝ) : EReal)) :
    ∑ b, f b = ((Z I M h r : ℝ) : EReal) := by
  rw [Finset.sum_congr rfl fun b _ => hf b, sum_coe]; rfl

/-- A dot product of real numbers. -/
theorem sum_dot {n : ℕ} (f g : Fin n → EReal) (a b : Fin n → ℝ) (hf : ∀ i, f i = (a i : EReal)) (hg : ∀ i, g i = (b i : EReal)) :
    ∑ i, f i * g i = ((∑ i, a i * b i : ℝ) : EReal) := by
  rw [Finset.sum_congr rfl fun i _ => by rw [hf i, hg i]]; exact sum_mul_coe _ _ _

/-- A sum of real numbers. -/
theorem sum_real {n : ℕ} (f : Fin n → EReal) (a : Fin n → ℝ) (hf : ∀ i, f i = (a i : EReal)) :
    ∑ i, f i = ((∑ i, a i : ℝ) : EReal) := by
  rw [Finset.sum_congr rfl fun i _ => hf i, sum_coe]

/-- A score from its products, its scale and its two gates. -/
theorem score (h r b : ℕ) (f g : Fin 128 → EReal) (sc x y : EReal) (hf : ∀ d : Fin 128, f d = ((I.q r (128 * h + d) : ℝ) : EReal))
    (hg : ∀ d : Fin 128, g d = ((I.k b (128 * h + d) : ℝ) : EReal)) (hs : sc = ((I.sc : ℝ) : EReal)) (hx : x = ((I.c r h : ℝ) : EReal))
    (hy : y = ((I.c b h : ℝ) : EReal)) : (∑ d, f d * g d) * sc + x - y = ((s I h r b : ℝ) : EReal) := by
  rw [sum_dot f g _ _ hf hg, hs, hx, hy, ← EReal.coe_mul, ← EReal.coe_add, ← EReal.coe_sub]; rfl

/-- The same, masked. -/
theorem masked (h : ℕ) (r b : Fin 2048) (x y : EReal) (hx : x = ((s I h r b : ℝ) : EReal)) (hy : y = ⊥) :
    Scalar.select (IntOp.cmpi .sle (BitVec.ofNat 32 b.val) (BitVec.ofNat 32 r.val)) x y = ms I h r b := by
  rw [select_le, hx, hy]; rfl

/-- The quotient of an exponential by its row's sum is the softmax weight. -/
theorem soft (M : ℝ) (h r b : ℕ) : Ideal.div ((E I M h r b : ℝ) : EReal) ((Z I M h r : ℝ) : EReal) = ((p I h r b : ℝ) : EReal) := by
  rw [div_coe_coe (Z_ne I M h r), ← p_eq]

/-- The gradient of a score through the quotient of exponentials. -/
theorem grad_score (M : ℝ) (h : ℕ) (r b : Fin 2048) :
    Scalar.select (IntOp.cmpi .sle (BitVec.ofNat 32 b.val) (BitVec.ofNat 32 r.val))
      ((Ideal.div ((dp I h r b : ℝ) : EReal) ((Z I M h r : ℝ) : EReal)
        + ∑ _x : Fin 1, -∑ x : Fin 2048, ((dp I h r x : ℝ) : EReal) * Ideal.div 1 ((Z I M h r * Z I M h r : ℝ) : EReal) * ((E I M h r x : ℝ) : EReal))
        * ((E I M h r b : ℝ) : EReal)) (0 : EReal) = ((ds I h r b : ℝ) : EReal) := by
  rw [select_le]
  split
  · rw [Fin.sum_univ_one, ← EReal.coe_one, div_coe_coe (Z_ne I M h r), div_coe_coe (mul_ne_zero (Z_ne I M h r) (Z_ne I M h r)),
      sum_real _ (fun x => dp I h r x * (1 / (Z I M h r * Z I M h r)) * E I M h r x) fun x => by rw [← EReal.coe_mul, ← EReal.coe_mul],
      ← EReal.coe_neg, ← EReal.coe_add, ← EReal.coe_mul, ← ds_eq]
  · next hc => rw [ds_zero I (Nat.lt_of_not_le hc), EReal.coe_zero]

end Cert.Proof.AttnMax

end
-- ==== Proof.AttnHost.lean ====
/-
  What the host's operations before the attention gradient's launch leave, over real arguments: the two gate arrays, the
  log-sum-exp of each row and the attention's output. The row maxima stand apart from the other operations.
-/
module

public import proofs.«01_k».proof.Proof.AttnData
public import proofs.«01_k».proof.Proof.AttnMax
public import Idealize.ShloMosaic.Lib.StableHlo.ReadAt
public import Idealize.ShloMosaic.Lib.Pointwise
public import Idealize.ShloMosaic.PureOps.Ideal.Laws

@[expose] public section

set_option maxRecDepth 8192
set_option maxHeartbeats 400000

noncomputable section

namespace Cert.Proof.AttnHost

open Cert.KernelIdeal Cert.KernelIdeal.Gen Idealize.ShloMosaic Idealize.ShloMosaic.TcCoe Idealize.SL.Sem Idealize.ShloMosaic.StableHlo
open Cert.Proof.AttnReal Cert.Proof.AttnMax Cert.Proof.Finite

section Lists
variable {F : FTy → Type} [FloatOps F]

/-- The first row maximum. -/
abbrev maxA : List (HloOp τ sig (Elt F)) :=
  [ StableHlo.nullary main_cst_1 (constant S_ .f32 0xFF800000#32),
    StableHlo.binary main_v26 main_cst_1 main_v27 ((fun x v => Host.reduce FloatOps.maximumf x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)) ]

/-- The log-sum-exp, and the scores once more. -/
abbrev restA : List (HloOp τ sig (Elt F)) :=
  [ StableHlo.unary main_v27 main_v28 (broadcastInDim S16x2048x1 ![0, 1] bcast_S16x2048_S16x2048x1_0_1 : (⟨S16x2048, .f32⟩ : BufTy).Contents (Elt F) → (⟨S16x2048x1, .f32⟩ : BufTy).Contents (Elt F)),
    StableHlo.unary main_v28 main_v29 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    StableHlo.binary main_v26 main_v29 main_v30 (subf : (⟨S16x2048x2048, .f32⟩ : BufTy).Contents (Elt F) → (⟨S16x2048x2048, .f32⟩ : BufTy).Contents (Elt F) → (⟨S16x2048x2048, .f32⟩ : BufTy).Contents (Elt F)),
    StableHlo.unary main_v30 main_v31 (Host.exp : (⟨S16x2048x2048, .f32⟩ : BufTy).Contents (Elt F) → (⟨S16x2048x2048, .f32⟩ : BufTy).Contents (Elt F)),
    StableHlo.nullary main_cst_2 (constant S_ .f32 0x00000000#32),
    StableHlo.binary main_v31 main_cst_2 main_v32 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    StableHlo.unary main_v32 main_v33 (Host.log : (⟨S16x2048, .f32⟩ : BufTy).Contents (Elt F) → (⟨S16x2048, .f32⟩ : BufTy).Contents (Elt F)),
    StableHlo.binary main_v27 main_v33 main_v34 (addf : (⟨S16x2048, .f32⟩ : BufTy).Contents (Elt F) → (⟨S16x2048, .f32⟩ : BufTy).Contents (Elt F) → (⟨S16x2048, .f32⟩ : BufTy).Contents (Elt F)),
    StableHlo.unary main_v34 main_v35 (broadcastInDim S16x2048x1 ![0, 1] bcast_S16x2048_S16x2048x1_0_1 : (⟨S16x2048, .f32⟩ : BufTy).Contents (Elt F) → (⟨S16x2048x1, .f32⟩ : BufTy).Contents (Elt F)),
    StableHlo.unary main_v35 main_v36 (broadcastInDim S16x2048x128 ![0, 1, 2] bcast_S16x2048x1_S16x2048x128_0_1_2 : (⟨S16x2048x1, .f32⟩ : BufTy).Contents (Elt F) → (⟨S16x2048x128, .f32⟩ : BufTy).Contents (Elt F)),
    StableHlo.reshape main_v4 main_v37 (rfl : (.f32 : EltTy) = .f32) shapeCasts_S2048x2048_S2048x16x128,
    StableHlo.reshape main_v5 main_v38 (rfl : (.f32 : EltTy) = .f32) shapeCasts_S2048x2048_S2048x16x128,
    StableHlo.binary main_v37 main_v38 main_v39 ((fun l r => Host.dotGeneral dot_S2048x16x128_S2048x16x128_S16x2048x2048_2_2_0_0_1_1 none l r) : (⟨S2048x16x128, .f32⟩ : BufTy).Contents (Elt F) → (⟨S2048x16x128, .f32⟩ : BufTy).Contents (Elt F) → (⟨S16x2048x2048, .f32⟩ : BufTy).Contents (Elt F)),
    StableHlo.nullary main_cst_3 (constant S_ .f32 0x3DB504F3#32),
    StableHlo.unary main_cst_3 main_v40 (broadcastInDim S16x2048x2048 ![] bcast_S_S16x2048x2048 : (⟨S_, .f32⟩ : BufTy).Contents (Elt F) → (⟨S16x2048x2048, .f32⟩ : BufTy).Contents (Elt F)),
    StableHlo.binary main_v39 main_v40 main_v41 (mulf : (⟨S16x2048x2048, .f32⟩ : BufTy).Contents (Elt F) → (⟨S16x2048x2048, .f32⟩ : BufTy).Contents (Elt F) → (⟨S16x2048x2048, .f32⟩ : BufTy).Contents (Elt F)),
    StableHlo.unary main_arg3 main_v42 ((transpose S16x2048 [1, 0] · transposes_S2048x16_S16x2048_1_0) : (⟨S2048x16, .f32⟩ : BufTy).Contents (Elt F) → (⟨S16x2048, .f32⟩ : BufTy).Contents (Elt F)),
    StableHlo.unary main_v42 main_v43 (broadcastInDim S16x2048x1 ![0, 1] bcast_S16x2048_S16x2048x1_0_1 : (⟨S16x2048, .f32⟩ : BufTy).Contents (Elt F) → (⟨S16x2048x1, .f32⟩ : BufTy).Contents (Elt F)),
    StableHlo.unary main_v43 main_v44 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    StableHlo.binary main_v41 main_v44 main_v45 (addf : (⟨S16x2048x2048, .f32⟩ : BufTy).Contents (Elt F) → (⟨S16x2048x2048, .f32⟩ : BufTy).Contents (Elt F) → (⟨S16x2048x2048, .f32⟩ : BufTy).Contents (Elt F)),
    StableHlo.unary main_arg3 main_v46 ((transpose S16x2048 [1, 0] · transposes_S2048x16_S16x2048_1_0) : (⟨S2048x16, .f32⟩ : BufTy).Contents (Elt F) → (⟨S16x2048, .f32⟩ : BufTy).Contents (Elt F)),
    StableHlo.unary main_v46 main_v47 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v47 main_v48 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    StableHlo.binary main_v45 main_v48 main_v49 (subf : (⟨S16x2048x2048, .f32⟩ : BufTy).Contents (Elt F) → (⟨S16x2048x2048, .f32⟩ : BufTy).Contents (Elt F) → (⟨S16x2048x2048, .f32⟩ : BufTy).Contents (Elt F)),
    StableHlo.nullary main_v50 (iotaInDim S2048 32 0),
    StableHlo.unary main_v50 main_v51 (broadcastInDim S1x2048 ![1] bcast_S2048_S1x2048_1 : (⟨S2048, .i32⟩ : BufTy).Contents (Elt F) → (⟨S1x2048, .i32⟩ : BufTy).Contents (Elt F)),
    StableHlo.unary main_v50 main_v52 (broadcastInDim S2048x1 ![0] bcast_S2048_S2048x1_0 : (⟨S2048, .i32⟩ : BufTy).Contents (Elt F) → (⟨S2048x1, .i32⟩ : BufTy).Contents (Elt F)),
    StableHlo.unary main_v51 main_v53 (broadcastInDim S2048x2048 ![0, 1] bcast_S1x2048_S2048x2048_0_1 : (⟨S1x2048, .i32⟩ : BufTy).Contents (Elt F) → (⟨S2048x2048, .i32⟩ : BufTy).Contents (Elt F)),
    StableHlo.unary main_v52 main_v54 (broadcastInDim S2048x2048 ![0, 1] bcast_S2048x1_S2048x2048_0_1 : (⟨S2048x1, .i32⟩ : BufTy).Contents (Elt F) → (⟨S2048x2048, .i32⟩ : BufTy).Contents (Elt F)),
    StableHlo.binary main_v53 main_v54 main_v55 (cmpi .sle : (⟨S2048x2048, .i32⟩ : BufTy).Contents (Elt F) → (⟨S2048x2048, .i32⟩ : BufTy).Contents (Elt F) → (⟨S2048x2048, .i1⟩ : BufTy).Contents (Elt F)),
    StableHlo.nullary main_cst_4 (constant S_ .f32 0xFF800000#32) ]

/-- The second row maximum. -/
abbrev maxB : List (HloOp τ sig (Elt F)) :=
  [ StableHlo.nullary main_cst_5 (constant S_ .f32 0xFF800000#32),
    StableHlo.binary main_v56 main_cst_5 main_v57 ((fun x v => Host.reduce FloatOps.maximumf x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)) ]

/-- The softmax and the output. -/
abbrev restB : List (HloOp τ sig (Elt F)) :=
  [ StableHlo.nullary main_cst_6 (constant S_ .f32 0xFF800000#32),
    StableHlo.unary main_cst_6 main_v58 (broadcastInDim S16x2048 ![] bcast_S_S16x2048 : (⟨S_, .f32⟩ : BufTy).Contents (Elt F) → (⟨S16x2048, .f32⟩ : BufTy).Contents (Elt F)),
    StableHlo.binary main_v58 main_v57 main_v59 (maximumf : (⟨S16x2048, .f32⟩ : BufTy).Contents (Elt F) → (⟨S16x2048, .f32⟩ : BufTy).Contents (Elt F) → (⟨S16x2048, .f32⟩ : BufTy).Contents (Elt F)),
    StableHlo.unary main_v59 main_v60 (broadcastInDim S16x2048x1 ![0, 1] bcast_S16x2048_S16x2048x1_0_1 : (⟨S16x2048, .f32⟩ : BufTy).Contents (Elt F) → (⟨S16x2048x1, .f32⟩ : BufTy).Contents (Elt F)),
    StableHlo.unary main_v60 main_v61 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    StableHlo.binary main_v56 main_v61 main_v62 (subf : (⟨S16x2048x2048, .f32⟩ : BufTy).Contents (Elt F) → (⟨S16x2048x2048, .f32⟩ : BufTy).Contents (Elt F) → (⟨S16x2048x2048, .f32⟩ : BufTy).Contents (Elt F)),
    StableHlo.unary main_v62 main_v63 (Host.exp : (⟨S16x2048x2048, .f32⟩ : BufTy).Contents (Elt F) → (⟨S16x2048x2048, .f32⟩ : BufTy).Contents (Elt F)),
    StableHlo.nullary main_cst_7 (constant S_ .f32 0x00000000#32),
    StableHlo.binary main_v63 main_cst_7 main_v64 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    StableHlo.unary main_v64 main_v65 (broadcastInDim S16x2048x1 ![0, 1] bcast_S16x2048_S16x2048x1_0_1 : (⟨S16x2048, .f32⟩ : BufTy).Contents (Elt F) → (⟨S16x2048x1, .f32⟩ : BufTy).Contents (Elt F)),
    StableHlo.unary main_v65 main_v66 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    StableHlo.binary main_v63 main_v66 main_v67 (Host.divf : (⟨S16x2048x2048, .f32⟩ : BufTy).Contents (Elt F) → (⟨S16x2048x2048, .f32⟩ : BufTy).Contents (Elt F) → (⟨S16x2048x2048, .f32⟩ : BufTy).Contents (Elt F)),
    StableHlo.reshape main_v6 main_v68 (rfl : (.f32 : EltTy) = .f32) shapeCasts_S2048x2048_S2048x16x128,
    StableHlo.binary main_v68 main_v67 main_v69 ((fun l r => Host.dotGeneral dot_S2048x16x128_S16x2048x2048_S16x128x2048_0_2_2_1_1_0 none l r) : (⟨S2048x16x128, .f32⟩ : BufTy).Contents (Elt F) → (⟨S16x2048x2048, .f32⟩ : BufTy).Contents (Elt F) → (⟨S16x128x2048, .f32⟩ : BufTy).Contents (Elt F)),
    StableHlo.unary main_v69 main_v70 ((transpose S2048x16x128 [2, 0, 1] · transposes_S16x128x2048_S2048x16x128_2_0_1) : (⟨S16x128x2048, .f32⟩ : BufTy).Contents (Elt F) → (⟨S2048x16x128, .f32⟩ : BufTy).Contents (Elt F)),
    StableHlo.reshape main_v70 main_v71 (rfl : (.f32 : EltTy) = .f32) shapeCasts_S2048x16x128_S2048x2048 ]

theorem split_2 : (hostOps0_2 : List (HloOp τ sig (Elt F))) = maxA ++ restA := rfl
theorem split_4 : (hostOps0_4 : List (HloOp τ sig (Elt F))) = maxB ++ restB := rfl

end Lists

variable (I : In) (U : Valuation τ sig (Elt Ideal))

/-- The row maximum of an array. -/
def mx (x : (⟨S16x2048x2048, .f32⟩ : BufTy).Contents (Elt Ideal)) : (⟨S16x2048, .f32⟩ : BufTy).Contents (Elt Ideal) :=
  Host.reduce (FloatOps.maximumf (F := Ideal) (φ := .f32)) x (constant (F := Ideal) S_ .f32 0xFF800000#32) reducesTo_S16x2048x2048_S16x2048_d2 h_S_

theorem mx_apply (x : (⟨S16x2048x2048, .f32⟩ : BufTy).Contents (Elt Ideal)) (h : Fin 16) (r : Fin 2048) :
   mx x (ix2 h r) = Finset.fold max (Ideal.ofBits FTy.f32 4286578688#32) (fun b : Fin 2048 => x (ix3 h r b)) Finset.univ := by
  unfold mx
  pointwise

/-- The arguments are these real numbers. -/
structure Args : Prop where
  q : ∀ (r c : Fin 2048), (U (Proc.devRef .tc main_arg0) (ix2 r c) : EReal) = ((I.q r c : ℝ) : EReal)
  k : ∀ (r c : Fin 2048), (U (Proc.devRef .tc main_arg1) (ix2 r c) : EReal) = ((I.k r c : ℝ) : EReal)
  v : ∀ (r c : Fin 2048), (U (Proc.devRef .tc main_arg2) (ix2 r ⟨4096 + c.val, by omega⟩) : EReal) = ((I.v r c : ℝ) : EReal)
  c : ∀ (r : Fin 2048) (h : Fin 16), (U (Proc.devRef .tc main_arg3) (ix2 r h) : EReal) = ((I.c r h : ℝ) : EReal)
  ct : ∀ (r c : Fin 2048), (U (Proc.devRef .tc main_arg4) (ix2 r c) : EReal) = ((I.ct r c : ℝ) : EReal)
  sc : Ideal.ofBits .f32 0x3DB504F3#32 = ((I.sc : ℝ) : EReal)

/-- What later stages take of the arguments. -/
structure Kept : Prop where
  q : ∀ (r c : Fin 2048), (U (Proc.devRef .tc main_v4) (ix2 r c) : EReal) = ((I.q r c : ℝ) : EReal)
  k : ∀ (r c : Fin 2048), (U (Proc.devRef .tc main_v5) (ix2 r c) : EReal) = ((I.k r c : ℝ) : EReal)
  v : ∀ (r c : Fin 2048), (U (Proc.devRef .tc main_v6) (ix2 r c) : EReal) = ((I.v r c : ℝ) : EReal)
  c : ∀ (r : Fin 2048) (h : Fin 16), (U (Proc.devRef .tc main_arg3) (ix2 r h) : EReal) = ((I.c r h : ℝ) : EReal)
  sc : Ideal.ofBits .f32 0x3DB504F3#32 = ((I.sc : ℝ) : EReal)

variable {I U}

theorem keep_0 (A : Args I U) : Kept I (after (hostOps0 ++ hostOps0_1) U) where
  q r c := by after_reads_at; exact A.q r c
  k r c := by after_reads_at; exact A.k r c
  v r c := by after_reads_at; exact A.v r c
  c r h := by after_reads_at; exact A.c r h
  sc := A.sc

theorem scored (A : Args I U) (h : Fin 16) (r b : Fin 2048) :
    (after (hostOps0 ++ hostOps0_1) U (Proc.devRef .tc main_v26) (ix3 h r b) : EReal) = ms I h r b := by
  after_reads_at
  refine masked I h r b _ _ (score I h r b _ _ _ _ _ (fun d => ?_) (fun d => ?_) A.sc (A.c r h) (A.c b h)) ?_
  · rw [A.q]; simp only [Nat.mul_comm]
  · rw [A.k]; simp only [Nat.mul_comm]
  · exact ofBits_neg_inf

theorem keep_A (K : Kept I U) : Kept I (after maxA U) where
  q r c := by after_reads_simp; exact K.q r c
  k r c := by after_reads_simp; exact K.k r c
  v r c := by after_reads_simp; exact K.v r c
  c r h := by after_reads_simp; exact K.c r h
  sc := K.sc

theorem max_A : after maxA U (Proc.devRef .tc main_v27) = mx (U (Proc.devRef .tc main_v26)) := by
  after_reads_simp
  rfl

theorem max_B : after maxB U (Proc.devRef .tc main_v57) = mx (U (Proc.devRef .tc main_v56)) := by
  after_reads_simp
  rfl

theorem log_Z (M : ℝ) (h r : ℕ) : Ideal.log ((Z I M h r : ℝ) : EReal) = ((Real.log (Z I M h r) : ℝ) : EReal) := by
  rw [Ideal.log_coe, if_neg (not_le.mpr (Z_pos I M h r))]

theorem lse_A (h : Fin 16) (r : Fin 2048) (l : Fin 128) (M : ℝ)
    (hM : (U (Proc.devRef .tc main_v27) (ix2 h r) : EReal) = (M : EReal))
    (hs : ∀ b : Fin 2048, (U (Proc.devRef .tc main_v26) (ix3 h r b) : EReal) = ms I h r b) :
    (after (restA ++ hostOps0_3) U (Proc.devRef .tc main_v36) (ix3 h r l) : EReal) = ((L I h r : ℝ) : EReal) := by
  after_reads_at
  rw [sum_E I M h r _ fun b => by rw [hs b, hM, exp_ms], hM, log_Z, ← EReal.coe_add, ← L_eq]

theorem scored_A (K : Kept I U) (h : Fin 16) (r b : Fin 2048) :
    (after (restA ++ hostOps0_3) U (Proc.devRef .tc main_v56) (ix3 h r b) : EReal) = ms I h r b := by
  after_reads_at
  refine masked I h r b _ _ (score I h r b _ _ _ _ _ (fun d => ?_) (fun d => ?_) K.sc (K.c r h) (K.c b h)) ?_
  · rw [K.q]; simp only [Nat.mul_comm]
  · rw [K.k]; simp only [Nat.mul_comm]
  · exact ofBits_neg_inf

theorem keep_v_A (K : Kept I U) (r c : Fin 2048) :
    (after (restA ++ hostOps0_3) U (Proc.devRef .tc main_v6) (ix2 r c) : EReal) = ((I.v r c : ℝ) : EReal) := by
  after_reads_simp; exact K.v r c

theorem out_B (r c : Fin 2048) (M : ℝ) (hM : (U (Proc.devRef .tc main_v57) (ix2 ⟨c.val / 128, by omega⟩ r) : EReal) = (M : EReal))
    (hs : ∀ b : Fin 2048, (U (Proc.devRef .tc main_v56) (ix3 ⟨c.val / 128, by omega⟩ r b) : EReal) = ms I (c / 128) r b)
    (hv : ∀ b c : Fin 2048, (U (Proc.devRef .tc main_v6) (ix2 b c) : EReal) = ((I.v b c : ℝ) : EReal)) :
    (after restB U (Proc.devRef .tc main_v71) (ix2 r c) : EReal) = ((o I (c / 128) r (c % 128) : ℝ) : EReal) := by
  after_reads_at
  have he : ∀ b : Fin 2048, Ideal.exp (@HSub.hSub EReal EReal EReal _ (U (Proc.devRef .tc main_v56) (ix3 ⟨c.val / 128, by omega⟩ r b))
      (@max EReal _ (Ideal.ofBits FTy.f32 4286578688#32) (U (Proc.devRef .tc main_v57) (ix2 ⟨c.val / 128, by omega⟩ r))))
      = ((E I M (c / 128) r b : ℝ) : EReal) := fun b => by
    rw [hs b, hM, ofBits_neg_inf, max_eq_right bot_le, exp_ms]
  refine (sum_dot _ _ (fun x : Fin 2048 => I.v x c) (fun x : Fin 2048 => p I (c / 128) r x) (fun x => ?_) (fun x => ?_)).trans ?_
  · rw [hv]; simp only [Nat.div_add_mod']
  · exact (congrArg₂ Ideal.div (he x) (sum_E I M (c / 128) r _ he)).trans (soft I M _ _ _)
  · unfold o; simp only [Nat.div_add_mod, mul_comm]

theorem gate_q (A : Args I U) (h : Fin 16) (r : Fin 2048) (l : Fin 128) :
    (after (hostOps0 ++ hostOps0_1) U (Proc.devRef .tc main_v2) (ix3 h r l) : EReal) = ((I.c r h : ℝ) : EReal) := by
  after_reads_at
  exact A.c r h

theorem gate_k (A : Args I U) (h : Fin 16) (j : Fin 8) (l : Fin 256) :
    (after (hostOps0 ++ hostOps0_1) U (Proc.devRef .tc main_v3) (ix4 h j 0 l) : EReal) = ((I.c (256 * j + l) h : ℝ) : EReal) := by
  after_reads_at
  rw [A.c]; simp only [Nat.mul_comm]

variable (m : (ℓ : Loc nD τ sig) → Buf (Elt Ideal) ℓ) (c : Dev nD)

theorem V_eq (b : Ref sig .tc) : V m c b = after restB (after maxB (after (restA ++ hostOps0_3) (after maxA
    (after (hostOps0 ++ hostOps0_1) (fun b => m (c, b)))))) (Proc.devRef .tc b) := by
  unfold V
  rw [split_2, split_4]
  simp only [List.flatten_cons, List.flatten_nil, List.append_nil, after_append]

/-- The arrays the launch finds, by numbers. -/
structure Arrs (I : In) : Prop where
  q : ∀ {r d : ℕ}, r < 2048 → d < 2048 → Attn.nat2 (Attn.aQ m c) r d = ((I.q r d : ℝ) : EReal)
  k : ∀ {r d : ℕ}, r < 2048 → d < 2048 → Attn.nat2 (Attn.aK m c) r d = ((I.k r d : ℝ) : EReal)
  v : ∀ {r d : ℕ}, r < 2048 → d < 2048 → Attn.nat2 (Attn.aV m c) r (4096 + d) = ((I.v r d : ℝ) : EReal)
  ct : ∀ {r d : ℕ}, r < 2048 → d < 2048 → Attn.nat2 (Attn.aCt m c) r d = ((I.ct r d : ℝ) : EReal)
  o : ∀ {r d : ℕ}, r < 2048 → d < 2048 → Attn.nat2 (Attn.aO m c) r d = ((o I (d / 128) r (d % 128) : ℝ) : EReal)
  lse : ∀ {h r l : ℕ}, h < 16 → r < 2048 → l < 128 → Attn.nat3 (Attn.aLse m c) h r l = ((L I h r : ℝ) : EReal)
  cq : ∀ {h r l : ℕ}, h < 16 → r < 2048 → l < 128 → Attn.nat3 (Attn.aCq m c) h r l = ((I.c r h : ℝ) : EReal)
  ck : ∀ {h j l : ℕ}, h < 16 → j < 8 → l < 256 → Attn.nat5 (Attn.aCk m c) h j l = ((I.c (256 * j + l) h : ℝ) : EReal)
  sc : Ideal.ofBits .f32 0x3DB504F3#32 = ((I.sc : ℝ) : EReal)

theorem V_0 : V m c main_arg0 = m (c, Proc.devRef .tc main_arg0) := by unfold V; after_reads_simp
theorem V_1 : V m c main_arg1 = m (c, Proc.devRef .tc main_arg1) := by unfold V; after_reads_simp
theorem V_2 : V m c main_arg2 = m (c, Proc.devRef .tc main_arg2) := by unfold V; after_reads_simp
theorem V_4 : V m c main_arg4 = m (c, Proc.devRef .tc main_arg4) := by unfold V; after_reads_simp

theorem late_2 (U : Valuation τ sig (Elt Ideal)) : after restB (after maxB (after (restA ++ hostOps0_3) (after maxA U))) (Proc.devRef .tc main_v2)
    = U (Proc.devRef .tc main_v2) := by after_reads_simp
theorem late_3 (U : Valuation τ sig (Elt Ideal)) : after restB (after maxB (after (restA ++ hostOps0_3) (after maxA U))) (Proc.devRef .tc main_v3)
    = U (Proc.devRef .tc main_v3) := by after_reads_simp
theorem late_36 (U : Valuation τ sig (Elt Ideal)) : after restB (after maxB U) (Proc.devRef .tc main_v36)
    = U (Proc.devRef .tc main_v36) := by after_reads_simp
theorem late_6 (U : Valuation τ sig (Elt Ideal)) : after maxB U (Proc.devRef .tc main_v6) = U (Proc.devRef .tc main_v6) := by after_reads_simp
theorem late_56 (U : Valuation τ sig (Elt Ideal)) : after maxB U (Proc.devRef .tc main_v56) = U (Proc.devRef .tc main_v56) := by after_reads_simp
theorem late_26 (U : Valuation τ sig (Elt Ideal)) : after maxA U (Proc.devRef .tc main_v26) = U (Proc.devRef .tc main_v26) := by after_reads_simp

theorem arrs (A : Args I (fun b => m (c, b))) : Arrs m c I := by
  have S1 := scored A
  have K1 := keep_0 A
  have Gq := gate_q A
  have Gk := gate_k A
  have eV := V_eq m c
  generalize after (hostOps0 ++ hostOps0_1) (fun b => m (c, b)) = U1 at S1 K1 Gq Gk eV
  choose M hM using fun (h : Fin 16) (r : Fin 2048) => max_real I h r _ (S1 h r)
  have hM1 : ∀ (h : Fin 16) (r : Fin 2048), (after maxA U1 (Proc.devRef .tc main_v27) (ix2 h r) : EReal) = ((M h r : ℝ) : EReal) := by
    intro h r
    rw [max_A, mx_apply, ofBits_neg_inf, hM]
  have hs1 : ∀ (h : Fin 16) (r b : Fin 2048), (after maxA U1 (Proc.devRef .tc main_v26) (ix3 h r b) : EReal) = ms I h r b := by
    intro h r b
    rw [late_26]; exact S1 h r b
  have hL := fun (h : Fin 16) (r : Fin 2048) (l : Fin 128) => lse_A h r l (M h r) (hM1 h r) (hs1 h r)
  have hs2 := scored_A (keep_A K1)
  have hv2 := keep_v_A (keep_A K1)
  have e2 := late_2 U1
  have e3 := late_3 U1
  generalize after (restA ++ hostOps0_3) (after maxA U1) = U3 at hL hs2 hv2 eV e2 e3
  have hM3 : ∀ (h : Fin 16) (r : Fin 2048), (after maxB U3 (Proc.devRef .tc main_v57) (ix2 h r) : EReal) = ((M h r : ℝ) : EReal) := by
    intro h r
    rw [max_B, mx_apply, ofBits_neg_inf]
    refine Eq.trans ?_ (hM h r)
    exact congrArg (fun f => Finset.fold max (⊥ : EReal) f Finset.univ) (funext fun b => (hs2 h r b).trans (S1 h r b).symm)
  have hO : ∀ r d : Fin 2048, (after restB (after maxB U3) (Proc.devRef .tc main_v71) (ix2 r d) : EReal) = ((o I (d / 128) r (d % 128) : ℝ) : EReal) := by
    intro r d
    exact out_B r d _ (hM3 _ r) (fun b => by rw [late_56]; exact hs2 _ r b) (fun b d => by rw [late_6]; exact hv2 b d)
  refine ⟨fun {r d} hr hd => ?_, fun {r d} hr hd => ?_, fun {r d} hr hd => ?_, fun {r d} hr hd => ?_, fun {r d} hr hd => ?_,
    fun {h r l} hh hr hl => ?_, fun {h r l} hh hr hl => ?_, fun {h j l} hh hj hl => ?_, A.sc⟩
  · unfold Attn.nat2
    rw [dif_pos ⟨hr, hd⟩]
    exact (congrFun (V_0 m c) _).trans (A.q ⟨r, hr⟩ ⟨d, hd⟩)
  · unfold Attn.nat2
    rw [dif_pos ⟨hr, hd⟩]
    exact (congrFun (V_1 m c) _).trans (A.k ⟨r, hr⟩ ⟨d, hd⟩)
  · unfold Attn.nat2
    rw [dif_pos ⟨hr, by omega⟩]
    exact (congrFun (V_2 m c) _).trans (A.v ⟨r, hr⟩ ⟨d, hd⟩)
  · unfold Attn.nat2
    rw [dif_pos ⟨hr, hd⟩]
    exact (congrFun (V_4 m c) _).trans (A.ct ⟨r, hr⟩ ⟨d, hd⟩)
  · unfold Attn.nat2
    rw [dif_pos ⟨hr, hd⟩]
    exact (congrFun (eV main_v71) _).trans (hO ⟨r, hr⟩ ⟨d, hd⟩)
  · unfold Attn.nat3
    rw [dif_pos ⟨hh, hr, hl⟩]
    exact (congrFun ((eV main_v36).trans (late_36 U3)) _).trans (hL ⟨h, hh⟩ ⟨r, hr⟩ ⟨l, hl⟩)
  · unfold Attn.nat3
    rw [dif_pos ⟨hh, hr, hl⟩]
    exact (congrFun ((eV main_v2).trans e2) _).trans (Gq ⟨h, hh⟩ ⟨r, hr⟩ ⟨l, hl⟩)
  · unfold Attn.nat5
    rw [dif_pos ⟨hh, hj, hl⟩]
    exact (congrFun ((eV main_v3).trans e3) _).trans (Gk ⟨h, hh⟩ ⟨j, hj⟩ ⟨l, hl⟩)

end Cert.Proof.AttnHost

end
-- ==== Proof.AttnOut.lean ====
/-
  What a grid point works on and leaves, over real arguments: the block's scores, weights and gradients are the real
  attention's, a column of query blocks sums over all the rows (the blocks before the diagonal add nothing), and the
  accumulated outputs are the sums over the blocks of keys so far.
-/
module

public import proofs.«01_k».proof.Proof.AttnHost

@[expose] public section

set_option maxRecDepth 8192
set_option maxHeartbeats 400000

noncomputable section

namespace Cert.Proof.AttnOut

open Cert.KernelIdeal Cert.KernelIdeal.Gen Idealize.ShloMosaic Idealize.ShloMosaic.TcCoe
open Cert.Proof.AttnReal Cert.Proof.AttnMax Cert.Proof.Finite Cert.Proof.Attn

/-! ## Sums over a column of blocks -/

theorem through_add {ι : Type} (F : ℕ → (ι → EReal) → ι → EReal) (g : ℕ → ι → EReal) (hF : ∀ n x y, F n x y = x y + g n y)
    (j : ℕ) (x : ι → EReal) (k : ℕ) (y : ι) : through F j x k y = x y + ∑ i ∈ Finset.range (k + 1), g (j + i) y := by
  induction k with
  | zero => rw [through, hF, Finset.sum_range_one]; rfl
  | succ k ih =>
    rw [through, hF, ih, Finset.sum_range_succ _ (k + 1), add_assoc, show j + 1 + k = j + (k + 1) by omega]

theorem sum_from (f : ℕ → ℝ) (j : ℕ) (hj : j < 8) (h0 : ∀ n, n < j → f n = 0) :
    ∑ i ∈ Finset.range (7 - j + 1), f (j + i) = ∑ n : Fin 8, f n := by
  rw [← Finset.sum_range f, show 7 - j + 1 = 8 - j by omega, ← Finset.sum_Ico_eq_sum_range, Finset.range_eq_Ico,
    ← Finset.sum_Ico_consecutive f (Nat.zero_le j) hj.le, Finset.sum_eq_zero (s := Finset.Ico 0 j) fun n hn => h0 n (Finset.mem_Ico.mp hn).2,
    zero_add]

/-- A column of real contributions, those before the first block being zero. -/
theorem through_real {ι : Type} (F : ℕ → (ι → EReal) → ι → EReal) (g : ℕ → ι → EReal) (hF : ∀ n x y, F n x y = x y + g n y)
    (j : ℕ) (hj : j < 8) (x : ι → EReal) (y : ι) (f : ℕ → ℝ) (hg : ∀ n, n < 8 → g n y = ((f n : ℝ) : EReal))
    (h0 : ∀ n, n < j → f n = 0) : through F j x (7 - j) y = x y + ((∑ n : Fin 8, f n : ℝ) : EReal) := by
  rw [through_add F g hF, ← sum_from f j hj h0, ← sum_coe]
  exact congrArg _ (Finset.sum_congr rfl fun i hi => hg _ (by have := Finset.mem_range.mp hi; omega))

variable {m : (ℓ : Loc nD τ sig) → Buf (Elt Ideal) ℓ} {c : Dev nD} {I : In} (A : AttnHost.Arrs m c I) {n : ℕ} (hn : n < 64)
include A hn

/-! ## A block's contents -/

theorem D_q {r x : ℕ} (hr : r < 2048) (hx : x < 256) : (blk m c n).q r x = ((I.q r (256 * (n / 8) + x) : ℝ) : EReal) := by
  show nat2 (X2 m c (n / 8)) r x = _
  unfold nat2
  rw [dif_pos ⟨hr, hx⟩]
  exact A.q (d := 256 * (n / 8) + x) hr (by omega)

theorem D_k {b x : ℕ} (hb : b < 256) (hx : x < 256) :
    (blk m c n).k b x = ((I.k (256 * (n % 8) + b) (256 * (n / 8) + x) : ℝ) : EReal) := by
  show nat2 (X3 m c (n / 8) (n % 8)) b x = _
  unfold nat2
  rw [dif_pos ⟨hb, hx⟩]
  exact A.k (r := 256 * (n % 8) + b) (d := 256 * (n / 8) + x) (by omega) (by omega)

theorem D_v {b x : ℕ} (hb : b < 256) (hx : x < 256) :
    (blk m c n).v b x = ((I.v (256 * (n % 8) + b) (256 * (n / 8) + x) : ℝ) : EReal) := by
  show nat2 (X4 m c (n / 8) (n % 8)) b x = _
  unfold nat2
  rw [dif_pos ⟨hb, hx⟩]
  exact A.v (r := 256 * (n % 8) + b) (d := 256 * (n / 8) + x) (by omega) (by omega)

theorem D_ct {r x : ℕ} (hr : r < 2048) (hx : x < 256) : (blk m c n).ct r x = ((I.ct r (256 * (n / 8) + x) : ℝ) : EReal) := by
  show nat2 (X5 m c (n / 8)) r x = _
  unfold nat2
  rw [dif_pos ⟨hr, hx⟩]
  exact A.ct (d := 256 * (n / 8) + x) hr (by omega)

theorem D_o {r x : ℕ} (hr : r < 2048) (hx : x < 256) : nat2 (X6 m c (n / 8)) r x
    = ((o I ((256 * (n / 8) + x) / 128) r ((256 * (n / 8) + x) % 128) : ℝ) : EReal) := by
  unfold nat2
  rw [dif_pos ⟨hr, hx⟩]
  exact A.o (d := 256 * (n / 8) + x) hr (by omega)

theorem D_ck {g b : ℕ} (hg : g < 2) (hb : b < 256) : (blk m c n).ck g b = ((I.c (256 * (n % 8) + b) (2 * (n / 8) + g) : ℝ) : EReal) := by
  show nat4 (X9 m c (n / 8) (n % 8)) g b = _
  unfold nat4
  rw [dif_pos ⟨hg, hb⟩]
  exact A.ck (h := 2 * (n / 8) + g) (j := n % 8) (by omega) (by omega) hb

theorem D_cql {g r l : ℕ} (hg : g < 2) (hr : r < 2048) (hl : l < 128) :
    (blk m c n).cql g r l = ((I.c r (2 * (n / 8) + g) - L I (2 * (n / 8) + g) r : ℝ) : EReal) := by
  show nat3 (lcl m c (n / 8)) g r l = _
  unfold nat3
  rw [dif_pos ⟨hg, hr, hl⟩, EReal.coe_sub]
  exact congrArg₂ (fun a b : EReal => a - b) (A.cq (h := 2 * (n / 8) + g) (by omega) hr hl) (A.lse (h := 2 * (n / 8) + g) (by omega) hr hl)

theorem D_dl {g r l : ℕ} (hg : g < 2) (hr : r < 2048) (hl : l < 128) :
    (blk m c n).dl g r l = ((dl I (2 * (n / 8) + g) r : ℝ) : EReal) := by
  show nat3 (dlt m c (n / 8)) g r l = _
  unfold nat3
  rw [dif_pos ⟨hg, hr, hl⟩]
  show (∑ d : Fin 128, nat2 (X5 m c (n / 8)) r (128 * g + d.val) * nat2 (X6 m c (n / 8)) r (128 * g + d.val)) = _
  refine sum_dot _ _ (fun d : Fin 128 => I.ct r (128 * (2 * (n / 8) + g) + d)) (fun d : Fin 128 => o I (2 * (n / 8) + g) r d)
    (fun d => ?_) (fun d => ?_)
  · refine (D_ct A hn hr (x := 128 * g + d) (by omega)).trans ?_
    rw [show 256 * (n / 8) + (128 * g + d.val) = 128 * (2 * (n / 8) + g) + d by omega]
  · refine (D_o A hn hr (x := 128 * g + d) (by omega)).trans ?_
    rw [show (256 * (n / 8) + (128 * g + d.val)) / 128 = 2 * (n / 8) + g by omega,
      show (256 * (n / 8) + (128 * g + d.val)) % 128 = d by omega]

theorem D_e {g r b : ℕ} (hg : g < 2) (hr : r < 2048) (hb : b < 256) : (blk m c n).e g r b
    = ((Real.exp (s I (2 * (n / 8) + g) r (256 * (n % 8) + b) - L I (2 * (n / 8) + g) r) : ℝ) : EReal) := by
  unfold Blk.e
  rw [sum_dot _ _ (fun d : Fin 128 => I.q r (128 * (2 * (n / 8) + g) + d)) (fun d : Fin 128 => I.k (256 * (n % 8) + b) (128 * (2 * (n / 8) + g) + d))
    (fun d => by rw [D_q A hn hr (by omega), show 256 * (n / 8) + (128 * g + d.val) = 128 * (2 * (n / 8) + g) + d by omega])
    (fun d => by rw [D_k A hn hb (by omega), show 256 * (n / 8) + (128 * g + d.val) = 128 * (2 * (n / 8) + g) + d by omega]),
    D_cql A hn hg hr (Nat.mod_lt _ (by decide)), D_ck A hn hg hb, show σ = ((I.sc : ℝ) : EReal) from A.sc, ← EReal.coe_mul, ← EReal.coe_sub,
    ← EReal.coe_add, Ideal.exp_coe]
  refine congrArg (fun x : ℝ => ((Real.exp x : ℝ) : EReal)) ?_
  unfold s; ring

theorem D_p {g r b : ℕ} (hg : g < 2) (hr : r < 2048) (hb : b < 256) : (blk m c n).p g r b
    = ((p I (2 * (n / 8) + g) r (256 * (n % 8) + b) : ℝ) : EReal) := by
  unfold Blk.p p E
  show (if 256 * (n % 8) + b ≤ r then _ else _) = _
  split
  · exact D_e A hn hg hr hb
  · rfl

theorem D_ds {g r b : ℕ} (hg : g < 2) (hr : r < 2048) (hb : b < 256) : (blk m c n).ds g r b
    = ((ds I (2 * (n / 8) + g) r (256 * (n % 8) + b) : ℝ) : EReal) := by
  unfold Blk.ds
  rw [D_p A hn hg hr hb, D_dl A hn hg hr (Nat.mod_lt _ (by decide)),
    sum_dot _ _ (fun d : Fin 128 => I.ct r (128 * (2 * (n / 8) + g) + d)) (fun d : Fin 128 => I.v (256 * (n % 8) + b) (128 * (2 * (n / 8) + g) + d))
    (fun d => by rw [D_ct A hn hr (by omega), show 256 * (n / 8) + (128 * g + d.val) = 128 * (2 * (n / 8) + g) + d by omega])
    (fun d => by rw [D_v A hn hb (by omega), show 256 * (n / 8) + (128 * g + d.val) = 128 * (2 * (n / 8) + g) + d by omega]),
    ← EReal.coe_sub, ← EReal.coe_mul]
  rfl

/-! ## What it leaves -/

theorem head_of {x : ℕ} : 2 * (n / 8) + x / 128 = (256 * (n / 8) + x) / 128 := by omega

/-- The values' gradient of a block of keys. -/
theorem outV_real (y : S256x256.Idx) : outV m c n y = ((dv I (256 * (n % 8) + (y 0).val) (256 * (n / 8) + (y 1).val) : ℝ) : EReal) := by
  have hb : (y 0).val < 256 := (y 0).isLt
  have hx : (y 1).val < 256 := (y 1).isLt
  unfold outV
  rw [through_real (addV (blk m c n)) (fun n' y => (blk m c n).cV n' (y 0).val (y 1).val) (fun _ _ _ => rfl) (n % 8) (Nat.mod_lt _ (by decide)) _ y
    (fun n' => ∑ a : Fin 256, p I ((256 * (n / 8) + (y 1).val) / 128) (256 * n' + a) (256 * (n % 8) + (y 0).val) * I.ct (256 * n' + a) (256 * (n / 8) + (y 1).val))
    (fun n' hn' => sum_dot _ _ _ _
      (fun a => by rw [D_p A hn (by omega) (by omega) hb, head_of A hn]) (fun a => D_ct A hn (by omega) hx))
    (fun n' hn' => Finset.sum_eq_zero fun a _ => by rw [p_zero I (by omega), zero_mul])]
  rw [zero_add, dv, sum_blocks fun r => p I ((256 * (n / 8) + (y 1).val) / 128) r (256 * (n % 8) + (y 0).val) * I.ct r (256 * (n / 8) + (y 1).val)]

/-- The keys' gradient. -/
theorem outK_real (y : S256x256.Idx) : outK m c n y = ((dk I (256 * (n % 8) + (y 0).val) (256 * (n / 8) + (y 1).val) : ℝ) : EReal) := by
  have hb : (y 0).val < 256 := (y 0).isLt
  have hx : (y 1).val < 256 := (y 1).isLt
  unfold outK
  rw [through_real (addK (blk m c n)) (fun n' y => (blk m c n).cK n' (y 0).val (y 1).val) (fun _ _ _ => rfl) (n % 8) (Nat.mod_lt _ (by decide)) _ y
    (fun n' => ∑ a : Fin 256, ds I ((256 * (n / 8) + (y 1).val) / 128) (256 * n' + a) (256 * (n % 8) + (y 0).val) * I.q (256 * n' + a) (256 * (n / 8) + (y 1).val))
    (fun n' hn' => sum_dot _ _ _ _
      (fun a => by rw [D_ds A hn (by omega) (by omega) hb, head_of A hn]) (fun a => D_q A hn (by omega) hx))
    (fun n' hn' => Finset.sum_eq_zero fun a _ => by rw [ds_zero I (by omega), zero_mul])]
  rw [zero_add, show σ = ((I.sc : ℝ) : EReal) from A.sc, ← EReal.coe_mul, dk,
    ← sum_blocks fun r => ds I ((256 * (n / 8) + (y 1).val) / 128) r (256 * (n % 8) + (y 0).val) * I.q r (256 * (n / 8) + (y 1).val), Finset.sum_mul]
  exact congrArg _ (Finset.sum_congr rfl fun _ _ => by ring)

/-- The gate's gradient on the side of the keys. -/
theorem outC_real (y : S2x1x1x256.Idx) : outC m c n y = ((dck I (2 * (n / 8) + (y 0).val) (256 * (n % 8) + (y 3).val) : ℝ) : EReal) := by
  have hg : (y 0).val < 2 := (y 0).isLt
  have hb : (y 3).val < 256 := (y 3).isLt
  unfold outC
  have hg' : ∀ n', n' < 8 → (blk m c n).cC n' (y 0).val (y 3).val
      = ((∑ a : Fin 256, ds I (2 * (n / 8) + (y 0).val) (256 * n' + a) (256 * (n % 8) + (y 3).val) : ℝ) : EReal) :=
    fun n' hn' => sum_real _ _ (fun a => D_ds A hn hg (by omega) hb)
  have e := through_real (addC (blk m c n)) (fun n' y => (blk m c n).cC n' (y 0).val (y 2).val) (fun _ _ _ => rfl) (n % 8) (Nat.mod_lt _ (by decide))
    (fun _ => 0) (ix3 (y 0) 0 (y 3)) (fun n' => ∑ a : Fin 256, ds I (2 * (n / 8) + (y 0).val) (256 * n' + a) (256 * (n % 8) + (y 3).val))
    hg' (fun n' hn' => Finset.sum_eq_zero fun a _ => ds_zero I (by omega))
  rw [e, zero_add, ← EReal.coe_zero, ← EReal.coe_sub, zero_sub, dck, sum_blocks fun r => ds I (2 * (n / 8) + (y 0).val) r (256 * (n % 8) + (y 3).val)]

/-- What block `j` of keys adds to the queries' gradient. -/
def tQ (I : In) (r d j : ℕ) : ℝ := (∑ b : Fin 256, ds I (d / 128) r (256 * j + b) * I.k (256 * j + b) d) * I.sc

theorem sum_at (x : ℝ) (r : ℕ) (hr : r < 2048) : (∑ n' : Fin 8, if r / 256 = n'.val then x else 0) = x := by
  rw [Finset.sum_eq_single (⟨r / 256, by omega⟩ : Fin 8)]
  · exact if_pos rfl
  · intro b _ hb; exact if_neg fun h => hb (Fin.ext h.symm)
  · intro h; exact absurd (Finset.mem_univ _) h

theorem stepQ (x : S2048x256.Idx → EReal) (y : S2048x256.Idx) : through (addQ (blk m c n)) (n % 8) x (7 - n % 8) y
    = x y + ((tQ I (y 0).val (256 * (n / 8) + (y 1).val) (n % 8) : ℝ) : EReal) := by
  have hr : (y 0).val < 2048 := (y 0).isLt
  have hx : (y 1).val < 256 := (y 1).isLt
  rw [through_real (addQ (blk m c n)) (fun n' y => (blk m c n).cQ n' (y 0).val (y 1).val) (fun _ _ _ => rfl) (n % 8) (Nat.mod_lt _ (by decide)) _ y
    (fun n' => if (y 0).val / 256 = n' then tQ I (y 0).val (256 * (n / 8) + (y 1).val) (n % 8) else 0) (fun n' hn' => ?_) (fun n' hn' => ?_),
    sum_at A hn _ _ hr]
  · show (if (y 0).val / 256 = n' then _ else _) = _
    split
    · rw [show σ = ((I.sc : ℝ) : EReal) from A.sc, sum_dot _ _ _ _ (fun b : Fin 256 => by rw [D_ds A hn (by omega) hr b.isLt, head_of A hn])
        (fun b : Fin 256 => D_k A hn b.isLt hx), ← EReal.coe_mul]
      rfl
    · rfl
  · show (if (y 0).val / 256 = n' then _ else _) = _
    split
    · unfold tQ
      rw [Finset.sum_eq_zero fun b _ => by rw [ds_zero I (by omega), zero_mul], zero_mul]
    · rfl

/-- What point `n` adds to the gate's gradient on the side of the rows. -/
def tR (I : In) (r l j : ℕ) : ℝ := ∑ b : Fin 256, ds I l r (256 * j + b)

theorem stepR (x : S2048x128.Idx → EReal) (y : S2048x128.Idx) : through (addR (blk m c n)) (n % 8) x (7 - n % 8) y
    = x y + (((if (y 1).val / 2 = n / 8 then tR I (y 0).val (y 1).val (n % 8) else 0) : ℝ) : EReal) := by
  have hr : (y 0).val < 2048 := (y 0).isLt
  rw [through_real (addR (blk m c n)) (fun n' y => (blk m c n).cR n' (y 0).val (y 1).val) (fun _ _ _ => rfl) (n % 8) (Nat.mod_lt _ (by decide)) _ y
    (fun n' => if (y 0).val / 256 = n' then (if (y 1).val / 2 = n / 8 then tR I (y 0).val (y 1).val (n % 8) else 0) else 0) (fun n' hn' => ?_) (fun n' hn' => ?_),
    sum_at A hn _ _ hr]
  · show (if (y 0).val / 256 = n' then (if (y 1).val = 2 * (n / 8) then _ else _) + (if (y 1).val = 2 * (n / 8) + 1 then _ else _) else _) = _
    have e0 : ∀ g, g < 2 → (∑ b : Fin 256, (blk m c n).ds g (y 0).val b.val) = ((tR I (y 0).val (2 * (n / 8) + g) (n % 8) : ℝ) : EReal) :=
      fun g hg => sum_real _ _ fun b => D_ds A hn hg hr b.isLt
    rw [e0 0 (by decide), e0 1 (by decide)]
    by_cases h1 : (y 0).val / 256 = n'
    · rw [if_pos h1, if_pos h1]
      by_cases h2 : (y 1).val = 2 * (n / 8)
      · rw [if_pos h2, if_neg (by omega), if_pos (by omega), add_zero, h2]; rfl
      · by_cases h3 : (y 1).val = 2 * (n / 8) + 1
        · rw [if_neg h2, if_pos h3, if_pos (by omega), zero_add, h3]
        · rw [if_neg h2, if_neg h3, if_neg (by omega), add_zero]; rfl
    · rw [if_neg h1, if_neg h1]; rfl
  · show (if (y 0).val / 256 = n' then _ else _) = _
    split
    · split
      · exact Finset.sum_eq_zero fun b _ => ds_zero I (by omega)
      · rfl
    · rfl

omit hn

theorem accQ_real : ∀ n, n < 64 → ∀ y : S2048x256.Idx, accQ m c n y
    = ((∑ j ∈ Finset.range (n % 8 + 1), tQ I (y 0).val (256 * (n / 8) + (y 1).val) j : ℝ) : EReal)
  | 0, hn, y => by
    have e := stepQ A hn (fun _ => 0) y
    unfold accQ
    rw [zero_add] at e
    refine e.trans ?_
    simp
  | n + 1, hn, y => by
    have e := stepQ A hn (if (n + 1) % 8 = 0 then fun _ => 0 else accQ m c n) y
    unfold accQ
    refine e.trans ?_
    by_cases h : (n + 1) % 8 = 0
    · rw [if_pos h, h, zero_add, zero_add, Finset.sum_range_one]
    · rw [if_neg h, accQ_real n (by omega) y, ← EReal.coe_add, show (n + 1) / 8 = n / 8 by omega, show (n + 1) % 8 = n % 8 + 1 by omega,
        Finset.sum_range_succ _ (n % 8 + 1)]

/-- The gate's gradient on the side of the rows after point `n`. -/
def gR (I : In) (r l n : ℕ) : ℝ :=
  if l / 2 < n / 8 then ∑ j ∈ Finset.range 8, tR I r l j else if l / 2 = n / 8 then ∑ j ∈ Finset.range (n % 8 + 1), tR I r l j else 0

omit A in
theorem gR_succ (r l n : ℕ) : gR I r l (n + 1) = gR I r l n + if l / 2 = (n + 1) / 8 then tR I r l ((n + 1) % 8) else 0 := by
  unfold gR
  by_cases h : (n + 1) % 8 = 0
  · have e : (n + 1) / 8 = n / 8 + 1 := by omega
    have e7 : n % 8 + 1 = 8 := by omega
    rw [h, e, e7, zero_add, Finset.sum_range_one]
    by_cases h1 : l / 2 < n / 8
    · rw [if_pos (by omega), if_pos h1, if_neg (by omega), add_zero]
    · by_cases h2 : l / 2 = n / 8
      · rw [if_pos (by omega), if_neg h1, if_pos h2, if_neg (by omega), add_zero]
      · rw [if_neg (by omega), if_neg h1, if_neg h2, zero_add]
  · have e : (n + 1) / 8 = n / 8 := by omega
    have e7 : (n + 1) % 8 = n % 8 + 1 := by omega
    rw [e, e7]
    by_cases h1 : l / 2 < n / 8
    · rw [if_pos h1, if_pos h1, if_neg (by omega), add_zero]
    · by_cases h2 : l / 2 = n / 8
      · rw [if_neg h1, if_pos h2, if_neg h1, if_pos h2, if_pos h2, Finset.sum_range_succ _ (n % 8 + 1)]
      · rw [if_neg h1, if_neg h2, if_neg h1, if_neg h2, if_neg h2, add_zero]

theorem accR_real : ∀ n, n < 64 → ∀ y : S2048x128.Idx, accR m c n y = ((gR I (y 0).val (y 1).val n : ℝ) : EReal)
  | 0, hn, y => by
    have e := stepR A hn (fun _ => 0) y
    unfold accR
    rw [zero_add] at e
    refine e.trans ?_
    unfold gR
    simp
  | n + 1, hn, y => by
    have e := stepR A hn (accR m c n) y
    unfold accR
    refine e.trans ?_
    rw [accR_real n (by omega) y, ← EReal.coe_add, gR_succ]

/-- The queries' gradient, at a pair's last block of keys. -/
theorem outQ_real (hn : n < 64) (h7 : n % 8 = 7) (y : S2048x256.Idx) :
    accQ m c n y = ((dq I (y 0).val (256 * (n / 8) + (y 1).val) : ℝ) : EReal) := by
  rw [accQ_real A n hn y, h7]
  refine congrArg _ ?_
  generalize 256 * (n / 8) + (y 1).val = d
  rw [dq, sum_blocks fun b => ds I (d / 128) (y 0).val b * I.sc * I.k b d, Finset.sum_range]
  refine Finset.sum_congr rfl fun j _ => ?_
  unfold tQ
  rw [Finset.sum_mul]
  exact Finset.sum_congr rfl fun b _ => by ring

/-- The gate's gradient on the side of the rows, at the last point. -/
theorem outR_real (h63 : n = 63) (y : S2048x128.Idx) :
    accR m c n y = (((if (y 1).val < 16 then dcq I (y 0).val (y 1).val else 0) : ℝ) : EReal) := by
  subst h63
  rw [accR_real A 63 (by decide) y]
  refine congrArg _ ?_
  have e : dcq I (y 0).val (y 1).val = ∑ j ∈ Finset.range 8, tR I (y 0).val (y 1).val j := by
    rw [dcq, sum_blocks fun b => ds I (y 1).val (y 0).val b, Finset.sum_range]; rfl
  unfold gR
  rw [e]
  by_cases h : (y 1).val < 16
  · rw [if_pos h]
    by_cases h1 : (y 1).val / 2 < 63 / 8
    · rw [if_pos h1]
    · rw [if_neg h1, if_pos (by omega)]
  · rw [if_neg h, if_neg (by omega), if_neg (by omega)]

end Cert.Proof.AttnOut

end
-- ==== Proof.AttnRefVal.lean ====
/-
  The values the reference's line gives over real arguments, stage by stage: the masked scores, the softmax, the gradient
  of the scores, and the five results as sums over real numbers.
-/
module

public import proofs.«01_k».proof.Proof.AttnRef
public import proofs.«01_k».proof.Proof.AttnMax
public import Idealize.ShloMosaic.Lib.StableHlo.ReadAt
public import Idealize.ShloMosaic.Lib.Pointwise
public import Idealize.ShloMosaic.PureOps.Ideal.Laws

@[expose] public section

set_option maxRecDepth 8192
set_option maxHeartbeats 400000

noncomputable section

namespace Cert.Proof.AttnRef

open Cert.ReferenceIdeal Cert.ReferenceIdeal.Gen Idealize.ShloMosaic Idealize.ShloMosaic.TcCoe Idealize.SL.Sem Idealize.ShloMosaic.StableHlo
open Cert.Proof.AttnReal Cert.Proof.AttnMax Cert.Proof.Finite

variable (I : In) (U : Valuation τ sig (Elt Ideal))

/-- The row maximum of an array. -/
def mx (x : (⟨S16x2048x2048, .f32⟩ : BufTy).Contents (Elt Ideal)) : (⟨S16x2048, .f32⟩ : BufTy).Contents (Elt Ideal) :=
  Host.reduce (FloatOps.maximumf (F := Ideal) (φ := .f32)) x (constant (F := Ideal) S_ .f32 0xFF800000#32) reducesTo_S16x2048x2048_S16x2048_d2 h_S_

theorem mx_apply (x : (⟨S16x2048x2048, .f32⟩ : BufTy).Contents (Elt Ideal)) (h : Fin 16) (r : Fin 2048) :
   mx x (ix2 h r) = Finset.fold max (Ideal.ofBits FTy.f32 4286578688#32) (fun b : Fin 2048 => x (ix3 h r b)) Finset.univ := by
  unfold mx
  pointwise

/-- The arguments are these real numbers. -/
structure Args : Prop where
  q : ∀ (r c : Fin 2048), (U (Proc.devRef .tc main_arg0) (ix2 r c) : EReal) = ((I.q r c : ℝ) : EReal)
  k : ∀ (r c : Fin 2048), (U (Proc.devRef .tc main_arg1) (ix2 r c) : EReal) = ((I.k r c : ℝ) : EReal)
  v : ∀ (r c : Fin 2048), (U (Proc.devRef .tc main_arg2) (ix2 r ⟨4096 + c.val, by omega⟩) : EReal) = ((I.v r c : ℝ) : EReal)
  c : ∀ (r : Fin 2048) (h : Fin 16), (U (Proc.devRef .tc main_arg3) (ix2 r h) : EReal) = ((I.c r h : ℝ) : EReal)
  ct : ∀ (r c : Fin 2048), (U (Proc.devRef .tc main_arg4) (ix2 r c) : EReal) = ((I.ct r c : ℝ) : EReal)
  sc : Ideal.ofBits .f32 0x3DB504F3#32 = ((I.sc : ℝ) : EReal)

/-- What the stages keep: the mask, the arguments by head, the values and the cotangent. -/
structure Kept : Prop where
  bit : ∀ (h : Fin 16) (r b : Fin 2048), (U (Proc.devRef .tc main_v22_1) (ix3 h r b) : BitVec 1)
    = IntOp.cmpi .sle (BitVec.ofNat 32 b.val) (BitVec.ofNat 32 r.val)
  q : ∀ (r : Fin 2048) (h : Fin 16) (d : Fin 128), (U (Proc.devRef .tc main_v3) (ix3 r h d) : EReal) = ((I.q r (128 * h + d) : ℝ) : EReal)
  k : ∀ (r : Fin 2048) (h : Fin 16) (d : Fin 128), (U (Proc.devRef .tc main_v4) (ix3 r h d) : EReal) = ((I.k r (128 * h + d) : ℝ) : EReal)
  v : ∀ (r c : Fin 2048), (U (Proc.devRef .tc main_v2) (ix2 r c) : EReal) = ((I.v r c : ℝ) : EReal)
  ct : ∀ (r c : Fin 2048), (U (Proc.devRef .tc main_arg4) (ix2 r c) : EReal) = ((I.ct r c : ℝ) : EReal)
  sc : Ideal.ofBits .f32 0x3DB504F3#32 = ((I.sc : ℝ) : EReal)

/-- The masked scores. -/
def Scored : Prop := ∀ (h : Fin 16) (r b : Fin 2048), (U (Proc.devRef .tc main_v22_0) (ix3 h r b) : EReal) = ms I h r b

/-- The softmax, with the row maxima `M`. -/
structure Soft (M : ℕ → ℕ → ℝ) : Prop where
  e : ∀ (h : Fin 16) (r b : Fin 2048), (U (Proc.devRef .tc main_v43) (ix3 h r b) : EReal) = ((E I (M h r) h r b : ℝ) : EReal)
  z : ∀ (h : Fin 16) (r : Fin 2048), (U (Proc.devRef .tc main_v45) (ix3 h r 0) : EReal) = ((Z I (M h r) h r : ℝ) : EReal)
  zz : ∀ (h : Fin 16) (r : Fin 2048), (U (Proc.devRef .tc main_v48) (ix3 h r 0) : EReal)
    = ((Z I (M h r) h r * Z I (M h r) h r : ℝ) : EReal)
  p : ∀ (h : Fin 16) (r b : Fin 2048), (U (Proc.devRef .tc main_v47) (ix3 h r b) : EReal) = ((p I h r b : ℝ) : EReal)

/-- The gradients of the scores and of the values. -/
structure Grad : Prop where
  ds : ∀ (h : Fin 16) (r b : Fin 2048), (U (Proc.devRef .tc main_v73) (ix3 h r b) : EReal) = ((ds I h r b : ℝ) : EReal)
  dv : ∀ (b c : Fin 2048), (U (Proc.devRef .tc main_v60) (ix2 b c) : EReal) = ((dv I b c : ℝ) : EReal)

variable {I U}

theorem scored (A : Args I U) : Scored I (after (L0 ++ L1) U) := by
  intro h r b
  after_reads_at
  refine masked I h r b _ _ (score I h r b _ _ _ _ _ (fun d => ?_) (fun d => ?_) A.sc (A.c r h) (A.c b h)) ?_
  · rw [A.q]; simp only [Nat.mul_comm]
  · rw [A.k]; simp only [Nat.mul_comm]
  · exact ofBits_neg_inf

theorem scored_kept (A : Args I U) : Kept I (after (L0 ++ L1) U) where
  bit h r b := by
    after_reads_at
  q r h d := by
    after_reads_at
    rw [A.q]; simp only [Nat.mul_comm]
  k r h d := by
    after_reads_at
    rw [A.k]; simp only [Nat.mul_comm]
  v r c := by
    after_reads_at
    exact A.v r c
  ct r c := by
    after_reads_at
    exact A.ct r c
  sc := A.sc

theorem max_read : after L2 U (Proc.devRef .tc main_v23) = mx (U (Proc.devRef .tc main_v22_0)) := by
  after_reads_simp
  rfl

theorem keep_2 (K : Kept I U) : Kept I (after L2 U) where
  bit h r b := by after_reads_simp; exact K.bit h r b
  q r h d := by after_reads_simp; exact K.q r h d
  k r h d := by after_reads_simp; exact K.k r h d
  v r c := by after_reads_simp; exact K.v r c
  ct r c := by after_reads_simp; exact K.ct r c
  sc := K.sc

theorem keep_3 (K : Kept I U) : Kept I (after L3 U) where
  bit h r b := by after_reads_simp; exact K.bit h r b
  q r h d := by after_reads_simp; exact K.q r h d
  k r h d := by after_reads_simp; exact K.k r h d
  v r c := by after_reads_simp; exact K.v r c
  ct r c := by after_reads_simp; exact K.ct r c
  sc := K.sc

theorem scored_2 (S : Scored I U) : Scored I (after L2 U) := by
  intro h r b
  after_reads_simp; exact S h r b

theorem soft_3 (M : ℕ → ℕ → ℝ) (S : Scored I U)
    (hM : ∀ (h : Fin 16) (r : Fin 2048), (U (Proc.devRef .tc main_v23) (ix2 h r) : EReal) = ((M h r : ℝ) : EReal)) :
    Soft I (after L3 U) M := by
  have he : ∀ (h : Fin 16) (r b : Fin 2048), Ideal.exp (@HSub.hSub EReal EReal EReal _ (U (Proc.devRef .tc main_v22_0) (ix3 h r b))
      (@max EReal _ (Ideal.ofBits FTy.f32 4286578688#32) (U (Proc.devRef .tc main_v23) (ix2 h r)))) = ((E I (M h r) h r b : ℝ) : EReal) := by
    intro h r b
    rw [S h r b, hM h r, ofBits_neg_inf, max_eq_right bot_le, exp_ms]
  refine ⟨fun h r b => ?_, fun h r => ?_, fun h r => ?_, fun h r b => ?_⟩
  · after_reads_at
    exact he h r b
  · after_reads_at
    exact sum_E I _ h r _ (he h r)
  · after_reads_at
    rw [sum_E I _ h r _ (he h r), ← EReal.coe_mul]
  · after_reads_at
    rw [sum_E I _ h r _ (he h r), he h r b, soft]

theorem grad (M : ℕ → ℕ → ℝ) (K : Kept I U) (S : Soft I U M) : Grad I (after (L4 ++ L5) U) := by
  refine ⟨fun h r b => ?_, fun b c => ?_⟩
  · after_reads_at
    refine Eq.trans ?_ (grad_score I (M h r) h r b)
    have hd : ∀ (x : Fin 2048), (∑ d : Fin 128, @HMul.hMul EReal EReal EReal _ (U (Proc.devRef .tc main_arg4) (ix2 r ⟨h.val * 128 + d.val, by omega⟩))
        (U (Proc.devRef .tc main_v2) (ix2 x ⟨h.val * 128 + d.val, by omega⟩))) = ((dp I h r x : ℝ) : EReal) := fun x => by
      refine sum_dot _ _ (fun d : Fin 128 => I.ct r (128 * h + d)) (fun d : Fin 128 => I.v x (128 * h + d)) (fun d => ?_) (fun d => ?_)
      · exact (K.ct r _).trans (by show ((I.ct r (h.val * 128 + d.val) : ℝ) : EReal) = _; rw [Nat.mul_comm])
      · exact (K.v x _).trans (by show ((I.v x (h.val * 128 + d.val) : ℝ) : EReal) = _; rw [Nat.mul_comm])
    simp only [hd, K.bit, S.z, S.zz, S.e]
  · after_reads_at
    have hp : ∀ x : Fin 2048, @HMul.hMul EReal EReal EReal _ (U (Proc.devRef .tc main_arg4) (ix2 x ⟨c.val / 128 * 128 + c.val % 128, by omega⟩))
        (U (Proc.devRef .tc main_v47) (ix3 ⟨c.val / 128, by omega⟩ x b)) = ((p I (c / 128) x b * I.ct x c : ℝ) : EReal) := fun x => by
      rw [K.ct, S.p, ← EReal.coe_mul, mul_comm]
      simp only [Nat.div_add_mod']
    exact sum_real _ _ hp

theorem keep_45 (K : Kept I U) : Kept I (after (L4 ++ L5) U) where
  bit h r b := by after_reads_simp; exact K.bit h r b
  q r h d := by after_reads_simp; exact K.q r h d
  k r h d := by after_reads_simp; exact K.k r h d
  v r c := by after_reads_simp; exact K.v r c
  ct r c := by after_reads_simp; exact K.ct r c
  sc := K.sc

theorem res_0 (K : Kept I U) (G : Grad I U) (r c : Fin 2048) :
    (after (L6 ++ L7 ++ L8) U (Proc.devRef .tc main_v90) (ix2 r c) : EReal) = ((dq I r c : ℝ) : EReal) := by
  after_reads_at
  refine sum_dot _ _ (fun x : Fin 2048 => ds I (c / 128) r x * I.sc) (fun x : Fin 2048 => I.k x c) (fun x => ?_) (fun x => ?_)
  · rw [G.ds, K.sc, ← EReal.coe_mul]
  · rw [K.k]; simp only [Nat.div_add_mod]

theorem res_1 (K : Kept I U) (G : Grad I U) (r c : Fin 2048) :
    (after (L6 ++ L7 ++ L8) U (Proc.devRef .tc main_v89) (ix2 r c) : EReal) = ((dk I r c : ℝ) : EReal) := by
  after_reads_at
  refine sum_dot _ _ (fun x : Fin 2048 => ds I (c / 128) x r * I.sc) (fun x : Fin 2048 => I.q x c) (fun x => ?_) (fun x => ?_)
  · rw [G.ds, K.sc, ← EReal.coe_mul]
  · rw [K.q]; simp only [Nat.div_add_mod]

theorem res_2 (G : Grad I U) (r c : Fin 2048) :
    (after (L6 ++ L7 ++ L8) U (Proc.devRef .tc main_v91) (ix2 r c) : EReal) = ((dv I r c : ℝ) : EReal) := by
  after_reads_at
  exact G.dv r c

theorem res_3 (G : Grad I U) (r : Fin 2048) (c : Fin 128) :
    (after (L6 ++ L7 ++ L8) U (Proc.devRef .tc main_v92) (ix2 r c) : EReal) = (((if c.val < 16 then dcq I r c else 0) : ℝ) : EReal) := by
  after_reads_at
  split
  · exact (Fin.sum_univ_one _).trans (sum_real _ (fun x : Fin 2048 => ds I c r x) fun x => G.ds _ _ _)
  · show ((((0#32 : BitVec 32).toInt : ℤ) : ℝ) : EReal) = _
    simp

theorem res_4 (G : Grad I U) (h : Fin 16) (j : Fin 8) (l : Fin 256) :
    (after (L6 ++ L7 ++ L8) U (Proc.devRef .tc main_v94) (ix4 h j 0 l) : EReal) = ((dck I h (256 * j + l) : ℝ) : EReal) := by
  after_reads_at
  refine (Fin.sum_univ_one _).trans ((sum_real _ (fun x : Fin 2048 => -ds I h x (256 * j + l)) fun x => ?_).trans ?_)
  · rw [G.ds, ← EReal.coe_neg]; simp only [Nat.mul_comm]
  · unfold dck; simp only [Finset.sum_neg_distrib]

variable (m : (ℓ : Loc nD τ sig) → Buf (Elt Ideal) ℓ) (c : Dev nD)

/-- The line's five results over real arguments. -/
theorem results (A : Args I (launchContents m c)) :
    (∀ r d : Fin 2048, (W m c (Proc.devRef .tc main_v90) (ix2 r d) : EReal) = ((dq I r d : ℝ) : EReal))
    ∧ (∀ r d : Fin 2048, (W m c (Proc.devRef .tc main_v89) (ix2 r d) : EReal) = ((dk I r d : ℝ) : EReal))
    ∧ (∀ r d : Fin 2048, (W m c (Proc.devRef .tc main_v91) (ix2 r d) : EReal) = ((dv I r d : ℝ) : EReal))
    ∧ (∀ (r : Fin 2048) (d : Fin 128), (W m c (Proc.devRef .tc main_v92) (ix2 r d) : EReal) = (((if d.val < 16 then dcq I r d else 0) : ℝ) : EReal))
    ∧ (∀ (h : Fin 16) (j : Fin 8) (l : Fin 256), (W m c (Proc.devRef .tc main_v94) (ix4 h j 0 l) : EReal) = ((dck I h (256 * j + l) : ℝ) : EReal)) := by
  have S1 := scored A
  have K1 := scored_kept A
  generalize hU1 : after (L0 ++ L1) (launchContents m c) = U1 at S1 K1
  choose M hM using fun (h : Fin 16) (r : Fin 2048) => max_real I h r _ (S1 h r)
  have hM' : ∀ (h : Fin 16) (r : Fin 2048), (after L2 U1 (Proc.devRef .tc main_v23) (ix2 h r) : EReal)
      = ((if hh : h.val < 16 ∧ r.val < 2048 then M ⟨h, hh.1⟩ ⟨r, hh.2⟩ else 0 : ℝ) : EReal) := by
    intro h r
    rw [max_read, mx_apply, ofBits_neg_inf, hM, dif_pos ⟨h.isLt, r.isLt⟩]
  have S3 := soft_3 (fun h r => if hh : h < 16 ∧ r < 2048 then M ⟨h, hh.1⟩ ⟨r, hh.2⟩ else 0) (scored_2 S1) hM'
  have K3 := keep_3 (keep_2 K1)
  have G := grad _ K3 S3
  have K5 := keep_45 K3
  have hW : W m c = after (L6 ++ L7 ++ L8) (after (L4 ++ L5) (after L3 (after L2 U1))) := by
    rw [← hU1]; unfold W line
    simp only [List.flatten_cons, List.flatten_nil, List.append_nil, after_append]
  rw [hW]
  exact ⟨res_0 K5 G, res_1 K5 G, res_2 G, res_3 G, res_4 G⟩

end Cert.Proof.AttnRef

end
-- ==== Proof.AttnAlg.lean ====
/-
  The attention gradient's claim: over arguments that are real numbers the kernel's five output arrays, covered by its
  grid points' blocks, are the real attention's gradients, and so are the reference's five results.
-/
module

public import proofs.«01_k».proof.Defs
public import proofs.«01_k».proof.Proof.AttnOut
public import proofs.«01_k».proof.Proof.AttnRun
public import proofs.«01_k».proof.Proof.AttnRefVal
public import proofs.«01_k».proof.Proof.Gen.Pre_finite

@[expose] public section

set_option maxRecDepth 8192
set_option maxHeartbeats 400000

noncomputable section

namespace Cert.Proof.AttnAlg

open Cert.KernelIdeal Cert.KernelIdeal.Gen Idealize.ShloMosaic Idealize.ShloMosaic.TcCoe Idealize.SL.Sem
open Cert.Proof.AttnReal Cert.Proof.AttnMax Cert.Proof.Finite Cert.Proof.Attn

/-! ## The arguments as real numbers -/

/-- A matrix of real numbers as a function of two numbers, zero outside. -/
def nat2r {m n : ℕ} (x : (⟨2, ![m, n]⟩ : Shape).Idx → ℝ) (i j : ℕ) : ℝ :=
  if h : i < m ∧ j < n then x (ix2 ⟨i, h.1⟩ ⟨j, h.2⟩) else 0

theorem nat2r_at {m n : ℕ} (x : (⟨2, ![m, n]⟩ : Shape).Idx → ℝ) (i : Fin m) (j : Fin n) : nat2r x i j = x (ix2 i j) :=
  dif_pos ⟨i.isLt, j.isLt⟩

/-- The arguments' numbers. -/
def inOf (r0 r1 : S2048x2048.Idx → ℝ) (r2 : S2048x8192.Idx → ℝ) (r3 : S2048x16.Idx → ℝ) (r4 : S2048x2048.Idx → ℝ) : In where
  q := nat2r r0
  k := nat2r r1
  v r c := nat2r r2 r (4096 + c)
  ct := nat2r r4
  c := nat2r r3
  sc := scale_real.choose

variable (m : (ℓ : Loc nD τ sig) → Buf (Elt Ideal) ℓ) (ρ : Dev nD → PrngReg) (c : Dev nD)

/-- The arguments on a device are the numbers of `I`. -/
structure Reals (I : In) : Prop where
  host : AttnHost.Args I (fun b => m (c, b))
  line : ∀ U : Valuation Cert.ReferenceIdeal.τ Cert.ReferenceIdeal.sig (Elt Ideal),
    U (Proc.devRef .tc Cert.ReferenceIdeal.main_arg0) = m ((c.tc : Thread nD τ).loc main_arg0)
    → U (Proc.devRef .tc Cert.ReferenceIdeal.main_arg1) = m ((c.tc : Thread nD τ).loc main_arg1)
    → U (Proc.devRef .tc Cert.ReferenceIdeal.main_arg2) = m ((c.tc : Thread nD τ).loc main_arg2)
    → U (Proc.devRef .tc Cert.ReferenceIdeal.main_arg3) = m ((c.tc : Thread nD τ).loc main_arg3)
    → U (Proc.devRef .tc Cert.ReferenceIdeal.main_arg4) = m ((c.tc : Thread nD τ).loc main_arg4) → AttnRef.Args I U

instance : Subsingleton Cert.Pre_finite.S_.Idx := ⟨fun a b => funext fun i => i.elim0⟩

theorem reals_of (r0 r1 : S2048x2048.Idx → ℝ) (r2 : S2048x8192.Idx → ℝ) (r3 : S2048x16.Idx → ℝ) (r4 : S2048x2048.Idx → ℝ)
    (h0 : m ((c.tc : Thread nD τ).loc main_arg0) = fun i => ((r0 i : ℝ) : EReal))
    (h1 : m ((c.tc : Thread nD τ).loc main_arg1) = fun i => ((r1 i : ℝ) : EReal))
    (h2 : m ((c.tc : Thread nD τ).loc main_arg2) = fun i => ((r2 i : ℝ) : EReal))
    (h3 : m ((c.tc : Thread nD τ).loc main_arg3) = fun i => ((r3 i : ℝ) : EReal))
    (h4 : m ((c.tc : Thread nD τ).loc main_arg4) = fun i => ((r4 i : ℝ) : EReal)) : Reals m c (inOf r0 r1 r2 r3 r4) := by
  have e0 := fun r d : Fin 2048 => congrArg (fun x : ℝ => (x : EReal)) (nat2r_at r0 r d).symm
  have e1 := fun r d : Fin 2048 => congrArg (fun x : ℝ => (x : EReal)) (nat2r_at r1 r d).symm
  have e2 := fun r d : Fin 2048 => congrArg (fun x : ℝ => (x : EReal)) (nat2r_at r2 r ⟨4096 + d.val, by omega⟩).symm
  have e3 := fun (r : Fin 2048) (h : Fin 16) => congrArg (fun x : ℝ => (x : EReal)) (nat2r_at r3 r h).symm
  have e4 := fun r d : Fin 2048 => congrArg (fun x : ℝ => (x : EReal)) (nat2r_at r4 r d).symm
  refine ⟨⟨fun r d => ?_, fun r d => ?_, fun r d => ?_, fun r d => ?_, fun r d => ?_, scale_real.choose_spec⟩,
    fun U u0 u1 u2 u3 u4 => ⟨fun r d => ?_, fun r d => ?_, fun r d => ?_, fun r d => ?_, fun r d => ?_, scale_real.choose_spec⟩⟩
  · exact (congrFun h0 _).trans (e0 r d)
  · exact (congrFun h1 _).trans (e1 r d)
  · exact (congrFun h2 _).trans (e2 r d)
  · exact (congrFun h3 _).trans (e3 r d)
  · exact (congrFun h4 _).trans (e4 r d)
  · exact (congrFun (u0.trans h0) _).trans (e0 r d)
  · exact (congrFun (u1.trans h1) _).trans (e1 r d)
  · exact (congrFun (u2.trans h2) _).trans (e2 r d)
  · exact (congrFun (u3.trans h3) _).trans (e3 r d)
  · exact (congrFun (u4.trans h4) _).trans (e4 r d)

/-- The claim's precondition gives them. -/
theorem reals_of_pre (j : Cert.Pre_finite.S_.Idx)
    (h : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) j = 1#1) :
    ∃ I, Reals m c I := by
  unfold Cert.Pre_finite.fn Cert.Pre_finite.fn_part1 at h
  obtain ⟨h, h4⟩ := andi_one h
  obtain ⟨h, h3⟩ := andi_one h
  obtain ⟨h, h2⟩ := andi_one h
  obtain ⟨h0, h1⟩ := andi_one h
  obtain ⟨r0, e0⟩ : AllReal (m ((c : Thread nD τ).loc main_arg0)) := allReal_of_reduce _ _ (fun _ => ofBits_inf) _ _ _ _ h0
  obtain ⟨r1, e1⟩ : AllReal (m ((c : Thread nD τ).loc main_arg1)) := allReal_of_reduce _ _ (fun _ => ofBits_inf) _ _ _ _ h1
  obtain ⟨r2, e2⟩ : AllReal (m ((c : Thread nD τ).loc main_arg2)) := allReal_of_reduce _ _ (fun _ => ofBits_inf) _ _ _ _ h2
  obtain ⟨r3, e3⟩ : AllReal (m ((c : Thread nD τ).loc main_arg3)) := allReal_of_reduce _ _ (fun _ => ofBits_inf) _ _ _ _ h3
  obtain ⟨r4, e4⟩ : AllReal (m ((c : Thread nD τ).loc main_arg4)) := allReal_of_reduce _ _ (fun _ => ofBits_inf) _ _ _ _ h4
  exact ⟨_, reals_of m c r0 r1 r2 r3 r4 e0 e1 e2 e3 e4⟩

/-! ## The output arrays -/

variable (I : In)

def gQ : S2048x2048.Idx → EReal := fun i => ((dq I (i 0).val (i 1).val : ℝ) : EReal)
def gK : S2048x2048.Idx → EReal := fun i => ((dk I (i 0).val (i 1).val : ℝ) : EReal)
def gV : S2048x2048.Idx → EReal := fun i => ((dv I (i 0).val (i 1).val : ℝ) : EReal)
def gR : S2048x128.Idx → EReal := fun i => (((if (i 1).val < 16 then dcq I (i 0).val (i 1).val else 0) : ℝ) : EReal)
def gC : S16x8x1x256.Idx → EReal := fun i => ((dck I (i 0).val (256 * (i 1).val + (i 3).val) : ℝ) : EReal)

theorem point_lt (t : Fin cfg0.N) : t.val < 64 := t.isLt

theorem emb_8 (t : Fin cfg0.N) (y : S2048x256.Idx) : ((((cfg0.win 8).blk t).view.emb y) 0).val = (y 0).val
    ∧ ((((cfg0.win 8).blk t).view.emb y) 1).val = 256 * (t.val / 8) + (y 1).val := by
  obtain ⟨e0, e1⟩ := ix_8 t
  constructor
  · show win0_8.index t (0 : Fin 2) * 2048 + 1 * (y 0).val = _; omega
  · show win0_8.index t (1 : Fin 2) * 256 + 1 * (y 1).val = _; omega

theorem emb_9 (t : Fin cfg0.N) (y : S256x256.Idx) : ((((cfg0.win 9).blk t).view.emb y) 0).val = 256 * (t.val % 8) + (y 0).val
    ∧ ((((cfg0.win 9).blk t).view.emb y) 1).val = 256 * (t.val / 8) + (y 1).val := by
  obtain ⟨e0, e1⟩ := ix_9 t
  constructor
  · show win0_9.index t (0 : Fin 2) * 256 + 1 * (y 0).val = _; omega
  · show win0_9.index t (1 : Fin 2) * 256 + 1 * (y 1).val = _; omega

theorem emb_10 (t : Fin cfg0.N) (y : S256x256.Idx) : ((((cfg0.win 10).blk t).view.emb y) 0).val = 256 * (t.val % 8) + (y 0).val
    ∧ ((((cfg0.win 10).blk t).view.emb y) 1).val = 256 * (t.val / 8) + (y 1).val := by
  obtain ⟨e0, e1⟩ := ix_10 t
  constructor
  · show win0_10.index t (0 : Fin 2) * 256 + 1 * (y 0).val = _; omega
  · show win0_10.index t (1 : Fin 2) * 256 + 1 * (y 1).val = _; omega

theorem emb_11 (t : Fin cfg0.N) (y : S2048x128.Idx) : ((((cfg0.win 11).blk t).view.emb y) 0).val = (y 0).val
    ∧ ((((cfg0.win 11).blk t).view.emb y) 1).val = (y 1).val := by
  obtain ⟨e0, e1⟩ := ix_11 t
  constructor
  · show win0_11.index t (0 : Fin 2) * 2048 + 1 * (y 0).val = _; omega
  · show win0_11.index t (1 : Fin 2) * 128 + 1 * (y 1).val = _; omega

theorem emb_12 (t : Fin cfg0.N) (y : S2x1x1x256.Idx) : ((((cfg0.win 12).blk t).view.emb y) 0).val = 2 * (t.val / 8) + (y 0).val
    ∧ ((((cfg0.win 12).blk t).view.emb y) 1).val = t.val % 8 ∧ ((((cfg0.win 12).blk t).view.emb y) 3).val = (y 3).val := by
  obtain ⟨e0, e1, e2, e3⟩ := ix_12 t
  have h1 : (y 1).val < 1 := (y 1).isLt
  refine ⟨?_, ?_, ?_⟩
  · show win0_12.index t (0 : Fin 4) * 2 + 1 * (y 0).val = _; omega
  · show win0_12.index t (1 : Fin 4) * 1 + 1 * (y 1).val = _; omega
  · show win0_12.index t (3 : Fin 4) * 256 + 1 * (y 3).val = _; omega

variable {m c I} (A : AttnHost.Arrs m c I)
include A

theorem flushed_8 (t : Fin cfg0.N) (h : (cfg0.win 8).flush t = true) :
    (dats m 0 c).flushed 8 t = ((cfg0.win 8).blk t).view.read (Elt Ideal) (gQ I) := by
  show (cfg0.win 8).cut (grid0.coords t) ((dats m 0 c).after 8 t) = _
  rw [after_8]
  funext y
  show accQ m c t.val y = gQ I (((cfg0.win 8).blk t).view.emb y)
  obtain ⟨e0, e1⟩ := emb_8 t y
  rw [AttnOut.outQ_real A (point_lt t) ((flush0_8 t).mp h) y, gQ, e0, e1]

theorem flushed_9 (t : Fin cfg0.N) :
    (dats m 0 c).flushed 9 t = ((cfg0.win 9).blk t).view.read (Elt Ideal) (gK I) := by
  show (cfg0.win 9).cut (grid0.coords t) ((dats m 0 c).after 9 t) = _
  rw [after_9]
  funext y
  show outK m c t.val y = gK I (((cfg0.win 9).blk t).view.emb y)
  obtain ⟨e0, e1⟩ := emb_9 t y
  rw [AttnOut.outK_real A (point_lt t) y, gK, e0, e1]

theorem flushed_10 (t : Fin cfg0.N) :
    (dats m 0 c).flushed 10 t = ((cfg0.win 10).blk t).view.read (Elt Ideal) (gV I) := by
  show (cfg0.win 10).cut (grid0.coords t) ((dats m 0 c).after 10 t) = _
  rw [after_10]
  funext y
  show outV m c t.val y = gV I (((cfg0.win 10).blk t).view.emb y)
  obtain ⟨e0, e1⟩ := emb_10 t y
  rw [AttnOut.outV_real A (point_lt t) y, gV, e0, e1]

theorem flushed_11 (t : Fin cfg0.N) (h : (cfg0.win 11).flush t = true) :
    (dats m 0 c).flushed 11 t = ((cfg0.win 11).blk t).view.read (Elt Ideal) (gR I) := by
  show (cfg0.win 11).cut (grid0.coords t) ((dats m 0 c).after 11 t) = _
  rw [after_11]
  funext y
  show accR m c t.val y = gR I (((cfg0.win 11).blk t).view.emb y)
  obtain ⟨e0, e1⟩ := emb_11 t y
  have h63 : t.val = 63 := by have := (flush0_11 t).mp h; have := point_lt t; omega
  rw [AttnOut.outR_real A h63 y, gR, e0, e1]

theorem flushed_12 (t : Fin cfg0.N) :
    (dats m 0 c).flushed 12 t = ((cfg0.win 12).blk t).view.read (Elt Ideal) (gC I) := by
  show (cfg0.win 12).cut (grid0.coords t) ((dats m 0 c).after 12 t) = _
  rw [after_12]
  funext y
  show outC m c t.val y = gC I (((cfg0.win 12).blk t).view.emb y)
  obtain ⟨e0, e1, e3⟩ := emb_12 t y
  rw [AttnOut.outC_real A (point_lt t) y, gC, e0, e1, e3]

omit A

theorem covered_8 (i : S2048x2048.Idx) : ∃ t : Fin cfg0.N, (cfg0.win 8).flush t = true ∧ i ∈ ((cfg0.win 8).blk t).view.set := by
  have h0 : (i 0).val < 2048 := (i 0).isLt
  have h1 : (i 1).val < 2048 := (i 1).isLt
  let t : Fin cfg0.N := ⟨8 * ((i 1).val / 256) + 7, show _ < 64 by omega⟩
  let y : S2048x256.Idx := ix2 ⟨(i 0).val, h0⟩ ⟨(i 1).val % 256, by omega⟩
  obtain ⟨e0, e1⟩ := emb_8 t y
  refine ⟨t, (flush0_8 t).mpr (show (8 * ((i 1).val / 256) + 7) % 8 = 7 by omega), ?_⟩
  have e : ((cfg0.win 8).blk t).view.emb y = i := by
    funext a; apply Fin.ext
    match a with
    | ⟨0, _⟩ => exact e0
    | ⟨1, _⟩ => exact e1.trans (show 256 * ((8 * ((i 1).val / 256) + 7) / 8) + (i 1).val % 256 = (i 1).val by omega)
  have := ((cfg0.win 8).blk t).view.emb_mem_set y
  rwa [e] at this

theorem covered_9 (i : S2048x2048.Idx) : ∃ t : Fin cfg0.N, (cfg0.win 9).flush t = true ∧ i ∈ ((cfg0.win 9).blk t).view.set := by
  have h0 : (i 0).val < 2048 := (i 0).isLt
  have h1 : (i 1).val < 2048 := (i 1).isLt
  let t : Fin cfg0.N := ⟨8 * ((i 1).val / 256) + (i 0).val / 256, show _ < 64 by omega⟩
  let y : S256x256.Idx := ix2 ⟨(i 0).val % 256, by omega⟩ ⟨(i 1).val % 256, by omega⟩
  obtain ⟨e0, e1⟩ := emb_9 t y
  refine ⟨t, flush0_9 t, ?_⟩
  have e : ((cfg0.win 9).blk t).view.emb y = i := by
    funext a; apply Fin.ext
    match a with
    | ⟨0, _⟩ => exact e0.trans (show 256 * ((8 * ((i 1).val / 256) + (i 0).val / 256) % 8) + (i 0).val % 256 = (i 0).val by omega)
    | ⟨1, _⟩ => exact e1.trans (show 256 * ((8 * ((i 1).val / 256) + (i 0).val / 256) / 8) + (i 1).val % 256 = (i 1).val by omega)
  have := ((cfg0.win 9).blk t).view.emb_mem_set y
  rwa [e] at this

theorem covered_10 (i : S2048x2048.Idx) : ∃ t : Fin cfg0.N, (cfg0.win 10).flush t = true ∧ i ∈ ((cfg0.win 10).blk t).view.set := by
  have h0 : (i 0).val < 2048 := (i 0).isLt
  have h1 : (i 1).val < 2048 := (i 1).isLt
  let t : Fin cfg0.N := ⟨8 * ((i 1).val / 256) + (i 0).val / 256, show _ < 64 by omega⟩
  let y : S256x256.Idx := ix2 ⟨(i 0).val % 256, by omega⟩ ⟨(i 1).val % 256, by omega⟩
  obtain ⟨e0, e1⟩ := emb_10 t y
  refine ⟨t, flush0_10 t, ?_⟩
  have e : ((cfg0.win 10).blk t).view.emb y = i := by
    funext a; apply Fin.ext
    match a with
    | ⟨0, _⟩ => exact e0.trans (show 256 * ((8 * ((i 1).val / 256) + (i 0).val / 256) % 8) + (i 0).val % 256 = (i 0).val by omega)
    | ⟨1, _⟩ => exact e1.trans (show 256 * ((8 * ((i 1).val / 256) + (i 0).val / 256) / 8) + (i 1).val % 256 = (i 1).val by omega)
  have := ((cfg0.win 10).blk t).view.emb_mem_set y
  rwa [e] at this

theorem covered_11 (i : S2048x128.Idx) : ∃ t : Fin cfg0.N, (cfg0.win 11).flush t = true ∧ i ∈ ((cfg0.win 11).blk t).view.set := by
  let t : Fin cfg0.N := ⟨63, show 63 < 64 by decide⟩
  obtain ⟨e0, e1⟩ := emb_11 t i
  refine ⟨t, (flush0_11 t).mpr rfl, ?_⟩
  have e : ((cfg0.win 11).blk t).view.emb i = i := by
    funext a; apply Fin.ext
    match a with
    | ⟨0, _⟩ => exact e0
    | ⟨1, _⟩ => exact e1
  have := ((cfg0.win 11).blk t).view.emb_mem_set i
  rwa [e] at this

theorem covered_12 (i : S16x8x1x256.Idx) : ∃ t : Fin cfg0.N, (cfg0.win 12).flush t = true ∧ i ∈ ((cfg0.win 12).blk t).view.set := by
  have h0 : (i 0).val < 16 := (i 0).isLt
  have h1 : (i 1).val < 8 := (i 1).isLt
  have h2 : (i 2).val < 1 := (i 2).isLt
  let t : Fin cfg0.N := ⟨8 * ((i 0).val / 2) + (i 1).val, show _ < 64 by omega⟩
  let y : S2x1x1x256.Idx := ix4 ⟨(i 0).val % 2, by omega⟩ 0 0 ⟨(i 3).val, (i 3).isLt⟩
  obtain ⟨e0, e1, e3⟩ := emb_12 t y
  refine ⟨t, flush0_12 t, ?_⟩
  have e : ((cfg0.win 12).blk t).view.emb y = i := by
    funext a; apply Fin.ext
    match a with
    | ⟨0, _⟩ => exact e0.trans (show 2 * ((8 * ((i 0).val / 2) + (i 1).val) / 8) + (i 0).val % 2 = (i 0).val by omega)
    | ⟨1, _⟩ => exact e1.trans (show (8 * ((i 0).val / 2) + (i 1).val) % 8 = (i 1).val by omega)
    | ⟨2, _⟩ =>
      have h : ((((cfg0.win 12).blk t).view.emb y) 2).val < 1 := ((((cfg0.win 12).blk t).view.emb y) 2).isLt
      show ((((cfg0.win 12).blk t).view.emb y) 2).val = (i 2).val
      omega
    | ⟨3, _⟩ => exact e3
  have := ((cfg0.win 12).blk t).view.emb_mem_set y
  rwa [e] at this

/-! ## The two runs -/

variable (m)

/-- The kernel's run. -/
theorem run (I : Dev nD → In) (hI : ∀ c, Reals m c (I c)) :
    θ_run defs (onTc (τ := τ) (main (F := Ideal))) ⟨m, fun _ => 0, ρ⟩ fun r => ∀ c : Dev nD,
      r.2.mem ((c.tc : Thread nD τ).loc main_v72_0) = gQ (I c)
      ∧ r.2.mem ((c.tc : Thread nD τ).loc main_v72_1) = gK (I c)
      ∧ r.2.mem ((c.tc : Thread nD τ).loc main_v72_2) = gV (I c)
      ∧ r.2.mem ((c.tc : Thread nD τ).loc main_v72_3) = gR (I c)
      ∧ r.2.mem ((c.tc : Thread nD τ).loc main_v72_4) = gC (I c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    have A := AttnHost.arrs m c (hI c).host
    exact ⟨((h.1 c).1 8).trans ((dats m 0 c).arrAt_eq_of_cover 8 (gQ (I c)) (fun t ht => flushed_8 A t ht) covered_8),
      ((h.1 c).1 9).trans ((dats m 0 c).arrAt_eq_of_cover 9 (gK (I c)) (fun t _ => flushed_9 A t) covered_9),
      ((h.1 c).1 10).trans ((dats m 0 c).arrAt_eq_of_cover 10 (gV (I c)) (fun t _ => flushed_10 A t) covered_10),
      ((h.1 c).1 11).trans ((dats m 0 c).arrAt_eq_of_cover 11 (gR (I c)) (fun t ht => flushed_11 A t ht) covered_11),
      ((h.1 c).1 12).trans ((dats m 0 c).arrAt_eq_of_cover 12 (gC (I c)) (fun t _ => flushed_12 A t) covered_12),
      h.2.1 c⟩)
    (θ_run_and (run_main m ρ) (frame_ideal m ρ))

/-- The reference's results. -/
theorem line_results (m' : (ℓ : Loc Cert.ReferenceIdeal.nD Cert.ReferenceIdeal.τ Cert.ReferenceIdeal.sig) → Buf (Elt Ideal) ℓ)
    (c : Dev Cert.ReferenceIdeal.nD) (I : In) (A : AttnRef.Args I (StableHlo.launchContents m' c)) :
    AttnRef.W m' c (Proc.devRef .tc Cert.ReferenceIdeal.main_v90) = gQ I
    ∧ AttnRef.W m' c (Proc.devRef .tc Cert.ReferenceIdeal.main_v89) = gK I
    ∧ AttnRef.W m' c (Proc.devRef .tc Cert.ReferenceIdeal.main_v91) = gV I
    ∧ AttnRef.W m' c (Proc.devRef .tc Cert.ReferenceIdeal.main_v92) = gR I
    ∧ AttnRef.W m' c (Proc.devRef .tc Cert.ReferenceIdeal.main_v94) = gC I := by
  obtain ⟨hq, hk, hv, hr, hc⟩ := AttnRef.results m' c A
  have two {a b : ℕ} (i : (⟨2, ![a, b]⟩ : Shape).Idx) : ix2 (i 0) (i 1) = i := funext fun x => match x with | ⟨0, _⟩ => rfl | ⟨1, _⟩ => rfl
  refine ⟨funext fun i => ?_, funext fun i => ?_, funext fun i => ?_, funext fun i => ?_, funext fun i => ?_⟩
  · exact (congrArg _ (two i).symm).trans (hq (i 0) (i 1))
  · exact (congrArg _ (two i).symm).trans (hk (i 0) (i 1))
  · exact (congrArg _ (two i).symm).trans (hv (i 0) (i 1))
  · exact (congrArg _ (two i).symm).trans (hr (i 0) (i 1))
  · have four : ix4 (i 0) (i 1) 0 (i 3) = i := funext fun x => match x with
      | ⟨0, _⟩ => rfl
      | ⟨1, _⟩ => rfl
      | ⟨2, _⟩ => Fin.ext (by have : (i 2).val < 1 := (i 2).isLt; show 0 = (i 2).val; omega)
      | ⟨3, _⟩ => rfl
    exact (congrArg _ four.symm).trans (hc (i 0) (i 1) (i 3))

theorem attn_alg : Cert.algebraic_KernelIdeal_ReferenceIdeal_pre_finite := fun m ρ m' ρ' hpre hag => by
  choose I hI using fun c => reals_of_pre m c ValueIdx.ix0 (congrFun (hpre c) _)
  refine ⟨fun c => gQ (I c), fun c => gK (I c), fun c => gV (I c), fun c => gR (I c), fun c => gC (I c), run m ρ I hI,
    (θ_run _ _ _).mono (fun _ h c => ?_) (AttnRef.run_main m' ρ')⟩
  obtain ⟨a0, a1, a2, a3, a4⟩ := hag c
  obtain ⟨e0, e1, e2, e3, e4⟩ := line_results m' c (I c) ((hI c).line _ a0 a1 a2 a3 a4)
  exact ⟨(h c _).trans e0, (h c _).trans e1, (h c _).trans e2, (h c _).trans e3, (h c _).trans e4,
    (h c _).trans (AttnRef.kept_0 m' c), (h c _).trans (AttnRef.kept_1 m' c), (h c _).trans (AttnRef.kept_2 m' c),
    (h c _).trans (AttnRef.kept_3 m' c), (h c _).trans (AttnRef.kept_4 m' c)⟩

end Cert.Proof.AttnAlg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import proofs.«01_k».proof.Proof.DwRows
public import proofs.«01_k».proof.Proof.DwCols
public import proofs.«01_k».proof.Proof.DwFox
public import proofs.«01_k».proof.Proof.DxIn
public import proofs.«01_k».proof.Proof.DxFox
public import proofs.«01_k».proof.Proof.FwFox
public import proofs.«01_k».proof.Proof.FwIn
public import proofs.«01_k».proof.Proof.FwOut
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Pre_finite11
public import proofs.«01_k».proof.Proof.Gen.Pre_finite
public import proofs.«01_k».proof.Proof.Gen.Pre_finite2
public import proofs.«01_k».proof.Proof.Gate
public import proofs.«01_k».proof.Proof.S5Act
public import proofs.«01_k».proof.Proof.AttnRun
public import proofs.«01_k».proof.Proof.AttnWords
public import proofs.«01_k».proof.Proof.AttnRef
public import proofs.«01_k».proof.Proof.AttnAlg
public import Idealize.ShloMosaic.Adequacy
public import Idealize.ShloMosaic.Init

@[expose] public section

noncomputable section

namespace Cert.Proof

open Idealize.ShloMosaic Idealize.SL.Sem

/-- The gate's call against the gradient of the gate and the output product. -/
theorem gate_alg : Cert.algebraic_Kernel2Ideal_Reference2Ideal_pre_finite2 := fun m ρ m' ρ' hpre hag =>
  ⟨fun c => Gate.dOut m c, fun c => Gate.dGate m c,
    Gate.run m ρ (fun c => Gate.real4_of_pre m c ValueIdx.ix0 (congrFun (hpre c) _)),
    (θ_run _ _ _).mono (fun _ h c => by
      obtain ⟨e0, e1, e2, e3⟩ := hag c
      refine ⟨(h c).1.trans ?_, (h c).2.1.trans ?_, (h c).2.2⟩
      · rw [Cert.Reference2Ideal.Read.val_main_v9_eq, e0, e1, e3]
      · rw [Cert.Reference2Ideal.Read.val_main_v11_eq, e0, e1, e2, e3])
      (Cert.Reference2Ideal.Value.run (F := Ideal) m' ρ')⟩

/-- The gate's reference is a straight-line host program, which declares no semaphore. -/
theorem frame_ref2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The S5 branch's call against the gradient of its gates and output product. -/
theorem s5_alg : Cert.algebraic_Kernel11Ideal_Reference11Ideal_pre_finite11 := fun m ρ m' ρ' hpre hag =>
  ⟨fun c => S5Act.dZ m c, fun c => S5Act.dLin m c, fun c => S5Act.dGelu m c, fun c => S5Act.dBias m c,
    S5Act.run m ρ (fun c => S5Act.real4_of_pre m c ValueIdx.ix0 (congrFun (hpre c) _)),
    (θ_run _ _ _).mono (fun _ h c => by
      obtain ⟨e0, e1, e2, e3, e4⟩ := hag c
      refine ⟨(h c).1.trans ?_, (h c).2.1.trans ?_, (h c).2.2.1.trans ?_, (h c).2.2.2.1.trans ?_, (h c).2.2.2.2⟩
      · rw [Cert.Reference11Ideal.Read.val_main_v37_eq, e0, e1, e2, e3, e4]
      · rw [Cert.Reference11Ideal.Read.val_main_v38_eq, e0, e1, e2, e3, e4]
      · rw [Cert.Reference11Ideal.Read.val_main_v35_eq, e0, e1, e3, e4]
      · rw [Cert.Reference11Ideal.Read.val_main_v41_eq, e0, e1, e2, e3, e4])
      (Cert.Reference11Ideal.Value.run (F := Ideal) m' ρ')⟩

/-- Its reference, likewise. -/
theorem frame_ref11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- The attention's reference, likewise. -/
theorem frame_ref : Cert.quiescent_ReferenceIdeal := fun m ρ _ =>
  (θ_run Cert.ReferenceIdeal.defs _ _).mono
    (fun r h => ⟨fun c => ⟨(h c _).trans (AttnRef.kept_0 m c), (h c _).trans (AttnRef.kept_1 m c), (h c _).trans (AttnRef.kept_2 m c),
      (h c _).trans (AttnRef.kept_3 m c), (h c _).trans (AttnRef.kept_4 m c)⟩, sem_eq_zero_of_no_sems (by decide) r.2⟩)
    (AttnRef.run_main m ρ)

/-- The gradient of a row-sharded weight: the kernel's result is the reference's. -/
theorem product_alg3 : Cert.algebraic_Kernel3Ideal_Reference3Ideal := fun m ρ m' ρ' _ hag =>
  ⟨fun c => DwRows.dW m c, DwRows.run m ρ,
    (θ_run _ _ _).mono (fun _ h c => ⟨(h c).1.trans (by
      obtain ⟨e0, e1⟩ := hag c
      rw [Cert.Reference3Ideal.Read.val_main_v8_eq, e0, e1]), (h c).2⟩)
      (Cert.Reference3Ideal.Value.run (F := Ideal) m' ρ')⟩

theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The gradient of a column-sharded weight: the kernel's result is the reference's. -/
theorem product_alg4 : Cert.algebraic_Kernel4Ideal_Reference4Ideal := fun m ρ m' ρ' _ hag =>
  ⟨fun c => DwCols.dW m c, DwCols.run m ρ,
    (θ_run _ _ _).mono (fun _ h c => ⟨(h c).1.trans (by
      obtain ⟨e0, e1⟩ := hag c
      rw [Cert.Reference4Ideal.Read.val_main_v8_eq, e0, e1]), (h c).2⟩)
      (Cert.Reference4Ideal.Value.run (F := Ideal) m' ρ')⟩

theorem frame_ref4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gradient of the attention's input projection: the kernel's result is the reference's. -/
theorem product_alg5 : Cert.algebraic_Kernel5Ideal_Reference5Ideal := fun m ρ m' ρ' _ hag =>
  ⟨fun c => DwFox.dW m c, DwFox.run m ρ,
    (θ_run _ _ _).mono (fun _ h c => ⟨(h c).1.trans (by
      obtain ⟨e0, e1⟩ := hag c
      rw [Cert.Reference5Ideal.Read.val_main_v6_eq, e0, e1]), (h c).2⟩)
      (Cert.Reference5Ideal.Value.run (F := Ideal) m' ρ')⟩

theorem frame_ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The gradient to the input of a column-sharded projection: the kernel's result is the reference's. -/
theorem product_alg6 : Cert.algebraic_Kernel6Ideal_Reference6Ideal := fun m ρ m' ρ' _ hag =>
  ⟨fun c => DxIn.dX m c, DxIn.run m ρ,
    (θ_run _ _ _).mono (fun _ h c => ⟨(h c).1.trans (by
      obtain ⟨e0, e1⟩ := hag c
      rw [Cert.Reference6Ideal.Read.val_main_v6_eq, e0, e1]), (h c).2⟩)
      (Cert.Reference6Ideal.Value.run (F := Ideal) m' ρ')⟩

theorem frame_ref6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gradient to the input of the attention's projection: the kernel's result is the reference's. -/
theorem product_alg7 : Cert.algebraic_Kernel7Ideal_Reference7Ideal := fun m ρ m' ρ' _ hag =>
  ⟨fun c => DxFox.dX m c, DxFox.run m ρ,
    (θ_run _ _ _).mono (fun _ h c => ⟨(h c).1.trans (by
      obtain ⟨e0, e1, e2⟩ := hag c
      rw [Cert.Reference7Ideal.Read.val_main_v5_eq, e0, e1, e2]), (h c).2⟩)
      (Cert.Reference7Ideal.Value.run (F := Ideal) m' ρ')⟩

theorem frame_ref7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The attention's input projection: the kernel's result is the reference's. -/
theorem product_alg8 : Cert.algebraic_Kernel8Ideal_Reference8Ideal := fun m ρ m' ρ' _ hag =>
  ⟨fun c => FwFox.prod m c, FwFox.run m ρ,
    (θ_run _ _ _).mono (fun _ h c => ⟨(h c).1.trans (by
      obtain ⟨e0, e1⟩ := hag c
      rw [Cert.Reference8Ideal.Read.val_main_v2_eq, e0, e1]), (h c).2⟩)
      (Cert.Reference8Ideal.Value.run (F := Ideal) m' ρ')⟩

theorem frame_ref8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- A column-sharded projection: the kernel's result is the reference's. -/
theorem product_alg9 : Cert.algebraic_Kernel9Ideal_Reference9Ideal := fun m ρ m' ρ' _ hag =>
  ⟨fun c => FwIn.prod m c, FwIn.run m ρ,
    (θ_run _ _ _).mono (fun _ h c => ⟨(h c).1.trans (by
      obtain ⟨e0, e1⟩ := hag c
      rw [Cert.Reference9Ideal.Read.val_main_v4_eq, e0, e1]), (h c).2⟩)
      (Cert.Reference9Ideal.Value.run (F := Ideal) m' ρ')⟩

theorem frame_ref9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- A row-sharded projection added to the residual: the kernel's result is the reference's. -/
theorem product_alg10 : Cert.algebraic_Kernel10Ideal_Reference10Ideal := fun m ρ m' ρ' _ hag =>
  ⟨fun c => FwOut.prod m c, FwOut.run m ρ,
    (θ_run _ _ _).mono (fun _ h c => ⟨(h c).1.trans (by
      obtain ⟨e0, e1, e2⟩ := hag c
      rw [Cert.Reference10Ideal.Read.val_main_v4_eq, e0, e1, e2]), (h c).2⟩)
      (Cert.Reference10Ideal.Value.run (F := Ideal) m' ρ')⟩

theorem frame_ref10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite2.Gen.facts, Cert.Pre_finite11.Gen.facts,
  fun m ρ _ => AttnWords.frame_words m ρ, fun m ρ _ => Attn.frame_ideal m ρ, fun m ρ _ => Attn.frame_ideal m ρ,
  frame_ref, fun m ρ _ => frame_ref m ρ trivial,
  fun m ρ _ => Cert.Kernel2.Gen.frame m ρ, fun m ρ _ => Cert.Kernel2Ideal.Gen.frame m ρ, fun m ρ _ => Cert.Kernel2Ideal.Gen.frame m ρ,
  frame_ref2, fun m ρ _ => frame_ref2 m ρ trivial,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  fun m ρ _ => Cert.Kernel11.Gen.frame m ρ, fun m ρ _ => Cert.Kernel11Ideal.Gen.frame m ρ,
  fun m ρ _ => Cert.Kernel11Ideal.Gen.frame m ρ, frame_ref11, fun m ρ _ => frame_ref11 m ρ trivial,
  trivial, AttnAlg.attn_alg, trivial, gate_alg, trivial, product_alg3, trivial, product_alg4, trivial, product_alg5, trivial, product_alg6, trivial, product_alg7, trivial, product_alg8, trivial, product_alg9, trivial, product_alg10, trivial, s5_alg⟩

end Cert.Proof

end
